-- ==== Defs.lean ====
def Pre_Net (m : (ℓ : Loc Cert.Net.nD Cert.Net.τ Cert.Net.sig) → Buf (Elt Bits) ℓ) : Prop :=
  True

def Pre_NetIdeal (m : (ℓ : Loc Cert.NetIdeal.nD Cert.NetIdeal.τ Cert.NetIdeal.sig) → Buf (Elt Ideal) ℓ) : Prop :=
  True

def Pre_NetIdeal_net_no_ties [hPre_net_no_ties : Cert.Pre_net_no_ties.Facts] (m : (ℓ : Loc Cert.NetIdeal.nD Cert.NetIdeal.τ Cert.NetIdeal.sig) → Buf (Elt Ideal) ℓ) : Prop :=
  ∀ c : Dev Cert.NetIdeal.nD,
    (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.2.2.2.2.1 = (fun _ => 1#1)
    ∧ (Cert.Pre_net_no_ties.fn (F := Ideal) (m ((c.tc : Thread Cert.NetIdeal.nD Cert.NetIdeal.τ).loc Cert.NetIdeal.main_arg0)) (m ((c.tc : Thread Cert.NetIdeal.nD Cert.NetIdeal.τ).loc Cert.NetIdeal.main_arg1)) (m ((c.tc : Thread Cert.NetIdeal.nD Cert.NetIdeal.τ).loc Cert.NetIdeal.main_arg2)) (m ((c.tc : Thread Cert.NetIdeal.nD Cert.NetIdeal.τ).loc Cert.NetIdeal.main_arg3)) (m ((c.tc : Thread Cert.NetIdeal.nD Cert.NetIdeal.τ).loc Cert.NetIdeal.main_arg4)) (m ((c.tc : Thread Cert.NetIdeal.nD Cert.NetIdeal.τ).loc Cert.NetIdeal.main_arg5)) (m ((c.tc : Thread Cert.NetIdeal.nD Cert.NetIdeal.τ).loc Cert.NetIdeal.main_arg6)) (m ((c.tc : Thread Cert.NetIdeal.nD Cert.NetIdeal.τ).loc Cert.NetIdeal.main_arg7)) (m ((c.tc : Thread Cert.NetIdeal.nD Cert.NetIdeal.τ).loc Cert.NetIdeal.main_arg8)) (m ((c.tc : Thread Cert.NetIdeal.nD Cert.NetIdeal.τ).loc Cert.NetIdeal.main_arg9)) (m ((c.tc : Thread Cert.NetIdeal.nD Cert.NetIdeal.τ).loc Cert.NetIdeal.main_arg10)) (m ((c.tc : Thread Cert.NetIdeal.nD Cert.NetIdeal.τ).loc Cert.NetIdeal.main_arg11)) (m ((c.tc : Thread Cert.NetIdeal.nD Cert.NetIdeal.τ).loc Cert.NetIdeal.main_arg12)) (m ((c.tc : Thread Cert.NetIdeal.nD Cert.NetIdeal.τ).loc Cert.NetIdeal.main_arg13)) (m ((c.tc : Thread Cert.NetIdeal.nD Cert.NetIdeal.τ).loc Cert.NetIdeal.main_arg14)) (m ((c.tc : Thread Cert.NetIdeal.nD Cert.NetIdeal.τ).loc Cert.NetIdeal.main_arg15)) (m ((c.tc : Thread Cert.NetIdeal.nD Cert.NetIdeal.τ).loc Cert.NetIdeal.main_arg16)) (m ((c.tc : Thread Cert.NetIdeal.nD Cert.NetIdeal.τ).loc Cert.NetIdeal.main_arg17)) (m ((c.tc : Thread Cert.NetIdeal.nD Cert.NetIdeal.τ).loc Cert.NetIdeal.main_arg18)) (m ((c.tc : Thread Cert.NetIdeal.nD Cert.NetIdeal.τ).loc Cert.NetIdeal.main_arg19)) (m ((c.tc : Thread Cert.NetIdeal.nD Cert.NetIdeal.τ).loc Cert.NetIdeal.main_arg20))).2.2.2.2.2.2.2.2.2.2.2 = (fun _ => 1#1)

def Pre_RefNetIdeal (m : (ℓ : Loc Cert.RefNetIdeal.nD Cert.RefNetIdeal.τ Cert.RefNetIdeal.sig) → Buf (Elt Ideal) ℓ) : Prop :=
  True

def Pre_RefNetIdeal_net_no_ties [hPre_net_no_ties : Cert.Pre_net_no_ties.Facts] (m : (ℓ : Loc Cert.RefNetIdeal.nD Cert.RefNetIdeal.τ Cert.RefNetIdeal.sig) → Buf (Elt Ideal) ℓ) : Prop :=
  ∀ c : Dev Cert.RefNetIdeal.nD,
    (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.2.2.2.2.1 = (fun _ => 1#1)
    ∧ (Cert.Pre_net_no_ties.fn (F := Ideal) (m ((c.tc : Thread Cert.RefNetIdeal.nD Cert.RefNetIdeal.τ).loc Cert.RefNetIdeal.main_arg0)) (m ((c.tc : Thread Cert.RefNetIdeal.nD Cert.RefNetIdeal.τ).loc Cert.RefNetIdeal.main_arg1)) (m ((c.tc : Thread Cert.RefNetIdeal.nD Cert.RefNetIdeal.τ).loc Cert.RefNetIdeal.main_arg2)) (m ((c.tc : Thread Cert.RefNetIdeal.nD Cert.RefNetIdeal.τ).loc Cert.RefNetIdeal.main_arg3)) (m ((c.tc : Thread Cert.RefNetIdeal.nD Cert.RefNetIdeal.τ).loc Cert.RefNetIdeal.main_arg4)) (m ((c.tc : Thread Cert.RefNetIdeal.nD Cert.RefNetIdeal.τ).loc Cert.RefNetIdeal.main_arg5)) (m ((c.tc : Thread Cert.RefNetIdeal.nD Cert.RefNetIdeal.τ).loc Cert.RefNetIdeal.main_arg6)) (m ((c.tc : Thread Cert.RefNetIdeal.nD Cert.RefNetIdeal.τ).loc Cert.RefNetIdeal.main_arg7)) (m ((c.tc : Thread Cert.RefNetIdeal.nD Cert.RefNetIdeal.τ).loc Cert.RefNetIdeal.main_arg8)) (m ((c.tc : Thread Cert.RefNetIdeal.nD Cert.RefNetIdeal.τ).loc Cert.RefNetIdeal.main_arg9)) (m ((c.tc : Thread Cert.RefNetIdeal.nD Cert.RefNetIdeal.τ).loc Cert.RefNetIdeal.main_arg10)) (m ((c.tc : Thread Cert.RefNetIdeal.nD Cert.RefNetIdeal.τ).loc Cert.RefNetIdeal.main_arg11)) (m ((c.tc : Thread Cert.RefNetIdeal.nD Cert.RefNetIdeal.τ).loc Cert.RefNetIdeal.main_arg12)) (m ((c.tc : Thread Cert.RefNetIdeal.nD Cert.RefNetIdeal.τ).loc Cert.RefNetIdeal.main_arg13)) (m ((c.tc : Thread Cert.RefNetIdeal.nD Cert.RefNetIdeal.τ).loc Cert.RefNetIdeal.main_arg14)) (m ((c.tc : Thread Cert.RefNetIdeal.nD Cert.RefNetIdeal.τ).loc Cert.RefNetIdeal.main_arg15)) (m ((c.tc : Thread Cert.RefNetIdeal.nD Cert.RefNetIdeal.τ).loc Cert.RefNetIdeal.main_arg16)) (m ((c.tc : Thread Cert.RefNetIdeal.nD Cert.RefNetIdeal.τ).loc Cert.RefNetIdeal.main_arg17)) (m ((c.tc : Thread Cert.RefNetIdeal.nD Cert.RefNetIdeal.τ).loc Cert.RefNetIdeal.main_arg18)) (m ((c.tc : Thread Cert.RefNetIdeal.nD Cert.RefNetIdeal.τ).loc Cert.RefNetIdeal.main_arg19)) (m ((c.tc : Thread Cert.RefNetIdeal.nD Cert.RefNetIdeal.τ).loc Cert.RefNetIdeal.main_arg20))).2.2.2.2.2.2.2.2.2.2.2 = (fun _ => 1#1)

def Pre_Sa1 (m : (ℓ : Loc Cert.Sa1.nD Cert.Sa1.τ Cert.Sa1.sig) → Buf (Elt Bits) ℓ) : Prop :=
  True

def Pre_Sa1Ideal (m : (ℓ : Loc Cert.Sa1Ideal.nD Cert.Sa1Ideal.τ Cert.Sa1Ideal.sig) → Buf (Elt Ideal) ℓ) : Prop :=
  True

def Pre_Sa1Ideal_sa1_no_ties [hPre_sa1_no_ties : Cert.Pre_sa1_no_ties.Facts] (m : (ℓ : Loc Cert.Sa1Ideal.nD Cert.Sa1Ideal.τ Cert.Sa1Ideal.sig) → Buf (Elt Ideal) ℓ) : Prop :=
  ∀ c : Dev Cert.Sa1Ideal.nD,
    (Cert.Pre_sa1_no_ties.fn (F := Ideal) (m ((c.tc : Thread Cert.Sa1Ideal.nD Cert.Sa1Ideal.τ).loc Cert.Sa1Ideal.main_arg0)) (m ((c.tc : Thread Cert.Sa1Ideal.nD Cert.Sa1Ideal.τ).loc Cert.Sa1Ideal.main_arg1)) (m ((c.tc : Thread Cert.Sa1Ideal.nD Cert.Sa1Ideal.τ).loc Cert.Sa1Ideal.main_arg2)) (m ((c.tc : Thread Cert.Sa1Ideal.nD Cert.Sa1Ideal.τ).loc Cert.Sa1Ideal.main_arg3)) (m ((c.tc : Thread Cert.Sa1Ideal.nD Cert.Sa1Ideal.τ).loc Cert.Sa1Ideal.main_arg4)) (m ((c.tc : Thread Cert.Sa1Ideal.nD Cert.Sa1Ideal.τ).loc Cert.Sa1Ideal.main_arg5))).1 = (fun _ => 1#1)
    ∧ (Cert.Pre_sa1_no_ties.fn (F := Ideal) (m ((c.tc : Thread Cert.Sa1Ideal.nD Cert.Sa1Ideal.τ).loc Cert.Sa1Ideal.main_arg0)) (m ((c.tc : Thread Cert.Sa1Ideal.nD Cert.Sa1Ideal.τ).loc Cert.Sa1Ideal.main_arg1)) (m ((c.tc : Thread Cert.Sa1Ideal.nD Cert.Sa1Ideal.τ).loc Cert.Sa1Ideal.main_arg2)) (m ((c.tc : Thread Cert.Sa1Ideal.nD Cert.Sa1Ideal.τ).loc Cert.Sa1Ideal.main_arg3)) (m ((c.tc : Thread Cert.Sa1Ideal.nD Cert.Sa1Ideal.τ).loc Cert.Sa1Ideal.main_arg4)) (m ((c.tc : Thread Cert.Sa1Ideal.nD Cert.Sa1Ideal.τ).loc Cert.Sa1Ideal.main_arg5))).2.1 = (fun _ => 1#1)
    ∧ (Cert.Pre_sa1_no_ties.fn (F := Ideal) (m ((c.tc : Thread Cert.Sa1Ideal.nD Cert.Sa1Ideal.τ).loc Cert.Sa1Ideal.main_arg0)) (m ((c.tc : Thread Cert.Sa1Ideal.nD Cert.Sa1Ideal.τ).loc Cert.Sa1Ideal.main_arg1)) (m ((c.tc : Thread Cert.Sa1Ideal.nD Cert.Sa1Ideal.τ).loc Cert.Sa1Ideal.main_arg2)) (m ((c.tc : Thread Cert.Sa1Ideal.nD Cert.Sa1Ideal.τ).loc Cert.Sa1Ideal.main_arg3)) (m ((c.tc : Thread Cert.Sa1Ideal.nD Cert.Sa1Ideal.τ).loc Cert.Sa1Ideal.main_arg4)) (m ((c.tc : Thread Cert.Sa1Ideal.nD Cert.Sa1Ideal.τ).loc Cert.Sa1Ideal.main_arg5))).2.2.1 = (fun _ => 1#1)
    ∧ (Cert.Pre_sa1_no_ties.fn (F := Ideal) (m ((c.tc : Thread Cert.Sa1Ideal.nD Cert.Sa1Ideal.τ).loc Cert.Sa1Ideal.main_arg0)) (m ((c.tc : Thread Cert.Sa1Ideal.nD Cert.Sa1Ideal.τ).loc Cert.Sa1Ideal.main_arg1)) (m ((c.tc : Thread Cert.Sa1Ideal.nD Cert.Sa1Ideal.τ).loc Cert.Sa1Ideal.main_arg2)) (m ((c.tc : Thread Cert.Sa1Ideal.nD Cert.Sa1Ideal.τ).loc Cert.Sa1Ideal.main_arg3)) (m ((c.tc : Thread Cert.Sa1Ideal.nD Cert.Sa1Ideal.τ).loc Cert.Sa1Ideal.main_arg4)) (m ((c.tc : Thread Cert.Sa1Ideal.nD Cert.Sa1Ideal.τ).loc Cert.Sa1Ideal.main_arg5))).2.2.2 = (fun _ => 1#1)

def Pre_RefSa1Ideal (m : (ℓ : Loc Cert.RefSa1Ideal.nD Cert.RefSa1Ideal.τ Cert.RefSa1Ideal.sig) → Buf (Elt Ideal) ℓ) : Prop :=
  True

def Pre_RefSa1Ideal_sa1_no_ties [hPre_sa1_no_ties : Cert.Pre_sa1_no_ties.Facts] (m : (ℓ : Loc Cert.RefSa1Ideal.nD Cert.RefSa1Ideal.τ Cert.RefSa1Ideal.sig) → Buf (Elt Ideal) ℓ) : Prop :=
  ∀ c : Dev Cert.RefSa1Ideal.nD,
    (Cert.Pre_sa1_no_ties.fn (F := Ideal) (m ((c.tc : Thread Cert.RefSa1Ideal.nD Cert.RefSa1Ideal.τ).loc Cert.RefSa1Ideal.main_arg0)) (m ((c.tc : Thread Cert.RefSa1Ideal.nD Cert.RefSa1Ideal.τ).loc Cert.RefSa1Ideal.main_arg1)) (m ((c.tc : Thread Cert.RefSa1Ideal.nD Cert.RefSa1Ideal.τ).loc Cert.RefSa1Ideal.main_arg2)) (m ((c.tc : Thread Cert.RefSa1Ideal.nD Cert.RefSa1Ideal.τ).loc Cert.RefSa1Ideal.main_arg3)) (m ((c.tc : Thread Cert.RefSa1Ideal.nD Cert.RefSa1Ideal.τ).loc Cert.RefSa1Ideal.main_arg4)) (m ((c.tc : Thread Cert.RefSa1Ideal.nD Cert.RefSa1Ideal.τ).loc Cert.RefSa1Ideal.main_arg5))).1 = (fun _ => 1#1)
    ∧ (Cert.Pre_sa1_no_ties.fn (F := Ideal) (m ((c.tc : Thread Cert.RefSa1Ideal.nD Cert.RefSa1Ideal.τ).loc Cert.RefSa1Ideal.main_arg0)) (m ((c.tc : Thread Cert.RefSa1Ideal.nD Cert.RefSa1Ideal.τ).loc Cert.RefSa1Ideal.main_arg1)) (m ((c.tc : Thread Cert.RefSa1Ideal.nD Cert.RefSa1Ideal.τ).loc Cert.RefSa1Ideal.main_arg2)) (m ((c.tc : Thread Cert.RefSa1Ideal.nD Cert.RefSa1Ideal.τ).loc Cert.RefSa1Ideal.main_arg3)) (m ((c.tc : Thread Cert.RefSa1Ideal.nD Cert.RefSa1Ideal.τ).loc Cert.RefSa1Ideal.main_arg4)) (m ((c.tc : Thread Cert.RefSa1Ideal.nD Cert.RefSa1Ideal.τ).loc Cert.RefSa1Ideal.main_arg5))).2.1 = (fun _ => 1#1)
    ∧ (Cert.Pre_sa1_no_ties.fn (F := Ideal) (m ((c.tc : Thread Cert.RefSa1Ideal.nD Cert.RefSa1Ideal.τ).loc Cert.RefSa1Ideal.main_arg0)) (m ((c.tc : Thread Cert.RefSa1Ideal.nD Cert.RefSa1Ideal.τ).loc Cert.RefSa1Ideal.main_arg1)) (m ((c.tc : Thread Cert.RefSa1Ideal.nD Cert.RefSa1Ideal.τ).loc Cert.RefSa1Ideal.main_arg2)) (m ((c.tc : Thread Cert.RefSa1Ideal.nD Cert.RefSa1Ideal.τ).loc Cert.RefSa1Ideal.main_arg3)) (m ((c.tc : Thread Cert.RefSa1Ideal.nD Cert.RefSa1Ideal.τ).loc Cert.RefSa1Ideal.main_arg4)) (m ((c.tc : Thread Cert.RefSa1Ideal.nD Cert.RefSa1Ideal.τ).loc Cert.RefSa1Ideal.main_arg5))).2.2.1 = (fun _ => 1#1)
    ∧ (Cert.Pre_sa1_no_ties.fn (F := Ideal) (m ((c.tc : Thread Cert.RefSa1Ideal.nD Cert.RefSa1Ideal.τ).loc Cert.RefSa1Ideal.main_arg0)) (m ((c.tc : Thread Cert.RefSa1Ideal.nD Cert.RefSa1Ideal.τ).loc Cert.RefSa1Ideal.main_arg1)) (m ((c.tc : Thread Cert.RefSa1Ideal.nD Cert.RefSa1Ideal.τ).loc Cert.RefSa1Ideal.main_arg2)) (m ((c.tc : Thread Cert.RefSa1Ideal.nD Cert.RefSa1Ideal.τ).loc Cert.RefSa1Ideal.main_arg3)) (m ((c.tc : Thread Cert.RefSa1Ideal.nD Cert.RefSa1Ideal.τ).loc Cert.RefSa1Ideal.main_arg4)) (m ((c.tc : Thread Cert.RefSa1Ideal.nD Cert.RefSa1Ideal.τ).loc Cert.RefSa1Ideal.main_arg5))).2.2.2 = (fun _ => 1#1)

def Pre_Sa2Fp1 (m : (ℓ : Loc Cert.Sa2Fp1.nD Cert.Sa2Fp1.τ Cert.Sa2Fp1.sig) → Buf (Elt Bits) ℓ) : Prop :=
  True

def Pre_Sa2Fp1Ideal (m : (ℓ : Loc Cert.Sa2Fp1Ideal.nD Cert.Sa2Fp1Ideal.τ Cert.Sa2Fp1Ideal.sig) → Buf (Elt Ideal) ℓ) : Prop :=
  True

def Pre_Sa2Fp1Ideal_sa2_fp1_no_ties [hPre_sa2_fp1_no_ties : Cert.Pre_sa2_fp1_no_ties.Facts] (m : (ℓ : Loc Cert.Sa2Fp1Ideal.nD Cert.Sa2Fp1Ideal.τ Cert.Sa2Fp1Ideal.sig) → Buf (Elt Ideal) ℓ) : Prop :=
  ∀ c : Dev Cert.Sa2Fp1Ideal.nD,
    (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).1 = (fun _ => 1#1)
    ∧ (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).2.1 = (fun _ => 1#1)
    ∧ (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).2.2.1 = (fun _ => 1#1)
    ∧ (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).2.2.2.1 = (fun _ => 1#1)
    ∧ (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).2.2.2.2.1 = (fun _ => 1#1)
    ∧ (Cert.Pre_sa2_fp1_no_ties.fn (F := Ideal) (m ((c.tc : Thread Cert.Sa2Fp1Ideal.nD Cert.Sa2Fp1Ideal.τ).loc Cert.Sa2Fp1Ideal.main_arg0)) (m ((c.tc : Thread Cert.Sa2Fp1Ideal.nD Cert.Sa2Fp1Ideal.τ).loc Cert.Sa2Fp1Ideal.main_arg1)) (m ((c.tc : Thread Cert.Sa2Fp1Ideal.nD Cert.Sa2Fp1Ideal.τ).loc Cert.Sa2Fp1Ideal.main_arg2)) (m ((c.tc : Thread Cert.Sa2Fp1Ideal.nD Cert.Sa2Fp1Ideal.τ).loc Cert.Sa2Fp1Ideal.main_arg3)) (m ((c.tc : Thread Cert.Sa2Fp1Ideal.nD Cert.Sa2Fp1Ideal.τ).loc Cert.Sa2Fp1Ideal.main_arg4)) (m ((c.tc : Thread Cert.Sa2Fp1Ideal.nD Cert.Sa2Fp1Ideal.τ).loc Cert.Sa2Fp1Ideal.main_arg5)) (m ((c.tc : Thread Cert.Sa2Fp1Ideal.nD Cert.Sa2Fp1Ideal.τ).loc Cert.Sa2Fp1Ideal.main_arg6)) (m ((c.tc : Thread Cert.Sa2Fp1Ideal.nD Cert.Sa2Fp1Ideal.τ).loc Cert.Sa2Fp1Ideal.main_arg7)) (m ((c.tc : Thread Cert.Sa2Fp1Ideal.nD Cert.Sa2Fp1Ideal.τ).loc Cert.Sa2Fp1Ideal.main_arg8)) (m ((c.tc : Thread Cert.Sa2Fp1Ideal.nD Cert.Sa2Fp1Ideal.τ).loc Cert.Sa2Fp1Ideal.main_arg9))).2.2.2.2.2 = (fun _ => 1#1)

def Pre_RefSa2Fp1Ideal (m : (ℓ : Loc Cert.RefSa2Fp1Ideal.nD Cert.RefSa2Fp1Ideal.τ Cert.RefSa2Fp1Ideal.sig) → Buf (Elt Ideal) ℓ) : Prop :=
  True

def Pre_RefSa2Fp1Ideal_sa2_fp1_no_ties [hPre_sa2_fp1_no_ties : Cert.Pre_sa2_fp1_no_ties.Facts] (m : (ℓ : Loc Cert.RefSa2Fp1Ideal.nD Cert.RefSa2Fp1Ideal.τ Cert.RefSa2Fp1Ideal.sig) → Buf (Elt Ideal) ℓ) : Prop :=
  ∀ c : Dev Cert.RefSa2Fp1Ideal.nD,
    (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).1 = (fun _ => 1#1)
    ∧ (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).2.1 = (fun _ => 1#1)
    ∧ (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).2.2.1 = (fun _ => 1#1)
    ∧ (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).2.2.2.1 = (fun _ => 1#1)
    ∧ (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).2.2.2.2.1 = (fun _ => 1#1)
    ∧ (Cert.Pre_sa2_fp1_no_ties.fn (F := Ideal) (m ((c.tc : Thread Cert.RefSa2Fp1Ideal.nD Cert.RefSa2Fp1Ideal.τ).loc Cert.RefSa2Fp1Ideal.main_arg0)) (m ((c.tc : Thread Cert.RefSa2Fp1Ideal.nD Cert.RefSa2Fp1Ideal.τ).loc Cert.RefSa2Fp1Ideal.main_arg1)) (m ((c.tc : Thread Cert.RefSa2Fp1Ideal.nD Cert.RefSa2Fp1Ideal.τ).loc Cert.RefSa2Fp1Ideal.main_arg2)) (m ((c.tc : Thread Cert.RefSa2Fp1Ideal.nD Cert.RefSa2Fp1Ideal.τ).loc Cert.RefSa2Fp1Ideal.main_arg3)) (m ((c.tc : Thread Cert.RefSa2Fp1Ideal.nD Cert.RefSa2Fp1Ideal.τ).loc Cert.RefSa2Fp1Ideal.main_arg4)) (m ((c.tc : Thread Cert.RefSa2Fp1Ideal.nD Cert.RefSa2Fp1Ideal.τ).loc Cert.RefSa2Fp1Ideal.main_arg5)) (m ((c.tc : Thread Cert.RefSa2Fp1Ideal.nD Cert.RefSa2Fp1Ideal.τ).loc Cert.RefSa2Fp1Ideal.main_arg6)) (m ((c.tc : Thread Cert.RefSa2Fp1Ideal.nD Cert.RefSa2Fp1Ideal.τ).loc Cert.RefSa2Fp1Ideal.main_arg7)) (m ((c.tc : Thread Cert.RefSa2Fp1Ideal.nD Cert.RefSa2Fp1Ideal.τ).loc Cert.RefSa2Fp1Ideal.main_arg8)) (m ((c.tc : Thread Cert.RefSa2Fp1Ideal.nD Cert.RefSa2Fp1Ideal.τ).loc Cert.RefSa2Fp1Ideal.main_arg9))).2.2.2.2.2 = (fun _ => 1#1)

def Pre_Fp2 (m : (ℓ : Loc Cert.Fp2.nD Cert.Fp2.τ Cert.Fp2.sig) → Buf (Elt Bits) ℓ) : Prop :=
  True

def Pre_Fp2Ideal (m : (ℓ : Loc Cert.Fp2Ideal.nD Cert.Fp2Ideal.τ Cert.Fp2Ideal.sig) → Buf (Elt Ideal) ℓ) : Prop :=
  True

def Pre_Fp2Ideal_fp2_no_ties [hPre_fp2_no_ties : Cert.Pre_fp2_no_ties.Facts] (m : (ℓ : Loc Cert.Fp2Ideal.nD Cert.Fp2Ideal.τ Cert.Fp2Ideal.sig) → Buf (Elt Ideal) ℓ) : Prop :=
  ∀ c : Dev Cert.Fp2Ideal.nD,
    (Cert.Pre_fp2_no_ties.fn (F := Ideal) (m ((c.tc : Thread Cert.Fp2Ideal.nD Cert.Fp2Ideal.τ).loc Cert.Fp2Ideal.main_arg0)) (m ((c.tc : Thread Cert.Fp2Ideal.nD Cert.Fp2Ideal.τ).loc Cert.Fp2Ideal.main_arg1)) (m ((c.tc : Thread Cert.Fp2Ideal.nD Cert.Fp2Ideal.τ).loc Cert.Fp2Ideal.main_arg2)) (m ((c.tc : Thread Cert.Fp2Ideal.nD Cert.Fp2Ideal.τ).loc Cert.Fp2Ideal.main_arg3)) (m ((c.tc : Thread Cert.Fp2Ideal.nD Cert.Fp2Ideal.τ).loc Cert.Fp2Ideal.main_arg4)) (m ((c.tc : Thread Cert.Fp2Ideal.nD Cert.Fp2Ideal.τ).loc Cert.Fp2Ideal.main_arg5)) (m ((c.tc : Thread Cert.Fp2Ideal.nD Cert.Fp2Ideal.τ).loc Cert.Fp2Ideal.main_arg6)) (m ((c.tc : Thread Cert.Fp2Ideal.nD Cert.Fp2Ideal.τ).loc Cert.Fp2Ideal.main_arg7)) (m ((c.tc : Thread Cert.Fp2Ideal.nD Cert.Fp2Ideal.τ).loc Cert.Fp2Ideal.main_arg8))).1 = (fun _ => 1#1)
    ∧ (Cert.Pre_fp2_no_ties.fn (F := Ideal) (m ((c.tc : Thread Cert.Fp2Ideal.nD Cert.Fp2Ideal.τ).loc Cert.Fp2Ideal.main_arg0)) (m ((c.tc : Thread Cert.Fp2Ideal.nD Cert.Fp2Ideal.τ).loc Cert.Fp2Ideal.main_arg1)) (m ((c.tc : Thread Cert.Fp2Ideal.nD Cert.Fp2Ideal.τ).loc Cert.Fp2Ideal.main_arg2)) (m ((c.tc : Thread Cert.Fp2Ideal.nD Cert.Fp2Ideal.τ).loc Cert.Fp2Ideal.main_arg3)) (m ((c.tc : Thread Cert.Fp2Ideal.nD Cert.Fp2Ideal.τ).loc Cert.Fp2Ideal.main_arg4)) (m ((c.tc : Thread Cert.Fp2Ideal.nD Cert.Fp2Ideal.τ).loc Cert.Fp2Ideal.main_arg5)) (m ((c.tc : Thread Cert.Fp2Ideal.nD Cert.Fp2Ideal.τ).loc Cert.Fp2Ideal.main_arg6)) (m ((c.tc : Thread Cert.Fp2Ideal.nD Cert.Fp2Ideal.τ).loc Cert.Fp2Ideal.main_arg7)) (m ((c.tc : Thread Cert.Fp2Ideal.nD Cert.Fp2Ideal.τ).loc Cert.Fp2Ideal.main_arg8))).2 = (fun _ => 1#1)

def Pre_RefFp2Ideal (m : (ℓ : Loc Cert.RefFp2Ideal.nD Cert.RefFp2Ideal.τ Cert.RefFp2Ideal.sig) → Buf (Elt Ideal) ℓ) : Prop :=
  True

def Pre_RefFp2Ideal_fp2_no_ties [hPre_fp2_no_ties : Cert.Pre_fp2_no_ties.Facts] (m : (ℓ : Loc Cert.RefFp2Ideal.nD Cert.RefFp2Ideal.τ Cert.RefFp2Ideal.sig) → Buf (Elt Ideal) ℓ) : Prop :=
  ∀ c : Dev Cert.RefFp2Ideal.nD,
    (Cert.Pre_fp2_no_ties.fn (F := Ideal) (m ((c.tc : Thread Cert.RefFp2Ideal.nD Cert.RefFp2Ideal.τ).loc Cert.RefFp2Ideal.main_arg0)) (m ((c.tc : Thread Cert.RefFp2Ideal.nD Cert.RefFp2Ideal.τ).loc Cert.RefFp2Ideal.main_arg1)) (m ((c.tc : Thread Cert.RefFp2Ideal.nD Cert.RefFp2Ideal.τ).loc Cert.RefFp2Ideal.main_arg2)) (m ((c.tc : Thread Cert.RefFp2Ideal.nD Cert.RefFp2Ideal.τ).loc Cert.RefFp2Ideal.main_arg3)) (m ((c.tc : Thread Cert.RefFp2Ideal.nD Cert.RefFp2Ideal.τ).loc Cert.RefFp2Ideal.main_arg4)) (m ((c.tc : Thread Cert.RefFp2Ideal.nD Cert.RefFp2Ideal.τ).loc Cert.RefFp2Ideal.main_arg5)) (m ((c.tc : Thread Cert.RefFp2Ideal.nD Cert.RefFp2Ideal.τ).loc Cert.RefFp2Ideal.main_arg6)) (m ((c.tc : Thread Cert.RefFp2Ideal.nD Cert.RefFp2Ideal.τ).loc Cert.RefFp2Ideal.main_arg7)) (m ((c.tc : Thread Cert.RefFp2Ideal.nD Cert.RefFp2Ideal.τ).loc Cert.RefFp2Ideal.main_arg8))).1 = (fun _ => 1#1)
    ∧ (Cert.Pre_fp2_no_ties.fn (F := Ideal) (m ((c.tc : Thread Cert.RefFp2Ideal.nD Cert.RefFp2Ideal.τ).loc Cert.RefFp2Ideal.main_arg0)) (m ((c.tc : Thread Cert.RefFp2Ideal.nD Cert.RefFp2Ideal.τ).loc Cert.RefFp2Ideal.main_arg1)) (m ((c.tc : Thread Cert.RefFp2Ideal.nD Cert.RefFp2Ideal.τ).loc Cert.RefFp2Ideal.main_arg2)) (m ((c.tc : Thread Cert.RefFp2Ideal.nD Cert.RefFp2Ideal.τ).loc Cert.RefFp2Ideal.main_arg3)) (m ((c.tc : Thread Cert.RefFp2Ideal.nD Cert.RefFp2Ideal.τ).loc Cert.RefFp2Ideal.main_arg4)) (m ((c.tc : Thread Cert.RefFp2Ideal.nD Cert.RefFp2Ideal.τ).loc Cert.RefFp2Ideal.main_arg5)) (m ((c.tc : Thread Cert.RefFp2Ideal.nD Cert.RefFp2Ideal.τ).loc Cert.RefFp2Ideal.main_arg6)) (m ((c.tc : Thread Cert.RefFp2Ideal.nD Cert.RefFp2Ideal.τ).loc Cert.RefFp2Ideal.main_arg7)) (m ((c.tc : Thread Cert.RefFp2Ideal.nD Cert.RefFp2Ideal.τ).loc Cert.RefFp2Ideal.main_arg8))).2 = (fun _ => 1#1)

def quiescent_Net [hNet : Cert.Net.Facts] : Prop :=
  ∀ (m : (ℓ : Loc Cert.Net.nD Cert.Net.τ Cert.Net.sig) → Buf (Elt Bits) ℓ) (g : Dev Cert.Net.nD → PrngReg), Pre_Net m →
    θ_run (Cert.Net.defs (F := Bits)) (onTc (τ := Cert.Net.τ) (Cert.Net.main (F := Bits))) ⟨m, fun _ => 0, g⟩ (fun r => (∀ c : Dev Cert.Net.nD,
      r.2.mem ((c.tc : Thread Cert.Net.nD Cert.Net.τ).loc Cert.Net.main_arg0) = m ((c.tc : Thread Cert.Net.nD Cert.Net.τ).loc Cert.Net.main_arg0)
      ∧ r.2.mem ((c.tc : Thread Cert.Net.nD Cert.Net.τ).loc Cert.Net.main_arg1) = m ((c.tc : Thread Cert.Net.nD Cert.Net.τ).loc Cert.Net.main_arg1)
      ∧ r.2.mem ((c.tc : Thread Cert.Net.nD Cert.Net.τ).loc Cert.Net.main_arg2) = m ((c.tc : Thread Cert.Net.nD Cert.Net.τ).loc Cert.Net.main_arg2)
      ∧ r.2.mem ((c.tc : Thread Cert.Net.nD Cert.Net.τ).loc Cert.Net.main_arg3) = m ((c.tc : Thread Cert.Net.nD Cert.Net.τ).loc Cert.Net.main_arg3)
      ∧ r.2.mem ((c.tc : Thread Cert.Net.nD Cert.Net.τ).loc Cert.Net.main_arg4) = m ((c.tc : Thread Cert.Net.nD Cert.Net.τ).loc Cert.Net.main_arg4)
      ∧ r.2.mem ((c.tc : Thread Cert.Net.nD Cert.Net.τ).loc Cert.Net.main_arg5) = m ((c.tc : Thread Cert.Net.nD Cert.Net.τ).loc Cert.Net.main_arg5)
      ∧ r.2.mem ((c.tc : Thread Cert.Net.nD Cert.Net.τ).loc Cert.Net.main_arg6) = m ((c.tc : Thread Cert.Net.nD Cert.Net.τ).loc Cert.Net.main_arg6)
      ∧ r.2.mem ((c.tc : Thread Cert.Net.nD Cert.Net.τ).loc Cert.Net.main_arg7) = m ((c.tc : Thread Cert.Net.nD Cert.Net.τ).loc Cert.Net.main_arg7)
      ∧ r.2.mem ((c.tc : Thread Cert.Net.nD Cert.Net.τ).loc Cert.Net.main_arg8) = m ((c.tc : Thread Cert.Net.nD Cert.Net.τ).loc Cert.Net.main_arg8)
      ∧ r.2.mem ((c.tc : Thread Cert.Net.nD Cert.Net.τ).loc Cert.Net.main_arg9) = m ((c.tc : Thread Cert.Net.nD Cert.Net.τ).loc Cert.Net.main_arg9)
      ∧ r.2.mem ((c.tc : Thread Cert.Net.nD Cert.Net.τ).loc Cert.Net.main_arg10) = m ((c.tc : Thread Cert.Net.nD Cert.Net.τ).loc Cert.Net.main_arg10)
      ∧ r.2.mem ((c.tc : Thread Cert.Net.nD Cert.Net.τ).loc Cert.Net.main_arg11) = m ((c.tc : Thread Cert.Net.nD Cert.Net.τ).loc Cert.Net.main_arg11)
      ∧ r.2.mem ((c.tc : Thread Cert.Net.nD Cert.Net.τ).loc Cert.Net.main_arg12) = m ((c.tc : Thread Cert.Net.nD Cert.Net.τ).loc Cert.Net.main_arg12)
      ∧ r.2.mem ((c.tc : Thread Cert.Net.nD Cert.Net.τ).loc Cert.Net.main_arg13) = m ((c.tc : Thread Cert.Net.nD Cert.Net.τ).loc Cert.Net.main_arg13)
      ∧ r.2.mem ((c.tc : Thread Cert.Net.nD Cert.Net.τ).loc Cert.Net.main_arg14) = m ((c.tc : Thread Cert.Net.nD Cert.Net.τ).loc Cert.Net.main_arg14)
      ∧ r.2.mem ((c.tc : Thread Cert.Net.nD Cert.Net.τ).loc Cert.Net.main_arg15) = m ((c.tc : Thread Cert.Net.nD Cert.Net.τ).loc Cert.Net.main_arg15)
      ∧ r.2.mem ((c.tc : Thread Cert.Net.nD Cert.Net.τ).loc Cert.Net.main_arg16) = m ((c.tc : Thread Cert.Net.nD Cert.Net.τ).loc Cert.Net.main_arg16)
      ∧ r.2.mem ((c.tc : Thread Cert.Net.nD Cert.Net.τ).loc Cert.Net.main_arg17) = m ((c.tc : Thread Cert.Net.nD Cert.Net.τ).loc Cert.Net.main_arg17)
      ∧ r.2.mem ((c.tc : Thread Cert.Net.nD Cert.Net.τ).loc Cert.Net.main_arg18) = m ((c.tc : Thread Cert.Net.nD Cert.Net.τ).loc Cert.Net.main_arg18)
      ∧ r.2.mem ((c.tc : Thread Cert.Net.nD Cert.Net.τ).loc Cert.Net.main_arg19) = m ((c.tc : Thread Cert.Net.nD Cert.Net.τ).loc Cert.Net.main_arg19)
      ∧ r.2.mem ((c.tc : Thread Cert.Net.nD Cert.Net.τ).loc Cert.Net.main_arg20) = m ((c.tc : Thread Cert.Net.nD Cert.Net.τ).loc Cert.Net.main_arg20))
      ∧ r.2.sem = fun _ => 0)

def quiescent_NetIdeal [hNetIdeal : Cert.NetIdeal.Facts] : Prop :=
  ∀ (m : (ℓ : Loc Cert.NetIdeal.nD Cert.NetIdeal.τ Cert.NetIdeal.sig) → Buf (Elt Ideal) ℓ) (g : Dev Cert.NetIdeal.nD → PrngReg), Pre_NetIdeal m →
    θ_run (Cert.NetIdeal.defs (F := Ideal)) (onTc (τ := Cert.NetIdeal.τ) (Cert.NetIdeal.main (F := Ideal))) ⟨m, fun _ => 0, g⟩ (fun r => (∀ c : Dev Cert.NetIdeal.nD,
      r.2.mem ((c.tc : Thread Cert.NetIdeal.nD Cert.NetIdeal.τ).loc Cert.NetIdeal.main_arg0) = m ((c.tc : Thread Cert.NetIdeal.nD Cert.NetIdeal.τ).loc Cert.NetIdeal.main_arg0)
      ∧ r.2.mem ((c.tc : Thread Cert.NetIdeal.nD Cert.NetIdeal.τ).loc Cert.NetIdeal.main_arg1) = m ((c.tc : Thread Cert.NetIdeal.nD Cert.NetIdeal.τ).loc Cert.NetIdeal.main_arg1)
      ∧ r.2.mem ((c.tc : Thread Cert.NetIdeal.nD Cert.NetIdeal.τ).loc Cert.NetIdeal.main_arg2) = m ((c.tc : Thread Cert.NetIdeal.nD Cert.NetIdeal.τ).loc Cert.NetIdeal.main_arg2)
      ∧ r.2.mem ((c.tc : Thread Cert.NetIdeal.nD Cert.NetIdeal.τ).loc Cert.NetIdeal.main_arg3) = m ((c.tc : Thread Cert.NetIdeal.nD Cert.NetIdeal.τ).loc Cert.NetIdeal.main_arg3)
      ∧ r.2.mem ((c.tc : Thread Cert.NetIdeal.nD Cert.NetIdeal.τ).loc Cert.NetIdeal.main_arg4) = m ((c.tc : Thread Cert.NetIdeal.nD Cert.NetIdeal.τ).loc Cert.NetIdeal.main_arg4)
      ∧ r.2.mem ((c.tc : Thread Cert.NetIdeal.nD Cert.NetIdeal.τ).loc Cert.NetIdeal.main_arg5) = m ((c.tc : Thread Cert.NetIdeal.nD Cert.NetIdeal.τ).loc Cert.NetIdeal.main_arg5)
      ∧ r.2.mem ((c.tc : Thread Cert.NetIdeal.nD Cert.NetIdeal.τ).loc Cert.NetIdeal.main_arg6) = m ((c.tc : Thread Cert.NetIdeal.nD Cert.NetIdeal.τ).loc Cert.NetIdeal.main_arg6)
      ∧ r.2.mem ((c.tc : Thread Cert.NetIdeal.nD Cert.NetIdeal.τ).loc Cert.NetIdeal.main_arg7) = m ((c.tc : Thread Cert.NetIdeal.nD Cert.NetIdeal.τ).loc Cert.NetIdeal.main_arg7)
      ∧ r.2.mem ((c.tc : Thread Cert.NetIdeal.nD Cert.NetIdeal.τ).loc Cert.NetIdeal.main_arg8) = m ((c.tc : Thread Cert.NetIdeal.nD Cert.NetIdeal.τ).loc Cert.NetIdeal.main_arg8)
      ∧ r.2.mem ((c.tc : Thread Cert.NetIdeal.nD Cert.NetIdeal.τ).loc Cert.NetIdeal.main_arg9) = m ((c.tc : Thread Cert.NetIdeal.nD Cert.NetIdeal.τ).loc Cert.NetIdeal.main_arg9)
      ∧ r.2.mem ((c.tc : Thread Cert.NetIdeal.nD Cert.NetIdeal.τ).loc Cert.NetIdeal.main_arg10) = m ((c.tc : Thread Cert.NetIdeal.nD Cert.NetIdeal.τ).loc Cert.NetIdeal.main_arg10)
      ∧ r.2.mem ((c.tc : Thread Cert.NetIdeal.nD Cert.NetIdeal.τ).loc Cert.NetIdeal.main_arg11) = m ((c.tc : Thread Cert.NetIdeal.nD Cert.NetIdeal.τ).loc Cert.NetIdeal.main_arg11)
      ∧ r.2.mem ((c.tc : Thread Cert.NetIdeal.nD Cert.NetIdeal.τ).loc Cert.NetIdeal.main_arg12) = m ((c.tc : Thread Cert.NetIdeal.nD Cert.NetIdeal.τ).loc Cert.NetIdeal.main_arg12)
      ∧ r.2.mem ((c.tc : Thread Cert.NetIdeal.nD Cert.NetIdeal.τ).loc Cert.NetIdeal.main_arg13) = m ((c.tc : Thread Cert.NetIdeal.nD Cert.NetIdeal.τ).loc Cert.NetIdeal.main_arg13)
      ∧ r.2.mem ((c.tc : Thread Cert.NetIdeal.nD Cert.NetIdeal.τ).loc Cert.NetIdeal.main_arg14) = m ((c.tc : Thread Cert.NetIdeal.nD Cert.NetIdeal.τ).loc Cert.NetIdeal.main_arg14)
      ∧ r.2.mem ((c.tc : Thread Cert.NetIdeal.nD Cert.NetIdeal.τ).loc Cert.NetIdeal.main_arg15) = m ((c.tc : Thread Cert.NetIdeal.nD Cert.NetIdeal.τ).loc Cert.NetIdeal.main_arg15)
      ∧ r.2.mem ((c.tc : Thread Cert.NetIdeal.nD Cert.NetIdeal.τ).loc Cert.NetIdeal.main_arg16) = m ((c.tc : Thread Cert.NetIdeal.nD Cert.NetIdeal.τ).loc Cert.NetIdeal.main_arg16)
      ∧ r.2.mem ((c.tc : Thread Cert.NetIdeal.nD Cert.NetIdeal.τ).loc Cert.NetIdeal.main_arg17) = m ((c.tc : Thread Cert.NetIdeal.nD Cert.NetIdeal.τ).loc Cert.NetIdeal.main_arg17)
      ∧ r.2.mem ((c.tc : Thread Cert.NetIdeal.nD Cert.NetIdeal.τ).loc Cert.NetIdeal.main_arg18) = m ((c.tc : Thread Cert.NetIdeal.nD Cert.NetIdeal.τ).loc Cert.NetIdeal.main_arg18)
      ∧ r.2.mem ((c.tc : Thread Cert.NetIdeal.nD Cert.NetIdeal.τ).loc Cert.NetIdeal.main_arg19) = m ((c.tc : Thread Cert.NetIdeal.nD Cert.NetIdeal.τ).loc Cert.NetIdeal.main_arg19)
      ∧ r.2.mem ((c.tc : Thread Cert.NetIdeal.nD Cert.NetIdeal.τ).loc Cert.NetIdeal.main_arg20) = m ((c.tc : Thread Cert.NetIdeal.nD Cert.NetIdeal.τ).loc Cert.NetIdeal.main_arg20))
      ∧ r.2.sem = fun _ => 0)

def quiescent_NetIdeal_pre_net_no_ties [hNetIdeal : Cert.NetIdeal.Facts] [hPre_net_no_ties : Cert.Pre_net_no_ties.Facts] : Prop :=
  ∀ (m : (ℓ : Loc Cert.NetIdeal.nD Cert.NetIdeal.τ Cert.NetIdeal.sig) → Buf (Elt Ideal) ℓ) (g : Dev Cert.NetIdeal.nD → PrngReg), Pre_NetIdeal_net_no_ties m →
    θ_run (Cert.NetIdeal.defs (F := Ideal)) (onTc (τ := Cert.NetIdeal.τ) (Cert.NetIdeal.main (F := Ideal))) ⟨m, fun _ => 0, g⟩ (fun r => (∀ c : Dev Cert.NetIdeal.nD,
      r.2.mem ((c.tc : Thread Cert.NetIdeal.nD Cert.NetIdeal.τ).loc Cert.NetIdeal.main_arg0) = m ((c.tc : Thread Cert.NetIdeal.nD Cert.NetIdeal.τ).loc Cert.NetIdeal.main_arg0)
      ∧ r.2.mem ((c.tc : Thread Cert.NetIdeal.nD Cert.NetIdeal.τ).loc Cert.NetIdeal.main_arg1) = m ((c.tc : Thread Cert.NetIdeal.nD Cert.NetIdeal.τ).loc Cert.NetIdeal.main_arg1)
      ∧ r.2.mem ((c.tc : Thread Cert.NetIdeal.nD Cert.NetIdeal.τ).loc Cert.NetIdeal.main_arg2) = m ((c.tc : Thread Cert.NetIdeal.nD Cert.NetIdeal.τ).loc Cert.NetIdeal.main_arg2)
      ∧ r.2.mem ((c.tc : Thread Cert.NetIdeal.nD Cert.NetIdeal.τ).loc Cert.NetIdeal.main_arg3) = m ((c.tc : Thread Cert.NetIdeal.nD Cert.NetIdeal.τ).loc Cert.NetIdeal.main_arg3)
      ∧ r.2.mem ((c.tc : Thread Cert.NetIdeal.nD Cert.NetIdeal.τ).loc Cert.NetIdeal.main_arg4) = m ((c.tc : Thread Cert.NetIdeal.nD Cert.NetIdeal.τ).loc Cert.NetIdeal.main_arg4)
      ∧ r.2.mem ((c.tc : Thread Cert.NetIdeal.nD Cert.NetIdeal.τ).loc Cert.NetIdeal.main_arg5) = m ((c.tc : Thread Cert.NetIdeal.nD Cert.NetIdeal.τ).loc Cert.NetIdeal.main_arg5)
      ∧ r.2.mem ((c.tc : Thread Cert.NetIdeal.nD Cert.NetIdeal.τ).loc Cert.NetIdeal.main_arg6) = m ((c.tc : Thread Cert.NetIdeal.nD Cert.NetIdeal.τ).loc Cert.NetIdeal.main_arg6)
      ∧ r.2.mem ((c.tc : Thread Cert.NetIdeal.nD Cert.NetIdeal.τ).loc Cert.NetIdeal.main_arg7) = m ((c.tc : Thread Cert.NetIdeal.nD Cert.NetIdeal.τ).loc Cert.NetIdeal.main_arg7)
      ∧ r.2.mem ((c.tc : Thread Cert.NetIdeal.nD Cert.NetIdeal.τ).loc Cert.NetIdeal.main_arg8) = m ((c.tc : Thread Cert.NetIdeal.nD Cert.NetIdeal.τ).loc Cert.NetIdeal.main_arg8)
      ∧ r.2.mem ((c.tc : Thread Cert.NetIdeal.nD Cert.NetIdeal.τ).loc Cert.NetIdeal.main_arg9) = m ((c.tc : Thread Cert.NetIdeal.nD Cert.NetIdeal.τ).loc Cert.NetIdeal.main_arg9)
      ∧ r.2.mem ((c.tc : Thread Cert.NetIdeal.nD Cert.NetIdeal.τ).loc Cert.NetIdeal.main_arg10) = m ((c.tc : Thread Cert.NetIdeal.nD Cert.NetIdeal.τ).loc Cert.NetIdeal.main_arg10)
      ∧ r.2.mem ((c.tc : Thread Cert.NetIdeal.nD Cert.NetIdeal.τ).loc Cert.NetIdeal.main_arg11) = m ((c.tc : Thread Cert.NetIdeal.nD Cert.NetIdeal.τ).loc Cert.NetIdeal.main_arg11)
      ∧ r.2.mem ((c.tc : Thread Cert.NetIdeal.nD Cert.NetIdeal.τ).loc Cert.NetIdeal.main_arg12) = m ((c.tc : Thread Cert.NetIdeal.nD Cert.NetIdeal.τ).loc Cert.NetIdeal.main_arg12)
      ∧ r.2.mem ((c.tc : Thread Cert.NetIdeal.nD Cert.NetIdeal.τ).loc Cert.NetIdeal.main_arg13) = m ((c.tc : Thread Cert.NetIdeal.nD Cert.NetIdeal.τ).loc Cert.NetIdeal.main_arg13)
      ∧ r.2.mem ((c.tc : Thread Cert.NetIdeal.nD Cert.NetIdeal.τ).loc Cert.NetIdeal.main_arg14) = m ((c.tc : Thread Cert.NetIdeal.nD Cert.NetIdeal.τ).loc Cert.NetIdeal.main_arg14)
      ∧ r.2.mem ((c.tc : Thread Cert.NetIdeal.nD Cert.NetIdeal.τ).loc Cert.NetIdeal.main_arg15) = m ((c.tc : Thread Cert.NetIdeal.nD Cert.NetIdeal.τ).loc Cert.NetIdeal.main_arg15)
      ∧ r.2.mem ((c.tc : Thread Cert.NetIdeal.nD Cert.NetIdeal.τ).loc Cert.NetIdeal.main_arg16) = m ((c.tc : Thread Cert.NetIdeal.nD Cert.NetIdeal.τ).loc Cert.NetIdeal.main_arg16)
      ∧ r.2.mem ((c.tc : Thread Cert.NetIdeal.nD Cert.NetIdeal.τ).loc Cert.NetIdeal.main_arg17) = m ((c.tc : Thread Cert.NetIdeal.nD Cert.NetIdeal.τ).loc Cert.NetIdeal.main_arg17)
      ∧ r.2.mem ((c.tc : Thread Cert.NetIdeal.nD Cert.NetIdeal.τ).loc Cert.NetIdeal.main_arg18) = m ((c.tc : Thread Cert.NetIdeal.nD Cert.NetIdeal.τ).loc Cert.NetIdeal.main_arg18)
      ∧ r.2.mem ((c.tc : Thread Cert.NetIdeal.nD Cert.NetIdeal.τ).loc Cert.NetIdeal.main_arg19) = m ((c.tc : Thread Cert.NetIdeal.nD Cert.NetIdeal.τ).loc Cert.NetIdeal.main_arg19)
      ∧ r.2.mem ((c.tc : Thread Cert.NetIdeal.nD Cert.NetIdeal.τ).loc Cert.NetIdeal.main_arg20) = m ((c.tc : Thread Cert.NetIdeal.nD Cert.NetIdeal.τ).loc Cert.NetIdeal.main_arg20))
      ∧ r.2.sem = fun _ => 0)

def quiescent_RefNetIdeal [hRefNetIdeal : Cert.RefNetIdeal.Facts] : Prop :=
  ∀ (m : (ℓ : Loc Cert.RefNetIdeal.nD Cert.RefNetIdeal.τ Cert.RefNetIdeal.sig) → Buf (Elt Ideal) ℓ) (g : Dev Cert.RefNetIdeal.nD → PrngReg), Pre_RefNetIdeal m →
    θ_run (Cert.RefNetIdeal.defs (F := Ideal)) (onTc (τ := Cert.RefNetIdeal.τ) (Cert.RefNetIdeal.main (F := Ideal))) ⟨m, fun _ => 0, g⟩ (fun r => (∀ c : Dev Cert.RefNetIdeal.nD,
      r.2.mem ((c.tc : Thread Cert.RefNetIdeal.nD Cert.RefNetIdeal.τ).loc Cert.RefNetIdeal.main_arg0) = m ((c.tc : Thread Cert.RefNetIdeal.nD Cert.RefNetIdeal.τ).loc Cert.RefNetIdeal.main_arg0)
      ∧ r.2.mem ((c.tc : Thread Cert.RefNetIdeal.nD Cert.RefNetIdeal.τ).loc Cert.RefNetIdeal.main_arg1) = m ((c.tc : Thread Cert.RefNetIdeal.nD Cert.RefNetIdeal.τ).loc Cert.RefNetIdeal.main_arg1)
      ∧ r.2.mem ((c.tc : Thread Cert.RefNetIdeal.nD Cert.RefNetIdeal.τ).loc Cert.RefNetIdeal.main_arg2) = m ((c.tc : Thread Cert.RefNetIdeal.nD Cert.RefNetIdeal.τ).loc Cert.RefNetIdeal.main_arg2)
      ∧ r.2.mem ((c.tc : Thread Cert.RefNetIdeal.nD Cert.RefNetIdeal.τ).loc Cert.RefNetIdeal.main_arg3) = m ((c.tc : Thread Cert.RefNetIdeal.nD Cert.RefNetIdeal.τ).loc Cert.RefNetIdeal.main_arg3)
      ∧ r.2.mem ((c.tc : Thread Cert.RefNetIdeal.nD Cert.RefNetIdeal.τ).loc Cert.RefNetIdeal.main_arg4) = m ((c.tc : Thread Cert.RefNetIdeal.nD Cert.RefNetIdeal.τ).loc Cert.RefNetIdeal.main_arg4)
      ∧ r.2.mem ((c.tc : Thread Cert.RefNetIdeal.nD Cert.RefNetIdeal.τ).loc Cert.RefNetIdeal.main_arg5) = m ((c.tc : Thread Cert.RefNetIdeal.nD Cert.RefNetIdeal.τ).loc Cert.RefNetIdeal.main_arg5)
      ∧ r.2.mem ((c.tc : Thread Cert.RefNetIdeal.nD Cert.RefNetIdeal.τ).loc Cert.RefNetIdeal.main_arg6) = m ((c.tc : Thread Cert.RefNetIdeal.nD Cert.RefNetIdeal.τ).loc Cert.RefNetIdeal.main_arg6)
      ∧ r.2.mem ((c.tc : Thread Cert.RefNetIdeal.nD Cert.RefNetIdeal.τ).loc Cert.RefNetIdeal.main_arg7) = m ((c.tc : Thread Cert.RefNetIdeal.nD Cert.RefNetIdeal.τ).loc Cert.RefNetIdeal.main_arg7)
      ∧ r.2.mem ((c.tc : Thread Cert.RefNetIdeal.nD Cert.RefNetIdeal.τ).loc Cert.RefNetIdeal.main_arg8) = m ((c.tc : Thread Cert.RefNetIdeal.nD Cert.RefNetIdeal.τ).loc Cert.RefNetIdeal.main_arg8)
      ∧ r.2.mem ((c.tc : Thread Cert.RefNetIdeal.nD Cert.RefNetIdeal.τ).loc Cert.RefNetIdeal.main_arg9) = m ((c.tc : Thread Cert.RefNetIdeal.nD Cert.RefNetIdeal.τ).loc Cert.RefNetIdeal.main_arg9)
      ∧ r.2.mem ((c.tc : Thread Cert.RefNetIdeal.nD Cert.RefNetIdeal.τ).loc Cert.RefNetIdeal.main_arg10) = m ((c.tc : Thread Cert.RefNetIdeal.nD Cert.RefNetIdeal.τ).loc Cert.RefNetIdeal.main_arg10)
      ∧ r.2.mem ((c.tc : Thread Cert.RefNetIdeal.nD Cert.RefNetIdeal.τ).loc Cert.RefNetIdeal.main_arg11) = m ((c.tc : Thread Cert.RefNetIdeal.nD Cert.RefNetIdeal.τ).loc Cert.RefNetIdeal.main_arg11)
      ∧ r.2.mem ((c.tc : Thread Cert.RefNetIdeal.nD Cert.RefNetIdeal.τ).loc Cert.RefNetIdeal.main_arg12) = m ((c.tc : Thread Cert.RefNetIdeal.nD Cert.RefNetIdeal.τ).loc Cert.RefNetIdeal.main_arg12)
      ∧ r.2.mem ((c.tc : Thread Cert.RefNetIdeal.nD Cert.RefNetIdeal.τ).loc Cert.RefNetIdeal.main_arg13) = m ((c.tc : Thread Cert.RefNetIdeal.nD Cert.RefNetIdeal.τ).loc Cert.RefNetIdeal.main_arg13)
      ∧ r.2.mem ((c.tc : Thread Cert.RefNetIdeal.nD Cert.RefNetIdeal.τ).loc Cert.RefNetIdeal.main_arg14) = m ((c.tc : Thread Cert.RefNetIdeal.nD Cert.RefNetIdeal.τ).loc Cert.RefNetIdeal.main_arg14)
      ∧ r.2.mem ((c.tc : Thread Cert.RefNetIdeal.nD Cert.RefNetIdeal.τ).loc Cert.RefNetIdeal.main_arg15) = m ((c.tc : Thread Cert.RefNetIdeal.nD Cert.RefNetIdeal.τ).loc Cert.RefNetIdeal.main_arg15)
      ∧ r.2.mem ((c.tc : Thread Cert.RefNetIdeal.nD Cert.RefNetIdeal.τ).loc Cert.RefNetIdeal.main_arg16) = m ((c.tc : Thread Cert.RefNetIdeal.nD Cert.RefNetIdeal.τ).loc Cert.RefNetIdeal.main_arg16)
      ∧ r.2.mem ((c.tc : Thread Cert.RefNetIdeal.nD Cert.RefNetIdeal.τ).loc Cert.RefNetIdeal.main_arg17) = m ((c.tc : Thread Cert.RefNetIdeal.nD Cert.RefNetIdeal.τ).loc Cert.RefNetIdeal.main_arg17)
      ∧ r.2.mem ((c.tc : Thread Cert.RefNetIdeal.nD Cert.RefNetIdeal.τ).loc Cert.RefNetIdeal.main_arg18) = m ((c.tc : Thread Cert.RefNetIdeal.nD Cert.RefNetIdeal.τ).loc Cert.RefNetIdeal.main_arg18)
      ∧ r.2.mem ((c.tc : Thread Cert.RefNetIdeal.nD Cert.RefNetIdeal.τ).loc Cert.RefNetIdeal.main_arg19) = m ((c.tc : Thread Cert.RefNetIdeal.nD Cert.RefNetIdeal.τ).loc Cert.RefNetIdeal.main_arg19)
      ∧ r.2.mem ((c.tc : Thread Cert.RefNetIdeal.nD Cert.RefNetIdeal.τ).loc Cert.RefNetIdeal.main_arg20) = m ((c.tc : Thread Cert.RefNetIdeal.nD Cert.RefNetIdeal.τ).loc Cert.RefNetIdeal.main_arg20))
      ∧ r.2.sem = fun _ => 0)

def quiescent_RefNetIdeal_pre_net_no_ties [hRefNetIdeal : Cert.RefNetIdeal.Facts] [hPre_net_no_ties : Cert.Pre_net_no_ties.Facts] : Prop :=
  ∀ (m : (ℓ : Loc Cert.RefNetIdeal.nD Cert.RefNetIdeal.τ Cert.RefNetIdeal.sig) → Buf (Elt Ideal) ℓ) (g : Dev Cert.RefNetIdeal.nD → PrngReg), Pre_RefNetIdeal_net_no_ties m →
    θ_run (Cert.RefNetIdeal.defs (F := Ideal)) (onTc (τ := Cert.RefNetIdeal.τ) (Cert.RefNetIdeal.main (F := Ideal))) ⟨m, fun _ => 0, g⟩ (fun r => (∀ c : Dev Cert.RefNetIdeal.nD,
      r.2.mem ((c.tc : Thread Cert.RefNetIdeal.nD Cert.RefNetIdeal.τ).loc Cert.RefNetIdeal.main_arg0) = m ((c.tc : Thread Cert.RefNetIdeal.nD Cert.RefNetIdeal.τ).loc Cert.RefNetIdeal.main_arg0)
      ∧ r.2.mem ((c.tc : Thread Cert.RefNetIdeal.nD Cert.RefNetIdeal.τ).loc Cert.RefNetIdeal.main_arg1) = m ((c.tc : Thread Cert.RefNetIdeal.nD Cert.RefNetIdeal.τ).loc Cert.RefNetIdeal.main_arg1)
      ∧ r.2.mem ((c.tc : Thread Cert.RefNetIdeal.nD Cert.RefNetIdeal.τ).loc Cert.RefNetIdeal.main_arg2) = m ((c.tc : Thread Cert.RefNetIdeal.nD Cert.RefNetIdeal.τ).loc Cert.RefNetIdeal.main_arg2)
      ∧ r.2.mem ((c.tc : Thread Cert.RefNetIdeal.nD Cert.RefNetIdeal.τ).loc Cert.RefNetIdeal.main_arg3) = m ((c.tc : Thread Cert.RefNetIdeal.nD Cert.RefNetIdeal.τ).loc Cert.RefNetIdeal.main_arg3)
      ∧ r.2.mem ((c.tc : Thread Cert.RefNetIdeal.nD Cert.RefNetIdeal.τ).loc Cert.RefNetIdeal.main_arg4) = m ((c.tc : Thread Cert.RefNetIdeal.nD Cert.RefNetIdeal.τ).loc Cert.RefNetIdeal.main_arg4)
      ∧ r.2.mem ((c.tc : Thread Cert.RefNetIdeal.nD Cert.RefNetIdeal.τ).loc Cert.RefNetIdeal.main_arg5) = m ((c.tc : Thread Cert.RefNetIdeal.nD Cert.RefNetIdeal.τ).loc Cert.RefNetIdeal.main_arg5)
      ∧ r.2.mem ((c.tc : Thread Cert.RefNetIdeal.nD Cert.RefNetIdeal.τ).loc Cert.RefNetIdeal.main_arg6) = m ((c.tc : Thread Cert.RefNetIdeal.nD Cert.RefNetIdeal.τ).loc Cert.RefNetIdeal.main_arg6)
      ∧ r.2.mem ((c.tc : Thread Cert.RefNetIdeal.nD Cert.RefNetIdeal.τ).loc Cert.RefNetIdeal.main_arg7) = m ((c.tc : Thread Cert.RefNetIdeal.nD Cert.RefNetIdeal.τ).loc Cert.RefNetIdeal.main_arg7)
      ∧ r.2.mem ((c.tc : Thread Cert.RefNetIdeal.nD Cert.RefNetIdeal.τ).loc Cert.RefNetIdeal.main_arg8) = m ((c.tc : Thread Cert.RefNetIdeal.nD Cert.RefNetIdeal.τ).loc Cert.RefNetIdeal.main_arg8)
      ∧ r.2.mem ((c.tc : Thread Cert.RefNetIdeal.nD Cert.RefNetIdeal.τ).loc Cert.RefNetIdeal.main_arg9) = m ((c.tc : Thread Cert.RefNetIdeal.nD Cert.RefNetIdeal.τ).loc Cert.RefNetIdeal.main_arg9)
      ∧ r.2.mem ((c.tc : Thread Cert.RefNetIdeal.nD Cert.RefNetIdeal.τ).loc Cert.RefNetIdeal.main_arg10) = m ((c.tc : Thread Cert.RefNetIdeal.nD Cert.RefNetIdeal.τ).loc Cert.RefNetIdeal.main_arg10)
      ∧ r.2.mem ((c.tc : Thread Cert.RefNetIdeal.nD Cert.RefNetIdeal.τ).loc Cert.RefNetIdeal.main_arg11) = m ((c.tc : Thread Cert.RefNetIdeal.nD Cert.RefNetIdeal.τ).loc Cert.RefNetIdeal.main_arg11)
      ∧ r.2.mem ((c.tc : Thread Cert.RefNetIdeal.nD Cert.RefNetIdeal.τ).loc Cert.RefNetIdeal.main_arg12) = m ((c.tc : Thread Cert.RefNetIdeal.nD Cert.RefNetIdeal.τ).loc Cert.RefNetIdeal.main_arg12)
      ∧ r.2.mem ((c.tc : Thread Cert.RefNetIdeal.nD Cert.RefNetIdeal.τ).loc Cert.RefNetIdeal.main_arg13) = m ((c.tc : Thread Cert.RefNetIdeal.nD Cert.RefNetIdeal.τ).loc Cert.RefNetIdeal.main_arg13)
      ∧ r.2.mem ((c.tc : Thread Cert.RefNetIdeal.nD Cert.RefNetIdeal.τ).loc Cert.RefNetIdeal.main_arg14) = m ((c.tc : Thread Cert.RefNetIdeal.nD Cert.RefNetIdeal.τ).loc Cert.RefNetIdeal.main_arg14)
      ∧ r.2.mem ((c.tc : Thread Cert.RefNetIdeal.nD Cert.RefNetIdeal.τ).loc Cert.RefNetIdeal.main_arg15) = m ((c.tc : Thread Cert.RefNetIdeal.nD Cert.RefNetIdeal.τ).loc Cert.RefNetIdeal.main_arg15)
      ∧ r.2.mem ((c.tc : Thread Cert.RefNetIdeal.nD Cert.RefNetIdeal.τ).loc Cert.RefNetIdeal.main_arg16) = m ((c.tc : Thread Cert.RefNetIdeal.nD Cert.RefNetIdeal.τ).loc Cert.RefNetIdeal.main_arg16)
      ∧ r.2.mem ((c.tc : Thread Cert.RefNetIdeal.nD Cert.RefNetIdeal.τ).loc Cert.RefNetIdeal.main_arg17) = m ((c.tc : Thread Cert.RefNetIdeal.nD Cert.RefNetIdeal.τ).loc Cert.RefNetIdeal.main_arg17)
      ∧ r.2.mem ((c.tc : Thread Cert.RefNetIdeal.nD Cert.RefNetIdeal.τ).loc Cert.RefNetIdeal.main_arg18) = m ((c.tc : Thread Cert.RefNetIdeal.nD Cert.RefNetIdeal.τ).loc Cert.RefNetIdeal.main_arg18)
      ∧ r.2.mem ((c.tc : Thread Cert.RefNetIdeal.nD Cert.RefNetIdeal.τ).loc Cert.RefNetIdeal.main_arg19) = m ((c.tc : Thread Cert.RefNetIdeal.nD Cert.RefNetIdeal.τ).loc Cert.RefNetIdeal.main_arg19)
      ∧ r.2.mem ((c.tc : Thread Cert.RefNetIdeal.nD Cert.RefNetIdeal.τ).loc Cert.RefNetIdeal.main_arg20) = m ((c.tc : Thread Cert.RefNetIdeal.nD Cert.RefNetIdeal.τ).loc Cert.RefNetIdeal.main_arg20))
      ∧ r.2.sem = fun _ => 0)

def quiescent_Sa1 [hSa1 : Cert.Sa1.Facts] : Prop :=
  ∀ (m : (ℓ : Loc Cert.Sa1.nD Cert.Sa1.τ Cert.Sa1.sig) → Buf (Elt Bits) ℓ) (g : Dev Cert.Sa1.nD → PrngReg), Pre_Sa1 m →
    θ_run (Cert.Sa1.defs (F := Bits)) (onTc (τ := Cert.Sa1.τ) (Cert.Sa1.main (F := Bits))) ⟨m, fun _ => 0, g⟩ (fun r => (∀ c : Dev Cert.Sa1.nD,
      r.2.mem ((c.tc : Thread Cert.Sa1.nD Cert.Sa1.τ).loc Cert.Sa1.main_arg0) = m ((c.tc : Thread Cert.Sa1.nD Cert.Sa1.τ).loc Cert.Sa1.main_arg0)
      ∧ r.2.mem ((c.tc : Thread Cert.Sa1.nD Cert.Sa1.τ).loc Cert.Sa1.main_arg1) = m ((c.tc : Thread Cert.Sa1.nD Cert.Sa1.τ).loc Cert.Sa1.main_arg1)
      ∧ r.2.mem ((c.tc : Thread Cert.Sa1.nD Cert.Sa1.τ).loc Cert.Sa1.main_arg2) = m ((c.tc : Thread Cert.Sa1.nD Cert.Sa1.τ).loc Cert.Sa1.main_arg2)
      ∧ r.2.mem ((c.tc : Thread Cert.Sa1.nD Cert.Sa1.τ).loc Cert.Sa1.main_arg3) = m ((c.tc : Thread Cert.Sa1.nD Cert.Sa1.τ).loc Cert.Sa1.main_arg3)
      ∧ r.2.mem ((c.tc : Thread Cert.Sa1.nD Cert.Sa1.τ).loc Cert.Sa1.main_arg4) = m ((c.tc : Thread Cert.Sa1.nD Cert.Sa1.τ).loc Cert.Sa1.main_arg4)
      ∧ r.2.mem ((c.tc : Thread Cert.Sa1.nD Cert.Sa1.τ).loc Cert.Sa1.main_arg5) = m ((c.tc : Thread Cert.Sa1.nD Cert.Sa1.τ).loc Cert.Sa1.main_arg5))
      ∧ r.2.sem = fun _ => 0)

def quiescent_Sa1Ideal [hSa1Ideal : Cert.Sa1Ideal.Facts] : Prop :=
  ∀ (m : (ℓ : Loc Cert.Sa1Ideal.nD Cert.Sa1Ideal.τ Cert.Sa1Ideal.sig) → Buf (Elt Ideal) ℓ) (g : Dev Cert.Sa1Ideal.nD → PrngReg), Pre_Sa1Ideal m →
    θ_run (Cert.Sa1Ideal.defs (F := Ideal)) (onTc (τ := Cert.Sa1Ideal.τ) (Cert.Sa1Ideal.main (F := Ideal))) ⟨m, fun _ => 0, g⟩ (fun r => (∀ c : Dev Cert.Sa1Ideal.nD,
      r.2.mem ((c.tc : Thread Cert.Sa1Ideal.nD Cert.Sa1Ideal.τ).loc Cert.Sa1Ideal.main_arg0) = m ((c.tc : Thread Cert.Sa1Ideal.nD Cert.Sa1Ideal.τ).loc Cert.Sa1Ideal.main_arg0)
      ∧ r.2.mem ((c.tc : Thread Cert.Sa1Ideal.nD Cert.Sa1Ideal.τ).loc Cert.Sa1Ideal.main_arg1) = m ((c.tc : Thread Cert.Sa1Ideal.nD Cert.Sa1Ideal.τ).loc Cert.Sa1Ideal.main_arg1)
      ∧ r.2.mem ((c.tc : Thread Cert.Sa1Ideal.nD Cert.Sa1Ideal.τ).loc Cert.Sa1Ideal.main_arg2) = m ((c.tc : Thread Cert.Sa1Ideal.nD Cert.Sa1Ideal.τ).loc Cert.Sa1Ideal.main_arg2)
      ∧ r.2.mem ((c.tc : Thread Cert.Sa1Ideal.nD Cert.Sa1Ideal.τ).loc Cert.Sa1Ideal.main_arg3) = m ((c.tc : Thread Cert.Sa1Ideal.nD Cert.Sa1Ideal.τ).loc Cert.Sa1Ideal.main_arg3)
      ∧ r.2.mem ((c.tc : Thread Cert.Sa1Ideal.nD Cert.Sa1Ideal.τ).loc Cert.Sa1Ideal.main_arg4) = m ((c.tc : Thread Cert.Sa1Ideal.nD Cert.Sa1Ideal.τ).loc Cert.Sa1Ideal.main_arg4)
      ∧ r.2.mem ((c.tc : Thread Cert.Sa1Ideal.nD Cert.Sa1Ideal.τ).loc Cert.Sa1Ideal.main_arg5) = m ((c.tc : Thread Cert.Sa1Ideal.nD Cert.Sa1Ideal.τ).loc Cert.Sa1Ideal.main_arg5))
      ∧ r.2.sem = fun _ => 0)

def quiescent_Sa1Ideal_pre_sa1_no_ties [hSa1Ideal : Cert.Sa1Ideal.Facts] [hPre_sa1_no_ties : Cert.Pre_sa1_no_ties.Facts] : Prop :=
  ∀ (m : (ℓ : Loc Cert.Sa1Ideal.nD Cert.Sa1Ideal.τ Cert.Sa1Ideal.sig) → Buf (Elt Ideal) ℓ) (g : Dev Cert.Sa1Ideal.nD → PrngReg), Pre_Sa1Ideal_sa1_no_ties m →
    θ_run (Cert.Sa1Ideal.defs (F := Ideal)) (onTc (τ := Cert.Sa1Ideal.τ) (Cert.Sa1Ideal.main (F := Ideal))) ⟨m, fun _ => 0, g⟩ (fun r => (∀ c : Dev Cert.Sa1Ideal.nD,
      r.2.mem ((c.tc : Thread Cert.Sa1Ideal.nD Cert.Sa1Ideal.τ).loc Cert.Sa1Ideal.main_arg0) = m ((c.tc : Thread Cert.Sa1Ideal.nD Cert.Sa1Ideal.τ).loc Cert.Sa1Ideal.main_arg0)
      ∧ r.2.mem ((c.tc : Thread Cert.Sa1Ideal.nD Cert.Sa1Ideal.τ).loc Cert.Sa1Ideal.main_arg1) = m ((c.tc : Thread Cert.Sa1Ideal.nD Cert.Sa1Ideal.τ).loc Cert.Sa1Ideal.main_arg1)
      ∧ r.2.mem ((c.tc : Thread Cert.Sa1Ideal.nD Cert.Sa1Ideal.τ).loc Cert.Sa1Ideal.main_arg2) = m ((c.tc : Thread Cert.Sa1Ideal.nD Cert.Sa1Ideal.τ).loc Cert.Sa1Ideal.main_arg2)
      ∧ r.2.mem ((c.tc : Thread Cert.Sa1Ideal.nD Cert.Sa1Ideal.τ).loc Cert.Sa1Ideal.main_arg3) = m ((c.tc : Thread Cert.Sa1Ideal.nD Cert.Sa1Ideal.τ).loc Cert.Sa1Ideal.main_arg3)
      ∧ r.2.mem ((c.tc : Thread Cert.Sa1Ideal.nD Cert.Sa1Ideal.τ).loc Cert.Sa1Ideal.main_arg4) = m ((c.tc : Thread Cert.Sa1Ideal.nD Cert.Sa1Ideal.τ).loc Cert.Sa1Ideal.main_arg4)
      ∧ r.2.mem ((c.tc : Thread Cert.Sa1Ideal.nD Cert.Sa1Ideal.τ).loc Cert.Sa1Ideal.main_arg5) = m ((c.tc : Thread Cert.Sa1Ideal.nD Cert.Sa1Ideal.τ).loc Cert.Sa1Ideal.main_arg5))
      ∧ r.2.sem = fun _ => 0)

def quiescent_RefSa1Ideal [hRefSa1Ideal : Cert.RefSa1Ideal.Facts] : Prop :=
  ∀ (m : (ℓ : Loc Cert.RefSa1Ideal.nD Cert.RefSa1Ideal.τ Cert.RefSa1Ideal.sig) → Buf (Elt Ideal) ℓ) (g : Dev Cert.RefSa1Ideal.nD → PrngReg), Pre_RefSa1Ideal m →
    θ_run (Cert.RefSa1Ideal.defs (F := Ideal)) (onTc (τ := Cert.RefSa1Ideal.τ) (Cert.RefSa1Ideal.main (F := Ideal))) ⟨m, fun _ => 0, g⟩ (fun r => (∀ c : Dev Cert.RefSa1Ideal.nD,
      r.2.mem ((c.tc : Thread Cert.RefSa1Ideal.nD Cert.RefSa1Ideal.τ).loc Cert.RefSa1Ideal.main_arg0) = m ((c.tc : Thread Cert.RefSa1Ideal.nD Cert.RefSa1Ideal.τ).loc Cert.RefSa1Ideal.main_arg0)
      ∧ r.2.mem ((c.tc : Thread Cert.RefSa1Ideal.nD Cert.RefSa1Ideal.τ).loc Cert.RefSa1Ideal.main_arg1) = m ((c.tc : Thread Cert.RefSa1Ideal.nD Cert.RefSa1Ideal.τ).loc Cert.RefSa1Ideal.main_arg1)
      ∧ r.2.mem ((c.tc : Thread Cert.RefSa1Ideal.nD Cert.RefSa1Ideal.τ).loc Cert.RefSa1Ideal.main_arg2) = m ((c.tc : Thread Cert.RefSa1Ideal.nD Cert.RefSa1Ideal.τ).loc Cert.RefSa1Ideal.main_arg2)
      ∧ r.2.mem ((c.tc : Thread Cert.RefSa1Ideal.nD Cert.RefSa1Ideal.τ).loc Cert.RefSa1Ideal.main_arg3) = m ((c.tc : Thread Cert.RefSa1Ideal.nD Cert.RefSa1Ideal.τ).loc Cert.RefSa1Ideal.main_arg3)
      ∧ r.2.mem ((c.tc : Thread Cert.RefSa1Ideal.nD Cert.RefSa1Ideal.τ).loc Cert.RefSa1Ideal.main_arg4) = m ((c.tc : Thread Cert.RefSa1Ideal.nD Cert.RefSa1Ideal.τ).loc Cert.RefSa1Ideal.main_arg4)
      ∧ r.2.mem ((c.tc : Thread Cert.RefSa1Ideal.nD Cert.RefSa1Ideal.τ).loc Cert.RefSa1Ideal.main_arg5) = m ((c.tc : Thread Cert.RefSa1Ideal.nD Cert.RefSa1Ideal.τ).loc Cert.RefSa1Ideal.main_arg5))
      ∧ r.2.sem = fun _ => 0)

def quiescent_RefSa1Ideal_pre_sa1_no_ties [hRefSa1Ideal : Cert.RefSa1Ideal.Facts] [hPre_sa1_no_ties : Cert.Pre_sa1_no_ties.Facts] : Prop :=
  ∀ (m : (ℓ : Loc Cert.RefSa1Ideal.nD Cert.RefSa1Ideal.τ Cert.RefSa1Ideal.sig) → Buf (Elt Ideal) ℓ) (g : Dev Cert.RefSa1Ideal.nD → PrngReg), Pre_RefSa1Ideal_sa1_no_ties m →
    θ_run (Cert.RefSa1Ideal.defs (F := Ideal)) (onTc (τ := Cert.RefSa1Ideal.τ) (Cert.RefSa1Ideal.main (F := Ideal))) ⟨m, fun _ => 0, g⟩ (fun r => (∀ c : Dev Cert.RefSa1Ideal.nD,
      r.2.mem ((c.tc : Thread Cert.RefSa1Ideal.nD Cert.RefSa1Ideal.τ).loc Cert.RefSa1Ideal.main_arg0) = m ((c.tc : Thread Cert.RefSa1Ideal.nD Cert.RefSa1Ideal.τ).loc Cert.RefSa1Ideal.main_arg0)
      ∧ r.2.mem ((c.tc : Thread Cert.RefSa1Ideal.nD Cert.RefSa1Ideal.τ).loc Cert.RefSa1Ideal.main_arg1) = m ((c.tc : Thread Cert.RefSa1Ideal.nD Cert.RefSa1Ideal.τ).loc Cert.RefSa1Ideal.main_arg1)
      ∧ r.2.mem ((c.tc : Thread Cert.RefSa1Ideal.nD Cert.RefSa1Ideal.τ).loc Cert.RefSa1Ideal.main_arg2) = m ((c.tc : Thread Cert.RefSa1Ideal.nD Cert.RefSa1Ideal.τ).loc Cert.RefSa1Ideal.main_arg2)
      ∧ r.2.mem ((c.tc : Thread Cert.RefSa1Ideal.nD Cert.RefSa1Ideal.τ).loc Cert.RefSa1Ideal.main_arg3) = m ((c.tc : Thread Cert.RefSa1Ideal.nD Cert.RefSa1Ideal.τ).loc Cert.RefSa1Ideal.main_arg3)
      ∧ r.2.mem ((c.tc : Thread Cert.RefSa1Ideal.nD Cert.RefSa1Ideal.τ).loc Cert.RefSa1Ideal.main_arg4) = m ((c.tc : Thread Cert.RefSa1Ideal.nD Cert.RefSa1Ideal.τ).loc Cert.RefSa1Ideal.main_arg4)
      ∧ r.2.mem ((c.tc : Thread Cert.RefSa1Ideal.nD Cert.RefSa1Ideal.τ).loc Cert.RefSa1Ideal.main_arg5) = m ((c.tc : Thread Cert.RefSa1Ideal.nD Cert.RefSa1Ideal.τ).loc Cert.RefSa1Ideal.main_arg5))
      ∧ r.2.sem = fun _ => 0)

def quiescent_Sa2Fp1 [hSa2Fp1 : Cert.Sa2Fp1.Facts] : Prop :=
  ∀ (m : (ℓ : Loc Cert.Sa2Fp1.nD Cert.Sa2Fp1.τ Cert.Sa2Fp1.sig) → Buf (Elt Bits) ℓ) (g : Dev Cert.Sa2Fp1.nD → PrngReg), Pre_Sa2Fp1 m →
    θ_run (Cert.Sa2Fp1.defs (F := Bits)) (onTc (τ := Cert.Sa2Fp1.τ) (Cert.Sa2Fp1.main (F := Bits))) ⟨m, fun _ => 0, g⟩ (fun r => (∀ c : Dev Cert.Sa2Fp1.nD,
      r.2.mem ((c.tc : Thread Cert.Sa2Fp1.nD Cert.Sa2Fp1.τ).loc Cert.Sa2Fp1.main_arg0) = m ((c.tc : Thread Cert.Sa2Fp1.nD Cert.Sa2Fp1.τ).loc Cert.Sa2Fp1.main_arg0)
      ∧ r.2.mem ((c.tc : Thread Cert.Sa2Fp1.nD Cert.Sa2Fp1.τ).loc Cert.Sa2Fp1.main_arg1) = m ((c.tc : Thread Cert.Sa2Fp1.nD Cert.Sa2Fp1.τ).loc Cert.Sa2Fp1.main_arg1)
      ∧ r.2.mem ((c.tc : Thread Cert.Sa2Fp1.nD Cert.Sa2Fp1.τ).loc Cert.Sa2Fp1.main_arg2) = m ((c.tc : Thread Cert.Sa2Fp1.nD Cert.Sa2Fp1.τ).loc Cert.Sa2Fp1.main_arg2)
      ∧ r.2.mem ((c.tc : Thread Cert.Sa2Fp1.nD Cert.Sa2Fp1.τ).loc Cert.Sa2Fp1.main_arg3) = m ((c.tc : Thread Cert.Sa2Fp1.nD Cert.Sa2Fp1.τ).loc Cert.Sa2Fp1.main_arg3)
      ∧ r.2.mem ((c.tc : Thread Cert.Sa2Fp1.nD Cert.Sa2Fp1.τ).loc Cert.Sa2Fp1.main_arg4) = m ((c.tc : Thread Cert.Sa2Fp1.nD Cert.Sa2Fp1.τ).loc Cert.Sa2Fp1.main_arg4)
      ∧ r.2.mem ((c.tc : Thread Cert.Sa2Fp1.nD Cert.Sa2Fp1.τ).loc Cert.Sa2Fp1.main_arg5) = m ((c.tc : Thread Cert.Sa2Fp1.nD Cert.Sa2Fp1.τ).loc Cert.Sa2Fp1.main_arg5)
      ∧ r.2.mem ((c.tc : Thread Cert.Sa2Fp1.nD Cert.Sa2Fp1.τ).loc Cert.Sa2Fp1.main_arg6) = m ((c.tc : Thread Cert.Sa2Fp1.nD Cert.Sa2Fp1.τ).loc Cert.Sa2Fp1.main_arg6)
      ∧ r.2.mem ((c.tc : Thread Cert.Sa2Fp1.nD Cert.Sa2Fp1.τ).loc Cert.Sa2Fp1.main_arg7) = m ((c.tc : Thread Cert.Sa2Fp1.nD Cert.Sa2Fp1.τ).loc Cert.Sa2Fp1.main_arg7)
      ∧ r.2.mem ((c.tc : Thread Cert.Sa2Fp1.nD Cert.Sa2Fp1.τ).loc Cert.Sa2Fp1.main_arg8) = m ((c.tc : Thread Cert.Sa2Fp1.nD Cert.Sa2Fp1.τ).loc Cert.Sa2Fp1.main_arg8)
      ∧ r.2.mem ((c.tc : Thread Cert.Sa2Fp1.nD Cert.Sa2Fp1.τ).loc Cert.Sa2Fp1.main_arg9) = m ((c.tc : Thread Cert.Sa2Fp1.nD Cert.Sa2Fp1.τ).loc Cert.Sa2Fp1.main_arg9))
      ∧ r.2.sem = fun _ => 0)

def quiescent_Sa2Fp1Ideal [hSa2Fp1Ideal : Cert.Sa2Fp1Ideal.Facts] : Prop :=
  ∀ (m : (ℓ : Loc Cert.Sa2Fp1Ideal.nD Cert.Sa2Fp1Ideal.τ Cert.Sa2Fp1Ideal.sig) → Buf (Elt Ideal) ℓ) (g : Dev Cert.Sa2Fp1Ideal.nD → PrngReg), Pre_Sa2Fp1Ideal m →
    θ_run (Cert.Sa2Fp1Ideal.defs (F := Ideal)) (onTc (τ := Cert.Sa2Fp1Ideal.τ) (Cert.Sa2Fp1Ideal.main (F := Ideal))) ⟨m, fun _ => 0, g⟩ (fun r => (∀ c : Dev Cert.Sa2Fp1Ideal.nD,
      r.2.mem ((c.tc : Thread Cert.Sa2Fp1Ideal.nD Cert.Sa2Fp1Ideal.τ).loc Cert.Sa2Fp1Ideal.main_arg0) = m ((c.tc : Thread Cert.Sa2Fp1Ideal.nD Cert.Sa2Fp1Ideal.τ).loc Cert.Sa2Fp1Ideal.main_arg0)
      ∧ r.2.mem ((c.tc : Thread Cert.Sa2Fp1Ideal.nD Cert.Sa2Fp1Ideal.τ).loc Cert.Sa2Fp1Ideal.main_arg1) = m ((c.tc : Thread Cert.Sa2Fp1Ideal.nD Cert.Sa2Fp1Ideal.τ).loc Cert.Sa2Fp1Ideal.main_arg1)
      ∧ r.2.mem ((c.tc : Thread Cert.Sa2Fp1Ideal.nD Cert.Sa2Fp1Ideal.τ).loc Cert.Sa2Fp1Ideal.main_arg2) = m ((c.tc : Thread Cert.Sa2Fp1Ideal.nD Cert.Sa2Fp1Ideal.τ).loc Cert.Sa2Fp1Ideal.main_arg2)
      ∧ r.2.mem ((c.tc : Thread Cert.Sa2Fp1Ideal.nD Cert.Sa2Fp1Ideal.τ).loc Cert.Sa2Fp1Ideal.main_arg3) = m ((c.tc : Thread Cert.Sa2Fp1Ideal.nD Cert.Sa2Fp1Ideal.τ).loc Cert.Sa2Fp1Ideal.main_arg3)
      ∧ r.2.mem ((c.tc : Thread Cert.Sa2Fp1Ideal.nD Cert.Sa2Fp1Ideal.τ).loc Cert.Sa2Fp1Ideal.main_arg4) = m ((c.tc : Thread Cert.Sa2Fp1Ideal.nD Cert.Sa2Fp1Ideal.τ).loc Cert.Sa2Fp1Ideal.main_arg4)
      ∧ r.2.mem ((c.tc : Thread Cert.Sa2Fp1Ideal.nD Cert.Sa2Fp1Ideal.τ).loc Cert.Sa2Fp1Ideal.main_arg5) = m ((c.tc : Thread Cert.Sa2Fp1Ideal.nD Cert.Sa2Fp1Ideal.τ).loc Cert.Sa2Fp1Ideal.main_arg5)
      ∧ r.2.mem ((c.tc : Thread Cert.Sa2Fp1Ideal.nD Cert.Sa2Fp1Ideal.τ).loc Cert.Sa2Fp1Ideal.main_arg6) = m ((c.tc : Thread Cert.Sa2Fp1Ideal.nD Cert.Sa2Fp1Ideal.τ).loc Cert.Sa2Fp1Ideal.main_arg6)
      ∧ r.2.mem ((c.tc : Thread Cert.Sa2Fp1Ideal.nD Cert.Sa2Fp1Ideal.τ).loc Cert.Sa2Fp1Ideal.main_arg7) = m ((c.tc : Thread Cert.Sa2Fp1Ideal.nD Cert.Sa2Fp1Ideal.τ).loc Cert.Sa2Fp1Ideal.main_arg7)
      ∧ r.2.mem ((c.tc : Thread Cert.Sa2Fp1Ideal.nD Cert.Sa2Fp1Ideal.τ).loc Cert.Sa2Fp1Ideal.main_arg8) = m ((c.tc : Thread Cert.Sa2Fp1Ideal.nD Cert.Sa2Fp1Ideal.τ).loc Cert.Sa2Fp1Ideal.main_arg8)
      ∧ r.2.mem ((c.tc : Thread Cert.Sa2Fp1Ideal.nD Cert.Sa2Fp1Ideal.τ).loc Cert.Sa2Fp1Ideal.main_arg9) = m ((c.tc : Thread Cert.Sa2Fp1Ideal.nD Cert.Sa2Fp1Ideal.τ).loc Cert.Sa2Fp1Ideal.main_arg9))
      ∧ r.2.sem = fun _ => 0)

def quiescent_Sa2Fp1Ideal_pre_sa2_fp1_no_ties [hSa2Fp1Ideal : Cert.Sa2Fp1Ideal.Facts] [hPre_sa2_fp1_no_ties : Cert.Pre_sa2_fp1_no_ties.Facts] : Prop :=
  ∀ (m : (ℓ : Loc Cert.Sa2Fp1Ideal.nD Cert.Sa2Fp1Ideal.τ Cert.Sa2Fp1Ideal.sig) → Buf (Elt Ideal) ℓ) (g : Dev Cert.Sa2Fp1Ideal.nD → PrngReg), Pre_Sa2Fp1Ideal_sa2_fp1_no_ties m →
    θ_run (Cert.Sa2Fp1Ideal.defs (F := Ideal)) (onTc (τ := Cert.Sa2Fp1Ideal.τ) (Cert.Sa2Fp1Ideal.main (F := Ideal))) ⟨m, fun _ => 0, g⟩ (fun r => (∀ c : Dev Cert.Sa2Fp1Ideal.nD,
      r.2.mem ((c.tc : Thread Cert.Sa2Fp1Ideal.nD Cert.Sa2Fp1Ideal.τ).loc Cert.Sa2Fp1Ideal.main_arg0) = m ((c.tc : Thread Cert.Sa2Fp1Ideal.nD Cert.Sa2Fp1Ideal.τ).loc Cert.Sa2Fp1Ideal.main_arg0)
      ∧ r.2.mem ((c.tc : Thread Cert.Sa2Fp1Ideal.nD Cert.Sa2Fp1Ideal.τ).loc Cert.Sa2Fp1Ideal.main_arg1) = m ((c.tc : Thread Cert.Sa2Fp1Ideal.nD Cert.Sa2Fp1Ideal.τ).loc Cert.Sa2Fp1Ideal.main_arg1)
      ∧ r.2.mem ((c.tc : Thread Cert.Sa2Fp1Ideal.nD Cert.Sa2Fp1Ideal.τ).loc Cert.Sa2Fp1Ideal.main_arg2) = m ((c.tc : Thread Cert.Sa2Fp1Ideal.nD Cert.Sa2Fp1Ideal.τ).loc Cert.Sa2Fp1Ideal.main_arg2)
      ∧ r.2.mem ((c.tc : Thread Cert.Sa2Fp1Ideal.nD Cert.Sa2Fp1Ideal.τ).loc Cert.Sa2Fp1Ideal.main_arg3) = m ((c.tc : Thread Cert.Sa2Fp1Ideal.nD Cert.Sa2Fp1Ideal.τ).loc Cert.Sa2Fp1Ideal.main_arg3)
      ∧ r.2.mem ((c.tc : Thread Cert.Sa2Fp1Ideal.nD Cert.Sa2Fp1Ideal.τ).loc Cert.Sa2Fp1Ideal.main_arg4) = m ((c.tc : Thread Cert.Sa2Fp1Ideal.nD Cert.Sa2Fp1Ideal.τ).loc Cert.Sa2Fp1Ideal.main_arg4)
      ∧ r.2.mem ((c.tc : Thread Cert.Sa2Fp1Ideal.nD Cert.Sa2Fp1Ideal.τ).loc Cert.Sa2Fp1Ideal.main_arg5) = m ((c.tc : Thread Cert.Sa2Fp1Ideal.nD Cert.Sa2Fp1Ideal.τ).loc Cert.Sa2Fp1Ideal.main_arg5)
      ∧ r.2.mem ((c.tc : Thread Cert.Sa2Fp1Ideal.nD Cert.Sa2Fp1Ideal.τ).loc Cert.Sa2Fp1Ideal.main_arg6) = m ((c.tc : Thread Cert.Sa2Fp1Ideal.nD Cert.Sa2Fp1Ideal.τ).loc Cert.Sa2Fp1Ideal.main_arg6)
      ∧ r.2.mem ((c.tc : Thread Cert.Sa2Fp1Ideal.nD Cert.Sa2Fp1Ideal.τ).loc Cert.Sa2Fp1Ideal.main_arg7) = m ((c.tc : Thread Cert.Sa2Fp1Ideal.nD Cert.Sa2Fp1Ideal.τ).loc Cert.Sa2Fp1Ideal.main_arg7)
      ∧ r.2.mem ((c.tc : Thread Cert.Sa2Fp1Ideal.nD Cert.Sa2Fp1Ideal.τ).loc Cert.Sa2Fp1Ideal.main_arg8) = m ((c.tc : Thread Cert.Sa2Fp1Ideal.nD Cert.Sa2Fp1Ideal.τ).loc Cert.Sa2Fp1Ideal.main_arg8)
      ∧ r.2.mem ((c.tc : Thread Cert.Sa2Fp1Ideal.nD Cert.Sa2Fp1Ideal.τ).loc Cert.Sa2Fp1Ideal.main_arg9) = m ((c.tc : Thread Cert.Sa2Fp1Ideal.nD Cert.Sa2Fp1Ideal.τ).loc Cert.Sa2Fp1Ideal.main_arg9))
      ∧ r.2.sem = fun _ => 0)

def quiescent_RefSa2Fp1Ideal [hRefSa2Fp1Ideal : Cert.RefSa2Fp1Ideal.Facts] : Prop :=
  ∀ (m : (ℓ : Loc Cert.RefSa2Fp1Ideal.nD Cert.RefSa2Fp1Ideal.τ Cert.RefSa2Fp1Ideal.sig) → Buf (Elt Ideal) ℓ) (g : Dev Cert.RefSa2Fp1Ideal.nD → PrngReg), Pre_RefSa2Fp1Ideal m →
    θ_run (Cert.RefSa2Fp1Ideal.defs (F := Ideal)) (onTc (τ := Cert.RefSa2Fp1Ideal.τ) (Cert.RefSa2Fp1Ideal.main (F := Ideal))) ⟨m, fun _ => 0, g⟩ (fun r => (∀ c : Dev Cert.RefSa2Fp1Ideal.nD,
      r.2.mem ((c.tc : Thread Cert.RefSa2Fp1Ideal.nD Cert.RefSa2Fp1Ideal.τ).loc Cert.RefSa2Fp1Ideal.main_arg0) = m ((c.tc : Thread Cert.RefSa2Fp1Ideal.nD Cert.RefSa2Fp1Ideal.τ).loc Cert.RefSa2Fp1Ideal.main_arg0)
      ∧ r.2.mem ((c.tc : Thread Cert.RefSa2Fp1Ideal.nD Cert.RefSa2Fp1Ideal.τ).loc Cert.RefSa2Fp1Ideal.main_arg1) = m ((c.tc : Thread Cert.RefSa2Fp1Ideal.nD Cert.RefSa2Fp1Ideal.τ).loc Cert.RefSa2Fp1Ideal.main_arg1)
      ∧ r.2.mem ((c.tc : Thread Cert.RefSa2Fp1Ideal.nD Cert.RefSa2Fp1Ideal.τ).loc Cert.RefSa2Fp1Ideal.main_arg2) = m ((c.tc : Thread Cert.RefSa2Fp1Ideal.nD Cert.RefSa2Fp1Ideal.τ).loc Cert.RefSa2Fp1Ideal.main_arg2)
      ∧ r.2.mem ((c.tc : Thread Cert.RefSa2Fp1Ideal.nD Cert.RefSa2Fp1Ideal.τ).loc Cert.RefSa2Fp1Ideal.main_arg3) = m ((c.tc : Thread Cert.RefSa2Fp1Ideal.nD Cert.RefSa2Fp1Ideal.τ).loc Cert.RefSa2Fp1Ideal.main_arg3)
      ∧ r.2.mem ((c.tc : Thread Cert.RefSa2Fp1Ideal.nD Cert.RefSa2Fp1Ideal.τ).loc Cert.RefSa2Fp1Ideal.main_arg4) = m ((c.tc : Thread Cert.RefSa2Fp1Ideal.nD Cert.RefSa2Fp1Ideal.τ).loc Cert.RefSa2Fp1Ideal.main_arg4)
      ∧ r.2.mem ((c.tc : Thread Cert.RefSa2Fp1Ideal.nD Cert.RefSa2Fp1Ideal.τ).loc Cert.RefSa2Fp1Ideal.main_arg5) = m ((c.tc : Thread Cert.RefSa2Fp1Ideal.nD Cert.RefSa2Fp1Ideal.τ).loc Cert.RefSa2Fp1Ideal.main_arg5)
      ∧ r.2.mem ((c.tc : Thread Cert.RefSa2Fp1Ideal.nD Cert.RefSa2Fp1Ideal.τ).loc Cert.RefSa2Fp1Ideal.main_arg6) = m ((c.tc : Thread Cert.RefSa2Fp1Ideal.nD Cert.RefSa2Fp1Ideal.τ).loc Cert.RefSa2Fp1Ideal.main_arg6)
      ∧ r.2.mem ((c.tc : Thread Cert.RefSa2Fp1Ideal.nD Cert.RefSa2Fp1Ideal.τ).loc Cert.RefSa2Fp1Ideal.main_arg7) = m ((c.tc : Thread Cert.RefSa2Fp1Ideal.nD Cert.RefSa2Fp1Ideal.τ).loc Cert.RefSa2Fp1Ideal.main_arg7)
      ∧ r.2.mem ((c.tc : Thread Cert.RefSa2Fp1Ideal.nD Cert.RefSa2Fp1Ideal.τ).loc Cert.RefSa2Fp1Ideal.main_arg8) = m ((c.tc : Thread Cert.RefSa2Fp1Ideal.nD Cert.RefSa2Fp1Ideal.τ).loc Cert.RefSa2Fp1Ideal.main_arg8)
      ∧ r.2.mem ((c.tc : Thread Cert.RefSa2Fp1Ideal.nD Cert.RefSa2Fp1Ideal.τ).loc Cert.RefSa2Fp1Ideal.main_arg9) = m ((c.tc : Thread Cert.RefSa2Fp1Ideal.nD Cert.RefSa2Fp1Ideal.τ).loc Cert.RefSa2Fp1Ideal.main_arg9))
      ∧ r.2.sem = fun _ => 0)

def quiescent_RefSa2Fp1Ideal_pre_sa2_fp1_no_ties [hRefSa2Fp1Ideal : Cert.RefSa2Fp1Ideal.Facts] [hPre_sa2_fp1_no_ties : Cert.Pre_sa2_fp1_no_ties.Facts] : Prop :=
  ∀ (m : (ℓ : Loc Cert.RefSa2Fp1Ideal.nD Cert.RefSa2Fp1Ideal.τ Cert.RefSa2Fp1Ideal.sig) → Buf (Elt Ideal) ℓ) (g : Dev Cert.RefSa2Fp1Ideal.nD → PrngReg), Pre_RefSa2Fp1Ideal_sa2_fp1_no_ties m →
    θ_run (Cert.RefSa2Fp1Ideal.defs (F := Ideal)) (onTc (τ := Cert.RefSa2Fp1Ideal.τ) (Cert.RefSa2Fp1Ideal.main (F := Ideal))) ⟨m, fun _ => 0, g⟩ (fun r => (∀ c : Dev Cert.RefSa2Fp1Ideal.nD,
      r.2.mem ((c.tc : Thread Cert.RefSa2Fp1Ideal.nD Cert.RefSa2Fp1Ideal.τ).loc Cert.RefSa2Fp1Ideal.main_arg0) = m ((c.tc : Thread Cert.RefSa2Fp1Ideal.nD Cert.RefSa2Fp1Ideal.τ).loc Cert.RefSa2Fp1Ideal.main_arg0)
      ∧ r.2.mem ((c.tc : Thread Cert.RefSa2Fp1Ideal.nD Cert.RefSa2Fp1Ideal.τ).loc Cert.RefSa2Fp1Ideal.main_arg1) = m ((c.tc : Thread Cert.RefSa2Fp1Ideal.nD Cert.RefSa2Fp1Ideal.τ).loc Cert.RefSa2Fp1Ideal.main_arg1)
      ∧ r.2.mem ((c.tc : Thread Cert.RefSa2Fp1Ideal.nD Cert.RefSa2Fp1Ideal.τ).loc Cert.RefSa2Fp1Ideal.main_arg2) = m ((c.tc : Thread Cert.RefSa2Fp1Ideal.nD Cert.RefSa2Fp1Ideal.τ).loc Cert.RefSa2Fp1Ideal.main_arg2)
      ∧ r.2.mem ((c.tc : Thread Cert.RefSa2Fp1Ideal.nD Cert.RefSa2Fp1Ideal.τ).loc Cert.RefSa2Fp1Ideal.main_arg3) = m ((c.tc : Thread Cert.RefSa2Fp1Ideal.nD Cert.RefSa2Fp1Ideal.τ).loc Cert.RefSa2Fp1Ideal.main_arg3)
      ∧ r.2.mem ((c.tc : Thread Cert.RefSa2Fp1Ideal.nD Cert.RefSa2Fp1Ideal.τ).loc Cert.RefSa2Fp1Ideal.main_arg4) = m ((c.tc : Thread Cert.RefSa2Fp1Ideal.nD Cert.RefSa2Fp1Ideal.τ).loc Cert.RefSa2Fp1Ideal.main_arg4)
      ∧ r.2.mem ((c.tc : Thread Cert.RefSa2Fp1Ideal.nD Cert.RefSa2Fp1Ideal.τ).loc Cert.RefSa2Fp1Ideal.main_arg5) = m ((c.tc : Thread Cert.RefSa2Fp1Ideal.nD Cert.RefSa2Fp1Ideal.τ).loc Cert.RefSa2Fp1Ideal.main_arg5)
      ∧ r.2.mem ((c.tc : Thread Cert.RefSa2Fp1Ideal.nD Cert.RefSa2Fp1Ideal.τ).loc Cert.RefSa2Fp1Ideal.main_arg6) = m ((c.tc : Thread Cert.RefSa2Fp1Ideal.nD Cert.RefSa2Fp1Ideal.τ).loc Cert.RefSa2Fp1Ideal.main_arg6)
      ∧ r.2.mem ((c.tc : Thread Cert.RefSa2Fp1Ideal.nD Cert.RefSa2Fp1Ideal.τ).loc Cert.RefSa2Fp1Ideal.main_arg7) = m ((c.tc : Thread Cert.RefSa2Fp1Ideal.nD Cert.RefSa2Fp1Ideal.τ).loc Cert.RefSa2Fp1Ideal.main_arg7)
      ∧ r.2.mem ((c.tc : Thread Cert.RefSa2Fp1Ideal.nD Cert.RefSa2Fp1Ideal.τ).loc Cert.RefSa2Fp1Ideal.main_arg8) = m ((c.tc : Thread Cert.RefSa2Fp1Ideal.nD Cert.RefSa2Fp1Ideal.τ).loc Cert.RefSa2Fp1Ideal.main_arg8)
      ∧ r.2.mem ((c.tc : Thread Cert.RefSa2Fp1Ideal.nD Cert.RefSa2Fp1Ideal.τ).loc Cert.RefSa2Fp1Ideal.main_arg9) = m ((c.tc : Thread Cert.RefSa2Fp1Ideal.nD Cert.RefSa2Fp1Ideal.τ).loc Cert.RefSa2Fp1Ideal.main_arg9))
      ∧ r.2.sem = fun _ => 0)

def quiescent_Fp2 [hFp2 : Cert.Fp2.Facts] : Prop :=
  ∀ (m : (ℓ : Loc Cert.Fp2.nD Cert.Fp2.τ Cert.Fp2.sig) → Buf (Elt Bits) ℓ) (g : Dev Cert.Fp2.nD → PrngReg), Pre_Fp2 m →
    θ_run (Cert.Fp2.defs (F := Bits)) (onTc (τ := Cert.Fp2.τ) (Cert.Fp2.main (F := Bits))) ⟨m, fun _ => 0, g⟩ (fun r => (∀ c : Dev Cert.Fp2.nD,
      r.2.mem ((c.tc : Thread Cert.Fp2.nD Cert.Fp2.τ).loc Cert.Fp2.main_arg0) = m ((c.tc : Thread Cert.Fp2.nD Cert.Fp2.τ).loc Cert.Fp2.main_arg0)
      ∧ r.2.mem ((c.tc : Thread Cert.Fp2.nD Cert.Fp2.τ).loc Cert.Fp2.main_arg1) = m ((c.tc : Thread Cert.Fp2.nD Cert.Fp2.τ).loc Cert.Fp2.main_arg1)
      ∧ r.2.mem ((c.tc : Thread Cert.Fp2.nD Cert.Fp2.τ).loc Cert.Fp2.main_arg2) = m ((c.tc : Thread Cert.Fp2.nD Cert.Fp2.τ).loc Cert.Fp2.main_arg2)
      ∧ r.2.mem ((c.tc : Thread Cert.Fp2.nD Cert.Fp2.τ).loc Cert.Fp2.main_arg3) = m ((c.tc : Thread Cert.Fp2.nD Cert.Fp2.τ).loc Cert.Fp2.main_arg3)
      ∧ r.2.mem ((c.tc : Thread Cert.Fp2.nD Cert.Fp2.τ).loc Cert.Fp2.main_arg4) = m ((c.tc : Thread Cert.Fp2.nD Cert.Fp2.τ).loc Cert.Fp2.main_arg4)
      ∧ r.2.mem ((c.tc : Thread Cert.Fp2.nD Cert.Fp2.τ).loc Cert.Fp2.main_arg5) = m ((c.tc : Thread Cert.Fp2.nD Cert.Fp2.τ).loc Cert.Fp2.main_arg5)
      ∧ r.2.mem ((c.tc : Thread Cert.Fp2.nD Cert.Fp2.τ).loc Cert.Fp2.main_arg6) = m ((c.tc : Thread Cert.Fp2.nD Cert.Fp2.τ).loc Cert.Fp2.main_arg6)
      ∧ r.2.mem ((c.tc : Thread Cert.Fp2.nD Cert.Fp2.τ).loc Cert.Fp2.main_arg7) = m ((c.tc : Thread Cert.Fp2.nD Cert.Fp2.τ).loc Cert.Fp2.main_arg7)
      ∧ r.2.mem ((c.tc : Thread Cert.Fp2.nD Cert.Fp2.τ).loc Cert.Fp2.main_arg8) = m ((c.tc : Thread Cert.Fp2.nD Cert.Fp2.τ).loc Cert.Fp2.main_arg8))
      ∧ r.2.sem = fun _ => 0)

def quiescent_Fp2Ideal [hFp2Ideal : Cert.Fp2Ideal.Facts] : Prop :=
  ∀ (m : (ℓ : Loc Cert.Fp2Ideal.nD Cert.Fp2Ideal.τ Cert.Fp2Ideal.sig) → Buf (Elt Ideal) ℓ) (g : Dev Cert.Fp2Ideal.nD → PrngReg), Pre_Fp2Ideal m →
    θ_run (Cert.Fp2Ideal.defs (F := Ideal)) (onTc (τ := Cert.Fp2Ideal.τ) (Cert.Fp2Ideal.main (F := Ideal))) ⟨m, fun _ => 0, g⟩ (fun r => (∀ c : Dev Cert.Fp2Ideal.nD,
      r.2.mem ((c.tc : Thread Cert.Fp2Ideal.nD Cert.Fp2Ideal.τ).loc Cert.Fp2Ideal.main_arg0) = m ((c.tc : Thread Cert.Fp2Ideal.nD Cert.Fp2Ideal.τ).loc Cert.Fp2Ideal.main_arg0)
      ∧ r.2.mem ((c.tc : Thread Cert.Fp2Ideal.nD Cert.Fp2Ideal.τ).loc Cert.Fp2Ideal.main_arg1) = m ((c.tc : Thread Cert.Fp2Ideal.nD Cert.Fp2Ideal.τ).loc Cert.Fp2Ideal.main_arg1)
      ∧ r.2.mem ((c.tc : Thread Cert.Fp2Ideal.nD Cert.Fp2Ideal.τ).loc Cert.Fp2Ideal.main_arg2) = m ((c.tc : Thread Cert.Fp2Ideal.nD Cert.Fp2Ideal.τ).loc Cert.Fp2Ideal.main_arg2)
      ∧ r.2.mem ((c.tc : Thread Cert.Fp2Ideal.nD Cert.Fp2Ideal.τ).loc Cert.Fp2Ideal.main_arg3) = m ((c.tc : Thread Cert.Fp2Ideal.nD Cert.Fp2Ideal.τ).loc Cert.Fp2Ideal.main_arg3)
      ∧ r.2.mem ((c.tc : Thread Cert.Fp2Ideal.nD Cert.Fp2Ideal.τ).loc Cert.Fp2Ideal.main_arg4) = m ((c.tc : Thread Cert.Fp2Ideal.nD Cert.Fp2Ideal.τ).loc Cert.Fp2Ideal.main_arg4)
      ∧ r.2.mem ((c.tc : Thread Cert.Fp2Ideal.nD Cert.Fp2Ideal.τ).loc Cert.Fp2Ideal.main_arg5) = m ((c.tc : Thread Cert.Fp2Ideal.nD Cert.Fp2Ideal.τ).loc Cert.Fp2Ideal.main_arg5)
      ∧ r.2.mem ((c.tc : Thread Cert.Fp2Ideal.nD Cert.Fp2Ideal.τ).loc Cert.Fp2Ideal.main_arg6) = m ((c.tc : Thread Cert.Fp2Ideal.nD Cert.Fp2Ideal.τ).loc Cert.Fp2Ideal.main_arg6)
      ∧ r.2.mem ((c.tc : Thread Cert.Fp2Ideal.nD Cert.Fp2Ideal.τ).loc Cert.Fp2Ideal.main_arg7) = m ((c.tc : Thread Cert.Fp2Ideal.nD Cert.Fp2Ideal.τ).loc Cert.Fp2Ideal.main_arg7)
      ∧ r.2.mem ((c.tc : Thread Cert.Fp2Ideal.nD Cert.Fp2Ideal.τ).loc Cert.Fp2Ideal.main_arg8) = m ((c.tc : Thread Cert.Fp2Ideal.nD Cert.Fp2Ideal.τ).loc Cert.Fp2Ideal.main_arg8))
      ∧ r.2.sem = fun _ => 0)

def quiescent_Fp2Ideal_pre_fp2_no_ties [hFp2Ideal : Cert.Fp2Ideal.Facts] [hPre_fp2_no_ties : Cert.Pre_fp2_no_ties.Facts] : Prop :=
  ∀ (m : (ℓ : Loc Cert.Fp2Ideal.nD Cert.Fp2Ideal.τ Cert.Fp2Ideal.sig) → Buf (Elt Ideal) ℓ) (g : Dev Cert.Fp2Ideal.nD → PrngReg), Pre_Fp2Ideal_fp2_no_ties m →
    θ_run (Cert.Fp2Ideal.defs (F := Ideal)) (onTc (τ := Cert.Fp2Ideal.τ) (Cert.Fp2Ideal.main (F := Ideal))) ⟨m, fun _ => 0, g⟩ (fun r => (∀ c : Dev Cert.Fp2Ideal.nD,
      r.2.mem ((c.tc : Thread Cert.Fp2Ideal.nD Cert.Fp2Ideal.τ).loc Cert.Fp2Ideal.main_arg0) = m ((c.tc : Thread Cert.Fp2Ideal.nD Cert.Fp2Ideal.τ).loc Cert.Fp2Ideal.main_arg0)
      ∧ r.2.mem ((c.tc : Thread Cert.Fp2Ideal.nD Cert.Fp2Ideal.τ).loc Cert.Fp2Ideal.main_arg1) = m ((c.tc : Thread Cert.Fp2Ideal.nD Cert.Fp2Ideal.τ).loc Cert.Fp2Ideal.main_arg1)
      ∧ r.2.mem ((c.tc : Thread Cert.Fp2Ideal.nD Cert.Fp2Ideal.τ).loc Cert.Fp2Ideal.main_arg2) = m ((c.tc : Thread Cert.Fp2Ideal.nD Cert.Fp2Ideal.τ).loc Cert.Fp2Ideal.main_arg2)
      ∧ r.2.mem ((c.tc : Thread Cert.Fp2Ideal.nD Cert.Fp2Ideal.τ).loc Cert.Fp2Ideal.main_arg3) = m ((c.tc : Thread Cert.Fp2Ideal.nD Cert.Fp2Ideal.τ).loc Cert.Fp2Ideal.main_arg3)
      ∧ r.2.mem ((c.tc : Thread Cert.Fp2Ideal.nD Cert.Fp2Ideal.τ).loc Cert.Fp2Ideal.main_arg4) = m ((c.tc : Thread Cert.Fp2Ideal.nD Cert.Fp2Ideal.τ).loc Cert.Fp2Ideal.main_arg4)
      ∧ r.2.mem ((c.tc : Thread Cert.Fp2Ideal.nD Cert.Fp2Ideal.τ).loc Cert.Fp2Ideal.main_arg5) = m ((c.tc : Thread Cert.Fp2Ideal.nD Cert.Fp2Ideal.τ).loc Cert.Fp2Ideal.main_arg5)
      ∧ r.2.mem ((c.tc : Thread Cert.Fp2Ideal.nD Cert.Fp2Ideal.τ).loc Cert.Fp2Ideal.main_arg6) = m ((c.tc : Thread Cert.Fp2Ideal.nD Cert.Fp2Ideal.τ).loc Cert.Fp2Ideal.main_arg6)
      ∧ r.2.mem ((c.tc : Thread Cert.Fp2Ideal.nD Cert.Fp2Ideal.τ).loc Cert.Fp2Ideal.main_arg7) = m ((c.tc : Thread Cert.Fp2Ideal.nD Cert.Fp2Ideal.τ).loc Cert.Fp2Ideal.main_arg7)
      ∧ r.2.mem ((c.tc : Thread Cert.Fp2Ideal.nD Cert.Fp2Ideal.τ).loc Cert.Fp2Ideal.main_arg8) = m ((c.tc : Thread Cert.Fp2Ideal.nD Cert.Fp2Ideal.τ).loc Cert.Fp2Ideal.main_arg8))
      ∧ r.2.sem = fun _ => 0)

def quiescent_RefFp2Ideal [hRefFp2Ideal : Cert.RefFp2Ideal.Facts] : Prop :=
  ∀ (m : (ℓ : Loc Cert.RefFp2Ideal.nD Cert.RefFp2Ideal.τ Cert.RefFp2Ideal.sig) → Buf (Elt Ideal) ℓ) (g : Dev Cert.RefFp2Ideal.nD → PrngReg), Pre_RefFp2Ideal m →
    θ_run (Cert.RefFp2Ideal.defs (F := Ideal)) (onTc (τ := Cert.RefFp2Ideal.τ) (Cert.RefFp2Ideal.main (F := Ideal))) ⟨m, fun _ => 0, g⟩ (fun r => (∀ c : Dev Cert.RefFp2Ideal.nD,
      r.2.mem ((c.tc : Thread Cert.RefFp2Ideal.nD Cert.RefFp2Ideal.τ).loc Cert.RefFp2Ideal.main_arg0) = m ((c.tc : Thread Cert.RefFp2Ideal.nD Cert.RefFp2Ideal.τ).loc Cert.RefFp2Ideal.main_arg0)
      ∧ r.2.mem ((c.tc : Thread Cert.RefFp2Ideal.nD Cert.RefFp2Ideal.τ).loc Cert.RefFp2Ideal.main_arg1) = m ((c.tc : Thread Cert.RefFp2Ideal.nD Cert.RefFp2Ideal.τ).loc Cert.RefFp2Ideal.main_arg1)
      ∧ r.2.mem ((c.tc : Thread Cert.RefFp2Ideal.nD Cert.RefFp2Ideal.τ).loc Cert.RefFp2Ideal.main_arg2) = m ((c.tc : Thread Cert.RefFp2Ideal.nD Cert.RefFp2Ideal.τ).loc Cert.RefFp2Ideal.main_arg2)
      ∧ r.2.mem ((c.tc : Thread Cert.RefFp2Ideal.nD Cert.RefFp2Ideal.τ).loc Cert.RefFp2Ideal.main_arg3) = m ((c.tc : Thread Cert.RefFp2Ideal.nD Cert.RefFp2Ideal.τ).loc Cert.RefFp2Ideal.main_arg3)
      ∧ r.2.mem ((c.tc : Thread Cert.RefFp2Ideal.nD Cert.RefFp2Ideal.τ).loc Cert.RefFp2Ideal.main_arg4) = m ((c.tc : Thread Cert.RefFp2Ideal.nD Cert.RefFp2Ideal.τ).loc Cert.RefFp2Ideal.main_arg4)
      ∧ r.2.mem ((c.tc : Thread Cert.RefFp2Ideal.nD Cert.RefFp2Ideal.τ).loc Cert.RefFp2Ideal.main_arg5) = m ((c.tc : Thread Cert.RefFp2Ideal.nD Cert.RefFp2Ideal.τ).loc Cert.RefFp2Ideal.main_arg5)
      ∧ r.2.mem ((c.tc : Thread Cert.RefFp2Ideal.nD Cert.RefFp2Ideal.τ).loc Cert.RefFp2Ideal.main_arg6) = m ((c.tc : Thread Cert.RefFp2Ideal.nD Cert.RefFp2Ideal.τ).loc Cert.RefFp2Ideal.main_arg6)
      ∧ r.2.mem ((c.tc : Thread Cert.RefFp2Ideal.nD Cert.RefFp2Ideal.τ).loc Cert.RefFp2Ideal.main_arg7) = m ((c.tc : Thread Cert.RefFp2Ideal.nD Cert.RefFp2Ideal.τ).loc Cert.RefFp2Ideal.main_arg7)
      ∧ r.2.mem ((c.tc : Thread Cert.RefFp2Ideal.nD Cert.RefFp2Ideal.τ).loc Cert.RefFp2Ideal.main_arg8) = m ((c.tc : Thread Cert.RefFp2Ideal.nD Cert.RefFp2Ideal.τ).loc Cert.RefFp2Ideal.main_arg8))
      ∧ r.2.sem = fun _ => 0)

def quiescent_RefFp2Ideal_pre_fp2_no_ties [hRefFp2Ideal : Cert.RefFp2Ideal.Facts] [hPre_fp2_no_ties : Cert.Pre_fp2_no_ties.Facts] : Prop :=
  ∀ (m : (ℓ : Loc Cert.RefFp2Ideal.nD Cert.RefFp2Ideal.τ Cert.RefFp2Ideal.sig) → Buf (Elt Ideal) ℓ) (g : Dev Cert.RefFp2Ideal.nD → PrngReg), Pre_RefFp2Ideal_fp2_no_ties m →
    θ_run (Cert.RefFp2Ideal.defs (F := Ideal)) (onTc (τ := Cert.RefFp2Ideal.τ) (Cert.RefFp2Ideal.main (F := Ideal))) ⟨m, fun _ => 0, g⟩ (fun r => (∀ c : Dev Cert.RefFp2Ideal.nD,
      r.2.mem ((c.tc : Thread Cert.RefFp2Ideal.nD Cert.RefFp2Ideal.τ).loc Cert.RefFp2Ideal.main_arg0) = m ((c.tc : Thread Cert.RefFp2Ideal.nD Cert.RefFp2Ideal.τ).loc Cert.RefFp2Ideal.main_arg0)
      ∧ r.2.mem ((c.tc : Thread Cert.RefFp2Ideal.nD Cert.RefFp2Ideal.τ).loc Cert.RefFp2Ideal.main_arg1) = m ((c.tc : Thread Cert.RefFp2Ideal.nD Cert.RefFp2Ideal.τ).loc Cert.RefFp2Ideal.main_arg1)
      ∧ r.2.mem ((c.tc : Thread Cert.RefFp2Ideal.nD Cert.RefFp2Ideal.τ).loc Cert.RefFp2Ideal.main_arg2) = m ((c.tc : Thread Cert.RefFp2Ideal.nD Cert.RefFp2Ideal.τ).loc Cert.RefFp2Ideal.main_arg2)
      ∧ r.2.mem ((c.tc : Thread Cert.RefFp2Ideal.nD Cert.RefFp2Ideal.τ).loc Cert.RefFp2Ideal.main_arg3) = m ((c.tc : Thread Cert.RefFp2Ideal.nD Cert.RefFp2Ideal.τ).loc Cert.RefFp2Ideal.main_arg3)
      ∧ r.2.mem ((c.tc : Thread Cert.RefFp2Ideal.nD Cert.RefFp2Ideal.τ).loc Cert.RefFp2Ideal.main_arg4) = m ((c.tc : Thread Cert.RefFp2Ideal.nD Cert.RefFp2Ideal.τ).loc Cert.RefFp2Ideal.main_arg4)
      ∧ r.2.mem ((c.tc : Thread Cert.RefFp2Ideal.nD Cert.RefFp2Ideal.τ).loc Cert.RefFp2Ideal.main_arg5) = m ((c.tc : Thread Cert.RefFp2Ideal.nD Cert.RefFp2Ideal.τ).loc Cert.RefFp2Ideal.main_arg5)
      ∧ r.2.mem ((c.tc : Thread Cert.RefFp2Ideal.nD Cert.RefFp2Ideal.τ).loc Cert.RefFp2Ideal.main_arg6) = m ((c.tc : Thread Cert.RefFp2Ideal.nD Cert.RefFp2Ideal.τ).loc Cert.RefFp2Ideal.main_arg6)
      ∧ r.2.mem ((c.tc : Thread Cert.RefFp2Ideal.nD Cert.RefFp2Ideal.τ).loc Cert.RefFp2Ideal.main_arg7) = m ((c.tc : Thread Cert.RefFp2Ideal.nD Cert.RefFp2Ideal.τ).loc Cert.RefFp2Ideal.main_arg7)
      ∧ r.2.mem ((c.tc : Thread Cert.RefFp2Ideal.nD Cert.RefFp2Ideal.τ).loc Cert.RefFp2Ideal.main_arg8) = m ((c.tc : Thread Cert.RefFp2Ideal.nD Cert.RefFp2Ideal.τ).loc Cert.RefFp2Ideal.main_arg8))
      ∧ r.2.sem = fun _ => 0)

def preserves_Net_NetIdeal : Prop :=
  IdealRules.named_const.Statement Cert.NetIdeal.κ "third" .f32 0x3EAAAAAB#32 ((3⁻¹ : ℝ) : EReal)

def algebraic_NetIdeal_RefNetIdeal_pre_net_no_ties [hNetIdeal : Cert.NetIdeal.Facts] [hRefNetIdeal : Cert.RefNetIdeal.Facts] [hPre_net_no_ties : Cert.Pre_net_no_ties.Facts] : Prop :=
  ∀ (m : (ℓ : Loc Cert.NetIdeal.nD Cert.NetIdeal.τ Cert.NetIdeal.sig) → Buf (Elt Ideal) ℓ) (g : Dev Cert.NetIdeal.nD → PrngReg)
    (m' : (ℓ : Loc Cert.RefNetIdeal.nD Cert.RefNetIdeal.τ Cert.RefNetIdeal.sig) → Buf (Elt Ideal) ℓ) (g' : Dev Cert.RefNetIdeal.nD → PrngReg), Pre_NetIdeal_net_no_ties m →
    (∀ c : Dev Cert.NetIdeal.nD,
      m' ((c.tc : Thread Cert.RefNetIdeal.nD Cert.RefNetIdeal.τ).loc Cert.RefNetIdeal.main_arg0) = m ((c.tc : Thread Cert.NetIdeal.nD Cert.NetIdeal.τ).loc Cert.NetIdeal.main_arg0)
      ∧ m' ((c.tc : Thread Cert.RefNetIdeal.nD Cert.RefNetIdeal.τ).loc Cert.RefNetIdeal.main_arg1) = m ((c.tc : Thread Cert.NetIdeal.nD Cert.NetIdeal.τ).loc Cert.NetIdeal.main_arg1)
      ∧ m' ((c.tc : Thread Cert.RefNetIdeal.nD Cert.RefNetIdeal.τ).loc Cert.RefNetIdeal.main_arg2) = m ((c.tc : Thread Cert.NetIdeal.nD Cert.NetIdeal.τ).loc Cert.NetIdeal.main_arg2)
      ∧ m' ((c.tc : Thread Cert.RefNetIdeal.nD Cert.RefNetIdeal.τ).loc Cert.RefNetIdeal.main_arg3) = m ((c.tc : Thread Cert.NetIdeal.nD Cert.NetIdeal.τ).loc Cert.NetIdeal.main_arg3)
      ∧ m' ((c.tc : Thread Cert.RefNetIdeal.nD Cert.RefNetIdeal.τ).loc Cert.RefNetIdeal.main_arg4) = m ((c.tc : Thread Cert.NetIdeal.nD Cert.NetIdeal.τ).loc Cert.NetIdeal.main_arg4)
      ∧ m' ((c.tc : Thread Cert.RefNetIdeal.nD Cert.RefNetIdeal.τ).loc Cert.RefNetIdeal.main_arg5) = m ((c.tc : Thread Cert.NetIdeal.nD Cert.NetIdeal.τ).loc Cert.NetIdeal.main_arg5)
      ∧ m' ((c.tc : Thread Cert.RefNetIdeal.nD Cert.RefNetIdeal.τ).loc Cert.RefNetIdeal.main_arg6) = m ((c.tc : Thread Cert.NetIdeal.nD Cert.NetIdeal.τ).loc Cert.NetIdeal.main_arg6)
      ∧ m' ((c.tc : Thread Cert.RefNetIdeal.nD Cert.RefNetIdeal.τ).loc Cert.RefNetIdeal.main_arg7) = m ((c.tc : Thread Cert.NetIdeal.nD Cert.NetIdeal.τ).loc Cert.NetIdeal.main_arg7)
      ∧ m' ((c.tc : Thread Cert.RefNetIdeal.nD Cert.RefNetIdeal.τ).loc Cert.RefNetIdeal.main_arg8) = m ((c.tc : Thread Cert.NetIdeal.nD Cert.NetIdeal.τ).loc Cert.NetIdeal.main_arg8)
      ∧ m' ((c.tc : Thread Cert.RefNetIdeal.nD Cert.RefNetIdeal.τ).loc Cert.RefNetIdeal.main_arg9) = m ((c.tc : Thread Cert.NetIdeal.nD Cert.NetIdeal.τ).loc Cert.NetIdeal.main_arg9)
      ∧ m' ((c.tc : Thread Cert.RefNetIdeal.nD Cert.RefNetIdeal.τ).loc Cert.RefNetIdeal.main_arg10) = m ((c.tc : Thread Cert.NetIdeal.nD Cert.NetIdeal.τ).loc Cert.NetIdeal.main_arg10)
      ∧ m' ((c.tc : Thread Cert.RefNetIdeal.nD Cert.RefNetIdeal.τ).loc Cert.RefNetIdeal.main_arg11) = m ((c.tc : Thread Cert.NetIdeal.nD Cert.NetIdeal.τ).loc Cert.NetIdeal.main_arg11)
      ∧ m' ((c.tc : Thread Cert.RefNetIdeal.nD Cert.RefNetIdeal.τ).loc Cert.RefNetIdeal.main_arg12) = m ((c.tc : Thread Cert.NetIdeal.nD Cert.NetIdeal.τ).loc Cert.NetIdeal.main_arg12)
      ∧ m' ((c.tc : Thread Cert.RefNetIdeal.nD Cert.RefNetIdeal.τ).loc Cert.RefNetIdeal.main_arg13) = m ((c.tc : Thread Cert.NetIdeal.nD Cert.NetIdeal.τ).loc Cert.NetIdeal.main_arg13)
      ∧ m' ((c.tc : Thread Cert.RefNetIdeal.nD Cert.RefNetIdeal.τ).loc Cert.RefNetIdeal.main_arg14) = m ((c.tc : Thread Cert.NetIdeal.nD Cert.NetIdeal.τ).loc Cert.NetIdeal.main_arg14)
      ∧ m' ((c.tc : Thread Cert.RefNetIdeal.nD Cert.RefNetIdeal.τ).loc Cert.RefNetIdeal.main_arg15) = m ((c.tc : Thread Cert.NetIdeal.nD Cert.NetIdeal.τ).loc Cert.NetIdeal.main_arg15)
      ∧ m' ((c.tc : Thread Cert.RefNetIdeal.nD Cert.RefNetIdeal.τ).loc Cert.RefNetIdeal.main_arg16) = m ((c.tc : Thread Cert.NetIdeal.nD Cert.NetIdeal.τ).loc Cert.NetIdeal.main_arg16)
      ∧ m' ((c.tc : Thread Cert.RefNetIdeal.nD Cert.RefNetIdeal.τ).loc Cert.RefNetIdeal.main_arg17) = m ((c.tc : Thread Cert.NetIdeal.nD Cert.NetIdeal.τ).loc Cert.NetIdeal.main_arg17)
      ∧ m' ((c.tc : Thread Cert.RefNetIdeal.nD Cert.RefNetIdeal.τ).loc Cert.RefNetIdeal.main_arg18) = m ((c.tc : Thread Cert.NetIdeal.nD Cert.NetIdeal.τ).loc Cert.NetIdeal.main_arg18)
      ∧ m' ((c.tc : Thread Cert.RefNetIdeal.nD Cert.RefNetIdeal.τ).loc Cert.RefNetIdeal.main_arg19) = m ((c.tc : Thread Cert.NetIdeal.nD Cert.NetIdeal.τ).loc Cert.NetIdeal.main_arg19)
      ∧ m' ((c.tc : Thread Cert.RefNetIdeal.nD Cert.RefNetIdeal.τ).loc Cert.RefNetIdeal.main_arg20) = m ((c.tc : Thread Cert.NetIdeal.nD Cert.NetIdeal.τ).loc Cert.NetIdeal.main_arg20)) →
    ∃ (v0 : (c : Dev Cert.NetIdeal.nD) → Buf (Elt Ideal) ((c.tc : Thread Cert.NetIdeal.nD Cert.NetIdeal.τ).loc Cert.NetIdeal.main_v23)),
      θ_run (Cert.NetIdeal.defs (F := Ideal)) (onTc (τ := Cert.NetIdeal.τ) (Cert.NetIdeal.main (F := Ideal))) ⟨m, fun _ => 0, g⟩ (fun r => ∀ c : Dev Cert.NetIdeal.nD,
          r.2.mem ((c.tc : Thread Cert.NetIdeal.nD Cert.NetIdeal.τ).loc Cert.NetIdeal.main_v23) = v0 c
          ∧ r.2.mem ((c.tc : Thread Cert.NetIdeal.nD Cert.NetIdeal.τ).loc Cert.NetIdeal.main_arg0) = m ((c.tc : Thread Cert.NetIdeal.nD Cert.NetIdeal.τ).loc Cert.NetIdeal.main_arg0)
          ∧ r.2.mem ((c.tc : Thread Cert.NetIdeal.nD Cert.NetIdeal.τ).loc Cert.NetIdeal.main_arg1) = m ((c.tc : Thread Cert.NetIdeal.nD Cert.NetIdeal.τ).loc Cert.NetIdeal.main_arg1)
          ∧ r.2.mem ((c.tc : Thread Cert.NetIdeal.nD Cert.NetIdeal.τ).loc Cert.NetIdeal.main_arg2) = m ((c.tc : Thread Cert.NetIdeal.nD Cert.NetIdeal.τ).loc Cert.NetIdeal.main_arg2)
          ∧ r.2.mem ((c.tc : Thread Cert.NetIdeal.nD Cert.NetIdeal.τ).loc Cert.NetIdeal.main_arg3) = m ((c.tc : Thread Cert.NetIdeal.nD Cert.NetIdeal.τ).loc Cert.NetIdeal.main_arg3)
          ∧ r.2.mem ((c.tc : Thread Cert.NetIdeal.nD Cert.NetIdeal.τ).loc Cert.NetIdeal.main_arg4) = m ((c.tc : Thread Cert.NetIdeal.nD Cert.NetIdeal.τ).loc Cert.NetIdeal.main_arg4)
          ∧ r.2.mem ((c.tc : Thread Cert.NetIdeal.nD Cert.NetIdeal.τ).loc Cert.NetIdeal.main_arg5) = m ((c.tc : Thread Cert.NetIdeal.nD Cert.NetIdeal.τ).loc Cert.NetIdeal.main_arg5)
          ∧ r.2.mem ((c.tc : Thread Cert.NetIdeal.nD Cert.NetIdeal.τ).loc Cert.NetIdeal.main_arg6) = m ((c.tc : Thread Cert.NetIdeal.nD Cert.NetIdeal.τ).loc Cert.NetIdeal.main_arg6)
          ∧ r.2.mem ((c.tc : Thread Cert.NetIdeal.nD Cert.NetIdeal.τ).loc Cert.NetIdeal.main_arg7) = m ((c.tc : Thread Cert.NetIdeal.nD Cert.NetIdeal.τ).loc Cert.NetIdeal.main_arg7)
          ∧ r.2.mem ((c.tc : Thread Cert.NetIdeal.nD Cert.NetIdeal.τ).loc Cert.NetIdeal.main_arg8) = m ((c.tc : Thread Cert.NetIdeal.nD Cert.NetIdeal.τ).loc Cert.NetIdeal.main_arg8)
          ∧ r.2.mem ((c.tc : Thread Cert.NetIdeal.nD Cert.NetIdeal.τ).loc Cert.NetIdeal.main_arg9) = m ((c.tc : Thread Cert.NetIdeal.nD Cert.NetIdeal.τ).loc Cert.NetIdeal.main_arg9)
          ∧ r.2.mem ((c.tc : Thread Cert.NetIdeal.nD Cert.NetIdeal.τ).loc Cert.NetIdeal.main_arg10) = m ((c.tc : Thread Cert.NetIdeal.nD Cert.NetIdeal.τ).loc Cert.NetIdeal.main_arg10)
          ∧ r.2.mem ((c.tc : Thread Cert.NetIdeal.nD Cert.NetIdeal.τ).loc Cert.NetIdeal.main_arg11) = m ((c.tc : Thread Cert.NetIdeal.nD Cert.NetIdeal.τ).loc Cert.NetIdeal.main_arg11)
          ∧ r.2.mem ((c.tc : Thread Cert.NetIdeal.nD Cert.NetIdeal.τ).loc Cert.NetIdeal.main_arg12) = m ((c.tc : Thread Cert.NetIdeal.nD Cert.NetIdeal.τ).loc Cert.NetIdeal.main_arg12)
          ∧ r.2.mem ((c.tc : Thread Cert.NetIdeal.nD Cert.NetIdeal.τ).loc Cert.NetIdeal.main_arg13) = m ((c.tc : Thread Cert.NetIdeal.nD Cert.NetIdeal.τ).loc Cert.NetIdeal.main_arg13)
          ∧ r.2.mem ((c.tc : Thread Cert.NetIdeal.nD Cert.NetIdeal.τ).loc Cert.NetIdeal.main_arg14) = m ((c.tc : Thread Cert.NetIdeal.nD Cert.NetIdeal.τ).loc Cert.NetIdeal.main_arg14)
          ∧ r.2.mem ((c.tc : Thread Cert.NetIdeal.nD Cert.NetIdeal.τ).loc Cert.NetIdeal.main_arg15) = m ((c.tc : Thread Cert.NetIdeal.nD Cert.NetIdeal.τ).loc Cert.NetIdeal.main_arg15)
          ∧ r.2.mem ((c.tc : Thread Cert.NetIdeal.nD Cert.NetIdeal.τ).loc Cert.NetIdeal.main_arg16) = m ((c.tc : Thread Cert.NetIdeal.nD Cert.NetIdeal.τ).loc Cert.NetIdeal.main_arg16)
          ∧ r.2.mem ((c.tc : Thread Cert.NetIdeal.nD Cert.NetIdeal.τ).loc Cert.NetIdeal.main_arg17) = m ((c.tc : Thread Cert.NetIdeal.nD Cert.NetIdeal.τ).loc Cert.NetIdeal.main_arg17)
          ∧ r.2.mem ((c.tc : Thread Cert.NetIdeal.nD Cert.NetIdeal.τ).loc Cert.NetIdeal.main_arg18) = m ((c.tc : Thread Cert.NetIdeal.nD Cert.NetIdeal.τ).loc Cert.NetIdeal.main_arg18)
          ∧ r.2.mem ((c.tc : Thread Cert.NetIdeal.nD Cert.NetIdeal.τ).loc Cert.NetIdeal.main_arg19) = m ((c.tc : Thread Cert.NetIdeal.nD Cert.NetIdeal.τ).loc Cert.NetIdeal.main_arg19)
          ∧ r.2.mem ((c.tc : Thread Cert.NetIdeal.nD Cert.NetIdeal.τ).loc Cert.NetIdeal.main_arg20) = m ((c.tc : Thread Cert.NetIdeal.nD Cert.NetIdeal.τ).loc Cert.NetIdeal.main_arg20))
      ∧ θ_run (Cert.RefNetIdeal.defs (F := Ideal)) (onTc (τ := Cert.RefNetIdeal.τ) (Cert.RefNetIdeal.main (F := Ideal))) ⟨m', fun _ => 0, g'⟩ (fun r => ∀ c : Dev Cert.RefNetIdeal.nD,
          r.2.mem ((c.tc : Thread Cert.RefNetIdeal.nD Cert.RefNetIdeal.τ).loc Cert.RefNetIdeal.main_v169) = v0 c
          ∧ r.2.mem ((c.tc : Thread Cert.RefNetIdeal.nD Cert.RefNetIdeal.τ).loc Cert.RefNetIdeal.main_arg0) = m' ((c.tc : Thread Cert.RefNetIdeal.nD Cert.RefNetIdeal.τ).loc Cert.RefNetIdeal.main_arg0)
          ∧ r.2.mem ((c.tc : Thread Cert.RefNetIdeal.nD Cert.RefNetIdeal.τ).loc Cert.RefNetIdeal.main_arg1) = m' ((c.tc : Thread Cert.RefNetIdeal.nD Cert.RefNetIdeal.τ).loc Cert.RefNetIdeal.main_arg1)
          ∧ r.2.mem ((c.tc : Thread Cert.RefNetIdeal.nD Cert.RefNetIdeal.τ).loc Cert.RefNetIdeal.main_arg2) = m' ((c.tc : Thread Cert.RefNetIdeal.nD Cert.RefNetIdeal.τ).loc Cert.RefNetIdeal.main_arg2)
          ∧ r.2.mem ((c.tc : Thread Cert.RefNetIdeal.nD Cert.RefNetIdeal.τ).loc Cert.RefNetIdeal.main_arg3) = m' ((c.tc : Thread Cert.RefNetIdeal.nD Cert.RefNetIdeal.τ).loc Cert.RefNetIdeal.main_arg3)
          ∧ r.2.mem ((c.tc : Thread Cert.RefNetIdeal.nD Cert.RefNetIdeal.τ).loc Cert.RefNetIdeal.main_arg4) = m' ((c.tc : Thread Cert.RefNetIdeal.nD Cert.RefNetIdeal.τ).loc Cert.RefNetIdeal.main_arg4)
          ∧ r.2.mem ((c.tc : Thread Cert.RefNetIdeal.nD Cert.RefNetIdeal.τ).loc Cert.RefNetIdeal.main_arg5) = m' ((c.tc : Thread Cert.RefNetIdeal.nD Cert.RefNetIdeal.τ).loc Cert.RefNetIdeal.main_arg5)
          ∧ r.2.mem ((c.tc : Thread Cert.RefNetIdeal.nD Cert.RefNetIdeal.τ).loc Cert.RefNetIdeal.main_arg6) = m' ((c.tc : Thread Cert.RefNetIdeal.nD Cert.RefNetIdeal.τ).loc Cert.RefNetIdeal.main_arg6)
          ∧ r.2.mem ((c.tc : Thread Cert.RefNetIdeal.nD Cert.RefNetIdeal.τ).loc Cert.RefNetIdeal.main_arg7) = m' ((c.tc : Thread Cert.RefNetIdeal.nD Cert.RefNetIdeal.τ).loc Cert.RefNetIdeal.main_arg7)
          ∧ r.2.mem ((c.tc : Thread Cert.RefNetIdeal.nD Cert.RefNetIdeal.τ).loc Cert.RefNetIdeal.main_arg8) = m' ((c.tc : Thread Cert.RefNetIdeal.nD Cert.RefNetIdeal.τ).loc Cert.RefNetIdeal.main_arg8)
          ∧ r.2.mem ((c.tc : Thread Cert.RefNetIdeal.nD Cert.RefNetIdeal.τ).loc Cert.RefNetIdeal.main_arg9) = m' ((c.tc : Thread Cert.RefNetIdeal.nD Cert.RefNetIdeal.τ).loc Cert.RefNetIdeal.main_arg9)
          ∧ r.2.mem ((c.tc : Thread Cert.RefNetIdeal.nD Cert.RefNetIdeal.τ).loc Cert.RefNetIdeal.main_arg10) = m' ((c.tc : Thread Cert.RefNetIdeal.nD Cert.RefNetIdeal.τ).loc Cert.RefNetIdeal.main_arg10)
          ∧ r.2.mem ((c.tc : Thread Cert.RefNetIdeal.nD Cert.RefNetIdeal.τ).loc Cert.RefNetIdeal.main_arg11) = m' ((c.tc : Thread Cert.RefNetIdeal.nD Cert.RefNetIdeal.τ).loc Cert.RefNetIdeal.main_arg11)
          ∧ r.2.mem ((c.tc : Thread Cert.RefNetIdeal.nD Cert.RefNetIdeal.τ).loc Cert.RefNetIdeal.main_arg12) = m' ((c.tc : Thread Cert.RefNetIdeal.nD Cert.RefNetIdeal.τ).loc Cert.RefNetIdeal.main_arg12)
          ∧ r.2.mem ((c.tc : Thread Cert.RefNetIdeal.nD Cert.RefNetIdeal.τ).loc Cert.RefNetIdeal.main_arg13) = m' ((c.tc : Thread Cert.RefNetIdeal.nD Cert.RefNetIdeal.τ).loc Cert.RefNetIdeal.main_arg13)
          ∧ r.2.mem ((c.tc : Thread Cert.RefNetIdeal.nD Cert.RefNetIdeal.τ).loc Cert.RefNetIdeal.main_arg14) = m' ((c.tc : Thread Cert.RefNetIdeal.nD Cert.RefNetIdeal.τ).loc Cert.RefNetIdeal.main_arg14)
          ∧ r.2.mem ((c.tc : Thread Cert.RefNetIdeal.nD Cert.RefNetIdeal.τ).loc Cert.RefNetIdeal.main_arg15) = m' ((c.tc : Thread Cert.RefNetIdeal.nD Cert.RefNetIdeal.τ).loc Cert.RefNetIdeal.main_arg15)
          ∧ r.2.mem ((c.tc : Thread Cert.RefNetIdeal.nD Cert.RefNetIdeal.τ).loc Cert.RefNetIdeal.main_arg16) = m' ((c.tc : Thread Cert.RefNetIdeal.nD Cert.RefNetIdeal.τ).loc Cert.RefNetIdeal.main_arg16)
          ∧ r.2.mem ((c.tc : Thread Cert.RefNetIdeal.nD Cert.RefNetIdeal.τ).loc Cert.RefNetIdeal.main_arg17) = m' ((c.tc : Thread Cert.RefNetIdeal.nD Cert.RefNetIdeal.τ).loc Cert.RefNetIdeal.main_arg17)
          ∧ r.2.mem ((c.tc : Thread Cert.RefNetIdeal.nD Cert.RefNetIdeal.τ).loc Cert.RefNetIdeal.main_arg18) = m' ((c.tc : Thread Cert.RefNetIdeal.nD Cert.RefNetIdeal.τ).loc Cert.RefNetIdeal.main_arg18)
          ∧ r.2.mem ((c.tc : Thread Cert.RefNetIdeal.nD Cert.RefNetIdeal.τ).loc Cert.RefNetIdeal.main_arg19) = m' ((c.tc : Thread Cert.RefNetIdeal.nD Cert.RefNetIdeal.τ).loc Cert.RefNetIdeal.main_arg19)
          ∧ r.2.mem ((c.tc : Thread Cert.RefNetIdeal.nD Cert.RefNetIdeal.τ).loc Cert.RefNetIdeal.main_arg20) = m' ((c.tc : Thread Cert.RefNetIdeal.nD Cert.RefNetIdeal.τ).loc Cert.RefNetIdeal.main_arg20))

def preserves_Sa1_Sa1Ideal : Prop :=
  True

def algebraic_Sa1Ideal_RefSa1Ideal_pre_sa1_no_ties [hSa1Ideal : Cert.Sa1Ideal.Facts] [hRefSa1Ideal : Cert.RefSa1Ideal.Facts] [hPre_sa1_no_ties : Cert.Pre_sa1_no_ties.Facts] : Prop :=
  ∀ (m : (ℓ : Loc Cert.Sa1Ideal.nD Cert.Sa1Ideal.τ Cert.Sa1Ideal.sig) → Buf (Elt Ideal) ℓ) (g : Dev Cert.Sa1Ideal.nD → PrngReg)
    (m' : (ℓ : Loc Cert.RefSa1Ideal.nD Cert.RefSa1Ideal.τ Cert.RefSa1Ideal.sig) → Buf (Elt Ideal) ℓ) (g' : Dev Cert.RefSa1Ideal.nD → PrngReg), Pre_Sa1Ideal_sa1_no_ties m →
    (∀ c : Dev Cert.Sa1Ideal.nD,
      m' ((c.tc : Thread Cert.RefSa1Ideal.nD Cert.RefSa1Ideal.τ).loc Cert.RefSa1Ideal.main_arg0) = m ((c.tc : Thread Cert.Sa1Ideal.nD Cert.Sa1Ideal.τ).loc Cert.Sa1Ideal.main_arg0)
      ∧ m' ((c.tc : Thread Cert.RefSa1Ideal.nD Cert.RefSa1Ideal.τ).loc Cert.RefSa1Ideal.main_arg1) = m ((c.tc : Thread Cert.Sa1Ideal.nD Cert.Sa1Ideal.τ).loc Cert.Sa1Ideal.main_arg1)
      ∧ m' ((c.tc : Thread Cert.RefSa1Ideal.nD Cert.RefSa1Ideal.τ).loc Cert.RefSa1Ideal.main_arg2) = m ((c.tc : Thread Cert.Sa1Ideal.nD Cert.Sa1Ideal.τ).loc Cert.Sa1Ideal.main_arg2)
      ∧ m' ((c.tc : Thread Cert.RefSa1Ideal.nD Cert.RefSa1Ideal.τ).loc Cert.RefSa1Ideal.main_arg3) = m ((c.tc : Thread Cert.Sa1Ideal.nD Cert.Sa1Ideal.τ).loc Cert.Sa1Ideal.main_arg3)
      ∧ m' ((c.tc : Thread Cert.RefSa1Ideal.nD Cert.RefSa1Ideal.τ).loc Cert.RefSa1Ideal.main_arg4) = m ((c.tc : Thread Cert.Sa1Ideal.nD Cert.Sa1Ideal.τ).loc Cert.Sa1Ideal.main_arg4)
      ∧ m' ((c.tc : Thread Cert.RefSa1Ideal.nD Cert.RefSa1Ideal.τ).loc Cert.RefSa1Ideal.main_arg5) = m ((c.tc : Thread Cert.Sa1Ideal.nD Cert.Sa1Ideal.τ).loc Cert.Sa1Ideal.main_arg5)) →
    ∃ (v0 : (c : Dev Cert.Sa1Ideal.nD) → Buf (Elt Ideal) ((c.tc : Thread Cert.Sa1Ideal.nD Cert.Sa1Ideal.τ).loc Cert.Sa1Ideal.main_v7_0)) (v1 : (c : Dev Cert.Sa1Ideal.nD) → Buf (Elt Ideal) ((c.tc : Thread Cert.Sa1Ideal.nD Cert.Sa1Ideal.τ).loc Cert.Sa1Ideal.main_v7_1)),
      θ_run (Cert.Sa1Ideal.defs (F := Ideal)) (onTc (τ := Cert.Sa1Ideal.τ) (Cert.Sa1Ideal.main (F := Ideal))) ⟨m, fun _ => 0, g⟩ (fun r => ∀ c : Dev Cert.Sa1Ideal.nD,
          r.2.mem ((c.tc : Thread Cert.Sa1Ideal.nD Cert.Sa1Ideal.τ).loc Cert.Sa1Ideal.main_v7_0) = v0 c
          ∧ r.2.mem ((c.tc : Thread Cert.Sa1Ideal.nD Cert.Sa1Ideal.τ).loc Cert.Sa1Ideal.main_v7_1) = v1 c
          ∧ r.2.mem ((c.tc : Thread Cert.Sa1Ideal.nD Cert.Sa1Ideal.τ).loc Cert.Sa1Ideal.main_arg0) = m ((c.tc : Thread Cert.Sa1Ideal.nD Cert.Sa1Ideal.τ).loc Cert.Sa1Ideal.main_arg0)
          ∧ r.2.mem ((c.tc : Thread Cert.Sa1Ideal.nD Cert.Sa1Ideal.τ).loc Cert.Sa1Ideal.main_arg1) = m ((c.tc : Thread Cert.Sa1Ideal.nD Cert.Sa1Ideal.τ).loc Cert.Sa1Ideal.main_arg1)
          ∧ r.2.mem ((c.tc : Thread Cert.Sa1Ideal.nD Cert.Sa1Ideal.τ).loc Cert.Sa1Ideal.main_arg2) = m ((c.tc : Thread Cert.Sa1Ideal.nD Cert.Sa1Ideal.τ).loc Cert.Sa1Ideal.main_arg2)
          ∧ r.2.mem ((c.tc : Thread Cert.Sa1Ideal.nD Cert.Sa1Ideal.τ).loc Cert.Sa1Ideal.main_arg3) = m ((c.tc : Thread Cert.Sa1Ideal.nD Cert.Sa1Ideal.τ).loc Cert.Sa1Ideal.main_arg3)
          ∧ r.2.mem ((c.tc : Thread Cert.Sa1Ideal.nD Cert.Sa1Ideal.τ).loc Cert.Sa1Ideal.main_arg4) = m ((c.tc : Thread Cert.Sa1Ideal.nD Cert.Sa1Ideal.τ).loc Cert.Sa1Ideal.main_arg4)
          ∧ r.2.mem ((c.tc : Thread Cert.Sa1Ideal.nD Cert.Sa1Ideal.τ).loc Cert.Sa1Ideal.main_arg5) = m ((c.tc : Thread Cert.Sa1Ideal.nD Cert.Sa1Ideal.τ).loc Cert.Sa1Ideal.main_arg5))
      ∧ θ_run (Cert.RefSa1Ideal.defs (F := Ideal)) (onTc (τ := Cert.RefSa1Ideal.τ) (Cert.RefSa1Ideal.main (F := Ideal))) ⟨m', fun _ => 0, g'⟩ (fun r => ∀ c : Dev Cert.RefSa1Ideal.nD,
          r.2.mem ((c.tc : Thread Cert.RefSa1Ideal.nD Cert.RefSa1Ideal.τ).loc Cert.RefSa1Ideal.main_v41) = v0 c
          ∧ r.2.mem ((c.tc : Thread Cert.RefSa1Ideal.nD Cert.RefSa1Ideal.τ).loc Cert.RefSa1Ideal.main_v42) = v1 c
          ∧ r.2.mem ((c.tc : Thread Cert.RefSa1Ideal.nD Cert.RefSa1Ideal.τ).loc Cert.RefSa1Ideal.main_arg0) = m' ((c.tc : Thread Cert.RefSa1Ideal.nD Cert.RefSa1Ideal.τ).loc Cert.RefSa1Ideal.main_arg0)
          ∧ r.2.mem ((c.tc : Thread Cert.RefSa1Ideal.nD Cert.RefSa1Ideal.τ).loc Cert.RefSa1Ideal.main_arg1) = m' ((c.tc : Thread Cert.RefSa1Ideal.nD Cert.RefSa1Ideal.τ).loc Cert.RefSa1Ideal.main_arg1)
          ∧ r.2.mem ((c.tc : Thread Cert.RefSa1Ideal.nD Cert.RefSa1Ideal.τ).loc Cert.RefSa1Ideal.main_arg2) = m' ((c.tc : Thread Cert.RefSa1Ideal.nD Cert.RefSa1Ideal.τ).loc Cert.RefSa1Ideal.main_arg2)
          ∧ r.2.mem ((c.tc : Thread Cert.RefSa1Ideal.nD Cert.RefSa1Ideal.τ).loc Cert.RefSa1Ideal.main_arg3) = m' ((c.tc : Thread Cert.RefSa1Ideal.nD Cert.RefSa1Ideal.τ).loc Cert.RefSa1Ideal.main_arg3)
          ∧ r.2.mem ((c.tc : Thread Cert.RefSa1Ideal.nD Cert.RefSa1Ideal.τ).loc Cert.RefSa1Ideal.main_arg4) = m' ((c.tc : Thread Cert.RefSa1Ideal.nD Cert.RefSa1Ideal.τ).loc Cert.RefSa1Ideal.main_arg4)
          ∧ r.2.mem ((c.tc : Thread Cert.RefSa1Ideal.nD Cert.RefSa1Ideal.τ).loc Cert.RefSa1Ideal.main_arg5) = m' ((c.tc : Thread Cert.RefSa1Ideal.nD Cert.RefSa1Ideal.τ).loc Cert.RefSa1Ideal.main_arg5))

def preserves_Sa2Fp1_Sa2Fp1Ideal : Prop :=
  IdealRules.named_const.Statement Cert.Sa2Fp1Ideal.κ "third" .f32 0x3EAAAAAB#32 ((3⁻¹ : ℝ) : EReal)

def algebraic_Sa2Fp1Ideal_RefSa2Fp1Ideal_pre_sa2_fp1_no_ties [hSa2Fp1Ideal : Cert.Sa2Fp1Ideal.Facts] [hRefSa2Fp1Ideal : Cert.RefSa2Fp1Ideal.Facts] [hPre_sa2_fp1_no_ties : Cert.Pre_sa2_fp1_no_ties.Facts] : Prop :=
  ∀ (m : (ℓ : Loc Cert.Sa2Fp1Ideal.nD Cert.Sa2Fp1Ideal.τ Cert.Sa2Fp1Ideal.sig) → Buf (Elt Ideal) ℓ) (g : Dev Cert.Sa2Fp1Ideal.nD → PrngReg)
    (m' : (ℓ : Loc Cert.RefSa2Fp1Ideal.nD Cert.RefSa2Fp1Ideal.τ Cert.RefSa2Fp1Ideal.sig) → Buf (Elt Ideal) ℓ) (g' : Dev Cert.RefSa2Fp1Ideal.nD → PrngReg), Pre_Sa2Fp1Ideal_sa2_fp1_no_ties m →
    (∀ c : Dev Cert.Sa2Fp1Ideal.nD,
      m' ((c.tc : Thread Cert.RefSa2Fp1Ideal.nD Cert.RefSa2Fp1Ideal.τ).loc Cert.RefSa2Fp1Ideal.main_arg0) = m ((c.tc : Thread Cert.Sa2Fp1Ideal.nD Cert.Sa2Fp1Ideal.τ).loc Cert.Sa2Fp1Ideal.main_arg0)
      ∧ m' ((c.tc : Thread Cert.RefSa2Fp1Ideal.nD Cert.RefSa2Fp1Ideal.τ).loc Cert.RefSa2Fp1Ideal.main_arg1) = m ((c.tc : Thread Cert.Sa2Fp1Ideal.nD Cert.Sa2Fp1Ideal.τ).loc Cert.Sa2Fp1Ideal.main_arg1)
      ∧ m' ((c.tc : Thread Cert.RefSa2Fp1Ideal.nD Cert.RefSa2Fp1Ideal.τ).loc Cert.RefSa2Fp1Ideal.main_arg2) = m ((c.tc : Thread Cert.Sa2Fp1Ideal.nD Cert.Sa2Fp1Ideal.τ).loc Cert.Sa2Fp1Ideal.main_arg2)
      ∧ m' ((c.tc : Thread Cert.RefSa2Fp1Ideal.nD Cert.RefSa2Fp1Ideal.τ).loc Cert.RefSa2Fp1Ideal.main_arg3) = m ((c.tc : Thread Cert.Sa2Fp1Ideal.nD Cert.Sa2Fp1Ideal.τ).loc Cert.Sa2Fp1Ideal.main_arg3)
      ∧ m' ((c.tc : Thread Cert.RefSa2Fp1Ideal.nD Cert.RefSa2Fp1Ideal.τ).loc Cert.RefSa2Fp1Ideal.main_arg4) = m ((c.tc : Thread Cert.Sa2Fp1Ideal.nD Cert.Sa2Fp1Ideal.τ).loc Cert.Sa2Fp1Ideal.main_arg4)
      ∧ m' ((c.tc : Thread Cert.RefSa2Fp1Ideal.nD Cert.RefSa2Fp1Ideal.τ).loc Cert.RefSa2Fp1Ideal.main_arg5) = m ((c.tc : Thread Cert.Sa2Fp1Ideal.nD Cert.Sa2Fp1Ideal.τ).loc Cert.Sa2Fp1Ideal.main_arg5)
      ∧ m' ((c.tc : Thread Cert.RefSa2Fp1Ideal.nD Cert.RefSa2Fp1Ideal.τ).loc Cert.RefSa2Fp1Ideal.main_arg6) = m ((c.tc : Thread Cert.Sa2Fp1Ideal.nD Cert.Sa2Fp1Ideal.τ).loc Cert.Sa2Fp1Ideal.main_arg6)
      ∧ m' ((c.tc : Thread Cert.RefSa2Fp1Ideal.nD Cert.RefSa2Fp1Ideal.τ).loc Cert.RefSa2Fp1Ideal.main_arg7) = m ((c.tc : Thread Cert.Sa2Fp1Ideal.nD Cert.Sa2Fp1Ideal.τ).loc Cert.Sa2Fp1Ideal.main_arg7)
      ∧ m' ((c.tc : Thread Cert.RefSa2Fp1Ideal.nD Cert.RefSa2Fp1Ideal.τ).loc Cert.RefSa2Fp1Ideal.main_arg8) = m ((c.tc : Thread Cert.Sa2Fp1Ideal.nD Cert.Sa2Fp1Ideal.τ).loc Cert.Sa2Fp1Ideal.main_arg8)
      ∧ m' ((c.tc : Thread Cert.RefSa2Fp1Ideal.nD Cert.RefSa2Fp1Ideal.τ).loc Cert.RefSa2Fp1Ideal.main_arg9) = m ((c.tc : Thread Cert.Sa2Fp1Ideal.nD Cert.Sa2Fp1Ideal.τ).loc Cert.Sa2Fp1Ideal.main_arg9)) →
    ∃ (v0 : (c : Dev Cert.Sa2Fp1Ideal.nD) → Buf (Elt Ideal) ((c.tc : Thread Cert.Sa2Fp1Ideal.nD Cert.Sa2Fp1Ideal.τ).loc Cert.Sa2Fp1Ideal.main_v8)),
      θ_run (Cert.Sa2Fp1Ideal.defs (F := Ideal)) (onTc (τ := Cert.Sa2Fp1Ideal.τ) (Cert.Sa2Fp1Ideal.main (F := Ideal))) ⟨m, fun _ => 0, g⟩ (fun r => ∀ c : Dev Cert.Sa2Fp1Ideal.nD,
          r.2.mem ((c.tc : Thread Cert.Sa2Fp1Ideal.nD Cert.Sa2Fp1Ideal.τ).loc Cert.Sa2Fp1Ideal.main_v8) = v0 c
          ∧ r.2.mem ((c.tc : Thread Cert.Sa2Fp1Ideal.nD Cert.Sa2Fp1Ideal.τ).loc Cert.Sa2Fp1Ideal.main_arg0) = m ((c.tc : Thread Cert.Sa2Fp1Ideal.nD Cert.Sa2Fp1Ideal.τ).loc Cert.Sa2Fp1Ideal.main_arg0)
          ∧ r.2.mem ((c.tc : Thread Cert.Sa2Fp1Ideal.nD Cert.Sa2Fp1Ideal.τ).loc Cert.Sa2Fp1Ideal.main_arg1) = m ((c.tc : Thread Cert.Sa2Fp1Ideal.nD Cert.Sa2Fp1Ideal.τ).loc Cert.Sa2Fp1Ideal.main_arg1)
          ∧ r.2.mem ((c.tc : Thread Cert.Sa2Fp1Ideal.nD Cert.Sa2Fp1Ideal.τ).loc Cert.Sa2Fp1Ideal.main_arg2) = m ((c.tc : Thread Cert.Sa2Fp1Ideal.nD Cert.Sa2Fp1Ideal.τ).loc Cert.Sa2Fp1Ideal.main_arg2)
          ∧ r.2.mem ((c.tc : Thread Cert.Sa2Fp1Ideal.nD Cert.Sa2Fp1Ideal.τ).loc Cert.Sa2Fp1Ideal.main_arg3) = m ((c.tc : Thread Cert.Sa2Fp1Ideal.nD Cert.Sa2Fp1Ideal.τ).loc Cert.Sa2Fp1Ideal.main_arg3)
          ∧ r.2.mem ((c.tc : Thread Cert.Sa2Fp1Ideal.nD Cert.Sa2Fp1Ideal.τ).loc Cert.Sa2Fp1Ideal.main_arg4) = m ((c.tc : Thread Cert.Sa2Fp1Ideal.nD Cert.Sa2Fp1Ideal.τ).loc Cert.Sa2Fp1Ideal.main_arg4)
          ∧ r.2.mem ((c.tc : Thread Cert.Sa2Fp1Ideal.nD Cert.Sa2Fp1Ideal.τ).loc Cert.Sa2Fp1Ideal.main_arg5) = m ((c.tc : Thread Cert.Sa2Fp1Ideal.nD Cert.Sa2Fp1Ideal.τ).loc Cert.Sa2Fp1Ideal.main_arg5)
          ∧ r.2.mem ((c.tc : Thread Cert.Sa2Fp1Ideal.nD Cert.Sa2Fp1Ideal.τ).loc Cert.Sa2Fp1Ideal.main_arg6) = m ((c.tc : Thread Cert.Sa2Fp1Ideal.nD Cert.Sa2Fp1Ideal.τ).loc Cert.Sa2Fp1Ideal.main_arg6)
          ∧ r.2.mem ((c.tc : Thread Cert.Sa2Fp1Ideal.nD Cert.Sa2Fp1Ideal.τ).loc Cert.Sa2Fp1Ideal.main_arg7) = m ((c.tc : Thread Cert.Sa2Fp1Ideal.nD Cert.Sa2Fp1Ideal.τ).loc Cert.Sa2Fp1Ideal.main_arg7)
          ∧ r.2.mem ((c.tc : Thread Cert.Sa2Fp1Ideal.nD Cert.Sa2Fp1Ideal.τ).loc Cert.Sa2Fp1Ideal.main_arg8) = m ((c.tc : Thread Cert.Sa2Fp1Ideal.nD Cert.Sa2Fp1Ideal.τ).loc Cert.Sa2Fp1Ideal.main_arg8)
          ∧ r.2.mem ((c.tc : Thread Cert.Sa2Fp1Ideal.nD Cert.Sa2Fp1Ideal.τ).loc Cert.Sa2Fp1Ideal.main_arg9) = m ((c.tc : Thread Cert.Sa2Fp1Ideal.nD Cert.Sa2Fp1Ideal.τ).loc Cert.Sa2Fp1Ideal.main_arg9))
      ∧ θ_run (Cert.RefSa2Fp1Ideal.defs (F := Ideal)) (onTc (τ := Cert.RefSa2Fp1Ideal.τ) (Cert.RefSa2Fp1Ideal.main (F := Ideal))) ⟨m', fun _ => 0, g'⟩ (fun r => ∀ c : Dev Cert.RefSa2Fp1Ideal.nD,
          r.2.mem ((c.tc : Thread Cert.RefSa2Fp1Ideal.nD Cert.RefSa2Fp1Ideal.τ).loc Cert.RefSa2Fp1Ideal.main_v79) = v0 c
          ∧ r.2.mem ((c.tc : Thread Cert.RefSa2Fp1Ideal.nD Cert.RefSa2Fp1Ideal.τ).loc Cert.RefSa2Fp1Ideal.main_arg0) = m' ((c.tc : Thread Cert.RefSa2Fp1Ideal.nD Cert.RefSa2Fp1Ideal.τ).loc Cert.RefSa2Fp1Ideal.main_arg0)
          ∧ r.2.mem ((c.tc : Thread Cert.RefSa2Fp1Ideal.nD Cert.RefSa2Fp1Ideal.τ).loc Cert.RefSa2Fp1Ideal.main_arg1) = m' ((c.tc : Thread Cert.RefSa2Fp1Ideal.nD Cert.RefSa2Fp1Ideal.τ).loc Cert.RefSa2Fp1Ideal.main_arg1)
          ∧ r.2.mem ((c.tc : Thread Cert.RefSa2Fp1Ideal.nD Cert.RefSa2Fp1Ideal.τ).loc Cert.RefSa2Fp1Ideal.main_arg2) = m' ((c.tc : Thread Cert.RefSa2Fp1Ideal.nD Cert.RefSa2Fp1Ideal.τ).loc Cert.RefSa2Fp1Ideal.main_arg2)
          ∧ r.2.mem ((c.tc : Thread Cert.RefSa2Fp1Ideal.nD Cert.RefSa2Fp1Ideal.τ).loc Cert.RefSa2Fp1Ideal.main_arg3) = m' ((c.tc : Thread Cert.RefSa2Fp1Ideal.nD Cert.RefSa2Fp1Ideal.τ).loc Cert.RefSa2Fp1Ideal.main_arg3)
          ∧ r.2.mem ((c.tc : Thread Cert.RefSa2Fp1Ideal.nD Cert.RefSa2Fp1Ideal.τ).loc Cert.RefSa2Fp1Ideal.main_arg4) = m' ((c.tc : Thread Cert.RefSa2Fp1Ideal.nD Cert.RefSa2Fp1Ideal.τ).loc Cert.RefSa2Fp1Ideal.main_arg4)
          ∧ r.2.mem ((c.tc : Thread Cert.RefSa2Fp1Ideal.nD Cert.RefSa2Fp1Ideal.τ).loc Cert.RefSa2Fp1Ideal.main_arg5) = m' ((c.tc : Thread Cert.RefSa2Fp1Ideal.nD Cert.RefSa2Fp1Ideal.τ).loc Cert.RefSa2Fp1Ideal.main_arg5)
          ∧ r.2.mem ((c.tc : Thread Cert.RefSa2Fp1Ideal.nD Cert.RefSa2Fp1Ideal.τ).loc Cert.RefSa2Fp1Ideal.main_arg6) = m' ((c.tc : Thread Cert.RefSa2Fp1Ideal.nD Cert.RefSa2Fp1Ideal.τ).loc Cert.RefSa2Fp1Ideal.main_arg6)
          ∧ r.2.mem ((c.tc : Thread Cert.RefSa2Fp1Ideal.nD Cert.RefSa2Fp1Ideal.τ).loc Cert.RefSa2Fp1Ideal.main_arg7) = m' ((c.tc : Thread Cert.RefSa2Fp1Ideal.nD Cert.RefSa2Fp1Ideal.τ).loc Cert.RefSa2Fp1Ideal.main_arg7)
          ∧ r.2.mem ((c.tc : Thread Cert.RefSa2Fp1Ideal.nD Cert.RefSa2Fp1Ideal.τ).loc Cert.RefSa2Fp1Ideal.main_arg8) = m' ((c.tc : Thread Cert.RefSa2Fp1Ideal.nD Cert.RefSa2Fp1Ideal.τ).loc Cert.RefSa2Fp1Ideal.main_arg8)
          ∧ r.2.mem ((c.tc : Thread Cert.RefSa2Fp1Ideal.nD Cert.RefSa2Fp1Ideal.τ).loc Cert.RefSa2Fp1Ideal.main_arg9) = m' ((c.tc : Thread Cert.RefSa2Fp1Ideal.nD Cert.RefSa2Fp1Ideal.τ).loc Cert.RefSa2Fp1Ideal.main_arg9))

def preserves_Fp2_Fp2Ideal : Prop :=
  IdealRules.named_const.Statement Cert.Fp2Ideal.κ "third" .f32 0x3EAAAAAB#32 ((3⁻¹ : ℝ) : EReal)

def algebraic_Fp2Ideal_RefFp2Ideal_pre_fp2_no_ties [hFp2Ideal : Cert.Fp2Ideal.Facts] [hRefFp2Ideal : Cert.RefFp2Ideal.Facts] [hPre_fp2_no_ties : Cert.Pre_fp2_no_ties.Facts] : Prop :=
  ∀ (m : (ℓ : Loc Cert.Fp2Ideal.nD Cert.Fp2Ideal.τ Cert.Fp2Ideal.sig) → Buf (Elt Ideal) ℓ) (g : Dev Cert.Fp2Ideal.nD → PrngReg)
    (m' : (ℓ : Loc Cert.RefFp2Ideal.nD Cert.RefFp2Ideal.τ Cert.RefFp2Ideal.sig) → Buf (Elt Ideal) ℓ) (g' : Dev Cert.RefFp2Ideal.nD → PrngReg), Pre_Fp2Ideal_fp2_no_ties m →
    (∀ c : Dev Cert.Fp2Ideal.nD,
      m' ((c.tc : Thread Cert.RefFp2Ideal.nD Cert.RefFp2Ideal.τ).loc Cert.RefFp2Ideal.main_arg0) = m ((c.tc : Thread Cert.Fp2Ideal.nD Cert.Fp2Ideal.τ).loc Cert.Fp2Ideal.main_arg0)
      ∧ m' ((c.tc : Thread Cert.RefFp2Ideal.nD Cert.RefFp2Ideal.τ).loc Cert.RefFp2Ideal.main_arg1) = m ((c.tc : Thread Cert.Fp2Ideal.nD Cert.Fp2Ideal.τ).loc Cert.Fp2Ideal.main_arg1)
      ∧ m' ((c.tc : Thread Cert.RefFp2Ideal.nD Cert.RefFp2Ideal.τ).loc Cert.RefFp2Ideal.main_arg2) = m ((c.tc : Thread Cert.Fp2Ideal.nD Cert.Fp2Ideal.τ).loc Cert.Fp2Ideal.main_arg2)
      ∧ m' ((c.tc : Thread Cert.RefFp2Ideal.nD Cert.RefFp2Ideal.τ).loc Cert.RefFp2Ideal.main_arg3) = m ((c.tc : Thread Cert.Fp2Ideal.nD Cert.Fp2Ideal.τ).loc Cert.Fp2Ideal.main_arg3)
      ∧ m' ((c.tc : Thread Cert.RefFp2Ideal.nD Cert.RefFp2Ideal.τ).loc Cert.RefFp2Ideal.main_arg4) = m ((c.tc : Thread Cert.Fp2Ideal.nD Cert.Fp2Ideal.τ).loc Cert.Fp2Ideal.main_arg4)
      ∧ m' ((c.tc : Thread Cert.RefFp2Ideal.nD Cert.RefFp2Ideal.τ).loc Cert.RefFp2Ideal.main_arg5) = m ((c.tc : Thread Cert.Fp2Ideal.nD Cert.Fp2Ideal.τ).loc Cert.Fp2Ideal.main_arg5)
      ∧ m' ((c.tc : Thread Cert.RefFp2Ideal.nD Cert.RefFp2Ideal.τ).loc Cert.RefFp2Ideal.main_arg6) = m ((c.tc : Thread Cert.Fp2Ideal.nD Cert.Fp2Ideal.τ).loc Cert.Fp2Ideal.main_arg6)
      ∧ m' ((c.tc : Thread Cert.RefFp2Ideal.nD Cert.RefFp2Ideal.τ).loc Cert.RefFp2Ideal.main_arg7) = m ((c.tc : Thread Cert.Fp2Ideal.nD Cert.Fp2Ideal.τ).loc Cert.Fp2Ideal.main_arg7)
      ∧ m' ((c.tc : Thread Cert.RefFp2Ideal.nD Cert.RefFp2Ideal.τ).loc Cert.RefFp2Ideal.main_arg8) = m ((c.tc : Thread Cert.Fp2Ideal.nD Cert.Fp2Ideal.τ).loc Cert.Fp2Ideal.main_arg8)) →
    ∃ (v0 : (c : Dev Cert.Fp2Ideal.nD) → Buf (Elt Ideal) ((c.tc : Thread Cert.Fp2Ideal.nD Cert.Fp2Ideal.τ).loc Cert.Fp2Ideal.main_v8)),
      θ_run (Cert.Fp2Ideal.defs (F := Ideal)) (onTc (τ := Cert.Fp2Ideal.τ) (Cert.Fp2Ideal.main (F := Ideal))) ⟨m, fun _ => 0, g⟩ (fun r => ∀ c : Dev Cert.Fp2Ideal.nD,
          r.2.mem ((c.tc : Thread Cert.Fp2Ideal.nD Cert.Fp2Ideal.τ).loc Cert.Fp2Ideal.main_v8) = v0 c
          ∧ r.2.mem ((c.tc : Thread Cert.Fp2Ideal.nD Cert.Fp2Ideal.τ).loc Cert.Fp2Ideal.main_arg0) = m ((c.tc : Thread Cert.Fp2Ideal.nD Cert.Fp2Ideal.τ).loc Cert.Fp2Ideal.main_arg0)
          ∧ r.2.mem ((c.tc : Thread Cert.Fp2Ideal.nD Cert.Fp2Ideal.τ).loc Cert.Fp2Ideal.main_arg1) = m ((c.tc : Thread Cert.Fp2Ideal.nD Cert.Fp2Ideal.τ).loc Cert.Fp2Ideal.main_arg1)
          ∧ r.2.mem ((c.tc : Thread Cert.Fp2Ideal.nD Cert.Fp2Ideal.τ).loc Cert.Fp2Ideal.main_arg2) = m ((c.tc : Thread Cert.Fp2Ideal.nD Cert.Fp2Ideal.τ).loc Cert.Fp2Ideal.main_arg2)
          ∧ r.2.mem ((c.tc : Thread Cert.Fp2Ideal.nD Cert.Fp2Ideal.τ).loc Cert.Fp2Ideal.main_arg3) = m ((c.tc : Thread Cert.Fp2Ideal.nD Cert.Fp2Ideal.τ).loc Cert.Fp2Ideal.main_arg3)
          ∧ r.2.mem ((c.tc : Thread Cert.Fp2Ideal.nD Cert.Fp2Ideal.τ).loc Cert.Fp2Ideal.main_arg4) = m ((c.tc : Thread Cert.Fp2Ideal.nD Cert.Fp2Ideal.τ).loc Cert.Fp2Ideal.main_arg4)
          ∧ r.2.mem ((c.tc : Thread Cert.Fp2Ideal.nD Cert.Fp2Ideal.τ).loc Cert.Fp2Ideal.main_arg5) = m ((c.tc : Thread Cert.Fp2Ideal.nD Cert.Fp2Ideal.τ).loc Cert.Fp2Ideal.main_arg5)
          ∧ r.2.mem ((c.tc : Thread Cert.Fp2Ideal.nD Cert.Fp2Ideal.τ).loc Cert.Fp2Ideal.main_arg6) = m ((c.tc : Thread Cert.Fp2Ideal.nD Cert.Fp2Ideal.τ).loc Cert.Fp2Ideal.main_arg6)
          ∧ r.2.mem ((c.tc : Thread Cert.Fp2Ideal.nD Cert.Fp2Ideal.τ).loc Cert.Fp2Ideal.main_arg7) = m ((c.tc : Thread Cert.Fp2Ideal.nD Cert.Fp2Ideal.τ).loc Cert.Fp2Ideal.main_arg7)
          ∧ r.2.mem ((c.tc : Thread Cert.Fp2Ideal.nD Cert.Fp2Ideal.τ).loc Cert.Fp2Ideal.main_arg8) = m ((c.tc : Thread Cert.Fp2Ideal.nD Cert.Fp2Ideal.τ).loc Cert.Fp2Ideal.main_arg8))
      ∧ θ_run (Cert.RefFp2Ideal.defs (F := Ideal)) (onTc (τ := Cert.RefFp2Ideal.τ) (Cert.RefFp2Ideal.main (F := Ideal))) ⟨m', fun _ => 0, g'⟩ (fun r => ∀ c : Dev Cert.RefFp2Ideal.nD,
          r.2.mem ((c.tc : Thread Cert.RefFp2Ideal.nD Cert.RefFp2Ideal.τ).loc Cert.RefFp2Ideal.main_v47) = v0 c
          ∧ r.2.mem ((c.tc : Thread Cert.RefFp2Ideal.nD Cert.RefFp2Ideal.τ).loc Cert.RefFp2Ideal.main_arg0) = m' ((c.tc : Thread Cert.RefFp2Ideal.nD Cert.RefFp2Ideal.τ).loc Cert.RefFp2Ideal.main_arg0)
          ∧ r.2.mem ((c.tc : Thread Cert.RefFp2Ideal.nD Cert.RefFp2Ideal.τ).loc Cert.RefFp2Ideal.main_arg1) = m' ((c.tc : Thread Cert.RefFp2Ideal.nD Cert.RefFp2Ideal.τ).loc Cert.RefFp2Ideal.main_arg1)
          ∧ r.2.mem ((c.tc : Thread Cert.RefFp2Ideal.nD Cert.RefFp2Ideal.τ).loc Cert.RefFp2Ideal.main_arg2) = m' ((c.tc : Thread Cert.RefFp2Ideal.nD Cert.RefFp2Ideal.τ).loc Cert.RefFp2Ideal.main_arg2)
          ∧ r.2.mem ((c.tc : Thread Cert.RefFp2Ideal.nD Cert.RefFp2Ideal.τ).loc Cert.RefFp2Ideal.main_arg3) = m' ((c.tc : Thread Cert.RefFp2Ideal.nD Cert.RefFp2Ideal.τ).loc Cert.RefFp2Ideal.main_arg3)
          ∧ r.2.mem ((c.tc : Thread Cert.RefFp2Ideal.nD Cert.RefFp2Ideal.τ).loc Cert.RefFp2Ideal.main_arg4) = m' ((c.tc : Thread Cert.RefFp2Ideal.nD Cert.RefFp2Ideal.τ).loc Cert.RefFp2Ideal.main_arg4)
          ∧ r.2.mem ((c.tc : Thread Cert.RefFp2Ideal.nD Cert.RefFp2Ideal.τ).loc Cert.RefFp2Ideal.main_arg5) = m' ((c.tc : Thread Cert.RefFp2Ideal.nD Cert.RefFp2Ideal.τ).loc Cert.RefFp2Ideal.main_arg5)
          ∧ r.2.mem ((c.tc : Thread Cert.RefFp2Ideal.nD Cert.RefFp2Ideal.τ).loc Cert.RefFp2Ideal.main_arg6) = m' ((c.tc : Thread Cert.RefFp2Ideal.nD Cert.RefFp2Ideal.τ).loc Cert.RefFp2Ideal.main_arg6)
          ∧ r.2.mem ((c.tc : Thread Cert.RefFp2Ideal.nD Cert.RefFp2Ideal.τ).loc Cert.RefFp2Ideal.main_arg7) = m' ((c.tc : Thread Cert.RefFp2Ideal.nD Cert.RefFp2Ideal.τ).loc Cert.RefFp2Ideal.main_arg7)
          ∧ r.2.mem ((c.tc : Thread Cert.RefFp2Ideal.nD Cert.RefFp2Ideal.τ).loc Cert.RefFp2Ideal.main_arg8) = m' ((c.tc : Thread Cert.RefFp2Ideal.nD Cert.RefFp2Ideal.τ).loc Cert.RefFp2Ideal.main_arg8))

def Claim : Prop :=
  ∃ (hNet : Cert.Net.Facts) (hNetIdeal : Cert.NetIdeal.Facts) (hRefNetIdeal : Cert.RefNetIdeal.Facts) (hSa1 : Cert.Sa1.Facts) (hSa1Ideal : Cert.Sa1Ideal.Facts) (hRefSa1Ideal : Cert.RefSa1Ideal.Facts) (hSa2Fp1 : Cert.Sa2Fp1.Facts) (hSa2Fp1Ideal : Cert.Sa2Fp1Ideal.Facts) (hRefSa2Fp1Ideal : Cert.RefSa2Fp1Ideal.Facts) (hFp2 : Cert.Fp2.Facts) (hFp2Ideal : Cert.Fp2Ideal.Facts) (hRefFp2Ideal : Cert.RefFp2Ideal.Facts) (hPre_net_no_ties : Cert.Pre_net_no_ties.Facts) (hPre_sa1_no_ties : Cert.Pre_sa1_no_ties.Facts) (hPre_sa2_fp1_no_ties : Cert.Pre_sa2_fp1_no_ties.Facts) (hPre_fp2_no_ties : Cert.Pre_fp2_no_ties.Facts),
    quiescent_Net (hNet := hNet)
    ∧ quiescent_NetIdeal (hNetIdeal := hNetIdeal)
    ∧ quiescent_NetIdeal_pre_net_no_ties (hNetIdeal := hNetIdeal) (hPre_net_no_ties := hPre_net_no_ties)
    ∧ quiescent_RefNetIdeal (hRefNetIdeal := hRefNetIdeal)
    ∧ quiescent_RefNetIdeal_pre_net_no_ties (hRefNetIdeal := hRefNetIdeal) (hPre_net_no_ties := hPre_net_no_ties)
    ∧ quiescent_Sa1 (hSa1 := hSa1)
    ∧ quiescent_Sa1Ideal (hSa1Ideal := hSa1Ideal)
    ∧ quiescent_Sa1Ideal_pre_sa1_no_ties (hSa1Ideal := hSa1Ideal) (hPre_sa1_no_ties := hPre_sa1_no_ties)
    ∧ quiescent_RefSa1Ideal (hRefSa1Ideal := hRefSa1Ideal)
    ∧ quiescent_RefSa1Ideal_pre_sa1_no_ties (hRefSa1Ideal := hRefSa1Ideal) (hPre_sa1_no_ties := hPre_sa1_no_ties)
    ∧ quiescent_Sa2Fp1 (hSa2Fp1 := hSa2Fp1)
    ∧ quiescent_Sa2Fp1Ideal (hSa2Fp1Ideal := hSa2Fp1Ideal)
    ∧ quiescent_Sa2Fp1Ideal_pre_sa2_fp1_no_ties (hSa2Fp1Ideal := hSa2Fp1Ideal) (hPre_sa2_fp1_no_ties := hPre_sa2_fp1_no_ties)
    ∧ quiescent_RefSa2Fp1Ideal (hRefSa2Fp1Ideal := hRefSa2Fp1Ideal)
    ∧ quiescent_RefSa2Fp1Ideal_pre_sa2_fp1_no_ties (hRefSa2Fp1Ideal := hRefSa2Fp1Ideal) (hPre_sa2_fp1_no_ties := hPre_sa2_fp1_no_ties)
    ∧ quiescent_Fp2 (hFp2 := hFp2)
    ∧ quiescent_Fp2Ideal (hFp2Ideal := hFp2Ideal)
    ∧ quiescent_Fp2Ideal_pre_fp2_no_ties (hFp2Ideal := hFp2Ideal) (hPre_fp2_no_ties := hPre_fp2_no_ties)
    ∧ quiescent_RefFp2Ideal (hRefFp2Ideal := hRefFp2Ideal)
    ∧ quiescent_RefFp2Ideal_pre_fp2_no_ties (hRefFp2Ideal := hRefFp2Ideal) (hPre_fp2_no_ties := hPre_fp2_no_ties)
    ∧ preserves_Net_NetIdeal
    ∧ algebraic_NetIdeal_RefNetIdeal_pre_net_no_ties (hNetIdeal := hNetIdeal) (hRefNetIdeal := hRefNetIdeal) (hPre_net_no_ties := hPre_net_no_ties)
    ∧ preserves_Sa1_Sa1Ideal
    ∧ algebraic_Sa1Ideal_RefSa1Ideal_pre_sa1_no_ties (hSa1Ideal := hSa1Ideal) (hRefSa1Ideal := hRefSa1Ideal) (hPre_sa1_no_ties := hPre_sa1_no_ties)
    ∧ preserves_Sa2Fp1_Sa2Fp1Ideal
    ∧ algebraic_Sa2Fp1Ideal_RefSa2Fp1Ideal_pre_sa2_fp1_no_ties (hSa2Fp1Ideal := hSa2Fp1Ideal) (hRefSa2Fp1Ideal := hRefSa2Fp1Ideal) (hPre_sa2_fp1_no_ties := hPre_sa2_fp1_no_ties)
    ∧ preserves_Fp2_Fp2Ideal
    ∧ algebraic_Fp2Ideal_RefFp2Ideal_pre_fp2_no_ties (hFp2Ideal := hFp2Ideal) (hRefFp2Ideal := hRefFp2Ideal) (hPre_fp2_no_ties := hPre_fp2_no_ties)
-- ==== Pre_fp2_no_ties.lean ====
abbrev S4x16384x3 : Shape := ⟨3, ![4, 16384, 3]⟩
abbrev S4x512x3 : Shape := ⟨3, ![4, 512, 3]⟩
abbrev S4x512x64 : Shape := ⟨3, ![4, 512, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S4x16384 : Shape := ⟨2, ![4, 16384]⟩
abbrev S4x16384x1 : Shape := ⟨3, ![4, 16384, 1]⟩
abbrev S4x3x512 : Shape := ⟨3, ![4, 3, 512]⟩
abbrev S4x16384x512 : Shape := ⟨3, ![4, 16384, 512]⟩
abbrev S4x512 : Shape := ⟨2, ![4, 512]⟩
abbrev S4x1x512 : Shape := ⟨3, ![4, 1, 512]⟩
abbrev S4x16384x4 : Shape := ⟨3, ![4, 16384, 4]⟩

class Facts : Prop where
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  transposes_S4x512x3_S4x3x512_0_2_1 : S4x512x3.Transposes [0, 2, 1] S4x3x512
  bcast_S_S4x16384x512 : S_.BroadcastsInDim S4x16384x512 (![] : Fin 0 → Fin S4x16384x512.rank)
  bcast_S4x16384x1_S4x16384x512_0_1_2 : S4x16384x1.BroadcastsInDim S4x16384x512 (![0, 1, 2] : Fin 3 → Fin S4x16384x512.rank)
  reducesTo_S4x512x3_S4x512_d2 : S4x512x3.ReducesTo [2] S4x512
  bcast_S4x512_S4x1x512_0_2 : S4x512.BroadcastsInDim S4x1x512 (![0, 2] : Fin 2 → Fin S4x1x512.rank)
  bcast_S4x1x512_S4x16384x512_0_1_2 : S4x1x512.BroadcastsInDim S4x16384x512 (![0, 1, 2] : Fin 3 → Fin S4x16384x512.rank)
  sliceFits_S4x16384x512_S4x16384x4 : S4x16384x512.Slices (fun _ => 0) S4x16384x4
  slices_S4x16384x4_S4x16384x1_0_0_0 : S4x16384x4.Slices ![0, 0, 0] S4x16384x1
  bcast_S_S4x16384x1 : S_.BroadcastsInDim S4x16384x1 (![] : Fin 0 → Fin S4x16384x1.rank)
  slices_S4x16384x4_S4x16384x3_0_0_1 : S4x16384x4.Slices ![0, 0, 1] S4x16384x3
  slices_S4x16384x4_S4x16384x3_0_0_0 : S4x16384x4.Slices ![0, 0, 0] S4x16384x3
  dot_S4x16384x3_S4x3x512_S4x16384x512_2_1_1_2_0_0_wf : DotDims.WF S4x16384x3 S4x3x512 S4x16384x512 [2] [1] [1] [2] [0] [0]

variable [Facts]

def dot_S4x16384x3_S4x3x512_S4x16384x512_2_1_1_2_0_0 : DotDims S4x16384x3 S4x3x512 S4x16384x512 where
  lhsContracting := [2]
  rhsContracting := [1]
  lhsNonContracting := [1]
  rhsNonContracting := [2]
  lhsBatch := [0]
  rhsBatch := [0]
  wf := dot_S4x16384x3_S4x3x512_S4x16384x512_2_1_1_2_0_0_wf
def fn_part1 {F : FTy → Type} [FloatOps F] (main_v15 : FVec F S4x16384x4 .f32) (main_v16 : FVec F S4x16384x1 .f32) (main_v17 : FVec F S4x16384x1 .f32) : IVec S4x16384x1 1 × IVec S4x16384x3 1 :=
  let main_v18 : IVec S4x16384x1 1 := cmpf .ogt main_v16 main_v17
  let main_v19 : FVec F S4x16384x3 .f32 := (extractStridedSlice S4x16384x3 ![0, 0, 1] · slices_S4x16384x4_S4x16384x3_0_0_1) main_v15
  let main_v20 : FVec F S4x16384x3 .f32 := (extractStridedSlice S4x16384x3 ![0, 0, 0] · slices_S4x16384x4_S4x16384x3_0_0_0) main_v15
  let main_v21 : IVec S4x16384x3 1 := cmpf .ogt main_v19 main_v20
  (main_v18, main_v21)

def fn {F : FTy → Type} [FloatOps F] (main_arg0 : FVec F S4x16384x3 .f32) (main_arg1 : FVec F S4x512x3 .f32) (main_arg2 : FVec F S4x512x64 .f32) (main_arg3 : FVec F S67x32 .f32) (main_arg4 : FVec F S32 .f32) (main_arg5 : FVec F S32x32 .f32) (main_arg6 : FVec F S32 .f32) (main_arg7 : FVec F S32x2 .f32) (main_arg8 : FVec F S2 .f32) : IVec S4x16384x1 1 × IVec S4x16384x3 1 :=
  let main_v0 : FVec F S4x16384x3 .f32 := mulf main_arg0 main_arg0
  let main_cst : FVec F S_ .f32 := constant S_ .f32 0x00000000#32
  let main_v1 : FVec F S4x16384 .f32 := (fun x v => Host.reduceAdd x v reducesTo_S4x16384x3_S4x16384_d2 h_S_) main_v0 main_cst
  let main_v2 : FVec F S4x16384x1 .f32 := broadcastInDim S4x16384x1 ![0, 1] bcast_S4x16384_S4x16384x1_0_1 main_v1
  let main_v3 : FVec F S4x3x512 .f32 := (transpose S4x3x512 [0, 2, 1] · transposes_S4x512x3_S4x3x512_0_2_1) main_arg1
  let main_v4 : FVec F S4x16384x512 .f32 := (fun l r => Host.dotGeneral dot_S4x16384x3_S4x3x512_S4x16384x512_2_1_1_2_0_0 none l r) main_arg0 main_v3
  let main_cst_0 : FVec F S_ .f32 := constant S_ .f32 0x40000000#32
  let main_v5 : FVec F S4x16384x512 .f32 := broadcastInDim S4x16384x512 ![] bcast_S_S4x16384x512 main_cst_0
  let main_v6 : FVec F S4x16384x512 .f32 := mulf main_v5 main_v4
  let main_v7 : FVec F S4x16384x512 .f32 := broadcastInDim S4x16384x512 ![0, 1, 2] bcast_S4x16384x1_S4x16384x512_0_1_2 main_v2
  let main_v8 : FVec F S4x16384x512 .f32 := subf main_v7 main_v6
  let main_v9 : FVec F S4x512x3 .f32 := mulf main_arg1 main_arg1
  let main_cst_1 : FVec F S_ .f32 := constant S_ .f32 0x00000000#32
  let main_v10 : FVec F S4x512 .f32 := (fun x v => Host.reduceAdd x v reducesTo_S4x512x3_S4x512_d2 h_S_) main_v9 main_cst_1
  let main_v11 : FVec F S4x1x512 .f32 := broadcastInDim S4x1x512 ![0, 2] bcast_S4x512_S4x1x512_0_2 main_v10
  let main_v12 : FVec F S4x16384x512 .f32 := broadcastInDim S4x16384x512 ![0, 1, 2] bcast_S4x1x512_S4x16384x512_0_1_2 main_v11
  let main_v13 : FVec F S4x16384x512 .f32 := addf main_v8 main_v12
  let main_v14 : FVec F S4x16384x512 .f32 := Host.negf main_v13
  let main_values : FVec F S4x16384x4 .f32 := (fun x => (Host.topK S4x16384x4 2 (FloatOps.cmpfTotal .gt) x sliceFits_S4x16384x512_S4x16384x4).1) main_v14
  let main_indices : IVec S4x16384x4 32 := (fun x => (Host.topK S4x16384x4 2 (FloatOps.cmpfTotal .gt) x sliceFits_S4x16384x512_S4x16384x4).2) main_v14
  let main_v15 : FVec F S4x16384x4 .f32 := Host.negf main_values
  let main_v16 : FVec F S4x16384x1 .f32 := (extractStridedSlice S4x16384x1 ![0, 0, 0] · slices_S4x16384x4_S4x16384x1_0_0_0) main_v15
  let main_cst_2 : FVec F S_ .f32 := constant S_ .f32 0xFF800000#32
  let main_v17 : FVec F S4x16384x1 .f32 := broadcastInDim S4x16384x1 ![] bcast_S_S4x16384x1 main_cst_2
  fn_part1 (F := F) main_v15 main_v16 main_v17
-- ==== Pre_net_no_ties.lean ====
abbrev S4x16384x3 : Shape := ⟨3, ![4, 16384, 3]⟩
abbrev S4x512 : Shape := ⟨2, ![4, 512]⟩
abbrev S4x128 : Shape := ⟨2, ![4, 128]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S4x512x1 : Shape := ⟨3, ![4, 512, 1]⟩
abbrev S4x512x3 : Shape := ⟨3, ![4, 512, 3]⟩
abbrev S4x3x16384 : Shape := ⟨3, ![4, 3, 16384]⟩
abbrev S4x512x16384 : Shape := ⟨3, ![4, 512, 16384]⟩
abbrev S4x16384 : Shape := ⟨2, ![4, 16384]⟩
abbrev S4x1x16384 : Shape := ⟨3, ![4, 1, 16384]⟩
abbrev S4x512x32 : Shape := ⟨3, ![4, 512, 32]⟩
abbrev S4x512x32x1 : Shape := ⟨4, ![4, 512, 32, 1]⟩
abbrev S4x512x32x3 : Shape := ⟨4, ![4, 512, 32, 3]⟩
abbrev S4x512x32x64 : Shape := ⟨4, ![4, 512, 32, 64]⟩
abbrev S1x1x64 : Shape := ⟨3, ![1, 1, 64]⟩
abbrev S1x1x1x64 : Shape := ⟨4, ![1, 1, 1, 64]⟩
abbrev S4x512x64 : Shape := ⟨3, ![4, 512, 64]⟩
abbrev S4x512x33 : Shape := ⟨3, ![4, 512, 33]⟩
abbrev S4x128x1 : Shape := ⟨3, ![4, 128, 1]⟩
abbrev S4x128x64 : Shape := ⟨3, ![4, 128, 64]⟩
abbrev S4x64x512 : Shape := ⟨3, ![4, 64, 512]⟩
abbrev S4x128x512 : Shape := ⟨3, ![4, 128, 512]⟩
abbrev S4x1x512 : Shape := ⟨3, ![4, 1, 512]⟩
abbrev S4x128x33 : Shape := ⟨3, ![4, 128, 33]⟩
abbrev S4x64x128 : Shape := ⟨3, ![4, 64, 128]⟩
abbrev S4x512x128 : Shape := ⟨3, ![4, 512, 128]⟩
abbrev S4x1x128 : Shape := ⟨3, ![4, 1, 128]⟩
abbrev S4x512x4 : Shape := ⟨3, ![4, 512, 4]⟩
abbrev S4x16384x1 : Shape := ⟨3, ![4, 16384, 1]⟩
abbrev S4x3x512 : Shape := ⟨3, ![4, 3, 512]⟩
abbrev S4x16384x512 : Shape := ⟨3, ![4, 16384, 512]⟩
abbrev S4x16384x4 : Shape := ⟨3, ![4, 16384, 4]⟩
abbrev S4x128x32 : Shape := ⟨3, ![4, 128, 32]⟩

class Facts : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  reducesTo_S4x512x3_S4x512_d2 : S4x512x3.ReducesTo [2] S4x512
  h_S_ : 0 < S_.numel
  transposes_S4x16384x3_S4x3x16384_0_2_1 : S4x16384x3.Transposes [0, 2, 1] S4x3x16384
  bcast_S_S4x512x16384 : S_.BroadcastsInDim S4x512x16384 (![] : Fin 0 → Fin S4x512x16384.rank)
  bcast_S4x512x1_S4x512x16384_0_1_2 : S4x512x1.BroadcastsInDim S4x512x16384 (![0, 1, 2] : Fin 3 → Fin S4x512x16384.rank)
  reducesTo_S4x16384x3_S4x16384_d2 : S4x16384x3.ReducesTo [2] S4x16384
  bcast_S4x16384_S4x1x16384_0_2 : S4x16384.BroadcastsInDim S4x1x16384 (![0, 2] : Fin 2 → Fin S4x1x16384.rank)
  bcast_S4x1x16384_S4x512x16384_0_1_2 : S4x1x16384.BroadcastsInDim S4x512x16384 (![0, 1, 2] : Fin 3 → Fin S4x512x16384.rank)
  sliceFits_S4x512x16384_S4x512x32 : S4x512x16384.Slices (fun _ => 0) S4x512x32
  bcast_S_S4x512x32 : S_.BroadcastsInDim S4x512x32 (![] : Fin 0 → Fin S4x512x32.rank)
  bcast_S4x512x32_S4x512x32x1_0_1_2 : S4x512x32.BroadcastsInDim S4x512x32x1 (![0, 1, 2] : Fin 3 → Fin S4x512x32x1.rank)
  bcast_S64_S1x1x64_2 : S64.BroadcastsInDim S1x1x64 (![2] : Fin 1 → Fin S1x1x64.rank)
  bcast_S1x1x64_S1x1x1x64_1_2_3 : S1x1x64.BroadcastsInDim S1x1x1x64 (![1, 2, 3] : Fin 3 → Fin S1x1x1x64.rank)
  bcast_S1x1x1x64_S4x512x32x64_0_1_2_3 : S1x1x1x64.BroadcastsInDim S4x512x32x64 (![0, 1, 2, 3] : Fin 4 → Fin S4x512x32x64.rank)
  bcast_S_S4x512x32x64 : S_.BroadcastsInDim S4x512x32x64 (![] : Fin 0 → Fin S4x512x32x64.rank)
  reducesTo_S4x512x32x64_S4x512x64_d2 : S4x512x32x64.ReducesTo [2] S4x512x64
  sliceFits_S4x512x16384_S4x512x33 : S4x512x16384.Slices (fun _ => 0) S4x512x33
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  reducesTo_S4x128x64_S4x128_d2 : S4x128x64.ReducesTo [2] S4x128
  transposes_S4x512x64_S4x64x512_0_2_1 : S4x512x64.Transposes [0, 2, 1] S4x64x512
  bcast_S_S4x128x512 : S_.BroadcastsInDim S4x128x512 (![] : Fin 0 → Fin S4x128x512.rank)
  bcast_S4x128x1_S4x128x512_0_1_2 : S4x128x1.BroadcastsInDim S4x128x512 (![0, 1, 2] : Fin 3 → Fin S4x128x512.rank)
  reducesTo_S4x512x64_S4x512_d2 : S4x512x64.ReducesTo [2] S4x512
  bcast_S4x512_S4x1x512_0_2 : S4x512.BroadcastsInDim S4x1x512 (![0, 2] : Fin 2 → Fin S4x1x512.rank)
  bcast_S4x1x512_S4x128x512_0_1_2 : S4x1x512.BroadcastsInDim S4x128x512 (![0, 1, 2] : Fin 3 → Fin S4x128x512.rank)
  sliceFits_S4x128x512_S4x128x33 : S4x128x512.Slices (fun _ => 0) S4x128x33
  transposes_S4x128x64_S4x64x128_0_2_1 : S4x128x64.Transposes [0, 2, 1] S4x64x128
  bcast_S_S4x512x128 : S_.BroadcastsInDim S4x512x128 (![] : Fin 0 → Fin S4x512x128.rank)
  bcast_S4x512x1_S4x512x128_0_1_2 : S4x512x1.BroadcastsInDim S4x512x128 (![0, 1, 2] : Fin 3 → Fin S4x512x128.rank)
  bcast_S4x128_S4x1x128_0_2 : S4x128.BroadcastsInDim S4x1x128 (![0, 2] : Fin 2 → Fin S4x1x128.rank)
  bcast_S4x1x128_S4x512x128_0_1_2 : S4x1x128.BroadcastsInDim S4x512x128 (![0, 1, 2] : Fin 3 → Fin S4x512x128.rank)
  sliceFits_S4x512x128_S4x512x4 : S4x512x128.Slices (fun _ => 0) S4x512x4
  bcast_S4x16384_S4x16384x1_0_1 : S4x16384.BroadcastsInDim S4x16384x1 (![0, 1] : Fin 2 → Fin S4x16384x1.rank)
  transposes_S4x512x3_S4x3x512_0_2_1 : S4x512x3.Transposes [0, 2, 1] S4x3x512
  bcast_S_S4x16384x512 : S_.BroadcastsInDim S4x16384x512 (![] : Fin 0 → Fin S4x16384x512.rank)
  bcast_S4x16384x1_S4x16384x512_0_1_2 : S4x16384x1.BroadcastsInDim S4x16384x512 (![0, 1, 2] : Fin 3 → Fin S4x16384x512.rank)
  bcast_S4x1x512_S4x16384x512_0_1_2 : S4x1x512.BroadcastsInDim S4x16384x512 (![0, 1, 2] : Fin 3 → Fin S4x16384x512.rank)
  sliceFits_S4x16384x512_S4x16384x4 : S4x16384x512.Slices (fun _ => 0) S4x16384x4
  slices_S4x512x33_S4x512x1_0_0_0 : S4x512x33.Slices ![0, 0, 0] S4x512x1
  bcast_S_S4x512x1 : S_.BroadcastsInDim S4x512x1 (![] : Fin 0 → Fin S4x512x1.rank)
  slices_S4x512x33_S4x512x32_0_0_1 : S4x512x33.Slices ![0, 0, 1] S4x512x32
  slices_S4x512x33_S4x512x32_0_0_0 : S4x512x33.Slices ![0, 0, 0] S4x512x32
  slices_S4x128x33_S4x128x1_0_0_0 : S4x128x33.Slices ![0, 0, 0] S4x128x1
  bcast_S_S4x128x1 : S_.BroadcastsInDim S4x128x1 (![] : Fin 0 → Fin S4x128x1.rank)
  slices_S4x128x33_S4x128x32_0_0_1 : S4x128x33.Slices ![0, 0, 1] S4x128x32
  slices_S4x128x33_S4x128x32_0_0_0 : S4x128x33.Slices ![0, 0, 0] S4x128x32
  slices_S4x512x4_S4x512x1_0_0_0 : S4x512x4.Slices ![0, 0, 0] S4x512x1
  slices_S4x512x4_S4x512x3_0_0_1 : S4x512x4.Slices ![0, 0, 1] S4x512x3
  slices_S4x512x4_S4x512x3_0_0_0 : S4x512x4.Slices ![0, 0, 0] S4x512x3
  slices_S4x16384x4_S4x16384x1_0_0_0 : S4x16384x4.Slices ![0, 0, 0] S4x16384x1
  bcast_S_S4x16384x1 : S_.BroadcastsInDim S4x16384x1 (![] : Fin 0 → Fin S4x16384x1.rank)
  slices_S4x16384x4_S4x16384x3_0_0_1 : S4x16384x4.Slices ![0, 0, 1] S4x16384x3
  slices_S4x16384x4_S4x16384x3_0_0_0 : S4x16384x4.Slices ![0, 0, 0] S4x16384x3
  gather_S4x16384x3_S4x512x1_S4x512x3_2_1_0_0_1_2_113_wf : GatherDims.WF S4x16384x3 S4x512x1 S4x512x3 [2] [1] [0] [1] [0] 2 ![1, 1, 3]
  dot_S4x512x3_S4x3x16384_S4x512x16384_2_1_1_2_0_0_wf : DotDims.WF S4x512x3 S4x3x16384 S4x512x16384 [2] [1] [1] [2] [0] [0]
  gather_S4x16384x3_S4x512x32x1_S4x512x32x3_3_1_0_0_1_3_113_wf : GatherDims.WF S4x16384x3 S4x512x32x1 S4x512x32x3 [3] [1] [0] [1] [0] 3 ![1, 1, 3]
  dot_S4x512x32x3_S3x64_S4x512x32x64_3_0_012_1_n_n_wf : DotDims.WF S4x512x32x3 S3x64 S4x512x32x64 [3] [0] [0, 1, 2] [1] [] []
  dot_S4x512x32x64_S64x64_S4x512x32x64_3_0_012_1_n_n_wf : DotDims.WF S4x512x32x64 S64x64 S4x512x32x64 [3] [0] [0, 1, 2] [1] [] []
  gather_S4x512x64_S4x128x1_S4x128x64_2_1_0_0_1_2_1164_wf : GatherDims.WF S4x512x64 S4x128x1 S4x128x64 [2] [1] [0] [1] [0] 2 ![1, 1, 64]
  dot_S4x128x64_S4x64x512_S4x128x512_2_1_1_2_0_0_wf : DotDims.WF S4x128x64 S4x64x512 S4x128x512 [2] [1] [1] [2] [0] [0]
  dot_S4x512x64_S4x64x128_S4x512x128_2_1_1_2_0_0_wf : DotDims.WF S4x512x64 S4x64x128 S4x512x128 [2] [1] [1] [2] [0] [0]
  dot_S4x16384x3_S4x3x512_S4x16384x512_2_1_1_2_0_0_wf : DotDims.WF S4x16384x3 S4x3x512 S4x16384x512 [2] [1] [1] [2] [0] [0]

variable [Facts]

def gather_S4x16384x3_S4x512x1_S4x512x3_2_1_0_0_1_2_113 : GatherDims S4x16384x3 S4x512x1 S4x512x3 where
  offsetDims := [2]
  collapsedSliceDims := [1]
  operandBatchingDims := [0]
  startIndicesBatchingDims := [0]
  startIndexMap := [1]
  indexVectorDim := 2
  sliceSizes := ![1, 1, 3]
  wf := gather_S4x16384x3_S4x512x1_S4x512x3_2_1_0_0_1_2_113_wf
def dot_S4x512x3_S4x3x16384_S4x512x16384_2_1_1_2_0_0 : DotDims S4x512x3 S4x3x16384 S4x512x16384 where
  lhsContracting := [2]
  rhsContracting := [1]
  lhsNonContracting := [1]
  rhsNonContracting := [2]
  lhsBatch := [0]
  rhsBatch := [0]
  wf := dot_S4x512x3_S4x3x16384_S4x512x16384_2_1_1_2_0_0_wf
def gather_S4x16384x3_S4x512x32x1_S4x512x32x3_3_1_0_0_1_3_113 : GatherDims S4x16384x3 S4x512x32x1 S4x512x32x3 where
  offsetDims := [3]
  collapsedSliceDims := [1]
  operandBatchingDims := [0]
  startIndicesBatchingDims := [0]
  startIndexMap := [1]
  indexVectorDim := 3
  sliceSizes := ![1, 1, 3]
  wf := gather_S4x16384x3_S4x512x32x1_S4x512x32x3_3_1_0_0_1_3_113_wf
def dot_S4x512x32x3_S3x64_S4x512x32x64_3_0_012_1_n_n : DotDims S4x512x32x3 S3x64 S4x512x32x64 where
  lhsContracting := [3]
  rhsContracting := [0]
  lhsNonContracting := [0, 1, 2]
  rhsNonContracting := [1]
  lhsBatch := []
  rhsBatch := []
  wf := dot_S4x512x32x3_S3x64_S4x512x32x64_3_0_012_1_n_n_wf
def dot_S4x512x32x64_S64x64_S4x512x32x64_3_0_012_1_n_n : DotDims S4x512x32x64 S64x64 S4x512x32x64 where
  lhsContracting := [3]
  rhsContracting := [0]
  lhsNonContracting := [0, 1, 2]
  rhsNonContracting := [1]
  lhsBatch := []
  rhsBatch := []
  wf := dot_S4x512x32x64_S64x64_S4x512x32x64_3_0_012_1_n_n_wf
def gather_S4x512x64_S4x128x1_S4x128x64_2_1_0_0_1_2_1164 : GatherDims S4x512x64 S4x128x1 S4x128x64 where
  offsetDims := [2]
  collapsedSliceDims := [1]
  operandBatchingDims := [0]
  startIndicesBatchingDims := [0]
  startIndexMap := [1]
  indexVectorDim := 2
  sliceSizes := ![1, 1, 64]
  wf := gather_S4x512x64_S4x128x1_S4x128x64_2_1_0_0_1_2_1164_wf
def dot_S4x128x64_S4x64x512_S4x128x512_2_1_1_2_0_0 : DotDims S4x128x64 S4x64x512 S4x128x512 where
  lhsContracting := [2]
  rhsContracting := [1]
  lhsNonContracting := [1]
  rhsNonContracting := [2]
  lhsBatch := [0]
  rhsBatch := [0]
  wf := dot_S4x128x64_S4x64x512_S4x128x512_2_1_1_2_0_0_wf
def dot_S4x512x64_S4x64x128_S4x512x128_2_1_1_2_0_0 : DotDims S4x512x64 S4x64x128 S4x512x128 where
  lhsContracting := [2]
  rhsContracting := [1]
  lhsNonContracting := [1]
  rhsNonContracting := [2]
  lhsBatch := [0]
  rhsBatch := [0]
  wf := dot_S4x512x64_S4x64x128_S4x512x128_2_1_1_2_0_0_wf
def dot_S4x16384x3_S4x3x512_S4x16384x512_2_1_1_2_0_0 : DotDims S4x16384x3 S4x3x512 S4x16384x512 where
  lhsContracting := [2]
  rhsContracting := [1]
  lhsNonContracting := [1]
  rhsNonContracting := [2]
  lhsBatch := [0]
  rhsBatch := [0]
  wf := dot_S4x16384x3_S4x3x512_S4x16384x512_2_1_1_2_0_0_wf
def fn_relu {F : FTy → Type} [FloatOps F] (arg0 : FVec F S4x512x32x64 .f32) : FVec F S4x512x32x64 .f32 :=
  let cst : FVec F S_ .f32 := constant S_ .f32 0x00000000#32
  let v0 : FVec F S4x512x32x64 .f32 := broadcastInDim S4x512x32x64 ![] bcast_S_S4x512x32x64 cst
  let v1 : FVec F S4x512x32x64 .f32 := maximumf arg0 v0
  v1

def fn_part8 {F : FTy → Type} [FloatOps F] (main_v110 : FVec F S4x512x4 .f32) (main_v126 : FVec F S4x16384x4 .f32) (main_v128 : IVec S4x512 1) (main_v130 : IVec S4x512 1) (main_v133 : IVec S4x512x1 1) (main_v136 : IVec S4x512x32 1) (main_v138 : IVec S4x128 1) (main_v140 : IVec S4x128 1) (main_v143 : IVec S4x128x1 1) (main_v146 : IVec S4x128x32 1) (main_v147 : FVec F S4x512x1 .f32) (main_v148 : FVec F S4x512x1 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v149 : IVec S4x512x1 1 := cmpf .ogt main_v147 main_v148
  let main_v150 : FVec F S4x512x3 .f32 := (extractStridedSlice S4x512x3 ![0, 0, 1] · slices_S4x512x4_S4x512x3_0_0_1) main_v110
  let main_v151 : FVec F S4x512x3 .f32 := (extractStridedSlice S4x512x3 ![0, 0, 0] · slices_S4x512x4_S4x512x3_0_0_0) main_v110
  let main_v152 : IVec S4x512x3 1 := cmpf .ogt main_v150 main_v151
  let main_v153 : FVec F S4x16384x1 .f32 := (extractStridedSlice S4x16384x1 ![0, 0, 0] · slices_S4x16384x4_S4x16384x1_0_0_0) main_v126
  let main_cst_39 : FVec F S_ .f32 := constant S_ .f32 0xFF800000#32
  let main_v154 : FVec F S4x16384x1 .f32 := broadcastInDim S4x16384x1 ![] bcast_S_S4x16384x1 main_cst_39
  let main_v155 : IVec S4x16384x1 1 := cmpf .ogt main_v153 main_v154
  let main_v156 : FVec F S4x16384x3 .f32 := (extractStridedSlice S4x16384x3 ![0, 0, 1] · slices_S4x16384x4_S4x16384x3_0_0_1) main_v126
  let main_v157 : FVec F S4x16384x3 .f32 := (extractStridedSlice S4x16384x3 ![0, 0, 0] · slices_S4x16384x4_S4x16384x3_0_0_0) main_v126
  let main_v158 : IVec S4x16384x3 1 := cmpf .ogt main_v156 main_v157
  (main_v128, main_v130, main_v133, main_v136, main_v138, main_v140, main_v143, main_v146, main_v149, main_v152, main_v155, main_v158)

def fn_part7 {F : FTy → Type} [FloatOps F] (main_arg1 : IVec S4x512 32) (main_arg2 : IVec S4x128 32) (main_v64 : FVec F S4x512x33 .f32) (main_v87 : FVec F S4x128x33 .f32) (main_v110 : FVec F S4x512x4 .f32) (main_v126 : FVec F S4x16384x4 .f32) (main_v128 : IVec S4x512 1) (main_v129 : IVec S4x512 32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v130 : IVec S4x512 1 := cmpi .slt main_arg1 main_v129
  let main_v131 : FVec F S4x512x1 .f32 := (extractStridedSlice S4x512x1 ![0, 0, 0] · slices_S4x512x33_S4x512x1_0_0_0) main_v64
  let main_cst_34 : FVec F S_ .f32 := constant S_ .f32 0xFF800000#32
  let main_v132 : FVec F S4x512x1 .f32 := broadcastInDim S4x512x1 ![] bcast_S_S4x512x1 main_cst_34
  let main_v133 : IVec S4x512x1 1 := cmpf .ogt main_v131 main_v132
  let main_v134 : FVec F S4x512x32 .f32 := (extractStridedSlice S4x512x32 ![0, 0, 1] · slices_S4x512x33_S4x512x32_0_0_1) main_v64
  let main_v135 : FVec F S4x512x32 .f32 := (extractStridedSlice S4x512x32 ![0, 0, 0] · slices_S4x512x33_S4x512x32_0_0_0) main_v64
  let main_v136 : IVec S4x512x32 1 := cmpf .ogt main_v134 main_v135
  let main_c_35 : IVec S_ 32 := constantI S_ 32 0#32
  let main_v137 : IVec S4x128 32 := broadcastInDim S4x128 ![] bcast_S_S4x128 main_c_35
  let main_v138 : IVec S4x128 1 := cmpi .sge main_arg2 main_v137
  let main_c_36 : IVec S_ 32 := constantI S_ 32 512#32
  let main_v139 : IVec S4x128 32 := broadcastInDim S4x128 ![] bcast_S_S4x128 main_c_36
  let main_v140 : IVec S4x128 1 := cmpi .slt main_arg2 main_v139
  let main_v141 : FVec F S4x128x1 .f32 := (extractStridedSlice S4x128x1 ![0, 0, 0] · slices_S4x128x33_S4x128x1_0_0_0) main_v87
  let main_cst_37 : FVec F S_ .f32 := constant S_ .f32 0xFF800000#32
  let main_v142 : FVec F S4x128x1 .f32 := broadcastInDim S4x128x1 ![] bcast_S_S4x128x1 main_cst_37
  let main_v143 : IVec S4x128x1 1 := cmpf .ogt main_v141 main_v142
  let main_v144 : FVec F S4x128x32 .f32 := (extractStridedSlice S4x128x32 ![0, 0, 1] · slices_S4x128x33_S4x128x32_0_0_1) main_v87
  let main_v145 : FVec F S4x128x32 .f32 := (extractStridedSlice S4x128x32 ![0, 0, 0] · slices_S4x128x33_S4x128x32_0_0_0) main_v87
  let main_v146 : IVec S4x128x32 1 := cmpf .ogt main_v144 main_v145
  let main_v147 : FVec F S4x512x1 .f32 := (extractStridedSlice S4x512x1 ![0, 0, 0] · slices_S4x512x4_S4x512x1_0_0_0) main_v110
  let main_cst_38 : FVec F S_ .f32 := constant S_ .f32 0xFF800000#32
  let main_v148 : FVec F S4x512x1 .f32 := broadcastInDim S4x512x1 ![] bcast_S_S4x512x1 main_cst_38
  fn_part8 (F := F) main_v110 main_v126 main_v128 main_v130 main_v133 main_v136 main_v138 main_v140 main_v143 main_v146 main_v147 main_v148

def fn_part6 {F : FTy → Type} [FloatOps F] (main_arg0 : FVec F S4x16384x3 .f32) (main_arg1 : IVec S4x512 32) (main_arg2 : IVec S4x128 32) (main_v6 : FVec F S4x512x3 .f32) (main_v64 : FVec F S4x512x33 .f32) (main_v87 : FVec F S4x128x33 .f32) (main_v110 : FVec F S4x512x4 .f32) (main_v111 : FVec F S4x16384x3 .f32) (main_cst_27 : FVec F S_ .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v112 : FVec F S4x16384 .f32 := (fun x v => Host.reduceAdd x v reducesTo_S4x16384x3_S4x16384_d2 h_S_) main_v111 main_cst_27
  let main_v113 : FVec F S4x16384x1 .f32 := broadcastInDim S4x16384x1 ![0, 1] bcast_S4x16384_S4x16384x1_0_1 main_v112
  let main_v114 : FVec F S4x3x512 .f32 := (transpose S4x3x512 [0, 2, 1] · transposes_S4x512x3_S4x3x512_0_2_1) main_v6
  let main_v115 : FVec F S4x16384x512 .f32 := (fun l r => Host.dotGeneral dot_S4x16384x3_S4x3x512_S4x16384x512_2_1_1_2_0_0 none l r) main_arg0 main_v114
  let main_cst_28 : FVec F S_ .f32 := constant S_ .f32 0x40000000#32
  let main_v116 : FVec F S4x16384x512 .f32 := broadcastInDim S4x16384x512 ![] bcast_S_S4x16384x512 main_cst_28
  let main_v117 : FVec F S4x16384x512 .f32 := mulf main_v116 main_v115
  let main_v118 : FVec F S4x16384x512 .f32 := broadcastInDim S4x16384x512 ![0, 1, 2] bcast_S4x16384x1_S4x16384x512_0_1_2 main_v113
  let main_v119 : FVec F S4x16384x512 .f32 := subf main_v118 main_v117
  let main_v120 : FVec F S4x512x3 .f32 := mulf main_v6 main_v6
  let main_cst_29 : FVec F S_ .f32 := constant S_ .f32 0x00000000#32
  let main_v121 : FVec F S4x512 .f32 := (fun x v => Host.reduceAdd x v reducesTo_S4x512x3_S4x512_d2 h_S_) main_v120 main_cst_29
  let main_v122 : FVec F S4x1x512 .f32 := broadcastInDim S4x1x512 ![0, 2] bcast_S4x512_S4x1x512_0_2 main_v121
  let main_v123 : FVec F S4x16384x512 .f32 := broadcastInDim S4x16384x512 ![0, 1, 2] bcast_S4x1x512_S4x16384x512_0_1_2 main_v122
  let main_v124 : FVec F S4x16384x512 .f32 := addf main_v119 main_v123
  let main_v125 : FVec F S4x16384x512 .f32 := Host.negf main_v124
  let main_values_30 : FVec F S4x16384x4 .f32 := (fun x => (Host.topK S4x16384x4 2 (FloatOps.cmpfTotal .gt) x sliceFits_S4x16384x512_S4x16384x4).1) main_v125
  let main_indices_31 : IVec S4x16384x4 32 := (fun x => (Host.topK S4x16384x4 2 (FloatOps.cmpfTotal .gt) x sliceFits_S4x16384x512_S4x16384x4).2) main_v125
  let main_v126 : FVec F S4x16384x4 .f32 := Host.negf main_values_30
  let main_c_32 : IVec S_ 32 := constantI S_ 32 0#32
  let main_v127 : IVec S4x512 32 := broadcastInDim S4x512 ![] bcast_S_S4x512 main_c_32
  let main_v128 : IVec S4x512 1 := cmpi .sge main_arg1 main_v127
  let main_c_33 : IVec S_ 32 := constantI S_ 32 16384#32
  let main_v129 : IVec S4x512 32 := broadcastInDim S4x512 ![] bcast_S_S4x512 main_c_33
  fn_part7 (F := F) main_arg1 main_arg2 main_v64 main_v87 main_v110 main_v126 main_v128 main_v129

def fn_part5 {F : FTy → Type} [FloatOps F] (main_arg0 : FVec F S4x16384x3 .f32) (main_arg1 : IVec S4x512 32) (main_arg2 : IVec S4x128 32) (main_v6 : FVec F S4x512x3 .f32) (main_v41 : FVec F S4x512x64 .f32) (main_v64 : FVec F S4x512x33 .f32) (main_v87 : FVec F S4x128x33 .f32) (main_v93 : IVec S4x128x1 32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v94 : FVec F S4x128x64 .f32 := (fun x i => Host.gather gather_S4x512x64_S4x128x1_S4x128x64_2_1_0_0_1_2_1164 x i) main_v41 main_v93
  let main_v95 : FVec F S4x512x64 .f32 := mulf main_v41 main_v41
  let main_cst_22 : FVec F S_ .f32 := constant S_ .f32 0x00000000#32
  let main_v96 : FVec F S4x512 .f32 := (fun x v => Host.reduceAdd x v reducesTo_S4x512x64_S4x512_d2 h_S_) main_v95 main_cst_22
  let main_v97 : FVec F S4x512x1 .f32 := broadcastInDim S4x512x1 ![0, 1] bcast_S4x512_S4x512x1_0_1 main_v96
  let main_v98 : FVec F S4x64x128 .f32 := (transpose S4x64x128 [0, 2, 1] · transposes_S4x128x64_S4x64x128_0_2_1) main_v94
  let main_v99 : FVec F S4x512x128 .f32 := (fun l r => Host.dotGeneral dot_S4x512x64_S4x64x128_S4x512x128_2_1_1_2_0_0 none l r) main_v41 main_v98
  let main_cst_23 : FVec F S_ .f32 := constant S_ .f32 0x40000000#32
  let main_v100 : FVec F S4x512x128 .f32 := broadcastInDim S4x512x128 ![] bcast_S_S4x512x128 main_cst_23
  let main_v101 : FVec F S4x512x128 .f32 := mulf main_v100 main_v99
  let main_v102 : FVec F S4x512x128 .f32 := broadcastInDim S4x512x128 ![0, 1, 2] bcast_S4x512x1_S4x512x128_0_1_2 main_v97
  let main_v103 : FVec F S4x512x128 .f32 := subf main_v102 main_v101
  let main_v104 : FVec F S4x128x64 .f32 := mulf main_v94 main_v94
  let main_cst_24 : FVec F S_ .f32 := constant S_ .f32 0x00000000#32
  let main_v105 : FVec F S4x128 .f32 := (fun x v => Host.reduceAdd x v reducesTo_S4x128x64_S4x128_d2 h_S_) main_v104 main_cst_24
  let main_v106 : FVec F S4x1x128 .f32 := broadcastInDim S4x1x128 ![0, 2] bcast_S4x128_S4x1x128_0_2 main_v105
  let main_v107 : FVec F S4x512x128 .f32 := broadcastInDim S4x512x128 ![0, 1, 2] bcast_S4x1x128_S4x512x128_0_1_2 main_v106
  let main_v108 : FVec F S4x512x128 .f32 := addf main_v103 main_v107
  let main_v109 : FVec F S4x512x128 .f32 := Host.negf main_v108
  let main_values_25 : FVec F S4x512x4 .f32 := (fun x => (Host.topK S4x512x4 2 (FloatOps.cmpfTotal .gt) x sliceFits_S4x512x128_S4x512x4).1) main_v109
  let main_indices_26 : IVec S4x512x4 32 := (fun x => (Host.topK S4x512x4 2 (FloatOps.cmpfTotal .gt) x sliceFits_S4x512x128_S4x512x4).2) main_v109
  let main_v110 : FVec F S4x512x4 .f32 := Host.negf main_values_25
  let main_v111 : FVec F S4x16384x3 .f32 := mulf main_arg0 main_arg0
  let main_cst_27 : FVec F S_ .f32 := constant S_ .f32 0x00000000#32
  fn_part6 (F := F) main_arg0 main_arg1 main_arg2 main_v6 main_v64 main_v87 main_v110 main_v111 main_cst_27

def fn_part4 {F : FTy → Type} [FloatOps F] (main_arg0 : FVec F S4x16384x3 .f32) (main_arg1 : IVec S4x512 32) (main_arg2 : IVec S4x128 32) (main_v6 : FVec F S4x512x3 .f32) (main_v41 : FVec F S4x512x64 .f32) (main_v64 : FVec F S4x512x33 .f32) (main_v71 : FVec F S4x128x64 .f32) (main_v74 : FVec F S4x128x1 .f32) (main_v75 : FVec F S4x64x512 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v76 : FVec F S4x128x512 .f32 := (fun l r => Host.dotGeneral dot_S4x128x64_S4x64x512_S4x128x512_2_1_1_2_0_0 none l r) main_v71 main_v75
  let main_cst_16 : FVec F S_ .f32 := constant S_ .f32 0x40000000#32
  let main_v77 : FVec F S4x128x512 .f32 := broadcastInDim S4x128x512 ![] bcast_S_S4x128x512 main_cst_16
  let main_v78 : FVec F S4x128x512 .f32 := mulf main_v77 main_v76
  let main_v79 : FVec F S4x128x512 .f32 := broadcastInDim S4x128x512 ![0, 1, 2] bcast_S4x128x1_S4x128x512_0_1_2 main_v74
  let main_v80 : FVec F S4x128x512 .f32 := subf main_v79 main_v78
  let main_v81 : FVec F S4x512x64 .f32 := mulf main_v41 main_v41
  let main_cst_17 : FVec F S_ .f32 := constant S_ .f32 0x00000000#32
  let main_v82 : FVec F S4x512 .f32 := (fun x v => Host.reduceAdd x v reducesTo_S4x512x64_S4x512_d2 h_S_) main_v81 main_cst_17
  let main_v83 : FVec F S4x1x512 .f32 := broadcastInDim S4x1x512 ![0, 2] bcast_S4x512_S4x1x512_0_2 main_v82
  let main_v84 : FVec F S4x128x512 .f32 := broadcastInDim S4x128x512 ![0, 1, 2] bcast_S4x1x512_S4x128x512_0_1_2 main_v83
  let main_v85 : FVec F S4x128x512 .f32 := addf main_v80 main_v84
  let main_v86 : FVec F S4x128x512 .f32 := Host.negf main_v85
  let main_values_18 : FVec F S4x128x33 .f32 := (fun x => (Host.topK S4x128x33 2 (FloatOps.cmpfTotal .gt) x sliceFits_S4x128x512_S4x128x33).1) main_v86
  let main_indices_19 : IVec S4x128x33 32 := (fun x => (Host.topK S4x128x33 2 (FloatOps.cmpfTotal .gt) x sliceFits_S4x128x512_S4x128x33).2) main_v86
  let main_v87 : FVec F S4x128x33 .f32 := Host.negf main_values_18
  let main_c_20 : IVec S_ 32 := constantI S_ 32 0#32
  let main_v88 : IVec S4x128 32 := broadcastInDim S4x128 ![] bcast_S_S4x128 main_c_20
  let main_v89 : IVec S4x128 1 := cmpi .slt main_arg2 main_v88
  let main_c_21 : IVec S_ 32 := constantI S_ 32 512#32
  let main_v90 : IVec S4x128 32 := broadcastInDim S4x128 ![] bcast_S_S4x128 main_c_21
  let main_v91 : IVec S4x128 32 := addi main_arg2 main_v90
  let main_v92 : IVec S4x128 32 := select main_v89 main_v91 main_arg2
  let main_v93 : IVec S4x128x1 32 := broadcastInDim S4x128x1 ![0, 1] bcast_S4x128_S4x128x1_0_1 main_v92
  fn_part5 (F := F) main_arg0 main_arg1 main_arg2 main_v6 main_v41 main_v64 main_v87 main_v93

def fn_part3 {F : FTy → Type} [FloatOps F] (main_arg0 : FVec F S4x16384x3 .f32) (main_arg1 : IVec S4x512 32) (main_arg2 : IVec S4x128 32) (main_v6 : FVec F S4x512x3 .f32) (main_v41 : FVec F S4x512x64 .f32) (main_v57 : FVec F S4x512x16384 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v58 : FVec F S4x16384x3 .f32 := mulf main_arg0 main_arg0
  let main_cst_10 : FVec F S_ .f32 := constant S_ .f32 0x00000000#32
  let main_v59 : FVec F S4x16384 .f32 := (fun x v => Host.reduceAdd x v reducesTo_S4x16384x3_S4x16384_d2 h_S_) main_v58 main_cst_10
  let main_v60 : FVec F S4x1x16384 .f32 := broadcastInDim S4x1x16384 ![0, 2] bcast_S4x16384_S4x1x16384_0_2 main_v59
  let main_v61 : FVec F S4x512x16384 .f32 := broadcastInDim S4x512x16384 ![0, 1, 2] bcast_S4x1x16384_S4x512x16384_0_1_2 main_v60
  let main_v62 : FVec F S4x512x16384 .f32 := addf main_v57 main_v61
  let main_v63 : FVec F S4x512x16384 .f32 := Host.negf main_v62
  let main_values_11 : FVec F S4x512x33 .f32 := (fun x => (Host.topK S4x512x33 2 (FloatOps.cmpfTotal .gt) x sliceFits_S4x512x16384_S4x512x33).1) main_v63
  let main_indices_12 : IVec S4x512x33 32 := (fun x => (Host.topK S4x512x33 2 (FloatOps.cmpfTotal .gt) x sliceFits_S4x512x16384_S4x512x33).2) main_v63
  let main_v64 : FVec F S4x512x33 .f32 := Host.negf main_values_11
  let main_c_13 : IVec S_ 32 := constantI S_ 32 0#32
  let main_v65 : IVec S4x128 32 := broadcastInDim S4x128 ![] bcast_S_S4x128 main_c_13
  let main_v66 : IVec S4x128 1 := cmpi .slt main_arg2 main_v65
  let main_c_14 : IVec S_ 32 := constantI S_ 32 512#32
  let main_v67 : IVec S4x128 32 := broadcastInDim S4x128 ![] bcast_S_S4x128 main_c_14
  let main_v68 : IVec S4x128 32 := addi main_arg2 main_v67
  let main_v69 : IVec S4x128 32 := select main_v66 main_v68 main_arg2
  let main_v70 : IVec S4x128x1 32 := broadcastInDim S4x128x1 ![0, 1] bcast_S4x128_S4x128x1_0_1 main_v69
  let main_v71 : FVec F S4x128x64 .f32 := (fun x i => Host.gather gather_S4x512x64_S4x128x1_S4x128x64_2_1_0_0_1_2_1164 x i) main_v41 main_v70
  let main_v72 : FVec F S4x128x64 .f32 := mulf main_v71 main_v71
  let main_cst_15 : FVec F S_ .f32 := constant S_ .f32 0x00000000#32
  let main_v73 : FVec F S4x128 .f32 := (fun x v => Host.reduceAdd x v reducesTo_S4x128x64_S4x128_d2 h_S_) main_v72 main_cst_15
  let main_v74 : FVec F S4x128x1 .f32 := broadcastInDim S4x128x1 ![0, 1] bcast_S4x128_S4x128x1_0_1 main_v73
  let main_v75 : FVec F S4x64x512 .f32 := (transpose S4x64x512 [0, 2, 1] · transposes_S4x512x64_S4x64x512_0_2_1) main_v41
  fn_part4 (F := F) main_arg0 main_arg1 main_arg2 main_v6 main_v41 main_v64 main_v71 main_v74 main_v75

def fn_part2 {F : FTy → Type} [FloatOps F] (main_arg0 : FVec F S4x16384x3 .f32) (main_arg1 : IVec S4x512 32) (main_arg2 : IVec S4x128 32) (main_v6 : FVec F S4x512x3 .f32) (main_v36 : FVec F S4x512x32x64 .f32) (main_v38 : FVec F S1x1x1x64 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v39 : FVec F S4x512x32x64 .f32 := broadcastInDim S4x512x32x64 ![0, 1, 2, 3] bcast_S1x1x1x64_S4x512x32x64_0_1_2_3 main_v38
  let main_v40 : FVec F S4x512x32x64 .f32 := addf main_v36 main_v39
  let main_cst_5 : FVec F S_ .f32 := constant S_ .f32 0xFF800000#32
  let main_v41 : FVec F S4x512x64 .f32 := (fun x v => Host.reduce FloatOps.maximumf x v reducesTo_S4x512x32x64_S4x512x64_d2 h_S_) main_v40 main_cst_5
  let main_c_6 : IVec S_ 32 := constantI S_ 32 0#32
  let main_v42 : IVec S4x512 32 := broadcastInDim S4x512 ![] bcast_S_S4x512 main_c_6
  let main_v43 : IVec S4x512 1 := cmpi .slt main_arg1 main_v42
  let main_c_7 : IVec S_ 32 := constantI S_ 32 16384#32
  let main_v44 : IVec S4x512 32 := broadcastInDim S4x512 ![] bcast_S_S4x512 main_c_7
  let main_v45 : IVec S4x512 32 := addi main_arg1 main_v44
  let main_v46 : IVec S4x512 32 := select main_v43 main_v45 main_arg1
  let main_v47 : IVec S4x512x1 32 := broadcastInDim S4x512x1 ![0, 1] bcast_S4x512_S4x512x1_0_1 main_v46
  let main_v48 : FVec F S4x512x3 .f32 := (fun x i => Host.gather gather_S4x16384x3_S4x512x1_S4x512x3_2_1_0_0_1_2_113 x i) main_arg0 main_v47
  let main_v49 : FVec F S4x512x3 .f32 := mulf main_v48 main_v48
  let main_cst_8 : FVec F S_ .f32 := constant S_ .f32 0x00000000#32
  let main_v50 : FVec F S4x512 .f32 := (fun x v => Host.reduceAdd x v reducesTo_S4x512x3_S4x512_d2 h_S_) main_v49 main_cst_8
  let main_v51 : FVec F S4x512x1 .f32 := broadcastInDim S4x512x1 ![0, 1] bcast_S4x512_S4x512x1_0_1 main_v50
  let main_v52 : FVec F S4x3x16384 .f32 := (transpose S4x3x16384 [0, 2, 1] · transposes_S4x16384x3_S4x3x16384_0_2_1) main_arg0
  let main_v53 : FVec F S4x512x16384 .f32 := (fun l r => Host.dotGeneral dot_S4x512x3_S4x3x16384_S4x512x16384_2_1_1_2_0_0 none l r) main_v48 main_v52
  let main_cst_9 : FVec F S_ .f32 := constant S_ .f32 0x40000000#32
  let main_v54 : FVec F S4x512x16384 .f32 := broadcastInDim S4x512x16384 ![] bcast_S_S4x512x16384 main_cst_9
  let main_v55 : FVec F S4x512x16384 .f32 := mulf main_v54 main_v53
  let main_v56 : FVec F S4x512x16384 .f32 := broadcastInDim S4x512x16384 ![0, 1, 2] bcast_S4x512x1_S4x512x16384_0_1_2 main_v51
  let main_v57 : FVec F S4x512x16384 .f32 := subf main_v56 main_v55
  fn_part3 (F := F) main_arg0 main_arg1 main_arg2 main_v6 main_v41 main_v57

def fn_part1 {F : FTy → Type} [FloatOps F] (main_arg0 : FVec F S4x16384x3 .f32) (main_arg1 : IVec S4x512 32) (main_arg2 : IVec S4x128 32) (main_arg3 : FVec F S3x64 .f32) (main_arg4 : FVec F S64 .f32) (main_arg5 : FVec F S64x64 .f32) (main_arg6 : FVec F S64 .f32) (main_v6 : FVec F S4x512x3 .f32) (main_v15 : FVec F S4x512x16384 .f32) (main_v18 : FVec F S4x1x16384 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_v19 : FVec F S4x512x16384 .f32 := broadcastInDim S4x512x16384 ![0, 1, 2] bcast_S4x1x16384_S4x512x16384_0_1_2 main_v18
  let main_v20 : FVec F S4x512x16384 .f32 := addf main_v15 main_v19
  let main_v21 : FVec F S4x512x16384 .f32 := Host.negf main_v20
  let main_values : FVec F S4x512x32 .f32 := (fun x => (Host.topK S4x512x32 2 (FloatOps.cmpfTotal .gt) x sliceFits_S4x512x16384_S4x512x32).1) main_v21
  let main_indices : IVec S4x512x32 32 := (fun x => (Host.topK S4x512x32 2 (FloatOps.cmpfTotal .gt) x sliceFits_S4x512x16384_S4x512x32).2) main_v21
  let main_v22 : FVec F S4x512x32 .f32 := Host.negf main_values
  let main_c_3 : IVec S_ 32 := constantI S_ 32 0#32
  let main_v23 : IVec S4x512x32 32 := broadcastInDim S4x512x32 ![] bcast_S_S4x512x32 main_c_3
  let main_v24 : IVec S4x512x32 1 := cmpi .slt main_indices main_v23
  let main_c_4 : IVec S_ 32 := constantI S_ 32 16384#32
  let main_v25 : IVec S4x512x32 32 := broadcastInDim S4x512x32 ![] bcast_S_S4x512x32 main_c_4
  let main_v26 : IVec S4x512x32 32 := addi main_indices main_v25
  let main_v27 : IVec S4x512x32 32 := select main_v24 main_v26 main_indices
  let main_v28 : IVec S4x512x32x1 32 := broadcastInDim S4x512x32x1 ![0, 1, 2] bcast_S4x512x32_S4x512x32x1_0_1_2 main_v27
  let main_v29 : FVec F S4x512x32x3 .f32 := (fun x i => Host.gather gather_S4x16384x3_S4x512x32x1_S4x512x32x3_3_1_0_0_1_3_113 x i) main_arg0 main_v28
  let main_v30 : FVec F S4x512x32x64 .f32 := (fun l r => Host.dotGeneral dot_S4x512x32x3_S3x64_S4x512x32x64_3_0_012_1_n_n none l r) main_v29 main_arg3
  let main_v31 : FVec F S1x1x64 .f32 := broadcastInDim S1x1x64 ![2] bcast_S64_S1x1x64_2 main_arg4
  let main_v32 : FVec F S1x1x1x64 .f32 := broadcastInDim S1x1x1x64 ![1, 2, 3] bcast_S1x1x64_S1x1x1x64_1_2_3 main_v31
  let main_v33 : FVec F S4x512x32x64 .f32 := broadcastInDim S4x512x32x64 ![0, 1, 2, 3] bcast_S1x1x1x64_S4x512x32x64_0_1_2_3 main_v32
  let main_v34 : FVec F S4x512x32x64 .f32 := addf main_v30 main_v33
  let main_v35 : FVec F S4x512x32x64 .f32 := fn_relu (F := F) main_v34
  let main_v36 : FVec F S4x512x32x64 .f32 := (fun l r => Host.dotGeneral dot_S4x512x32x64_S64x64_S4x512x32x64_3_0_012_1_n_n none l r) main_v35 main_arg5
  let main_v37 : FVec F S1x1x64 .f32 := broadcastInDim S1x1x64 ![2] bcast_S64_S1x1x64_2 main_arg6
  let main_v38 : FVec F S1x1x1x64 .f32 := broadcastInDim S1x1x1x64 ![1, 2, 3] bcast_S1x1x64_S1x1x1x64_1_2_3 main_v37
  fn_part2 (F := F) main_arg0 main_arg1 main_arg2 main_v6 main_v36 main_v38

def fn {F : FTy → Type} [FloatOps F] (main_arg0 : FVec F S4x16384x3 .f32) (main_arg1 : IVec S4x512 32) (main_arg2 : IVec S4x128 32) (main_arg3 : FVec F S3x64 .f32) (main_arg4 : FVec F S64 .f32) (main_arg5 : FVec F S64x64 .f32) (main_arg6 : FVec F S64 .f32) (main_arg7 : FVec F S64x128 .f32) (main_arg8 : FVec F S128 .f32) (main_arg9 : FVec F S128x128 .f32) (main_arg10 : FVec F S128 .f32) (main_arg11 : FVec F S192x64 .f32) (main_arg12 : FVec F S64 .f32) (main_arg13 : FVec F S64x64 .f32) (main_arg14 : FVec F S64 .f32) (main_arg15 : FVec F S67x32 .f32) (main_arg16 : FVec F S32 .f32) (main_arg17 : FVec F S32x32 .f32) (main_arg18 : FVec F S32 .f32) (main_arg19 : FVec F S32x2 .f32) (main_arg20 : FVec F S2 .f32) : IVec S4x512 1 × IVec S4x512 1 × IVec S4x512x1 1 × IVec S4x512x32 1 × IVec S4x128 1 × IVec S4x128 1 × IVec S4x128x1 1 × IVec S4x128x32 1 × IVec S4x512x1 1 × IVec S4x512x3 1 × IVec S4x16384x1 1 × IVec S4x16384x3 1 :=
  let main_c : IVec S_ 32 := constantI S_ 32 0#32
  let main_v0 : IVec S4x512 32 := broadcastInDim S4x512 ![] bcast_S_S4x512 main_c
  let main_v1 : IVec S4x512 1 := cmpi .slt main_arg1 main_v0
  let main_c_0 : IVec S_ 32 := constantI S_ 32 16384#32
  let main_v2 : IVec S4x512 32 := broadcastInDim S4x512 ![] bcast_S_S4x512 main_c_0
  let main_v3 : IVec S4x512 32 := addi main_arg1 main_v2
  let main_v4 : IVec S4x512 32 := select main_v1 main_v3 main_arg1
  let main_v5 : IVec S4x512x1 32 := broadcastInDim S4x512x1 ![0, 1] bcast_S4x512_S4x512x1_0_1 main_v4
  let main_v6 : FVec F S4x512x3 .f32 := (fun x i => Host.gather gather_S4x16384x3_S4x512x1_S4x512x3_2_1_0_0_1_2_113 x i) main_arg0 main_v5
  let main_v7 : FVec F S4x512x3 .f32 := mulf main_v6 main_v6
  let main_cst : FVec F S_ .f32 := constant S_ .f32 0x00000000#32
  let main_v8 : FVec F S4x512 .f32 := (fun x v => Host.reduceAdd x v reducesTo_S4x512x3_S4x512_d2 h_S_) main_v7 main_cst
  let main_v9 : FVec F S4x512x1 .f32 := broadcastInDim S4x512x1 ![0, 1] bcast_S4x512_S4x512x1_0_1 main_v8
  let main_v10 : FVec F S4x3x16384 .f32 := (transpose S4x3x16384 [0, 2, 1] · transposes_S4x16384x3_S4x3x16384_0_2_1) main_arg0
  let main_v11 : FVec F S4x512x16384 .f32 := (fun l r => Host.dotGeneral dot_S4x512x3_S4x3x16384_S4x512x16384_2_1_1_2_0_0 none l r) main_v6 main_v10
  let main_cst_1 : FVec F S_ .f32 := constant S_ .f32 0x40000000#32
  let main_v12 : FVec F S4x512x16384 .f32 := broadcastInDim S4x512x16384 ![] bcast_S_S4x512x16384 main_cst_1
  let main_v13 : FVec F S4x512x16384 .f32 := mulf main_v12 main_v11
  let main_v14 : FVec F S4x512x16384 .f32 := broadcastInDim S4x512x16384 ![0, 1, 2] bcast_S4x512x1_S4x512x16384_0_1_2 main_v9
  let main_v15 : FVec F S4x512x16384 .f32 := subf main_v14 main_v13
  let main_v16 : FVec F S4x16384x3 .f32 := mulf main_arg0 main_arg0
  let main_cst_2 : FVec F S_ .f32 := constant S_ .f32 0x00000000#32
  let main_v17 : FVec F S4x16384 .f32 := (fun x v => Host.reduceAdd x v reducesTo_S4x16384x3_S4x16384_d2 h_S_) main_v16 main_cst_2
  let main_v18 : FVec F S4x1x16384 .f32 := broadcastInDim S4x1x16384 ![0, 2] bcast_S4x16384_S4x1x16384_0_2 main_v17
  fn_part1 (F := F) main_arg0 main_arg1 main_arg2 main_arg3 main_arg4 main_arg5 main_arg6 main_v6 main_v15 main_v18
-- ==== Pre_sa1_no_ties.lean ====
abbrev S4x16384x3 : Shape := ⟨3, ![4, 16384, 3]⟩
abbrev S4x512 : Shape := ⟨2, ![4, 512]⟩
abbrev S3x64 : Shape := ⟨2, ![3, 64]⟩
abbrev S64 : Shape := ⟨1, ![64]⟩
abbrev S64x64 : Shape := ⟨2, ![64, 64]⟩
abbrev S_ : Shape := ⟨0, ![]⟩
abbrev S4x512x1 : Shape := ⟨3, ![4, 512, 1]⟩
abbrev S4x512x3 : Shape := ⟨3, ![4, 512, 3]⟩
abbrev S4x3x16384 : Shape := ⟨3, ![4, 3, 16384]⟩
abbrev S4x512x16384 : Shape := ⟨3, ![4, 512, 16384]⟩
abbrev S4x16384 : Shape := ⟨2, ![4, 16384]⟩
abbrev S4x1x16384 : Shape := ⟨3, ![4, 1, 16384]⟩
abbrev S4x512x33 : Shape := ⟨3, ![4, 512, 33]⟩
abbrev S4x512x32 : Shape := ⟨3, ![4, 512, 32]⟩

class Facts : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  reducesTo_S4x512x3_S4x512_d2 : S4x512x3.ReducesTo [2] S4x512
  h_S_ : 0 < S_.numel
  transposes_S4x16384x3_S4x3x16384_0_2_1 : S4x16384x3.Transposes [0, 2, 1] S4x3x16384
  bcast_S_S4x512x16384 : S_.BroadcastsInDim S4x512x16384 (![] : Fin 0 → Fin S4x512x16384.rank)
  bcast_S4x512x1_S4x512x16384_0_1_2 : S4x512x1.BroadcastsInDim S4x512x16384 (![0, 1, 2] : Fin 3 → Fin S4x512x16384.rank)
  reducesTo_S4x16384x3_S4x16384_d2 : S4x16384x3.ReducesTo [2] S4x16384
  bcast_S4x16384_S4x1x16384_0_2 : S4x16384.BroadcastsInDim S4x1x16384 (![0, 2] : Fin 2 → Fin S4x1x16384.rank)
  bcast_S4x1x16384_S4x512x16384_0_1_2 : S4x1x16384.BroadcastsInDim S4x512x16384 (![0, 1, 2] : Fin 3 → Fin S4x512x16384.rank)
  sliceFits_S4x512x16384_S4x512x33 : S4x512x16384.Slices (fun _ => 0) S4x512x33
  slices_S4x512x33_S4x512x1_0_0_0 : S4x512x33.Slices ![0, 0, 0] S4x512x1
  bcast_S_S4x512x1 : S_.BroadcastsInDim S4x512x1 (![] : Fin 0 → Fin S4x512x1.rank)
  slices_S4x512x33_S4x512x32_0_0_1 : S4x512x33.Slices ![0, 0, 1] S4x512x32
  slices_S4x512x33_S4x512x32_0_0_0 : S4x512x33.Slices ![0, 0, 0] S4x512x32
  gather_S4x16384x3_S4x512x1_S4x512x3_2_1_0_0_1_2_113_wf : GatherDims.WF S4x16384x3 S4x512x1 S4x512x3 [2] [1] [0] [1] [0] 2 ![1, 1, 3]
  dot_S4x512x3_S4x3x16384_S4x512x16384_2_1_1_2_0_0_wf : DotDims.WF S4x512x3 S4x3x16384 S4x512x16384 [2] [1] [1] [2] [0] [0]

variable [Facts]

def gather_S4x16384x3_S4x512x1_S4x512x3_2_1_0_0_1_2_113 : GatherDims S4x16384x3 S4x512x1 S4x512x3 where
  offsetDims := [2]
  collapsedSliceDims := [1]
  operandBatchingDims := [0]
  startIndicesBatchingDims := [0]
  startIndexMap := [1]
  indexVectorDim := 2
  sliceSizes := ![1, 1, 3]
  wf := gather_S4x16384x3_S4x512x1_S4x512x3_2_1_0_0_1_2_113_wf
def dot_S4x512x3_S4x3x16384_S4x512x16384_2_1_1_2_0_0 : DotDims S4x512x3 S4x3x16384 S4x512x16384 where
  lhsContracting := [2]
  rhsContracting := [1]
  lhsNonContracting := [1]
  rhsNonContracting := [2]
  lhsBatch := [0]
  rhsBatch := [0]
  wf := dot_S4x512x3_S4x3x16384_S4x512x16384_2_1_1_2_0_0_wf
def fn_part1 {F : FTy → Type} [FloatOps F] (main_arg1 : IVec S4x512 32) (main_v15 : FVec F S4x512x16384 .f32) (main_v18 : FVec F S4x1x16384 .f32) : IVec S4x512 1 × IVec S4x512 1 × IVec S4x512x1 1 × IVec S4x512x32 1 :=
  let main_v19 : FVec F S4x512x16384 .f32 := broadcastInDim S4x512x16384 ![0, 1, 2] bcast_S4x1x16384_S4x512x16384_0_1_2 main_v18
  let main_v20 : FVec F S4x512x16384 .f32 := addf main_v15 main_v19
  let main_v21 : FVec F S4x512x16384 .f32 := Host.negf main_v20
  let main_values : FVec F S4x512x33 .f32 := (fun x => (Host.topK S4x512x33 2 (FloatOps.cmpfTotal .gt) x sliceFits_S4x512x16384_S4x512x33).1) main_v21
  let main_indices : IVec S4x512x33 32 := (fun x => (Host.topK S4x512x33 2 (FloatOps.cmpfTotal .gt) x sliceFits_S4x512x16384_S4x512x33).2) main_v21
  let main_v22 : FVec F S4x512x33 .f32 := Host.negf main_values
  let main_c_3 : IVec S_ 32 := constantI S_ 32 0#32
  let main_v23 : IVec S4x512 32 := broadcastInDim S4x512 ![] bcast_S_S4x512 main_c_3
  let main_v24 : IVec S4x512 1 := cmpi .sge main_arg1 main_v23
  let main_c_4 : IVec S_ 32 := constantI S_ 32 16384#32
  let main_v25 : IVec S4x512 32 := broadcastInDim S4x512 ![] bcast_S_S4x512 main_c_4
  let main_v26 : IVec S4x512 1 := cmpi .slt main_arg1 main_v25
  let main_v27 : FVec F S4x512x1 .f32 := (extractStridedSlice S4x512x1 ![0, 0, 0] · slices_S4x512x33_S4x512x1_0_0_0) main_v22
  let main_cst_5 : FVec F S_ .f32 := constant S_ .f32 0xFF800000#32
  let main_v28 : FVec F S4x512x1 .f32 := broadcastInDim S4x512x1 ![] bcast_S_S4x512x1 main_cst_5
  let main_v29 : IVec S4x512x1 1 := cmpf .ogt main_v27 main_v28
  let main_v30 : FVec F S4x512x32 .f32 := (extractStridedSlice S4x512x32 ![0, 0, 1] · slices_S4x512x33_S4x512x32_0_0_1) main_v22
  let main_v31 : FVec F S4x512x32 .f32 := (extractStridedSlice S4x512x32 ![0, 0, 0] · slices_S4x512x33_S4x512x32_0_0_0) main_v22
  let main_v32 : IVec S4x512x32 1 := cmpf .ogt main_v30 main_v31
  (main_v24, main_v26, main_v29, main_v32)

def fn {F : FTy → Type} [FloatOps F] (main_arg0 : FVec F S4x16384x3 .f32) (main_arg1 : IVec S4x512 32) (main_arg2 : FVec F S3x64 .f32) (main_arg3 : FVec F S64 .f32) (main_arg4 : FVec F S64x64 .f32) (main_arg5 : FVec F S64 .f32) : IVec S4x512 1 × IVec S4x512 1 × IVec S4x512x1 1 × IVec S4x512x32 1 :=
  let main_c : IVec S_ 32 := constantI S_ 32 0#32
  let main_v0 : IVec S4x512 32 := broadcastInDim S4x512 ![] bcast_S_S4x512 main_c
  let main_v1 : IVec S4x512 1 := cmpi .slt main_arg1 main_v0
  let main_c_0 : IVec S_ 32 := constantI S_ 32 16384#32
  let main_v2 : IVec S4x512 32 := broadcastInDim S4x512 ![] bcast_S_S4x512 main_c_0
  let main_v3 : IVec S4x512 32 := addi main_arg1 main_v2
  let main_v4 : IVec S4x512 32 := select main_v1 main_v3 main_arg1
  let main_v5 : IVec S4x512x1 32 := broadcastInDim S4x512x1 ![0, 1] bcast_S4x512_S4x512x1_0_1 main_v4
  let main_v6 : FVec F S4x512x3 .f32 := (fun x i => Host.gather gather_S4x16384x3_S4x512x1_S4x512x3_2_1_0_0_1_2_113 x i) main_arg0 main_v5
  let main_v7 : FVec F S4x512x3 .f32 := mulf main_v6 main_v6
  let main_cst : FVec F S_ .f32 := constant S_ .f32 0x00000000#32
  let main_v8 : FVec F S4x512 .f32 := (fun x v => Host.reduceAdd x v reducesTo_S4x512x3_S4x512_d2 h_S_) main_v7 main_cst
  let main_v9 : FVec F S4x512x1 .f32 := broadcastInDim S4x512x1 ![0, 1] bcast_S4x512_S4x512x1_0_1 main_v8
  let main_v10 : FVec F S4x3x16384 .f32 := (transpose S4x3x16384 [0, 2, 1] · transposes_S4x16384x3_S4x3x16384_0_2_1) main_arg0
  let main_v11 : FVec F S4x512x16384 .f32 := (fun l r => Host.dotGeneral dot_S4x512x3_S4x3x16384_S4x512x16384_2_1_1_2_0_0 none l r) main_v6 main_v10
  let main_cst_1 : FVec F S_ .f32 := constant S_ .f32 0x40000000#32
  let main_v12 : FVec F S4x512x16384 .f32 := broadcastInDim S4x512x16384 ![] bcast_S_S4x512x16384 main_cst_1
  let main_v13 : FVec F S4x512x16384 .f32 := mulf main_v12 main_v11
  let main_v14 : FVec F S4x512x16384 .f32 := broadcastInDim S4x512x16384 ![0, 1, 2] bcast_S4x512x1_S4x512x16384_0_1_2 main_v9
  let main_v15 : FVec F S4x512x16384 .f32 := subf main_v14 main_v13
  let main_v16 : FVec F S4x16384x3 .f32 := mulf main_arg0 main_arg0
  let main_cst_2 : FVec F S_ .f32 := constant S_ .f32 0x00000000#32
  let main_v17 : FVec F S4x16384 .f32 := (fun x v => Host.reduceAdd x v reducesTo_S4x16384x3_S4x16384_d2 h_S_) main_v16 main_cst_2
  let main_v18 : FVec F S4x1x16384 .f32 := broadcastInDim S4x1x16384 ![0, 2] bcast_S4x16384_S4x1x16384_0_2 main_v17
  fn_part1 (F := F) main_arg1 main_v15 main_v18
-- ==== Pre_sa2_fp1_no_ties.lean ====
abbrev S4x512x64 : Shape := ⟨3, ![4, 512, 64]⟩
abbrev S4x128 : Shape := ⟨2, ![4, 128]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S_ : Shape := ⟨0, ![]⟩
abbrev S4x128x1 : Shape := ⟨3, ![4, 128, 1]⟩
abbrev S4x128x64 : Shape := ⟨3, ![4, 128, 64]⟩
abbrev S4x64x512 : Shape := ⟨3, ![4, 64, 512]⟩
abbrev S4x128x512 : Shape := ⟨3, ![4, 128, 512]⟩
abbrev S4x512 : Shape := ⟨2, ![4, 512]⟩
abbrev S4x1x512 : Shape := ⟨3, ![4, 1, 512]⟩
abbrev S4x128x33 : Shape := ⟨3, ![4, 128, 33]⟩
abbrev S4x512x1 : Shape := ⟨3, ![4, 512, 1]⟩
abbrev S4x64x128 : Shape := ⟨3, ![4, 64, 128]⟩
abbrev S4x512x128 : Shape := ⟨3, ![4, 512, 128]⟩
abbrev S4x1x128 : Shape := ⟨3, ![4, 1, 128]⟩
abbrev S4x512x4 : Shape := ⟨3, ![4, 512, 4]⟩
abbrev S4x128x32 : Shape := ⟨3, ![4, 128, 32]⟩
abbrev S4x512x3 : Shape := ⟨3, ![4, 512, 3]⟩

class Facts : Prop where
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  reducesTo_S4x128x64_S4x128_d2 : S4x128x64.ReducesTo [2] S4x128
  h_S_ : 0 < S_.numel
  transposes_S4x512x64_S4x64x512_0_2_1 : S4x512x64.Transposes [0, 2, 1] S4x64x512
  bcast_S_S4x128x512 : S_.BroadcastsInDim S4x128x512 (![] : Fin 0 → Fin S4x128x512.rank)
  bcast_S4x128x1_S4x128x512_0_1_2 : S4x128x1.BroadcastsInDim S4x128x512 (![0, 1, 2] : Fin 3 → Fin S4x128x512.rank)
  reducesTo_S4x512x64_S4x512_d2 : S4x512x64.ReducesTo [2] S4x512
  bcast_S4x512_S4x1x512_0_2 : S4x512.BroadcastsInDim S4x1x512 (![0, 2] : Fin 2 → Fin S4x1x512.rank)
  bcast_S4x1x512_S4x128x512_0_1_2 : S4x1x512.BroadcastsInDim S4x128x512 (![0, 1, 2] : Fin 3 → Fin S4x128x512.rank)
  sliceFits_S4x128x512_S4x128x33 : S4x128x512.Slices (fun _ => 0) S4x128x33
  bcast_S4x512_S4x512x1_0_1 : S4x512.BroadcastsInDim S4x512x1 (![0, 1] : Fin 2 → Fin S4x512x1.rank)
  transposes_S4x128x64_S4x64x128_0_2_1 : S4x128x64.Transposes [0, 2, 1] S4x64x128
  bcast_S_S4x512x128 : S_.BroadcastsInDim S4x512x128 (![] : Fin 0 → Fin S4x512x128.rank)
  bcast_S4x512x1_S4x512x128_0_1_2 : S4x512x1.BroadcastsInDim S4x512x128 (![0, 1, 2] : Fin 3 → Fin S4x512x128.rank)
  bcast_S4x128_S4x1x128_0_2 : S4x128.BroadcastsInDim S4x1x128 (![0, 2] : Fin 2 → Fin S4x1x128.rank)
  bcast_S4x1x128_S4x512x128_0_1_2 : S4x1x128.BroadcastsInDim S4x512x128 (![0, 1, 2] : Fin 3 → Fin S4x512x128.rank)
  sliceFits_S4x512x128_S4x512x4 : S4x512x128.Slices (fun _ => 0) S4x512x4
  slices_S4x128x33_S4x128x1_0_0_0 : S4x128x33.Slices ![0, 0, 0] S4x128x1
  bcast_S_S4x128x1 : S_.BroadcastsInDim S4x128x1 (![] : Fin 0 → Fin S4x128x1.rank)
  slices_S4x128x33_S4x128x32_0_0_1 : S4x128x33.Slices ![0, 0, 1] S4x128x32
  slices_S4x128x33_S4x128x32_0_0_0 : S4x128x33.Slices ![0, 0, 0] S4x128x32
  slices_S4x512x4_S4x512x1_0_0_0 : S4x512x4.Slices ![0, 0, 0] S4x512x1
  bcast_S_S4x512x1 : S_.BroadcastsInDim S4x512x1 (![] : Fin 0 → Fin S4x512x1.rank)
  slices_S4x512x4_S4x512x3_0_0_1 : S4x512x4.Slices ![0, 0, 1] S4x512x3
  slices_S4x512x4_S4x512x3_0_0_0 : S4x512x4.Slices ![0, 0, 0] S4x512x3
  gather_S4x512x64_S4x128x1_S4x128x64_2_1_0_0_1_2_1164_wf : GatherDims.WF S4x512x64 S4x128x1 S4x128x64 [2] [1] [0] [1] [0] 2 ![1, 1, 64]
  dot_S4x128x64_S4x64x512_S4x128x512_2_1_1_2_0_0_wf : DotDims.WF S4x128x64 S4x64x512 S4x128x512 [2] [1] [1] [2] [0] [0]
  dot_S4x512x64_S4x64x128_S4x512x128_2_1_1_2_0_0_wf : DotDims.WF S4x512x64 S4x64x128 S4x512x128 [2] [1] [1] [2] [0] [0]

variable [Facts]

def gather_S4x512x64_S4x128x1_S4x128x64_2_1_0_0_1_2_1164 : GatherDims S4x512x64 S4x128x1 S4x128x64 where
  offsetDims := [2]
  collapsedSliceDims := [1]
  operandBatchingDims := [0]
  startIndicesBatchingDims := [0]
  startIndexMap := [1]
  indexVectorDim := 2
  sliceSizes := ![1, 1, 64]
  wf := gather_S4x512x64_S4x128x1_S4x128x64_2_1_0_0_1_2_1164_wf
def dot_S4x128x64_S4x64x512_S4x128x512_2_1_1_2_0_0 : DotDims S4x128x64 S4x64x512 S4x128x512 where
  lhsContracting := [2]
  rhsContracting := [1]
  lhsNonContracting := [1]
  rhsNonContracting := [2]
  lhsBatch := [0]
  rhsBatch := [0]
  wf := dot_S4x128x64_S4x64x512_S4x128x512_2_1_1_2_0_0_wf
def dot_S4x512x64_S4x64x128_S4x512x128_2_1_1_2_0_0 : DotDims S4x512x64 S4x64x128 S4x512x128 where
  lhsContracting := [2]
  rhsContracting := [1]
  lhsNonContracting := [1]
  rhsNonContracting := [2]
  lhsBatch := [0]
  rhsBatch := [0]
  wf := dot_S4x512x64_S4x64x128_S4x512x128_2_1_1_2_0_0_wf
def fn_part3 {F : FTy → Type} [FloatOps F] (main_v45 : FVec F S4x512x4 .f32) (main_v47 : IVec S4x128 1) (main_v49 : IVec S4x128 1) (main_v52 : IVec S4x128x1 1) (main_v53 : FVec F S4x128x32 .f32) (main_v54 : FVec F S4x128x32 .f32) : IVec S4x128 1 × IVec S4x128 1 × IVec S4x128x1 1 × IVec S4x128x32 1 × IVec S4x512x1 1 × IVec S4x512x3 1 :=
  let main_v55 : IVec S4x128x32 1 := cmpf .ogt main_v53 main_v54
  let main_v56 : FVec F S4x512x1 .f32 := (extractStridedSlice S4x512x1 ![0, 0, 0] · slices_S4x512x4_S4x512x1_0_0_0) main_v45
  let main_cst_13 : FVec F S_ .f32 := constant S_ .f32 0xFF800000#32
  let main_v57 : FVec F S4x512x1 .f32 := broadcastInDim S4x512x1 ![] bcast_S_S4x512x1 main_cst_13
  let main_v58 : IVec S4x512x1 1 := cmpf .ogt main_v56 main_v57
  let main_v59 : FVec F S4x512x3 .f32 := (extractStridedSlice S4x512x3 ![0, 0, 1] · slices_S4x512x4_S4x512x3_0_0_1) main_v45
  let main_v60 : FVec F S4x512x3 .f32 := (extractStridedSlice S4x512x3 ![0, 0, 0] · slices_S4x512x4_S4x512x3_0_0_0) main_v45
  let main_v61 : IVec S4x512x3 1 := cmpf .ogt main_v59 main_v60
  (main_v47, main_v49, main_v52, main_v55, main_v58, main_v61)

def fn_part2 {F : FTy → Type} [FloatOps F] (main_arg1 : IVec S4x128 32) (main_v22 : FVec F S4x128x33 .f32) (main_v29 : FVec F S4x128x64 .f32) (main_v32 : FVec F S4x512x1 .f32) (main_v36 : FVec F S4x512x128 .f32) : IVec S4x128 1 × IVec S4x128 1 × IVec S4x128x1 1 × IVec S4x128x32 1 × IVec S4x512x1 1 × IVec S4x512x3 1 :=
  let main_v37 : FVec F S4x512x128 .f32 := broadcastInDim S4x512x128 ![0, 1, 2] bcast_S4x512x1_S4x512x128_0_1_2 main_v32
  let main_v38 : FVec F S4x512x128 .f32 := subf main_v37 main_v36
  let main_v39 : FVec F S4x128x64 .f32 := mulf main_v29 main_v29
  let main_cst_7 : FVec F S_ .f32 := constant S_ .f32 0x00000000#32
  let main_v40 : FVec F S4x128 .f32 := (fun x v => Host.reduceAdd x v reducesTo_S4x128x64_S4x128_d2 h_S_) main_v39 main_cst_7
  let main_v41 : FVec F S4x1x128 .f32 := broadcastInDim S4x1x128 ![0, 2] bcast_S4x128_S4x1x128_0_2 main_v40
  let main_v42 : FVec F S4x512x128 .f32 := broadcastInDim S4x512x128 ![0, 1, 2] bcast_S4x1x128_S4x512x128_0_1_2 main_v41
  let main_v43 : FVec F S4x512x128 .f32 := addf main_v38 main_v42
  let main_v44 : FVec F S4x512x128 .f32 := Host.negf main_v43
  let main_values_8 : FVec F S4x512x4 .f32 := (fun x => (Host.topK S4x512x4 2 (FloatOps.cmpfTotal .gt) x sliceFits_S4x512x128_S4x512x4).1) main_v44
  let main_indices_9 : IVec S4x512x4 32 := (fun x => (Host.topK S4x512x4 2 (FloatOps.cmpfTotal .gt) x sliceFits_S4x512x128_S4x512x4).2) main_v44
  let main_v45 : FVec F S4x512x4 .f32 := Host.negf main_values_8
  let main_c_10 : IVec S_ 32 := constantI S_ 32 0#32
  let main_v46 : IVec S4x128 32 := broadcastInDim S4x128 ![] bcast_S_S4x128 main_c_10
  let main_v47 : IVec S4x128 1 := cmpi .sge main_arg1 main_v46
  let main_c_11 : IVec S_ 32 := constantI S_ 32 512#32
  let main_v48 : IVec S4x128 32 := broadcastInDim S4x128 ![] bcast_S_S4x128 main_c_11
  let main_v49 : IVec S4x128 1 := cmpi .slt main_arg1 main_v48
  let main_v50 : FVec F S4x128x1 .f32 := (extractStridedSlice S4x128x1 ![0, 0, 0] · slices_S4x128x33_S4x128x1_0_0_0) main_v22
  let main_cst_12 : FVec F S_ .f32 := constant S_ .f32 0xFF800000#32
  let main_v51 : FVec F S4x128x1 .f32 := broadcastInDim S4x128x1 ![] bcast_S_S4x128x1 main_cst_12
  let main_v52 : IVec S4x128x1 1 := cmpf .ogt main_v50 main_v51
  let main_v53 : FVec F S4x128x32 .f32 := (extractStridedSlice S4x128x32 ![0, 0, 1] · slices_S4x128x33_S4x128x32_0_0_1) main_v22
  let main_v54 : FVec F S4x128x32 .f32 := (extractStridedSlice S4x128x32 ![0, 0, 0] · slices_S4x128x33_S4x128x32_0_0_0) main_v22
  fn_part3 (F := F) main_v45 main_v47 main_v49 main_v52 main_v53 main_v54

def fn_part1 {F : FTy → Type} [FloatOps F] (main_arg0 : FVec F S4x512x64 .f32) (main_arg1 : IVec S4x128 32) (main_v15 : FVec F S4x128x512 .f32) (main_v18 : FVec F S4x1x512 .f32) : IVec S4x128 1 × IVec S4x128 1 × IVec S4x128x1 1 × IVec S4x128x32 1 × IVec S4x512x1 1 × IVec S4x512x3 1 :=
  let main_v19 : FVec F S4x128x512 .f32 := broadcastInDim S4x128x512 ![0, 1, 2] bcast_S4x1x512_S4x128x512_0_1_2 main_v18
  let main_v20 : FVec F S4x128x512 .f32 := addf main_v15 main_v19
  let main_v21 : FVec F S4x128x512 .f32 := Host.negf main_v20
  let main_values : FVec F S4x128x33 .f32 := (fun x => (Host.topK S4x128x33 2 (FloatOps.cmpfTotal .gt) x sliceFits_S4x128x512_S4x128x33).1) main_v21
  let main_indices : IVec S4x128x33 32 := (fun x => (Host.topK S4x128x33 2 (FloatOps.cmpfTotal .gt) x sliceFits_S4x128x512_S4x128x33).2) main_v21
  let main_v22 : FVec F S4x128x33 .f32 := Host.negf main_values
  let main_c_3 : IVec S_ 32 := constantI S_ 32 0#32
  let main_v23 : IVec S4x128 32 := broadcastInDim S4x128 ![] bcast_S_S4x128 main_c_3
  let main_v24 : IVec S4x128 1 := cmpi .slt main_arg1 main_v23
  let main_c_4 : IVec S_ 32 := constantI S_ 32 512#32
  let main_v25 : IVec S4x128 32 := broadcastInDim S4x128 ![] bcast_S_S4x128 main_c_4
  let main_v26 : IVec S4x128 32 := addi main_arg1 main_v25
  let main_v27 : IVec S4x128 32 := select main_v24 main_v26 main_arg1
  let main_v28 : IVec S4x128x1 32 := broadcastInDim S4x128x1 ![0, 1] bcast_S4x128_S4x128x1_0_1 main_v27
  let main_v29 : FVec F S4x128x64 .f32 := (fun x i => Host.gather gather_S4x512x64_S4x128x1_S4x128x64_2_1_0_0_1_2_1164 x i) main_arg0 main_v28
  let main_v30 : FVec F S4x512x64 .f32 := mulf main_arg0 main_arg0
  let main_cst_5 : FVec F S_ .f32 := constant S_ .f32 0x00000000#32
  let main_v31 : FVec F S4x512 .f32 := (fun x v => Host.reduceAdd x v reducesTo_S4x512x64_S4x512_d2 h_S_) main_v30 main_cst_5
  let main_v32 : FVec F S4x512x1 .f32 := broadcastInDim S4x512x1 ![0, 1] bcast_S4x512_S4x512x1_0_1 main_v31
  let main_v33 : FVec F S4x64x128 .f32 := (transpose S4x64x128 [0, 2, 1] · transposes_S4x128x64_S4x64x128_0_2_1) main_v29
  let main_v34 : FVec F S4x512x128 .f32 := (fun l r => Host.dotGeneral dot_S4x512x64_S4x64x128_S4x512x128_2_1_1_2_0_0 none l r) main_arg0 main_v33
  let main_cst_6 : FVec F S_ .f32 := constant S_ .f32 0x40000000#32
  let main_v35 : FVec F S4x512x128 .f32 := broadcastInDim S4x512x128 ![] bcast_S_S4x512x128 main_cst_6
  let main_v36 : FVec F S4x512x128 .f32 := mulf main_v35 main_v34
  fn_part2 (F := F) main_arg1 main_v22 main_v29 main_v32 main_v36

def fn {F : FTy → Type} [FloatOps F] (main_arg0 : FVec F S4x512x64 .f32) (main_arg1 : IVec S4x128 32) (main_arg2 : FVec F S64x128 .f32) (main_arg3 : FVec F S128 .f32) (main_arg4 : FVec F S128x128 .f32) (main_arg5 : FVec F S128 .f32) (main_arg6 : FVec F S192x64 .f32) (main_arg7 : FVec F S64 .f32) (main_arg8 : FVec F S64x64 .f32) (main_arg9 : FVec F S64 .f32) : IVec S4x128 1 × IVec S4x128 1 × IVec S4x128x1 1 × IVec S4x128x32 1 × IVec S4x512x1 1 × IVec S4x512x3 1 :=
  let main_c : IVec S_ 32 := constantI S_ 32 0#32
  let main_v0 : IVec S4x128 32 := broadcastInDim S4x128 ![] bcast_S_S4x128 main_c
  let main_v1 : IVec S4x128 1 := cmpi .slt main_arg1 main_v0
  let main_c_0 : IVec S_ 32 := constantI S_ 32 512#32
  let main_v2 : IVec S4x128 32 := broadcastInDim S4x128 ![] bcast_S_S4x128 main_c_0
  let main_v3 : IVec S4x128 32 := addi main_arg1 main_v2
  let main_v4 : IVec S4x128 32 := select main_v1 main_v3 main_arg1
  let main_v5 : IVec S4x128x1 32 := broadcastInDim S4x128x1 ![0, 1] bcast_S4x128_S4x128x1_0_1 main_v4
  let main_v6 : FVec F S4x128x64 .f32 := (fun x i => Host.gather gather_S4x512x64_S4x128x1_S4x128x64_2_1_0_0_1_2_1164 x i) main_arg0 main_v5
  let main_v7 : FVec F S4x128x64 .f32 := mulf main_v6 main_v6
  let main_cst : FVec F S_ .f32 := constant S_ .f32 0x00000000#32
  let main_v8 : FVec F S4x128 .f32 := (fun x v => Host.reduceAdd x v reducesTo_S4x128x64_S4x128_d2 h_S_) main_v7 main_cst
  let main_v9 : FVec F S4x128x1 .f32 := broadcastInDim S4x128x1 ![0, 1] bcast_S4x128_S4x128x1_0_1 main_v8
  let main_v10 : FVec F S4x64x512 .f32 := (transpose S4x64x512 [0, 2, 1] · transposes_S4x512x64_S4x64x512_0_2_1) main_arg0
  let main_v11 : FVec F S4x128x512 .f32 := (fun l r => Host.dotGeneral dot_S4x128x64_S4x64x512_S4x128x512_2_1_1_2_0_0 none l r) main_v6 main_v10
  let main_cst_1 : FVec F S_ .f32 := constant S_ .f32 0x40000000#32
  let main_v12 : FVec F S4x128x512 .f32 := broadcastInDim S4x128x512 ![] bcast_S_S4x128x512 main_cst_1
  let main_v13 : FVec F S4x128x512 .f32 := mulf main_v12 main_v11
  let main_v14 : FVec F S4x128x512 .f32 := broadcastInDim S4x128x512 ![0, 1, 2] bcast_S4x128x1_S4x128x512_0_1_2 main_v9
  let main_v15 : FVec F S4x128x512 .f32 := subf main_v14 main_v13
  let main_v16 : FVec F S4x512x64 .f32 := mulf main_arg0 main_arg0
  let main_cst_2 : FVec F S_ .f32 := constant S_ .f32 0x00000000#32
  let main_v17 : FVec F S4x512 .f32 := (fun x v => Host.reduceAdd x v reducesTo_S4x512x64_S4x512_d2 h_S_) main_v16 main_cst_2
  let main_v18 : FVec F S4x1x512 .f32 := broadcastInDim S4x1x512 ![0, 2] bcast_S4x512_S4x1x512_0_2 main_v17
  fn_part1 (F := F) main_arg0 main_arg1 main_v15 main_v18
-- ==== Net.lean ====
abbrev S4x16384x3 : Shape := ⟨3, ![4, 16384, 3]⟩
abbrev S4x512 : Shape := ⟨2, ![4, 512]⟩
abbrev S4x128 : Shape := ⟨2, ![4, 128]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x512x1 : Shape := ⟨3, ![4, 512, 1]⟩
abbrev S4x128x1 : Shape := ⟨3, ![4, 128, 1]⟩
abbrev S_ : Shape := ⟨0, ![]⟩
abbrev S4x16384x8 : Shape := ⟨3, ![4, 16384, 8]⟩
abbrev S4x8x16384 : Shape := ⟨3, ![4, 8, 16384]⟩
abbrev S8x64 : Shape := ⟨2, ![8, 64]⟩
abbrev S3x32 : Shape := ⟨2, ![3, 32]⟩
abbrev S8x32 : Shape := ⟨2, ![8, 32]⟩
abbrev S64x32 : Shape := ⟨2, ![64, 32]⟩
abbrev S128x64 : Shape := ⟨2, ![128, 64]⟩
abbrev S1x64 : Shape := ⟨2, ![1, 64]⟩
abbrev S4x512x64 : Shape := ⟨3, ![4, 512, 64]⟩
abbrev S4x512x8 : Shape := ⟨3, ![4, 512, 8]⟩
abbrev S1x8x16384 : Shape := ⟨3, ![1, 8, 16384]⟩
abbrev S1x512x1 : Shape := ⟨3, ![1, 512, 1]⟩
abbrev S1x512x64 : Shape := ⟨3, ![1, 512, 64]⟩
abbrev S1x512x8 : Shape := ⟨3, ![1, 512, 8]⟩
abbrev S16384x64 : Shape := ⟨2, ![16384, 64]⟩
abbrev S128x16384 : Shape := ⟨2, ![128, 16384]⟩
abbrev S8x16384 : Shape := ⟨2, ![8, 16384]⟩
abbrev S16384 : Shape := ⟨1, ![16384]⟩
abbrev S1x16384 : Shape := ⟨2, ![1, 16384]⟩
abbrev S1x128x1 : Shape := ⟨3, ![1, 128, 1]⟩
abbrev S128x1 : Shape := ⟨2, ![128, 1]⟩
abbrev S128x8 : Shape := ⟨2, ![128, 8]⟩
abbrev S1x128x8 : Shape := ⟨3, ![1, 128, 8]⟩
abbrev S1x128x64 : Shape := ⟨3, ![1, 128, 64]⟩
abbrev S1x128 : Shape := ⟨2, ![1, 128]⟩
abbrev S512x64 : Shape := ⟨2, ![512, 64]⟩
abbrev S512x128 : Shape := ⟨2, ![512, 128]⟩
abbrev S128x512 : Shape := ⟨2, ![128, 512]⟩
abbrev S1x512 : Shape := ⟨2, ![1, 512]⟩
abbrev S512 : Shape := ⟨1, ![512]⟩
abbrev S512x1 : Shape := ⟨2, ![512, 1]⟩
abbrev S1x32 : Shape := ⟨2, ![1, 32]⟩
abbrev S1x2 : Shape := ⟨2, ![1, 2]⟩
abbrev S4x16384x2 : Shape := ⟨3, ![4, 16384, 2]⟩
abbrev S1x2048x8 : Shape := ⟨3, ![1, 2048, 8]⟩
abbrev S1x2048x2 : Shape := ⟨3, ![1, 2048, 2]⟩
abbrev S2048x8 : Shape := ⟨2, ![2048, 8]⟩
abbrev S512x8 : Shape := ⟨2, ![512, 8]⟩
abbrev S1x8 : Shape := ⟨2, ![1, 8]⟩
abbrev S2048 : Shape := ⟨1, ![2048]⟩
abbrev S2048x1 : Shape := ⟨2, ![2048, 1]⟩
abbrev S2048x512 : Shape := ⟨2, ![2048, 512]⟩
abbrev S2048x64 : Shape := ⟨2, ![2048, 64]⟩
abbrev S2048x32 : Shape := ⟨2, ![2048, 32]⟩
abbrev S2048x2 : Shape := ⟨2, ![2048, 2]⟩

abbrev nBuf : Space → Nat
  | .hbm => 52
  | .vmem => 44
  | .smem => 0
  | _ => 0

abbrev bufTy : (tb : Table) → Fin (tcTables nBuf tb) → BufTy
  | .hbm, ⟨0, _⟩ => ⟨S4x16384x3, .f32⟩
  | .hbm, ⟨1, _⟩ => ⟨S4x512, .i32⟩
  | .hbm, ⟨2, _⟩ => ⟨S4x128, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S67x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32x2, .f32⟩
  | .hbm, ⟨20, _⟩ => ⟨S2, .f32⟩
  | .hbm, ⟨21, _⟩ => ⟨S4x512, .f32⟩
  | .hbm, ⟨22, _⟩ => ⟨S4x512x1, .f32⟩
  | .hbm, ⟨23, _⟩ => ⟨S4x128, .f32⟩
  | .hbm, ⟨24, _⟩ => ⟨S4x128x1, .f32⟩
  | .hbm, ⟨25, _⟩ => ⟨S_, .i32⟩
  | .hbm, ⟨26, _⟩ => ⟨S_, .f32⟩
  | .hbm, ⟨27, _⟩ => ⟨S4x16384x8, .f32⟩
  | .hbm, ⟨28, _⟩ => ⟨S4x8x16384, .f32⟩
  | .hbm, ⟨29, _⟩ => ⟨S_, .i32⟩
  | .hbm, ⟨30, _⟩ => ⟨S_, .f32⟩
  | .hbm, ⟨31, _⟩ => ⟨S8x64, .f32⟩
  | .hbm, ⟨32, _⟩ => ⟨S3x32, .f32⟩
  | .hbm, ⟨33, _⟩ => ⟨S_, .i32⟩
  | .hbm, ⟨34, _⟩ => ⟨S_, .f32⟩
  | .hbm, ⟨35, _⟩ => ⟨S8x32, .f32⟩
  | .hbm, ⟨36, _⟩ => ⟨S64x32, .f32⟩
  | .hbm, ⟨37, _⟩ => ⟨S64x64, .f32⟩
  | .hbm, ⟨38, _⟩ => ⟨S128x64, .f32⟩
  | .hbm, ⟨39, _⟩ => ⟨S1x64, .f32⟩
  | .hbm, ⟨40, _⟩ => ⟨S1x64, .f32⟩
  | .hbm, ⟨41, _⟩ => ⟨S4x512x64, .f32⟩
  | .hbm, ⟨42, _⟩ => ⟨S4x512x8, .f32⟩
  | .hbm, ⟨43, _⟩ => ⟨S1x128, .f32⟩
  | .hbm, ⟨44, _⟩ => ⟨S1x128, .f32⟩
  | .hbm, ⟨45, _⟩ => ⟨S1x64, .f32⟩
  | .hbm, ⟨46, _⟩ => ⟨S1x64, .f32⟩
  | .hbm, ⟨47, _⟩ => ⟨S4x512x64, .f32⟩
  | .hbm, ⟨48, _⟩ => ⟨S1x32, .f32⟩
  | .hbm, ⟨49, _⟩ => ⟨S1x32, .f32⟩
  | .hbm, ⟨50, _⟩ => ⟨S1x2, .f32⟩
  | .hbm, ⟨51, _⟩ => ⟨S4x16384x2, .f32⟩
  | .local _ .vmem, ⟨0, _⟩ => ⟨S1x8x16384, .f32⟩
  | .local _ .vmem, ⟨1, _⟩ => ⟨S1x8x16384, .f32⟩
  | .local _ .vmem, ⟨2, _⟩ => ⟨S1x512x1, .f32⟩
  | .local _ .vmem, ⟨3, _⟩ => ⟨S1x512x1, .f32⟩
  | .local _ .vmem, ⟨4, _⟩ => ⟨S8x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S1x512x8, .f32⟩
  | .local _ .vmem, ⟨11, _⟩ => ⟨S1x512x8, .f32⟩
  | .local _ .vmem, ⟨12, _⟩ => ⟨S16384x64, .f32⟩
  | .local _ .vmem, ⟨13, _⟩ => ⟨S128x16384, .f32⟩
  | .local _ .vmem, ⟨14, _⟩ => ⟨S1x512x64, .f32⟩
  | .local _ .vmem, ⟨15, _⟩ => ⟨S1x512x64, .f32⟩
  | .local _ .vmem, ⟨16, _⟩ => ⟨S1x128x1, .f32⟩
  | .local _ .vmem, ⟨17, _⟩ => ⟨S1x128x1, .f32⟩
  | .local _ .vmem, ⟨18, _⟩ => ⟨S64x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S64x64, .f32⟩
  | .local _ .vmem, ⟨23, _⟩ => ⟨S128x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S1x512x64, .f32⟩
  | .local _ .vmem, ⟨28, _⟩ => ⟨S1x512x64, .f32⟩
  | .local _ .vmem, ⟨29, _⟩ => ⟨S1x2048x8, .f32⟩
  | .local _ .vmem, ⟨30, _⟩ => ⟨S1x2048x8, .f32⟩
  | .local _ .vmem, ⟨31, _⟩ => ⟨S1x512x8, .f32⟩
  | .local _ .vmem, ⟨32, _⟩ => ⟨S1x512x8, .f32⟩
  | .local _ .vmem, ⟨33, _⟩ => ⟨S1x512x64, .f32⟩
  | .local _ .vmem, ⟨34, _⟩ => ⟨S1x512x64, .f32⟩
  | .local _ .vmem, ⟨35, _⟩ => ⟨S8x32, .f32⟩
  | .local _ .vmem, ⟨36, _⟩ => ⟨S64x32, .f32⟩
  | .local _ .vmem, ⟨37, _⟩ => ⟨S1x32, .f32⟩
  | .local _ .vmem, ⟨38, _⟩ => ⟨S32x32, .f32⟩
  | .local _ .vmem, ⟨39, _⟩ => ⟨S1x32, .f32⟩
  | .local _ .vmem, ⟨40, _⟩ => ⟨S32x2, .f32⟩
  | .local _ .vmem, ⟨41, _⟩ => ⟨S1x2, .f32⟩
  | .local _ .vmem, ⟨42, _⟩ => ⟨S1x2048x2, .f32⟩
  | .local _ .vmem, ⟨43, _⟩ => ⟨S1x2048x2, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call2_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14_0 : Ref sig .tc := ⟨.hbm, 41, rfl⟩
abbrev main_v14_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k0_off1 (k0_t1 : Fin k0_t1_loop.trips) : Fin 3 → Nat :=
  let c0_16 : Index := 0#32
  let c0_i32 : BitVec 32 := 0#32
  let c1_i32 : BitVec 32 := 1#32
  let arg11 : BitVec 32 := Scf.iv c0_i32 c1_i32 k0_t1
  let c128_i32 : BitVec 32 := 128#32
  let v24 : BitVec 32 := Scalar.muli arg11 c128_i32
  let v25 : Index := Scalar.indexCast v24
  let c0_17 : Index := 0#32
  ![0, v25.toNat, 0]
def k0_off2 (k0_t1 : Fin k0_t1_loop.trips) : Fin 3 → Nat :=
  let c0_20 : Index := 0#32
  let c0_i32 : BitVec 32 := 0#32
  let c1_i32 : BitVec 32 := 1#32
  let arg11 : BitVec 32 := Scf.iv c0_i32 c1_i32 k0_t1
  let c128_i32_19 : BitVec 32 := 128#32
  let v35 : BitVec 32 := Scalar.muli arg11 c128_i32_19
  let v36 : Index := Scalar.indexCast v35
  let c0_21 : Index := 0#32
  ![0, v36.toNat, 0]
@[reducible] def k0_t2_loop : Scf.Loop 32 :=
  let c0_i32_29 : BitVec 32 := 0#32
  let c32_i32 : BitVec 32 := 32#32
  let v55 : BitVec 32 := Scalar.addi c0_i32_29 c32_i32
  let c1_i32_30 : BitVec 32 := 1#32
  ⟨c0_i32_29, v55, c1_i32_30⟩
def k0_off3 (k0_t1 : Fin k0_t1_loop.trips) : Fin 3 → Nat :=
  let c0_32 : Index := 0#32
  let c0_i32 : BitVec 32 := 0#32
  let c1_i32 : BitVec 32 := 1#32
  let arg11 : BitVec 32 := Scf.iv c0_i32 c1_i32 k0_t1
  let c128_i32_31 : BitVec 32 := 128#32
  let v57 : BitVec 32 := Scalar.muli arg11 c128_i32_31
  let v58 : Index := Scalar.indexCast v57
  let c0_33 : Index := 0#32
  ![0, v58.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

@[reducible] def k1_t1_loop : Scf.Loop 32 :=
  let c0_i32 : BitVec 32 := 0#32
  let c32_i32 : BitVec 32 := 32#32
  let v40 : BitVec 32 := Scalar.addi c0_i32 c32_i32
  let c1_i32 : BitVec 32 := 1#32
  ⟨c0_i32, v40, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x512x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S8x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S32x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x2048x2 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== NetIdeal.lean ====
variable {F : FTy → Type} [FloatOps F] [Named F]
def κ : String → Option EReal := fun
  | "third" => some ((3⁻¹ : ℝ) : EReal)
  | _ => none
-- ==== RefNetIdeal.lean ====
abbrev S4x16384x3 : Shape := ⟨3, ![4, 16384, 3]⟩
abbrev S4x512 : Shape := ⟨2, ![4, 512]⟩
abbrev S4x128 : Shape := ⟨2, ![4, 128]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S4x512x1 : Shape := ⟨3, ![4, 512, 1]⟩
abbrev S4x512x3 : Shape := ⟨3, ![4, 512, 3]⟩
abbrev S4x3x16384 : Shape := ⟨3, ![4, 3, 16384]⟩
abbrev S4x512x16384 : Shape := ⟨3, ![4, 512, 16384]⟩
abbrev S4x16384 : Shape := ⟨2, ![4, 16384]⟩
abbrev S4x1x16384 : Shape := ⟨3, ![4, 1, 16384]⟩
abbrev S4x512x32 : Shape := ⟨3, ![4, 512, 32]⟩
abbrev S4x512x32x1 : Shape := ⟨4, ![4, 512, 32, 1]⟩
abbrev S4x512x32x3 : Shape := ⟨4, ![4, 512, 32, 3]⟩
abbrev S4x512x32x64 : Shape := ⟨4, ![4, 512, 32, 64]⟩
abbrev S1x1x64 : Shape := ⟨3, ![1, 1, 64]⟩
abbrev S1x1x1x64 : Shape := ⟨4, ![1, 1, 1, 64]⟩
abbrev S4x512x64 : Shape := ⟨3, ![4, 512, 64]⟩
abbrev S4x128x1 : Shape := ⟨3, ![4, 128, 1]⟩
abbrev S4x128x64 : Shape := ⟨3, ![4, 128, 64]⟩
abbrev S4x64x512 : Shape := ⟨3, ![4, 64, 512]⟩
abbrev S4x128x512 : Shape := ⟨3, ![4, 128, 512]⟩
abbrev S4x1x512 : Shape := ⟨3, ![4, 1, 512]⟩
abbrev S4x128x32 : Shape := ⟨3, ![4, 128, 32]⟩
abbrev S4x128x32x1 : Shape := ⟨4, ![4, 128, 32, 1]⟩
abbrev S4x128x32x64 : Shape := ⟨4, ![4, 128, 32, 64]⟩
abbrev S4x128x32x128 : Shape := ⟨4, ![4, 128, 32, 128]⟩
abbrev S1x1x128 : Shape := ⟨3, ![1, 1, 128]⟩
abbrev S1x1x1x128 : Shape := ⟨4, ![1, 1, 1, 128]⟩
abbrev S4x128x128 : Shape := ⟨3, ![4, 128, 128]⟩
abbrev S4x64x128 : Shape := ⟨3, ![4, 64, 128]⟩
abbrev S4x512x128 : Shape := ⟨3, ![4, 512, 128]⟩
abbrev S4x1x128 : Shape := ⟨3, ![4, 1, 128]⟩
abbrev S4x512x3x1 : Shape := ⟨4, ![4, 512, 3, 1]⟩
abbrev S4x512x3x128 : Shape := ⟨4, ![4, 512, 3, 128]⟩
abbrev S4x512x192 : Shape := ⟨3, ![4, 512, 192]⟩
abbrev S1x64 : Shape := ⟨2, ![1, 64]⟩
abbrev S4x16384x1 : Shape := ⟨3, ![4, 16384, 1]⟩
abbrev S4x3x512 : Shape := ⟨3, ![4, 3, 512]⟩
abbrev S4x16384x512 : Shape := ⟨3, ![4, 16384, 512]⟩
abbrev S4x16384x3x1 : Shape := ⟨4, ![4, 16384, 3, 1]⟩
abbrev S4x16384x3x64 : Shape := ⟨4, ![4, 16384, 3, 64]⟩
abbrev S4x16384x64 : Shape := ⟨3, ![4, 16384, 64]⟩
abbrev S4x16384x67 : Shape := ⟨3, ![4, 16384, 67]⟩
abbrev S4x16384x32 : Shape := ⟨3, ![4, 16384, 32]⟩
abbrev S1x32 : Shape := ⟨2, ![1, 32]⟩
abbrev S1x1x32 : Shape := ⟨3, ![1, 1, 32]⟩
abbrev S4x16384x2 : Shape := ⟨3, ![4, 16384, 2]⟩
abbrev S1x1x2 : Shape := ⟨3, ![1, 1, 2]⟩

abbrev nBuf : Space → Nat
  | .hbm => 239
  | .vmem => 0
  | .smem => 0
  | _ => 0

abbrev hbmTy0_0 (i : Nat) : BufTy := match i % 128 with
  | 0 => ⟨S4x16384x3, .f32⟩
  | 1 => ⟨S4x512, .i32⟩
  | 2 => ⟨S4x128, .i32⟩
  | 3 => ⟨S3x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S192x64, .f32⟩
  | 12 => ⟨S64, .f32⟩
  | 13 => ⟨S64x64, .f32⟩
  | 14 => ⟨S64, .f32⟩
  | 15 => ⟨S67x32, .f32⟩
  | 16 => ⟨S32, .f32⟩
  | 17 => ⟨S32x32, .f32⟩
  | 18 => ⟨S32, .f32⟩
  | 19 => ⟨S32x2, .f32⟩
  | 20 => ⟨S2, .f32⟩
  | 21 => ⟨S_, .i32⟩
  | 22 => ⟨S4x512, .i32⟩
  | 23 => ⟨S4x512, .i1⟩
  | 24 => ⟨S_, .i32⟩
  | 25 => ⟨S4x512, .i32⟩
  | 26 => ⟨S4x512, .i32⟩
  | 27 => ⟨S4x512, .i32⟩
  | 28 => ⟨S4x512x1, .i32⟩
  | 29 => ⟨S4x512x3, .f32⟩
  | 30 => ⟨S4x512x3, .f32⟩
  | 31 => ⟨S_, .f32⟩
  | 32 => ⟨S4x512, .f32⟩
  | 33 => ⟨S4x512x1, .f32⟩
  | 34 => ⟨S4x3x16384, .f32⟩
  | 35 => ⟨S4x512x16384, .f32⟩
  | 36 => ⟨S_, .f32⟩
  | 37 => ⟨S4x512x16384, .f32⟩
  | 38 => ⟨S4x512x16384, .f32⟩
  | 39 => ⟨S4x512x16384, .f32⟩
  | 40 => ⟨S4x512x16384, .f32⟩
  | 41 => ⟨S4x16384x3, .f32⟩
  | 42 => ⟨S_, .f32⟩
  | 43 => ⟨S4x16384, .f32⟩
  | 44 => ⟨S4x1x16384, .f32⟩
  | 45 => ⟨S4x512x16384, .f32⟩
  | 46 => ⟨S4x512x16384, .f32⟩
  | 47 => ⟨S4x512x16384, .f32⟩
  | 48 => ⟨S4x512x32, .f32⟩
  | 49 => ⟨S4x512x32, .i32⟩
  | 50 => ⟨S4x512x32, .f32⟩
  | 51 => ⟨S_, .i32⟩
  | 52 => ⟨S4x512x32, .i32⟩
  | 53 => ⟨S4x512x32, .i1⟩
  | 54 => ⟨S_, .i32⟩
  | 55 => ⟨S4x512x32, .i32⟩
  | 56 => ⟨S4x512x32, .i32⟩
  | 57 => ⟨S4x512x32, .i32⟩
  | 58 => ⟨S4x512x32x1, .i32⟩
  | 59 => ⟨S4x512x32x3, .f32⟩
  | 60 => ⟨S4x512x32x64, .f32⟩
  | 61 => ⟨S1x1x64, .f32⟩
  | 62 => ⟨S1x1x1x64, .f32⟩
  | 63 => ⟨S4x512x32x64, .f32⟩
  | 64 => ⟨S4x512x32x64, .f32⟩
  | 65 => ⟨S_, .f32⟩
  | 66 => ⟨S4x512x32x64, .f32⟩
  | 67 => ⟨S4x512x32x64, .f32⟩
  | 68 => ⟨S4x512x32x64, .f32⟩
  | 69 => ⟨S1x1x64, .f32⟩
  | 70 => ⟨S1x1x1x64, .f32⟩
  | 71 => ⟨S4x512x32x64, .f32⟩
  | 72 => ⟨S4x512x32x64, .f32⟩
  | 73 => ⟨S_, .f32⟩
  | 74 => ⟨S4x512x64, .f32⟩
  | 75 => ⟨S_, .i32⟩
  | 76 => ⟨S4x128, .i32⟩
  | 77 => ⟨S4x128, .i1⟩
  | 78 => ⟨S_, .i32⟩
  | 79 => ⟨S4x128, .i32⟩
  | 80 => ⟨S4x128, .i32⟩
  | 81 => ⟨S4x128, .i32⟩
  | 82 => ⟨S4x128x1, .i32⟩
  | 83 => ⟨S4x128x64, .f32⟩
  | 84 => ⟨S4x128x64, .f32⟩
  | 85 => ⟨S_, .f32⟩
  | 86 => ⟨S4x128, .f32⟩
  | 87 => ⟨S4x128x1, .f32⟩
  | 88 => ⟨S4x64x512, .f32⟩
  | 89 => ⟨S4x128x512, .f32⟩
  | 90 => ⟨S_, .f32⟩
  | 91 => ⟨S4x128x512, .f32⟩
  | 92 => ⟨S4x128x512, .f32⟩
  | 93 => ⟨S4x128x512, .f32⟩
  | 94 => ⟨S4x128x512, .f32⟩
  | 95 => ⟨S4x512x64, .f32⟩
  | 96 => ⟨S_, .f32⟩
  | 97 => ⟨S4x512, .f32⟩
  | 98 => ⟨S4x1x512, .f32⟩
  | 99 => ⟨S4x128x512, .f32⟩
  | 100 => ⟨S4x128x512, .f32⟩
  | 101 => ⟨S4x128x512, .f32⟩
  | 102 => ⟨S4x128x32, .f32⟩
  | 103 => ⟨S4x128x32, .i32⟩
  | 104 => ⟨S4x128x32, .f32⟩
  | 105 => ⟨S_, .i32⟩
  | 106 => ⟨S4x128x32, .i32⟩
  | 107 => ⟨S4x128x32, .i1⟩
  | 108 => ⟨S_, .i32⟩
  | 109 => ⟨S4x128x32, .i32⟩
  | 110 => ⟨S4x128x32, .i32⟩
  | 111 => ⟨S4x128x32, .i32⟩
  | 112 => ⟨S4x128x32x1, .i32⟩
  | 113 => ⟨S4x128x32x64, .f32⟩
  | 114 => ⟨S4x128x32x128, .f32⟩
  | 115 => ⟨S1x1x128, .f32⟩
  | 116 => ⟨S1x1x1x128, .f32⟩
  | 117 => ⟨S4x128x32x128, .f32⟩
  | 118 => ⟨S4x128x32x128, .f32⟩
  | 119 => ⟨S_, .f32⟩
  | 120 => ⟨S4x128x32x128, .f32⟩
  | 121 => ⟨S4x128x32x128, .f32⟩
  | 122 => ⟨S4x128x32x128, .f32⟩
  | 123 => ⟨S1x1x128, .f32⟩
  | 124 => ⟨S1x1x1x128, .f32⟩
  | 125 => ⟨S4x128x32x128, .f32⟩
  | 126 => ⟨S4x128x32x128, .f32⟩
  | 127 => ⟨S_, .f32⟩
  | _ => ⟨S4x16384x3, .f32⟩

abbrev hbmTy0_1 (i : Nat) : BufTy := match i % 128 with
  | 0 => ⟨S4x128x128, .f32⟩
  | 1 => ⟨S4x512x64, .f32⟩
  | 2 => ⟨S_, .f32⟩
  | 3 => ⟨S4x512, .f32⟩
  | 4 => ⟨S4x512x1, .f32⟩
  | 5 => ⟨S4x64x128, .f32⟩
  | 6 => ⟨S4x512x128, .f32⟩
  | 7 => ⟨S_, .f32⟩
  | 8 => ⟨S4x512x128, .f32⟩
  | 9 => ⟨S4x512x128, .f32⟩
  | 10 => ⟨S4x512x128, .f32⟩
  | 11 => ⟨S4x512x128, .f32⟩
  | 12 => ⟨S4x128x64, .f32⟩
  | 13 => ⟨S_, .f32⟩
  | 14 => ⟨S4x128, .f32⟩
  | 15 => ⟨S4x1x128, .f32⟩
  | 16 => ⟨S4x512x128, .f32⟩
  | 17 => ⟨S4x512x128, .f32⟩
  | 18 => ⟨S4x512x128, .f32⟩
  | 19 => ⟨S4x512x3, .f32⟩
  | 20 => ⟨S4x512x3, .i32⟩
  | 21 => ⟨S4x512x3, .f32⟩
  | 22 => ⟨S_, .i32⟩
  | 23 => ⟨S4x512x3, .i32⟩
  | 24 => ⟨S4x512x3, .i1⟩
  | 25 => ⟨S_, .i32⟩
  | 26 => ⟨S4x512x3, .i32⟩
  | 27 => ⟨S4x512x3, .i32⟩
  | 28 => ⟨S4x512x3, .i32⟩
  | 29 => ⟨S4x512x3x1, .i32⟩
  | 30 => ⟨S4x512x3x128, .f32⟩
  | 31 => ⟨S_, .f32⟩
  | 32 => ⟨S4x512x128, .f32⟩
  | 33 => ⟨S_, .f32⟩
  | 34 => ⟨S4x512x128, .f32⟩
  | 35 => ⟨S4x512x128, .f32⟩
  | 36 => ⟨S4x512x192, .f32⟩
  | 37 => ⟨S4x512x64, .f32⟩
  | 38 => ⟨S1x64, .f32⟩
  | 39 => ⟨S1x1x64, .f32⟩
  | 40 => ⟨S4x512x64, .f32⟩
  | 41 => ⟨S4x512x64, .f32⟩
  | 42 => ⟨S_, .f32⟩
  | 43 => ⟨S4x512x64, .f32⟩
  | 44 => ⟨S4x512x64, .f32⟩
  | 45 => ⟨S4x512x64, .f32⟩
  | 46 => ⟨S1x64, .f32⟩
  | 47 => ⟨S1x1x64, .f32⟩
  | 48 => ⟨S4x512x64, .f32⟩
  | 49 => ⟨S4x512x64, .f32⟩
  | 50 => ⟨S4x16384x3, .f32⟩
  | 51 => ⟨S_, .f32⟩
  | 52 => ⟨S4x16384, .f32⟩
  | 53 => ⟨S4x16384x1, .f32⟩
  | 54 => ⟨S4x3x512, .f32⟩
  | 55 => ⟨S4x16384x512, .f32⟩
  | 56 => ⟨S_, .f32⟩
  | 57 => ⟨S4x16384x512, .f32⟩
  | 58 => ⟨S4x16384x512, .f32⟩
  | 59 => ⟨S4x16384x512, .f32⟩
  | 60 => ⟨S4x16384x512, .f32⟩
  | 61 => ⟨S4x512x3, .f32⟩
  | 62 => ⟨S_, .f32⟩
  | 63 => ⟨S4x512, .f32⟩
  | 64 => ⟨S4x1x512, .f32⟩
  | 65 => ⟨S4x16384x512, .f32⟩
  | 66 => ⟨S4x16384x512, .f32⟩
  | 67 => ⟨S4x16384x512, .f32⟩
  | 68 => ⟨S4x16384x3, .f32⟩
  | 69 => ⟨S4x16384x3, .i32⟩
  | 70 => ⟨S4x16384x3, .f32⟩
  | 71 => ⟨S_, .i32⟩
  | 72 => ⟨S4x16384x3, .i32⟩
  | 73 => ⟨S4x16384x3, .i1⟩
  | 74 => ⟨S_, .i32⟩
  | 75 => ⟨S4x16384x3, .i32⟩
  | 76 => ⟨S4x16384x3, .i32⟩
  | 77 => ⟨S4x16384x3, .i32⟩
  | 78 => ⟨S4x16384x3x1, .i32⟩
  | 79 => ⟨S4x16384x3x64, .f32⟩
  | 80 => ⟨S_, .f32⟩
  | 81 => ⟨S4x16384x64, .f32⟩
  | 82 => ⟨S_, .f32⟩
  | 83 => ⟨S4x16384x64, .f32⟩
  | 84 => ⟨S4x16384x64, .f32⟩
  | 85 => ⟨S4x16384x67, .f32⟩
  | 86 => ⟨S4x16384x32, .f32⟩
  | 87 => ⟨S1x32, .f32⟩
  | 88 => ⟨S1x1x32, .f32⟩
  | 89 => ⟨S4x16384x32, .f32⟩
  | 90 => ⟨S4x16384x32, .f32⟩
  | 91 => ⟨S_, .f32⟩
  | 92 => ⟨S4x16384x32, .f32⟩
  | 93 => ⟨S4x16384x32, .f32⟩
  | 94 => ⟨S4x16384x32, .f32⟩
  | 95 => ⟨S1x32, .f32⟩
  | 96 => ⟨S1x1x32, .f32⟩
  | 97 => ⟨S4x16384x32, .f32⟩
  | 98 => ⟨S4x16384x32, .f32⟩
  | 99 => ⟨S4x16384x2, .f32⟩
  | 100 => ⟨S1x1x2, .f32⟩
  | 101 => ⟨S4x16384x2, .f32⟩
  | 102 => ⟨S4x16384x2, .f32⟩
  | 103 => ⟨S4x16384x2, .f32⟩
  | 104 => ⟨S4x16384x2, .f32⟩
  | 105 => ⟨S_, .f32⟩
  | 106 => ⟨S4x16384x2, .f32⟩
  | 107 => ⟨S4x16384x2, .f32⟩
  | 108 => ⟨S_, .f32⟩
  | 109 => ⟨S4x16384x2, .f32⟩
  | 110 => ⟨S4x16384x2, .f32⟩
  | _ => ⟨S4x16384x3, .f32⟩

abbrev hbmTy (i : Nat) : BufTy := match i / 128 with
  | 0 => hbmTy0_0 i
  | 1 => hbmTy0_1 i
  | _ => ⟨S4x16384x3, .f32⟩

abbrev bufTy : (tb : Table) → Fin (tcTables nBuf tb) → BufTy
  | .hbm, ⟨i, _⟩ => hbmTy i
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_values : Ref sig .tc := ⟨.hbm, 48, rfl⟩
abbrev main_indices : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call0_cst : Ref sig .tc := ⟨.hbm, 65, rfl⟩
abbrev main_call0_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_c_6 : Ref sig .tc := ⟨.hbm, 75, rfl⟩
abbrev main_v42 : Ref sig .tc := ⟨.hbm, 76, rfl⟩
abbrev main_v43 : Ref sig .tc := ⟨.hbm, 77, rfl⟩
abbrev main_c_7 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_8 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_values_11 : Ref sig .tc := ⟨.hbm, 102, rfl⟩
abbrev main_indices_12 : Ref sig .tc := ⟨.hbm, 103, rfl⟩
abbrev main_v64 : Ref sig .tc := ⟨.hbm, 104, rfl⟩
abbrev main_c_13 : Ref sig .tc := ⟨.hbm, 105, rfl⟩
abbrev main_v65 : Ref sig .tc := ⟨.hbm, 106, rfl⟩
abbrev main_v66 : Ref sig .tc := ⟨.hbm, 107, rfl⟩
abbrev main_c_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call1_cst : Ref sig .tc := ⟨.hbm, 119, rfl⟩
abbrev main_call1_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_v83 : Ref sig .tc := ⟨.hbm, 128, rfl⟩
abbrev main_v84 : Ref sig .tc := ⟨.hbm, 129, rfl⟩
abbrev main_cst_16 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_17 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_18 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_values_19 : Ref sig .tc := ⟨.hbm, 147, rfl⟩
abbrev main_indices_20 : Ref sig .tc := ⟨.hbm, 148, rfl⟩
abbrev main_v99 : Ref sig .tc := ⟨.hbm, 149, rfl⟩
abbrev main_c_21 : Ref sig .tc := ⟨.hbm, 150, rfl⟩
abbrev main_v100 : Ref sig .tc := ⟨.hbm, 151, rfl⟩
abbrev main_v101 : Ref sig .tc := ⟨.hbm, 152, rfl⟩
abbrev main_c_22 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_23 : Ref sig .tc := ⟨.hbm, 159, rfl⟩
abbrev main_v107 : Ref sig .tc := ⟨.hbm, 160, rfl⟩
abbrev main_cst_24 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_call2_cst : Ref sig .tc := ⟨.hbm, 170, rfl⟩
abbrev main_call2_v0 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_25 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_26 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_27 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_values_28 : Ref sig .tc := ⟨.hbm, 196, rfl⟩
abbrev main_indices_29 : Ref sig .tc := ⟨.hbm, 197, rfl⟩
abbrev main_v137 : Ref sig .tc := ⟨.hbm, 198, rfl⟩
abbrev main_c_30 : Ref sig .tc := ⟨.hbm, 199, rfl⟩
abbrev main_v138 : Ref sig .tc := ⟨.hbm, 200, rfl⟩
abbrev main_v139 : Ref sig .tc := ⟨.hbm, 201, rfl⟩
abbrev main_c_31 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_32 : Ref sig .tc := ⟨.hbm, 208, rfl⟩
abbrev main_v145 : Ref sig .tc := ⟨.hbm, 209, rfl⟩
abbrev main_cst_33 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_call3_cst : Ref sig .tc := ⟨.hbm, 219, rfl⟩
abbrev main_call3_v0 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_34 : Ref sig .tc := ⟨.hbm, 233, rfl⟩
abbrev main_v166 : Ref sig .tc := ⟨.hbm, 234, rfl⟩
abbrev main_v167 : Ref sig .tc := ⟨.hbm, 235, rfl⟩
abbrev main_cst_35 : Ref sig .tc := ⟨.hbm, 236, rfl⟩
abbrev main_v168 : Ref sig .tc := ⟨.hbm, 237, rfl⟩
abbrev main_v169 : Ref sig .tc := ⟨.hbm, 238, rfl⟩

abbrev nD : Nat := 1
abbrev τ : Topo := Topo.v7x

variable {F : FTy → Type} [FloatOps F]
-- ==== Sa1.lean ====
abbrev S4x16384x3 : Shape := ⟨3, ![4, 16384, 3]⟩
abbrev S4x512 : Shape := ⟨2, ![4, 512]⟩
abbrev S3x64 : Shape := ⟨2, ![3, 64]⟩
abbrev S64 : Shape := ⟨1, ![64]⟩
abbrev S64x64 : Shape := ⟨2, ![64, 64]⟩
abbrev S4x512x1 : Shape := ⟨3, ![4, 512, 1]⟩
abbrev S_ : Shape := ⟨0, ![]⟩
abbrev S4x16384x8 : Shape := ⟨3, ![4, 16384, 8]⟩
abbrev S4x8x16384 : Shape := ⟨3, ![4, 8, 16384]⟩
abbrev S8x64 : Shape := ⟨2, ![8, 64]⟩
abbrev S1x64 : Shape := ⟨2, ![1, 64]⟩
abbrev S4x512x64 : Shape := ⟨3, ![4, 512, 64]⟩
abbrev S4x512x8 : Shape := ⟨3, ![4, 512, 8]⟩
abbrev S1x8x16384 : Shape := ⟨3, ![1, 8, 16384]⟩
abbrev S1x512x1 : Shape := ⟨3, ![1, 512, 1]⟩
abbrev S1x512x64 : Shape := ⟨3, ![1, 512, 64]⟩
abbrev S1x512x8 : Shape := ⟨3, ![1, 512, 8]⟩
abbrev S16384x64 : Shape := ⟨2, ![16384, 64]⟩
abbrev S128x16384 : Shape := ⟨2, ![128, 16384]⟩
abbrev S8x16384 : Shape := ⟨2, ![8, 16384]⟩
abbrev S16384 : Shape := ⟨1, ![16384]⟩
abbrev S1x16384 : Shape := ⟨2, ![1, 16384]⟩
abbrev S1x128x1 : Shape := ⟨3, ![1, 128, 1]⟩
abbrev S128x1 : Shape := ⟨2, ![128, 1]⟩
abbrev S128x8 : Shape := ⟨2, ![128, 8]⟩
abbrev S1x128x8 : Shape := ⟨3, ![1, 128, 8]⟩
abbrev S128 : Shape := ⟨1, ![128]⟩
abbrev S128x64 : Shape := ⟨2, ![128, 64]⟩
abbrev S1x128x64 : Shape := ⟨3, ![1, 128, 64]⟩

abbrev nBuf : Space → Nat
  | .hbm => 19
  | .vmem => 14
  | .smem => 0
  | _ => 0

abbrev bufTy : (tb : Table) → Fin (tcTables nBuf tb) → BufTy
  | .hbm, ⟨0, _⟩ => ⟨S4x16384x3, .f32⟩
  | .hbm, ⟨1, _⟩ => ⟨S4x512, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4x512, .f32⟩
  | .hbm, ⟨7, _⟩ => ⟨S4x512x1, .f32⟩
  | .hbm, ⟨8, _⟩ => ⟨S_, .i32⟩
  | .hbm, ⟨9, _⟩ => ⟨S_, .f32⟩
  | .hbm, ⟨10, _⟩ => ⟨S4x16384x8, .f32⟩
  | .hbm, ⟨11, _⟩ => ⟨S4x8x16384, .f32⟩
  | .hbm, ⟨12, _⟩ => ⟨S_, .i32⟩
  | .hbm, ⟨13, _⟩ => ⟨S_, .f32⟩
  | .hbm, ⟨14, _⟩ => ⟨S8x64, .f32⟩
  | .hbm, ⟨15, _⟩ => ⟨S1x64, .f32⟩
  | .hbm, ⟨16, _⟩ => ⟨S1x64, .f32⟩
  | .hbm, ⟨17, _⟩ => ⟨S4x512x64, .f32⟩
  | .hbm, ⟨18, _⟩ => ⟨S4x512x8, .f32⟩
  | .local _ .vmem, ⟨0, _⟩ => ⟨S1x8x16384, .f32⟩
  | .local _ .vmem, ⟨1, _⟩ => ⟨S1x8x16384, .f32⟩
  | .local _ .vmem, ⟨2, _⟩ => ⟨S1x512x1, .f32⟩
  | .local _ .vmem, ⟨3, _⟩ => ⟨S1x512x1, .f32⟩
  | .local _ .vmem, ⟨4, _⟩ => ⟨S8x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S1x512x8, .f32⟩
  | .local _ .vmem, ⟨11, _⟩ => ⟨S1x512x8, .f32⟩
  | .local _ .vmem, ⟨12, _⟩ => ⟨S16384x64, .f32⟩
  | .local _ .vmem, ⟨13, _⟩ => ⟨S128x16384, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k0_off1 (k0_t1 : Fin k0_t1_loop.trips) : Fin 3 → Nat :=
  let c0_16 : Index := 0#32
  let c0_i32 : BitVec 32 := 0#32
  let c1_i32 : BitVec 32 := 1#32
  let arg11 : BitVec 32 := Scf.iv c0_i32 c1_i32 k0_t1
  let c128_i32 : BitVec 32 := 128#32
  let v24 : BitVec 32 := Scalar.muli arg11 c128_i32
  let v25 : Index := Scalar.indexCast v24
  let c0_17 : Index := 0#32
  ![0, v25.toNat, 0]
def k0_off2 (k0_t1 : Fin k0_t1_loop.trips) : Fin 3 → Nat :=
  let c0_20 : Index := 0#32
  let c0_i32 : BitVec 32 := 0#32
  let c1_i32 : BitVec 32 := 1#32
  let arg11 : BitVec 32 := Scf.iv c0_i32 c1_i32 k0_t1
  let c128_i32_19 : BitVec 32 := 128#32
  let v35 : BitVec 32 := Scalar.muli arg11 c128_i32_19
  let v36 : Index := Scalar.indexCast v35
  let c0_21 : Index := 0#32
  ![0, v36.toNat, 0]
@[reducible] def k0_t2_loop : Scf.Loop 32 :=
  let c0_i32_29 : BitVec 32 := 0#32
  let c32_i32 : BitVec 32 := 32#32
  let v55 : BitVec 32 := Scalar.addi c0_i32_29 c32_i32
  let c1_i32_30 : BitVec 32 := 1#32
  ⟨c0_i32_29, v55, c1_i32_30⟩
def k0_off3 (k0_t1 : Fin k0_t1_loop.trips) : Fin 3 → Nat :=
  let c0_32 : Index := 0#32
  let c0_i32 : BitVec 32 := 0#32
  let c1_i32 : BitVec 32 := 1#32
  let arg11 : BitVec 32 := Scf.iv c0_i32 c1_i32 k0_t1
  let c128_i32_31 : BitVec 32 := 128#32
  let v57 : BitVec 32 := Scalar.muli arg11 c128_i32_31
  let v58 : Index := Scalar.indexCast v57
  let c0_33 : Index := 0#32
  ![0, v58.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefSa1Ideal.lean ====
abbrev S4x16384x3 : Shape := ⟨3, ![4, 16384, 3]⟩
abbrev S4x512 : Shape := ⟨2, ![4, 512]⟩
abbrev S3x64 : Shape := ⟨2, ![3, 64]⟩
abbrev S64 : Shape := ⟨1, ![64]⟩
abbrev S64x64 : Shape := ⟨2, ![64, 64]⟩
abbrev S_ : Shape := ⟨0, ![]⟩
abbrev S4x512x1 : Shape := ⟨3, ![4, 512, 1]⟩
abbrev S4x512x3 : Shape := ⟨3, ![4, 512, 3]⟩
abbrev S4x3x16384 : Shape := ⟨3, ![4, 3, 16384]⟩
abbrev S4x512x16384 : Shape := ⟨3, ![4, 512, 16384]⟩
abbrev S4x16384 : Shape := ⟨2, ![4, 16384]⟩
abbrev S4x1x16384 : Shape := ⟨3, ![4, 1, 16384]⟩
abbrev S4x512x32 : Shape := ⟨3, ![4, 512, 32]⟩
abbrev S4x512x32x1 : Shape := ⟨4, ![4, 512, 32, 1]⟩
abbrev S4x512x32x3 : Shape := ⟨4, ![4, 512, 32, 3]⟩
abbrev S4x512x32x64 : Shape := ⟨4, ![4, 512, 32, 64]⟩
abbrev S1x1x64 : Shape := ⟨3, ![1, 1, 64]⟩
abbrev S1x1x1x64 : Shape := ⟨4, ![1, 1, 1, 64]⟩
abbrev S4x512x64 : Shape := ⟨3, ![4, 512, 64]⟩
abbrev S4x512x8 : Shape := ⟨3, ![4, 512, 8]⟩

abbrev nBuf : Space → Nat
  | .hbm => 63
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x512, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S4x512, .i32⟩
  | .hbm, ⟨8, _⟩ => ⟨S4x512, .i1⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S4x512, .i32⟩
  | .hbm, ⟨13, _⟩ => ⟨S4x512x1, .i32⟩
  | .hbm, ⟨14, _⟩ => ⟨S4x512x3, .f32⟩
  | .hbm, ⟨15, _⟩ => ⟨S4x512x3, .f32⟩
  | .hbm, ⟨16, _⟩ => ⟨S_, .f32⟩
  | .hbm, ⟨17, _⟩ => ⟨S4x512, .f32⟩
  | .hbm, ⟨18, _⟩ => ⟨S4x512x1, .f32⟩
  | .hbm, ⟨19, _⟩ => ⟨S4x3x16384, .f32⟩
  | .hbm, ⟨20, _⟩ => ⟨S4x512x16384, .f32⟩
  | .hbm, ⟨21, _⟩ => ⟨S_, .f32⟩
  | .hbm, ⟨22, _⟩ => ⟨S4x512x16384, .f32⟩
  | .hbm, ⟨23, _⟩ => ⟨S4x512x16384, .f32⟩
  | .hbm, ⟨24, _⟩ => ⟨S4x512x16384, .f32⟩
  | .hbm, ⟨25, _⟩ => ⟨S4x512x16384, .f32⟩
  | .hbm, ⟨26, _⟩ => ⟨S4x16384x3, .f32⟩
  | .hbm, ⟨27, _⟩ => ⟨S_, .f32⟩
  | .hbm, ⟨28, _⟩ => ⟨S4x16384, .f32⟩
  | .hbm, ⟨29, _⟩ => ⟨S4x1x16384, .f32⟩
  | .hbm, ⟨30, _⟩ => ⟨S4x512x16384, .f32⟩
  | .hbm, ⟨31, _⟩ => ⟨S4x512x16384, .f32⟩
  | .hbm, ⟨32, _⟩ => ⟨S4x512x16384, .f32⟩
  | .hbm, ⟨33, _⟩ => ⟨S4x512x32, .f32⟩
  | .hbm, ⟨34, _⟩ => ⟨S4x512x32, .i32⟩
  | .hbm, ⟨35, _⟩ => ⟨S4x512x32, .f32⟩
  | .hbm, ⟨36, _⟩ => ⟨S_, .i32⟩
  | .hbm, ⟨37, _⟩ => ⟨S4x512x32, .i32⟩
  | .hbm, ⟨38, _⟩ => ⟨S4x512x32, .i1⟩
  | .hbm, ⟨39, _⟩ => ⟨S_, .i32⟩
  | .hbm, ⟨40, _⟩ => ⟨S4x512x32, .i32⟩
  | .hbm, ⟨41, _⟩ => ⟨S4x512x32, .i32⟩
  | .hbm, ⟨42, _⟩ => ⟨S4x512x32, .i32⟩
  | .hbm, ⟨43, _⟩ => ⟨S4x512x32x1, .i32⟩
  | .hbm, ⟨44, _⟩ => ⟨S4x512x32x3, .f32⟩
  | .hbm, ⟨45, _⟩ => ⟨S4x512x32x64, .f32⟩
  | .hbm, ⟨46, _⟩ => ⟨S1x1x64, .f32⟩
  | .hbm, ⟨47, _⟩ => ⟨S1x1x1x64, .f32⟩
  | .hbm, ⟨48, _⟩ => ⟨S4x512x32x64, .f32⟩
  | .hbm, ⟨49, _⟩ => ⟨S4x512x32x64, .f32⟩
  | .hbm, ⟨50, _⟩ => ⟨S_, .f32⟩
  | .hbm, ⟨51, _⟩ => ⟨S4x512x32x64, .f32⟩
  | .hbm, ⟨52, _⟩ => ⟨S4x512x32x64, .f32⟩
  | .hbm, ⟨53, _⟩ => ⟨S4x512x32x64, .f32⟩
  | .hbm, ⟨54, _⟩ => ⟨S1x1x64, .f32⟩
  | .hbm, ⟨55, _⟩ => ⟨S1x1x1x64, .f32⟩
  | .hbm, ⟨56, _⟩ => ⟨S4x512x32x64, .f32⟩
  | .hbm, ⟨57, _⟩ => ⟨S4x512x32x64, .f32⟩
  | .hbm, ⟨58, _⟩ => ⟨S_, .f32⟩
  | .hbm, ⟨59, _⟩ => ⟨S4x512x64, .f32⟩
  | .hbm, ⟨60, _⟩ => ⟨S_, .i32⟩
  | .hbm, ⟨61, _⟩ => ⟨S_, .f32⟩
  | .hbm, ⟨62, _⟩ => ⟨S4x512x8, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_values : Ref sig .tc := ⟨.hbm, 33, rfl⟩
abbrev main_indices : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_c_6 : Ref sig .tc := ⟨.hbm, 60, rfl⟩
abbrev main_call1_v0 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Sa2Fp1.lean ====
abbrev S4x512x64 : Shape := ⟨3, ![4, 512, 64]⟩
abbrev S4x128 : Shape := ⟨2, ![4, 128]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S4x128x1 : Shape := ⟨3, ![4, 128, 1]⟩
abbrev S128x64 : Shape := ⟨2, ![128, 64]⟩
abbrev S1x128 : Shape := ⟨2, ![1, 128]⟩
abbrev S1x64 : Shape := ⟨2, ![1, 64]⟩
abbrev S1x512x64 : Shape := ⟨3, ![1, 512, 64]⟩
abbrev S1x128x1 : Shape := ⟨3, ![1, 128, 1]⟩
abbrev S512x64 : Shape := ⟨2, ![512, 64]⟩
abbrev S512x128 : Shape := ⟨2, ![512, 128]⟩
abbrev S128x1 : Shape := ⟨2, ![128, 1]⟩
abbrev S128x512 : Shape := ⟨2, ![128, 512]⟩
abbrev S1x512 : Shape := ⟨2, ![1, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S4x512x64, .f32⟩
  | .hbm, ⟨1, _⟩ => ⟨S4x128, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S192x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S4x128, .f32⟩
  | .hbm, ⟨11, _⟩ => ⟨S4x128x1, .f32⟩
  | .hbm, ⟨12, _⟩ => ⟨S64x64, .f32⟩
  | .hbm, ⟨13, _⟩ => ⟨S128x64, .f32⟩
  | .hbm, ⟨14, _⟩ => ⟨S1x128, .f32⟩
  | .hbm, ⟨15, _⟩ => ⟨S1x128, .f32⟩
  | .hbm, ⟨16, _⟩ => ⟨S1x64, .f32⟩
  | .hbm, ⟨17, _⟩ => ⟨S1x64, .f32⟩
  | .hbm, ⟨18, _⟩ => ⟨S4x512x64, .f32⟩
  | .local _ .vmem, ⟨0, _⟩ => ⟨S1x512x64, .f32⟩
  | .local _ .vmem, ⟨1, _⟩ => ⟨S1x512x64, .f32⟩
  | .local _ .vmem, ⟨2, _⟩ => ⟨S1x128x1, .f32⟩
  | .local _ .vmem, ⟨3, _⟩ => ⟨S1x128x1, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S64x64, .f32⟩
  | .local _ .vmem, ⟨9, _⟩ => ⟨S128x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S1x512x64, .f32⟩
  | .local _ .vmem, ⟨14, _⟩ => ⟨S1x512x64, .f32⟩
  | _, _ => ⟨S4x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v40 : BitVec 32 := Scalar.addi c0_i32 c32_i32
  let c1_i32 : BitVec 32 := 1#32
  ⟨c0_i32, v40, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Sa2Fp1Ideal.lean ====
variable {F : FTy → Type} [FloatOps F] [Named F]
def κ : String → Option EReal := fun
  | "third" => some ((3⁻¹ : ℝ) : EReal)
  | _ => none
-- ==== RefSa2Fp1Ideal.lean ====
abbrev S4x512x64 : Shape := ⟨3, ![4, 512, 64]⟩
abbrev S4x128 : Shape := ⟨2, ![4, 128]⟩
abbrev S64x128 : Shape := ⟨2, ![64, 128]⟩
abbrev S128 : Shape := ⟨1, ![128]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S_ : Shape := ⟨0, ![]⟩
abbrev S4x128x1 : Shape := ⟨3, ![4, 128, 1]⟩
abbrev S4x128x64 : Shape := ⟨3, ![4, 128, 64]⟩
abbrev S4x64x512 : Shape := ⟨3, ![4, 64, 512]⟩
abbrev S4x128x512 : Shape := ⟨3, ![4, 128, 512]⟩
abbrev S4x512 : Shape := ⟨2, ![4, 512]⟩
abbrev S4x1x512 : Shape := ⟨3, ![4, 1, 512]⟩
abbrev S4x128x32 : Shape := ⟨3, ![4, 128, 32]⟩
abbrev S4x128x32x1 : Shape := ⟨4, ![4, 128, 32, 1]⟩
abbrev S4x128x32x64 : Shape := ⟨4, ![4, 128, 32, 64]⟩
abbrev S4x128x32x128 : Shape := ⟨4, ![4, 128, 32, 128]⟩
abbrev S1x1x128 : Shape := ⟨3, ![1, 1, 128]⟩
abbrev S1x1x1x128 : Shape := ⟨4, ![1, 1, 1, 128]⟩
abbrev S4x128x128 : Shape := ⟨3, ![4, 128, 128]⟩
abbrev S4x512x1 : Shape := ⟨3, ![4, 512, 1]⟩
abbrev S4x64x128 : Shape := ⟨3, ![4, 64, 128]⟩
abbrev S4x512x128 : Shape := ⟨3, ![4, 512, 128]⟩
abbrev S4x1x128 : Shape := ⟨3, ![4, 1, 128]⟩
abbrev S4x512x3 : Shape := ⟨3, ![4, 512, 3]⟩
abbrev S4x512x3x1 : Shape := ⟨4, ![4, 512, 3, 1]⟩
abbrev S4x512x3x128 : Shape := ⟨4, ![4, 512, 3, 128]⟩
abbrev S4x512x192 : Shape := ⟨3, ![4, 512, 192]⟩
abbrev S1x64 : Shape := ⟨2, ![1, 64]⟩
abbrev S1x1x64 : Shape := ⟨3, ![1, 1, 64]⟩

abbrev nBuf : Space → Nat
  | .hbm => 113
  | .vmem => 0
  | .smem => 0
  | _ => 0

abbrev bufTy : (tb : Table) → Fin (tcTables nBuf tb) → BufTy
  | .hbm, ⟨0, _⟩ => ⟨S4x512x64, .f32⟩
  | .hbm, ⟨1, _⟩ => ⟨S4x128, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S192x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S4x128, .i32⟩
  | .hbm, ⟨12, _⟩ => ⟨S4x128, .i1⟩
  | .hbm, ⟨13, _⟩ => ⟨S_, .i32⟩
  | .hbm, ⟨14, _⟩ => ⟨S4x128, .i32⟩
  | .hbm, ⟨15, _⟩ => ⟨S4x128, .i32⟩
  | .hbm, ⟨16, _⟩ => ⟨S4x128, .i32⟩
  | .hbm, ⟨17, _⟩ => ⟨S4x128x1, .i32⟩
  | .hbm, ⟨18, _⟩ => ⟨S4x128x64, .f32⟩
  | .hbm, ⟨19, _⟩ => ⟨S4x128x64, .f32⟩
  | .hbm, ⟨20, _⟩ => ⟨S_, .f32⟩
  | .hbm, ⟨21, _⟩ => ⟨S4x128, .f32⟩
  | .hbm, ⟨22, _⟩ => ⟨S4x128x1, .f32⟩
  | .hbm, ⟨23, _⟩ => ⟨S4x64x512, .f32⟩
  | .hbm, ⟨24, _⟩ => ⟨S4x128x512, .f32⟩
  | .hbm, ⟨25, _⟩ => ⟨S_, .f32⟩
  | .hbm, ⟨26, _⟩ => ⟨S4x128x512, .f32⟩
  | .hbm, ⟨27, _⟩ => ⟨S4x128x512, .f32⟩
  | .hbm, ⟨28, _⟩ => ⟨S4x128x512, .f32⟩
  | .hbm, ⟨29, _⟩ => ⟨S4x128x512, .f32⟩
  | .hbm, ⟨30, _⟩ => ⟨S4x512x64, .f32⟩
  | .hbm, ⟨31, _⟩ => ⟨S_, .f32⟩
  | .hbm, ⟨32, _⟩ => ⟨S4x512, .f32⟩
  | .hbm, ⟨33, _⟩ => ⟨S4x1x512, .f32⟩
  | .hbm, ⟨34, _⟩ => ⟨S4x128x512, .f32⟩
  | .hbm, ⟨35, _⟩ => ⟨S4x128x512, .f32⟩
  | .hbm, ⟨36, _⟩ => ⟨S4x128x512, .f32⟩
  | .hbm, ⟨37, _⟩ => ⟨S4x128x32, .f32⟩
  | .hbm, ⟨38, _⟩ => ⟨S4x128x32, .i32⟩
  | .hbm, ⟨39, _⟩ => ⟨S4x128x32, .f32⟩
  | .hbm, ⟨40, _⟩ => ⟨S_, .i32⟩
  | .hbm, ⟨41, _⟩ => ⟨S4x128x32, .i32⟩
  | .hbm, ⟨42, _⟩ => ⟨S4x128x32, .i1⟩
  | .hbm, ⟨43, _⟩ => ⟨S_, .i32⟩
  | .hbm, ⟨44, _⟩ => ⟨S4x128x32, .i32⟩
  | .hbm, ⟨45, _⟩ => ⟨S4x128x32, .i32⟩
  | .hbm, ⟨46, _⟩ => ⟨S4x128x32, .i32⟩
  | .hbm, ⟨47, _⟩ => ⟨S4x128x32x1, .i32⟩
  | .hbm, ⟨48, _⟩ => ⟨S4x128x32x64, .f32⟩
  | .hbm, ⟨49, _⟩ => ⟨S4x128x32x128, .f32⟩
  | .hbm, ⟨50, _⟩ => ⟨S1x1x128, .f32⟩
  | .hbm, ⟨51, _⟩ => ⟨S1x1x1x128, .f32⟩
  | .hbm, ⟨52, _⟩ => ⟨S4x128x32x128, .f32⟩
  | .hbm, ⟨53, _⟩ => ⟨S4x128x32x128, .f32⟩
  | .hbm, ⟨54, _⟩ => ⟨S_, .f32⟩
  | .hbm, ⟨55, _⟩ => ⟨S4x128x32x128, .f32⟩
  | .hbm, ⟨56, _⟩ => ⟨S4x128x32x128, .f32⟩
  | .hbm, ⟨57, _⟩ => ⟨S4x128x32x128, .f32⟩
  | .hbm, ⟨58, _⟩ => ⟨S1x1x128, .f32⟩
  | .hbm, ⟨59, _⟩ => ⟨S1x1x1x128, .f32⟩
  | .hbm, ⟨60, _⟩ => ⟨S4x128x32x128, .f32⟩
  | .hbm, ⟨61, _⟩ => ⟨S4x128x32x128, .f32⟩
  | .hbm, ⟨62, _⟩ => ⟨S_, .f32⟩
  | .hbm, ⟨63, _⟩ => ⟨S4x128x128, .f32⟩
  | .hbm, ⟨64, _⟩ => ⟨S4x512x64, .f32⟩
  | .hbm, ⟨65, _⟩ => ⟨S_, .f32⟩
  | .hbm, ⟨66, _⟩ => ⟨S4x512, .f32⟩
  | .hbm, ⟨67, _⟩ => ⟨S4x512x1, .f32⟩
  | .hbm, ⟨68, _⟩ => ⟨S4x64x128, .f32⟩
  | .hbm, ⟨69, _⟩ => ⟨S4x512x128, .f32⟩
  | .hbm, ⟨70, _⟩ => ⟨S_, .f32⟩
  | .hbm, ⟨71, _⟩ => ⟨S4x512x128, .f32⟩
  | .hbm, ⟨72, _⟩ => ⟨S4x512x128, .f32⟩
  | .hbm, ⟨73, _⟩ => ⟨S4x512x128, .f32⟩
  | .hbm, ⟨74, _⟩ => ⟨S4x512x128, .f32⟩
  | .hbm, ⟨75, _⟩ => ⟨S4x128x64, .f32⟩
  | .hbm, ⟨76, _⟩ => ⟨S_, .f32⟩
  | .hbm, ⟨77, _⟩ => ⟨S4x128, .f32⟩
  | .hbm, ⟨78, _⟩ => ⟨S4x1x128, .f32⟩
  | .hbm, ⟨79, _⟩ => ⟨S4x512x128, .f32⟩
  | .hbm, ⟨80, _⟩ => ⟨S4x512x128, .f32⟩
  | .hbm, ⟨81, _⟩ => ⟨S4x512x128, .f32⟩
  | .hbm, ⟨82, _⟩ => ⟨S4x512x3, .f32⟩
  | .hbm, ⟨83, _⟩ => ⟨S4x512x3, .i32⟩
  | .hbm, ⟨84, _⟩ => ⟨S4x512x3, .f32⟩
  | .hbm, ⟨85, _⟩ => ⟨S_, .i32⟩
  | .hbm, ⟨86, _⟩ => ⟨S4x512x3, .i32⟩
  | .hbm, ⟨87, _⟩ => ⟨S4x512x3, .i1⟩
  | .hbm, ⟨88, _⟩ => ⟨S_, .i32⟩
  | .hbm, ⟨89, _⟩ => ⟨S4x512x3, .i32⟩
  | .hbm, ⟨90, _⟩ => ⟨S4x512x3, .i32⟩
  | .hbm, ⟨91, _⟩ => ⟨S4x512x3, .i32⟩
  | .hbm, ⟨92, _⟩ => ⟨S4x512x3x1, .i32⟩
  | .hbm, ⟨93, _⟩ => ⟨S4x512x3x128, .f32⟩
  | .hbm, ⟨94, _⟩ => ⟨S_, .f32⟩
  | .hbm, ⟨95, _⟩ => ⟨S4x512x128, .f32⟩
  | .hbm, ⟨96, _⟩ => ⟨S_, .f32⟩
  | .hbm, ⟨97, _⟩ => ⟨S4x512x128, .f32⟩
  | .hbm, ⟨98, _⟩ => ⟨S4x512x128, .f32⟩
  | .hbm, ⟨99, _⟩ => ⟨S4x512x192, .f32⟩
  | .hbm, ⟨100, _⟩ => ⟨S4x512x64, .f32⟩
  | .hbm, ⟨101, _⟩ => ⟨S1x64, .f32⟩
  | .hbm, ⟨102, _⟩ => ⟨S1x1x64, .f32⟩
  | .hbm, ⟨103, _⟩ => ⟨S4x512x64, .f32⟩
  | .hbm, ⟨104, _⟩ => ⟨S4x512x64, .f32⟩
  | .hbm, ⟨105, _⟩ => ⟨S_, .f32⟩
  | .hbm, ⟨106, _⟩ => ⟨S4x512x64, .f32⟩
  | .hbm, ⟨107, _⟩ => ⟨S4x512x64, .f32⟩
  | .hbm, ⟨108, _⟩ => ⟨S4x512x64, .f32⟩
  | .hbm, ⟨109, _⟩ => ⟨S1x64, .f32⟩
  | .hbm, ⟨110, _⟩ => ⟨S1x1x64, .f32⟩
  | .hbm, ⟨111, _⟩ => ⟨S4x512x64, .f32⟩
  | .hbm, ⟨112, _⟩ => ⟨S4x512x64, .f32⟩
  | _, _ => ⟨S4x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_values : Ref sig .tc := ⟨.hbm, 37, rfl⟩
abbrev main_indices : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_values_9 : Ref sig .tc := ⟨.hbm, 82, rfl⟩
abbrev main_indices_10 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Fp2.lean ====
abbrev S4x16384x3 : Shape := ⟨3, ![4, 16384, 3]⟩
abbrev S4x512x3 : Shape := ⟨3, ![4, 512, 3]⟩
abbrev S4x512x64 : Shape := ⟨3, ![4, 512, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S4x16384x8 : Shape := ⟨3, ![4, 16384, 8]⟩
abbrev S4x512x8 : Shape := ⟨3, ![4, 512, 8]⟩
abbrev S3x32 : Shape := ⟨2, ![3, 32]⟩
abbrev S8x32 : Shape := ⟨2, ![8, 32]⟩
abbrev S64x32 : Shape := ⟨2, ![64, 32]⟩
abbrev S1x32 : Shape := ⟨2, ![1, 32]⟩
abbrev S1x2 : Shape := ⟨2, ![1, 2]⟩
abbrev S4x16384x2 : Shape := ⟨3, ![4, 16384, 2]⟩
abbrev S1x2048x8 : Shape := ⟨3, ![1, 2048, 8]⟩
abbrev S1x512x8 : Shape := ⟨3, ![1, 512, 8]⟩
abbrev S1x512x64 : Shape := ⟨3, ![1, 512, 64]⟩
abbrev S1x2048x2 : Shape := ⟨3, ![1, 2048, 2]⟩
abbrev S2048x8 : Shape := ⟨2, ![2048, 8]⟩
abbrev S512x8 : Shape := ⟨2, ![512, 8]⟩
abbrev S1x8 : Shape := ⟨2, ![1, 8]⟩
abbrev S1x512 : Shape := ⟨2, ![1, 512]⟩
abbrev S2048 : Shape := ⟨1, ![2048]⟩
abbrev S2048x1 : Shape := ⟨2, ![2048, 1]⟩
abbrev S2048x512 : Shape := ⟨2, ![2048, 512]⟩
abbrev S512x64 : Shape := ⟨2, ![512, 64]⟩
abbrev S2048x64 : Shape := ⟨2, ![2048, 64]⟩
abbrev S2048x32 : Shape := ⟨2, ![2048, 32]⟩
abbrev S2048x2 : Shape := ⟨2, ![2048, 2]⟩

abbrev nBuf : Space → Nat
  | .hbm => 24
  | .vmem => 15
  | .smem => 0
  | _ => 0

abbrev bufTy : (tb : Table) → Fin (tcTables nBuf tb) → BufTy
  | .hbm, ⟨0, _⟩ => ⟨S4x16384x3, .f32⟩
  | .hbm, ⟨1, _⟩ => ⟨S4x512x3, .f32⟩
  | .hbm, ⟨2, _⟩ => ⟨S4x512x64, .f32⟩
  | .hbm, ⟨3, _⟩ => ⟨S67x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S_, .i32⟩
  | .hbm, ⟨10, _⟩ => ⟨S_, .f32⟩
  | .hbm, ⟨11, _⟩ => ⟨S4x16384x8, .f32⟩
  | .hbm, ⟨12, _⟩ => ⟨S_, .i32⟩
  | .hbm, ⟨13, _⟩ => ⟨S_, .f32⟩
  | .hbm, ⟨14, _⟩ => ⟨S4x512x8, .f32⟩
  | .hbm, ⟨15, _⟩ => ⟨S3x32, .f32⟩
  | .hbm, ⟨16, _⟩ => ⟨S_, .i32⟩
  | .hbm, ⟨17, _⟩ => ⟨S_, .f32⟩
  | .hbm, ⟨18, _⟩ => ⟨S8x32, .f32⟩
  | .hbm, ⟨19, _⟩ => ⟨S64x32, .f32⟩
  | .hbm, ⟨20, _⟩ => ⟨S1x32, .f32⟩
  | .hbm, ⟨21, _⟩ => ⟨S1x32, .f32⟩
  | .hbm, ⟨22, _⟩ => ⟨S1x2, .f32⟩
  | .hbm, ⟨23, _⟩ => ⟨S4x16384x2, .f32⟩
  | .local _ .vmem, ⟨0, _⟩ => ⟨S1x2048x8, .f32⟩
  | .local _ .vmem, ⟨1, _⟩ => ⟨S1x2048x8, .f32⟩
  | .local _ .vmem, ⟨2, _⟩ => ⟨S1x512x8, .f32⟩
  | .local _ .vmem, ⟨3, _⟩ => ⟨S1x512x8, .f32⟩
  | .local _ .vmem, ⟨4, _⟩ => ⟨S1x512x64, .f32⟩
  | .local _ .vmem, ⟨5, _⟩ => ⟨S1x512x64, .f32⟩
  | .local _ .vmem, ⟨6, _⟩ => ⟨S8x32, .f32⟩
  | .local _ .vmem, ⟨7, _⟩ => ⟨S64x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x2, .f32⟩
  | .local _ .vmem, ⟨12, _⟩ => ⟨S1x2, .f32⟩
  | .local _ .vmem, ⟨13, _⟩ => ⟨S1x2048x2, .f32⟩
  | .local _ .vmem, ⟨14, _⟩ => ⟨S1x2048x2, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Fp2Ideal.lean ====
variable {F : FTy → Type} [FloatOps F] [Named F]
def κ : String → Option EReal := fun
  | "third" => some ((3⁻¹ : ℝ) : EReal)
  | _ => none
-- ==== RefFp2Ideal.lean ====
abbrev S4x16384x3 : Shape := ⟨3, ![4, 16384, 3]⟩
abbrev S4x512x3 : Shape := ⟨3, ![4, 512, 3]⟩
abbrev S4x512x64 : Shape := ⟨3, ![4, 512, 64]⟩
abbrev S67x32 : Shape := ⟨2, ![67, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S4x16384 : Shape := ⟨2, ![4, 16384]⟩
abbrev S4x16384x1 : Shape := ⟨3, ![4, 16384, 1]⟩
abbrev S4x3x512 : Shape := ⟨3, ![4, 3, 512]⟩
abbrev S4x16384x512 : Shape := ⟨3, ![4, 16384, 512]⟩
abbrev S4x512 : Shape := ⟨2, ![4, 512]⟩
abbrev S4x1x512 : Shape := ⟨3, ![4, 1, 512]⟩
abbrev S4x16384x3x1 : Shape := ⟨4, ![4, 16384, 3, 1]⟩
abbrev S4x16384x3x64 : Shape := ⟨4, ![4, 16384, 3, 64]⟩
abbrev S4x16384x64 : Shape := ⟨3, ![4, 16384, 64]⟩
abbrev S4x16384x67 : Shape := ⟨3, ![4, 16384, 67]⟩
abbrev S4x16384x32 : Shape := ⟨3, ![4, 16384, 32]⟩
abbrev S1x32 : Shape := ⟨2, ![1, 32]⟩
abbrev S1x1x32 : Shape := ⟨3, ![1, 1, 32]⟩
abbrev S4x16384x2 : Shape := ⟨3, ![4, 16384, 2]⟩
abbrev S1x1x2 : Shape := ⟨3, ![1, 1, 2]⟩

abbrev nBuf : Space → Nat
  | .hbm => 70
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x512x3, .f32⟩
  | .hbm, ⟨2, _⟩ => ⟨S4x512x64, .f32⟩
  | .hbm, ⟨3, _⟩ => ⟨S67x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S4x16384x3, .f32⟩
  | .hbm, ⟨10, _⟩ => ⟨S_, .f32⟩
  | .hbm, ⟨11, _⟩ => ⟨S4x16384, .f32⟩
  | .hbm, ⟨12, _⟩ => ⟨S4x16384x1, .f32⟩
  | .hbm, ⟨13, _⟩ => ⟨S4x3x512, .f32⟩
  | .hbm, ⟨14, _⟩ => ⟨S4x16384x512, .f32⟩
  | .hbm, ⟨15, _⟩ => ⟨S_, .f32⟩
  | .hbm, ⟨16, _⟩ => ⟨S4x16384x512, .f32⟩
  | .hbm, ⟨17, _⟩ => ⟨S4x16384x512, .f32⟩
  | .hbm, ⟨18, _⟩ => ⟨S4x16384x512, .f32⟩
  | .hbm, ⟨19, _⟩ => ⟨S4x16384x512, .f32⟩
  | .hbm, ⟨20, _⟩ => ⟨S4x512x3, .f32⟩
  | .hbm, ⟨21, _⟩ => ⟨S_, .f32⟩
  | .hbm, ⟨22, _⟩ => ⟨S4x512, .f32⟩
  | .hbm, ⟨23, _⟩ => ⟨S4x1x512, .f32⟩
  | .hbm, ⟨24, _⟩ => ⟨S4x16384x512, .f32⟩
  | .hbm, ⟨25, _⟩ => ⟨S4x16384x512, .f32⟩
  | .hbm, ⟨26, _⟩ => ⟨S4x16384x512, .f32⟩
  | .hbm, ⟨27, _⟩ => ⟨S4x16384x3, .f32⟩
  | .hbm, ⟨28, _⟩ => ⟨S4x16384x3, .i32⟩
  | .hbm, ⟨29, _⟩ => ⟨S4x16384x3, .f32⟩
  | .hbm, ⟨30, _⟩ => ⟨S_, .i32⟩
  | .hbm, ⟨31, _⟩ => ⟨S4x16384x3, .i32⟩
  | .hbm, ⟨32, _⟩ => ⟨S4x16384x3, .i1⟩
  | .hbm, ⟨33, _⟩ => ⟨S_, .i32⟩
  | .hbm, ⟨34, _⟩ => ⟨S4x16384x3, .i32⟩
  | .hbm, ⟨35, _⟩ => ⟨S4x16384x3, .i32⟩
  | .hbm, ⟨36, _⟩ => ⟨S4x16384x3, .i32⟩
  | .hbm, ⟨37, _⟩ => ⟨S4x16384x3x1, .i32⟩
  | .hbm, ⟨38, _⟩ => ⟨S4x16384x3x64, .f32⟩
  | .hbm, ⟨39, _⟩ => ⟨S_, .f32⟩
  | .hbm, ⟨40, _⟩ => ⟨S4x16384x64, .f32⟩
  | .hbm, ⟨41, _⟩ => ⟨S_, .f32⟩
  | .hbm, ⟨42, _⟩ => ⟨S4x16384x64, .f32⟩
  | .hbm, ⟨43, _⟩ => ⟨S4x16384x64, .f32⟩
  | .hbm, ⟨44, _⟩ => ⟨S4x16384x67, .f32⟩
  | .hbm, ⟨45, _⟩ => ⟨S4x16384x32, .f32⟩
  | .hbm, ⟨46, _⟩ => ⟨S1x32, .f32⟩
  | .hbm, ⟨47, _⟩ => ⟨S1x1x32, .f32⟩
  | .hbm, ⟨48, _⟩ => ⟨S4x16384x32, .f32⟩
  | .hbm, ⟨49, _⟩ => ⟨S4x16384x32, .f32⟩
  | .hbm, ⟨50, _⟩ => ⟨S_, .f32⟩
  | .hbm, ⟨51, _⟩ => ⟨S4x16384x32, .f32⟩
  | .hbm, ⟨52, _⟩ => ⟨S4x16384x32, .f32⟩
  | .hbm, ⟨53, _⟩ => ⟨S4x16384x32, .f32⟩
  | .hbm, ⟨54, _⟩ => ⟨S1x32, .f32⟩
  | .hbm, ⟨55, _⟩ => ⟨S1x1x32, .f32⟩
  | .hbm, ⟨56, _⟩ => ⟨S4x16384x32, .f32⟩
  | .hbm, ⟨57, _⟩ => ⟨S4x16384x32, .f32⟩
  | .hbm, ⟨58, _⟩ => ⟨S4x16384x2, .f32⟩
  | .hbm, ⟨59, _⟩ => ⟨S1x1x2, .f32⟩
  | .hbm, ⟨60, _⟩ => ⟨S4x16384x2, .f32⟩
  | .hbm, ⟨61, _⟩ => ⟨S4x16384x2, .f32⟩
  | .hbm, ⟨62, _⟩ => ⟨S4x16384x2, .f32⟩
  | .hbm, ⟨63, _⟩ => ⟨S4x16384x2, .f32⟩
  | .hbm, ⟨64, _⟩ => ⟨S_, .f32⟩
  | .hbm, ⟨65, _⟩ => ⟨S4x16384x2, .f32⟩
  | .hbm, ⟨66, _⟩ => ⟨S4x16384x2, .f32⟩
  | .hbm, ⟨67, _⟩ => ⟨S_, .f32⟩
  | .hbm, ⟨68, _⟩ => ⟨S4x16384x2, .f32⟩
  | .hbm, ⟨69, _⟩ => ⟨S4x16384x2, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.NetIdealOne.lean ====
/- The first layer's kernel run whole: what its loop over four groups of seeds leaves in the two output blocks. -/
module

public import proofs.«01_k».proof.Proof.Gen.NetIdeal.Launch
public import proofs.«01_k».proof.Proof.Gen.NetIdeal.Skeleton
public import proofs.«01_k».proof.Proof.Gen.NetIdeal.Points
public import proofs.«01_k».proof.Proof.Gen.NetIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NetIdeal.Whole

open Cert.NetIdeal Cert.NetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Loop

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole) (v0 : Vec F S1x8x16384 .f32)

/-- What one group of seeds works on: the seeds and the rows' features as read, the two output blocks, and the distances'
    scratch at whatever the group before left. -/
abbrev held (X2 : BufTy.Contents (Elt F) arg2.view.ty) (X9 : BufTy.Contents (Elt F) arg9.view.ty) (f7 : BufTy.Contents (Elt F) arg7.view.ty) (f8 : BufTy.Contents (Elt F) arg8.view.ty) : sProp 𝕄 :=
  iprop((arg2.view.loc (c : Thread nD τ) ↦[arg2.view.set]{fullShare} X2) ∗ (arg9.view.loc (c : Thread nD τ) ↦[arg9.view.set]{fullShare} X9) ∗ (arg7.view.loc (c : Thread nD τ) ↦[arg7.view.set]{fullShare} f7) ∗ (arg8.view.loc (c : Thread nD τ) ↦[arg8.view.set]{fullShare} f8) ∗ ∃ f10 : BufTy.Contents (Elt F) arg10.view.ty, (arg10.view.loc (c : Thread nD τ) ↦[arg10.view.set]{fullShare} f10))

/-- One group of seeds, run: the pieces it stores into the two output blocks. -/
@[irreducible] def trip (X2 : BufTy.Contents (Elt F) arg2.view.ty) (X9 : BufTy.Contents (Elt F) arg9.view.ty) (k : Fin k0_t1_loop.trips) :
    Σ' (L7 : List (View.Piece (Elt F) S1x512x64 .f32)), { L8 : List (View.Piece (Elt F) S1x512x8 .f32) //
      ∀ (f7 : BufTy.Contents (Elt F) arg7.view.ty) (f8 : BufTy.Contents (Elt F) arg8.view.ty),
        held c arg2 arg7 arg8 arg9 arg10 X2 X9 f7 f8
        ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 v0 k ())
            (fun _ => held c arg2 arg7 arg8 arg9 arg10 X2 X9 (arg7.view.writes (Elt F) f7 L7) (arg8.view.writes (Elt F) f8 L8)) } := by
  have hk : k.val < 4 := Nat.lt_of_lt_of_le k.isLt k0_t1_abs.2.1
  refine ⟨?_, ?_, fun f7 f8 => ?run⟩
  case run =>
    unfold held k0_t1_body
    simp only [k0_part1_eq_skeleton]
    iintro ⟨H2, H9, H7, H8, ⟨%f10, H10⟩⟩
    sl_exec
    sl_step
    isplitl [H2]; · iexact H2
    isplitl [H9]; · iexact H9
    isplitl [H7]; · iexact H7
    isplitl [H8]; · iexact H8
    iexists _; iexact H10

/-- The pieces the first `k` groups store, the latest first. -/
def pcs (X2 : BufTy.Contents (Elt F) arg2.view.ty) (X9 : BufTy.Contents (Elt F) arg9.view.ty) : ℕ → List (View.Piece (Elt F) S1x512x64 .f32) × List (View.Piece (Elt F) S1x512x8 .f32)
  | 0 => ([], [])
  | k + 1 =>
    if h : k < k0_t1_loop.trips then
      ((trip c i arg1 harg1 arg2 harg2 arg3 harg3 arg4 harg4 arg5 harg5 arg6 harg6 arg7 harg7 arg8 harg8 arg9 harg9 arg10 harg10 v0 X2 X9 ⟨k, h⟩).1 ++ (pcs X2 X9 k).1, (trip c i arg1 harg1 arg2 harg2 arg3 harg3 arg4 harg4 arg5 harg5 arg6 harg6 arg7 harg7 arg8 harg8 arg9 harg9 arg10 harg10 v0 X2 X9 ⟨k, h⟩).2.1 ++ (pcs X2 X9 k).2)
    else pcs X2 X9 k

theorem pcs_succ (X2 : BufTy.Contents (Elt F) arg2.view.ty) (X9 : BufTy.Contents (Elt F) arg9.view.ty) (k : Fin k0_t1_loop.trips) :
    pcs c i arg1 harg1 arg2 harg2 arg3 harg3 arg4 harg4 arg5 harg5 arg6 harg6 arg7 harg7 arg8 harg8 arg9 harg9 arg10 harg10 v0 X2 X9 (k.val + 1)
      = ((trip c i arg1 harg1 arg2 harg2 arg3 harg3 arg4 harg4 arg5 harg5 arg6 harg6 arg7 harg7 arg8 harg8 arg9 harg9 arg10 harg10 v0 X2 X9 k).1 ++ (pcs c i arg1 harg1 arg2 harg2 arg3 harg3 arg4 harg4 arg5 harg5 arg6 harg6 arg7 harg7 arg8 harg8 arg9 harg9 arg10 harg10 v0 X2 X9 k.val).1, (trip c i arg1 harg1 arg2 harg2 arg3 harg3 arg4 harg4 arg5 harg5 arg6 harg6 arg7 harg7 arg8 harg8 arg9 harg9 arg10 harg10 v0 X2 X9 k).2.1 ++ (pcs c i arg1 harg1 arg2 harg2 arg3 harg3 arg4 harg4 arg5 harg5 arg6 harg6 arg7 harg7 arg8 harg8 arg9 harg9 arg10 harg10 v0 X2 X9 k.val).2) := by
  rw [pcs.eq_2]; exact dif_pos k.isLt

set_option warn.classDefReducibility false in
/-- The loop over the groups of seeds, by what is stored before each. -/
@[sl_loop] def loopInv (X2 : BufTy.Contents (Elt F) arg2.view.ty) (X9 : BufTy.Contents (Elt F) arg9.view.ty) (G7 : BufTy.Contents (Elt F) arg7.view.ty) (G8 : BufTy.Contents (Elt F) arg8.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 v0 where
  inv k _ := iprop((arg2.view.loc (c : Thread nD τ) ↦[arg2.view.set]{fullShare} X2) ∗ (arg9.view.loc (c : Thread nD τ) ↦[arg9.view.set]{fullShare} X9)
    ∗ (∃ f7 : BufTy.Contents (Elt F) arg7.view.ty, (arg7.view.loc (c : Thread nD τ) ↦[arg7.view.set]{fullShare} f7) ∗ ⌜f7 = arg7.view.writes (Elt F) G7 (pcs c i arg1 harg1 arg2 harg2 arg3 harg3 arg4 harg4 arg5 harg5 arg6 harg6 arg7 harg7 arg8 harg8 arg9 harg9 arg10 harg10 v0 X2 X9 k).1⌝)
    ∗ (∃ f8 : BufTy.Contents (Elt F) arg8.view.ty, (arg8.view.loc (c : Thread nD τ) ↦[arg8.view.set]{fullShare} f8) ∗ ⌜f8 = arg8.view.writes (Elt F) G8 (pcs c i arg1 harg1 arg2 harg2 arg3 harg3 arg4 harg4 arg5 harg5 arg6 harg6 arg7 harg7 arg8 harg8 arg9 harg9 arg10 harg10 v0 X2 X9 k).2⌝)
    ∗ ∃ f10 : BufTy.Contents (Elt F) arg10.view.ty, (arg10.view.loc (c : Thread nD τ) ↦[arg10.view.set]{fullShare} f10))
  step k _ := by
    iintro ⟨H2, H9, ⟨%f7, H7, %h7⟩, ⟨%f8, H8, %h8⟩, H10⟩
    iapply (wp_wand_r Idealize.ShloMosaic.frame (wpE (defs₀ (F := F)) Variants.none (c : Thread nD τ) none) Set.univ)
    isplitl [H2 H9 H7 H8 H10]
    · iapply ((trip c i arg1 harg1 arg2 harg2 arg3 harg3 arg4 harg4 arg5 harg5 arg6 harg6 arg7 harg7 arg8 harg8 arg9 harg9 arg10 harg10 v0 X2 X9 k).2.2 f7 f8)
      isplitl [H2]; · iexact H2
      isplitl [H9]; · iexact H9
      isplitl [H7]; · iexact H7
      isplitl [H8]; · iexact H8
      iexact H10
    · iintro %_ ⟨H2, H9, H7, H8, H10⟩
      isplitl [H2]; · iexact H2
      isplitl [H9]; · iexact H9
      isplitl [H7]
      · iexists _; isplitl [H7]; · iexact H7
        ipureintro; rw [pcs_succ, View.writes_append, h7]
      isplitl [H8]
      · iexists _; isplitl [H8]; · iexact H8
        ipureintro; rw [pcs_succ, View.writes_append, h8]
      iexact H10

end Loop

section Body

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole)
  (x1 : Vec F S1x8x16384 .f32) (x2 : Vec F S1x512x1 .f32) (x3 : Vec F S8x64 .f32) (x4 : Vec F S1x64 .f32) (x5 : Vec F S64x64 .f32) (x6 : Vec F S1x64 .f32)

set_option maxHeartbeats 1000000 in
/-- The kernel's body, run: the pieces it stores into the two output blocks, its inputs and scratch handed back. -/
def run :
    Σ' (L7 : List (View.Piece (Elt F) S1x512x64 .f32)), { L8 : List (View.Piece (Elt F) S1x512x8 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8)) ∗ (∃ d, owns (c : Thread nD τ) arg9 fullShare d) ∗ (∃ d, owns (c : Thread nD τ) arg10 fullShare d)) -∗ K ⟨⟩))
          ⊢ wp frame (wpE (defs₀ (F := F)) Variants.none c none) Set.univ (cc0__sa1_body i arg1 harg1 arg2 harg2 arg3 harg3 arg4 harg4 arg5 harg5 arg6 harg6 arg7 harg7 arg8 harg8 arg9 harg9 arg10 harg10) K } := by
  refine ⟨?_, ?_, fun K => ?run⟩
  case run =>
    simp only [cc0__sa1_body_eq_skeleton]; unfold cc0__sa1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; iexists _; isplitr
      swap; · iexact H9
      ipureintro; rfl
    iexists _; iexists _; isplitr
    swap; · iexact H10
    ipureintro; rfl

theorem cover7 (y : S1x512x64.Idx) : ∃ p ∈ (run c i arg1 harg1 arg2 harg2 arg3 harg3 arg4 harg4 arg5 harg5 arg6 harg6 arg7 harg7 arg8 harg8 arg9 harg9 arg10 harg10 x1 x2 x3 x4 x5 x6).1, y ∈ p.1.set :=
  View.cover_of_tiledL (run c i arg1 harg1 arg2 harg2 arg3 harg3 arg4 harg4 arg5 harg5 arg6 harg6 arg7 harg7 arg8 harg8 arg9 harg9 arg10 harg10 x1 x2 x3 x4 x5 x6).1 S1x128x64.size (by sl_kernel_rfl) y

theorem cover8 (y : S1x512x8.Idx) : ∃ p ∈ (run c i arg1 harg1 arg2 harg2 arg3 harg3 arg4 harg4 arg5 harg5 arg6 harg6 arg7 harg7 arg8 harg8 arg9 harg9 arg10 harg10 x1 x2 x3 x4 x5 x6).2.1, y ∈ p.1.set :=
  View.cover_of_tiledL (run c i arg1 harg1 arg2 harg2 arg3 harg3 arg4 harg4 arg5 harg5 arg6 harg6 arg7 harg7 arg8 harg8 arg9 harg9 arg10 harg10 x1 x2 x3 x4 x5 x6).2.1 S1x128x8.size (by sl_kernel_rfl) y

/-- The features' block after the body. -/
def out7 : Vec F S1x512x64 .f32 :=
  (Memref.whole cc0_stg6_0 : Memref sig .tc .vmem S1x512x64 .f32).view.read (Elt F) ((Memref.whole cc0_stg6_0 : Memref sig .tc .vmem S1x512x64 .f32).view.writes (Elt F) (Memref.whole cc0_stg6_0 : Memref sig .tc .vmem S1x512x64 .f32).view.junk (run c i arg1 harg1 arg2 harg2 arg3 harg3 arg4 harg4 arg5 harg5 arg6 harg6 arg7 harg7 arg8 harg8 arg9 harg9 arg10 harg10 x1 x2 x3 x4 x5 x6).1)

/-- The seeds' block after the body. -/
def out8 : Vec F S1x512x8 .f32 :=
  (Memref.whole cc0_stg7_0 : Memref sig .tc .vmem S1x512x8 .f32).view.read (Elt F) ((Memref.whole cc0_stg7_0 : Memref sig .tc .vmem S1x512x8 .f32).view.writes (Elt F) (Memref.whole cc0_stg7_0 : Memref sig .tc .vmem S1x512x8 .f32).view.junk (run c i arg1 harg1 arg2 harg2 arg3 harg3 arg4 harg4 arg5 harg5 arg6 harg6 arg7 harg7 arg8 harg8 arg9 harg9 arg10 harg10 x1 x2 x3 x4 x5 x6).2.1)

end Body

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input block stands in its staging buffer whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The features' block after the body at point `t`. -/
def outA (c : Dev nD) (t : Fin cfg0.N) : Vec F S1x512x64 .f32 :=
  out7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk0 V c 0 t) (iblk0 V c 1 t) (iblk0 V c 2 t) (iblk0 V c 3 t) (iblk0 V c 4 t) (iblk0 V c 5 t)

/-- The seeds' block after the body at point `t`. -/
def outB (c : Dev nD) (t : Fin cfg0.N) : Vec F S1x512x8 .f32 :=
  out8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk0 V c 0 t) (iblk0 V c 1 t) (iblk0 V c 2 t) (iblk0 V c 3 t) (iblk0 V c 4 t) (iblk0 V c 5 t)

/-- What the launch's theorems ask of the one region: its arrays as it finds them, each input's block kept, the outputs'
    blocks as the body leaves them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outA V c t
    | ⟨7, _⟩ => outB V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outA V c t := by dsimp only [dat0]
theorem after0_7 (c : Dev nD) (t : Fin cfg0.N) : (dat0 V c).after 7 t = outB V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The region's scratch, buffer by buffer. -/
theorem scratch_eq (c : Dev nD) :
    (Pipeline.ΦA spec0 c : sProp 𝕄)
      = iprop(iprop(iprop((∃ d, owns (c : Thread nD τ) (Memref.whole cc0_scratch0) fullShare d) ∗ (∃ d, owns (c : Thread nD τ) (Memref.whole cc0_scratch1) fullShare d)) ∗ Pipeline.scopedRestBut spec0 c [cc0_scratch0, cc0_scratch1]) ∗ (∃ r, prngReg c r)) := by
  unfold Pipeline.ΦA; rw [Pipeline.scopedRest_split_of_list spec0 c [cc0_scratch0, cc0_scratch1] (by decide +kernel) (by decide)]; simp only [owns_whole]; try rfl

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t))

set_option maxHeartbeats 1200000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl, scratch_eq,
    after0_0, after0_1, after0_2, after0_3, after0_4, after0_5, after0_6, after0_7]
  unfold outA outB out7 out8
  iintro ⟨⟨⟨⟨HS9, HS10⟩, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk0 V c 0 t) (iblk0 V c 1 t) (iblk0 V c 2 t) (iblk0 V c 3 t) (iblk0 V c 4 t) (iblk0 V c 5 t)).2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS9]; · iexact HS9
  isplitl [HS10]; · iexact HS10
  iintro ⟨H0, H1, H2, H3, H4, H5, ⟨%e6, H6⟩, ⟨%e7, H7⟩, HS9, HS10⟩
  isplitl [HS9 HS10 HS Hr]
  · isplitl [HS9 HS10 HS]
    · isplitl [HS9 HS10]
      · isplitl [HS9]; · iexact HS9
        iexact HS10
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover7 c _ _ _ _ _ _ _ _ _ _ _ _ _ _ _ _ _ _ _ _ _ _ _ _ _ _ _)
  unfold owns; iexists _; isplitr
  swap; · iexact H7
  ipureintro; exact View.read_writes_of_cover _ _ _ _ _ (cover8 c _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.NetIdeal.Whole

end
-- ==== Proof.NetIdealTwo.lean ====
/- The second layer's kernel run whole. -/
module

public import proofs.«01_k».proof.Proof.Gen.NetIdeal.Launch
public import proofs.«01_k».proof.Proof.Gen.NetIdeal.Skeleton
public import proofs.«01_k».proof.Proof.Gen.NetIdeal.Points
public import proofs.«01_k».proof.Proof.Gen.NetIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NetIdeal.Whole

open Cert.NetIdeal Cert.NetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev VO1_11 : View sig .tc .vmem S1x512x64 .f32 := (Memref.whole cc1_stg11_0 : Memref sig .tc .vmem S1x512x64 .f32).view
abbrev ms1_0 (t : Fin cfg1.N) : Memref sig .tc .vmem S1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512x64 .f32 := win1_11.stage (cfg1.slots t 11)
abbrev hs1_11 (t : Fin cfg1.N) : (ms1_11 t).IsWhole := hstage1_11 ((cfg1.slots t 11).cast nbuf1_11)

-- (the run's proof term is large: the definition's epilogue — `abstractNestedProofs` — walks it past the default budget)
set_option maxHeartbeats 1000000 in
/-- The kernel's body, run: the pieces it stores into the output block, its inputs handed back. -/
noncomputable def kernelRun1_A (c : Dev nD) (i : grid1.Coords) (arg1 : Memref sig .tc .vmem S1x512x64 .f32) (harg1 : arg1.IsWhole) (arg2 : Memref sig .tc .vmem S1x128x1 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x512x64 .f32) (harg12 : arg12.IsWhole)
    (x0 : Vec F S1x512x64 .f32) (x1 : Vec F S1x128x1 .f32) (x2 : Vec F S64x128 .f32) (x3 : Vec F S1x128 .f32) (x4 : Vec F S128x128 .f32) (x5 : Vec F S1x128 .f32) (x6 : Vec F S64x64 .f32) (x7 : Vec F S128x64 .f32) (x8 : Vec F S1x64 .f32) (x9 : Vec F S64x64 .f32) (x10 : Vec F S1x64 .f32) :
    { L11 : List (View.Piece (Elt F) S1x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11)) -∗ K ⟨⟩))
          ⊢ wp frame (wpE (defs₀ (F := F)) Variants.none c none) E (cc1__sa2_fp1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__sa2_fp1_body_eq_skeleton]; unfold cc1__sa2_fp1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact H11

theorem cover1_A_11 (c : Dev nD) (i : grid1.Coords) (arg1 : Memref sig .tc .vmem S1x512x64 .f32) (harg1 : arg1.IsWhole) (arg2 : Memref sig .tc .vmem S1x128x1 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x512x64 .f32) (harg12 : arg12.IsWhole)
    (x0 : Vec F S1x512x64 .f32) (x1 : Vec F S1x128x1 .f32) (x2 : Vec F S64x128 .f32) (x3 : Vec F S1x128 .f32) (x4 : Vec F S128x128 .f32) (x5 : Vec F S1x128 .f32) (x6 : Vec F S64x64 .f32) (x7 : Vec F S128x64 .f32) (x8 : Vec F S1x64 .f32) (x9 : Vec F S64x64 .f32) (x10 : Vec F S1x64 .f32) (y : S1x512x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S1x512x64.size (by sl_kernel_rfl) y

/-- The output block after the body. -/
def out1_A_11 (c : Dev nD) (i : grid1.Coords) (arg1 : Memref sig .tc .vmem S1x512x64 .f32) (harg1 : arg1.IsWhole) (arg2 : Memref sig .tc .vmem S1x128x1 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x512x64 .f32) (harg12 : arg12.IsWhole)
    (x0 : Vec F S1x512x64 .f32) (x1 : Vec F S1x128x1 .f32) (x2 : Vec F S64x128 .f32) (x3 : Vec F S1x128 .f32) (x4 : Vec F S128x128 .f32) (x5 : Vec F S1x128 .f32) (x6 : Vec F S64x64 .f32) (x7 : Vec F S128x64 .f32) (x8 : Vec F S1x64 .f32) (x9 : Vec F S64x64 .f32) (x10 : Vec F S1x64 .f32) : Vec F S1x512x64 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

def outsAt1 (c : Dev nD) (t : Fin cfg1.N) : Vec F S1x512x64 .f32 :=
  out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

/-- What the launch's theorems ask of this region: its arrays as it finds them, each input's block kept, the output's block
    as the body leaves it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold outsAt1
  unfold out1_A_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1_A c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover1_A_11 c _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.NetIdeal.Whole

end
-- ==== Proof.NetIdealThree.lean ====
/- The last layer's kernel run whole. -/
module

public import proofs.«01_k».proof.Proof.Gen.NetIdeal.Launch
public import proofs.«01_k».proof.Proof.Gen.NetIdeal.Skeleton
public import proofs.«01_k».proof.Proof.Gen.NetIdeal.Points
public import proofs.«01_k».proof.Proof.Gen.NetIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NetIdeal.Whole

open Cert.NetIdeal Cert.NetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x8 := Rect.unit (s := S1x2048x8) ![0, 0, 0] S1x2048x8.size inb_S1x2048x8_S1x2048x8_0_0_0
abbrev r2_1 : Rect S1x512x8 := Rect.unit (s := S1x512x8) ![0, 0, 0] S1x512x8.size inb_S1x512x8_S1x512x8_0_0_0
abbrev r2_2 : Rect S1x512x64 := Rect.unit (s := S1x512x64) ![0, 0, 0] S1x512x64.size inb_S1x512x64_S1x512x64_0_0_0
abbrev r2_3 : Rect S8x32 := Rect.unit (s := S8x32) ![0, 0] S8x32.size inb_S8x32_S8x32_0_0
abbrev r2_4 : Rect S64x32 := Rect.unit (s := S64x32) ![0, 0] S64x32.size inb_S64x32_S64x32_0_0
abbrev r2_5 : Rect S1x32 := Rect.unit (s := S1x32) ![0, 0] S1x32.size inb_S1x32_S1x32_0_0
abbrev r2_6 : Rect S32x32 := Rect.unit (s := S32x32) ![0, 0] S32x32.size inb_S32x32_S32x32_0_0
abbrev r2_7 : Rect S32x2 := Rect.unit (s := S32x2) ![0, 0] S32x2.size inb_S32x2_S32x2_0_0
abbrev r2_8 : Rect S1x2 := Rect.unit (s := S1x2) ![0, 0] S1x2.size inb_S1x2_S1x2_0_0
abbrev r2_9 : Rect S1x2048x2 := Rect.unit (s := S1x2048x2) ![0, 0, 0] S1x2048x2.size inb_S1x2048x2_S1x2048x2_0_0_0

/-- The output block after the body. -/
def out2_10 (x0 : Vec F S1x2048x8 .f32) (x1 : Vec F S1x512x8 .f32) (x2 : Vec F S1x512x64 .f32) (x3 : Vec F S8x32 .f32) (x4 : Vec F S64x32 .f32) (x5 : Vec F S1x32 .f32) (x6 : Vec F S32x32 .f32) (x7 : Vec F S1x32 .f32) (x8 : Vec F S32x2 .f32) (x9 : Vec F S1x2 .f32) : Vec F S1x2048x2 .f32 :=
  View.canon [⟨r2_9, k2_pay1 (k2_pay4 (k2_pay2 (View.ld x0 r2_0)) (k2_pay3 (View.ld x0 r2_0) (View.ld x1 r2_1)) (Named.named κ "third" 0x3EAAAAAB#32) (Scalar.ofBits .f32 0x00000000#32) (View.ld x2 r2_2) (View.ld x3 r2_3) (View.ld x4 r2_4) (View.ld x5 r2_5) (View.ld x6 r2_6) (View.ld x7 r2_5) (View.ld x8 r2_7) (View.ld x9 r2_8))⟩]

theorem cover2_10 (p0 : Vec F S1x2048x2 .f32) (y : S1x2048x2.Idx) :
    ∃ pc ∈ ([⟨r2_9, p0⟩] : List (View.Piece (Elt F) S1x2048x2 .f32)), y ∈ pc.1.set :=
  View.cover_of_tiled [⟨r2_9, p0⟩] S1x2048x2.size (by rfl) y

set_option maxHeartbeats 1000000 in
/-- The kernel's body, run on whole blocks. -/
theorem sound_kernel2 (c : Dev nD) (E : Set ℕ) (i : grid2.Coords) (arg2 : Memref sig .tc .vmem S1x2048x8 .f32) (harg2 : arg2.IsWhole) (arg3 : Memref sig .tc .vmem S1x512x8 .f32) (harg3 : arg3.IsWhole) (arg4 : Memref sig .tc .vmem S1x512x64 .f32) (harg4 : arg4.IsWhole) (arg5 : Memref sig .tc .vmem S8x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S32x2 .f32) (harg10 : arg10.IsWhole) (arg11 : Memref sig .tc .vmem S1x2 .f32) (harg11 : arg11.IsWhole) (arg12 : Memref sig .tc .vmem S1x2048x2 .f32) (harg12 : arg12.IsWhole)
    (x0 : Vec F S1x2048x8 .f32) (x1 : Vec F S1x512x8 .f32) (x2 : Vec F S1x512x64 .f32) (x3 : Vec F S8x32 .f32) (x4 : Vec F S64x32 .f32) (x5 : Vec F S1x32 .f32) (x6 : Vec F S32x32 .f32) (x7 : Vec F S1x32 .f32) (x8 : Vec F S32x2 .f32) (x9 : Vec F S1x2 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_10 x0 x1 x2 x3 x4 x5 x6 x7 x8 x9)) -∗ K ⟨⟩))
      ⊢ wp frame (wpE (defs₀ (F := F)) Variants.none c none) E (cc2__fp2_body i arg2 harg2 arg3 harg3 arg4 harg4 arg5 harg5 arg6 harg6 arg7 harg7 arg8 harg8 arg9 harg9 arg10 harg10 arg11 harg11 arg12 harg12) K := by
  simp only [cc2__fp2_body_eq_skeleton]; unfold cc2__fp2_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- What the launch's theorems ask of this region: its arrays as it finds them, each input's block kept, the output's block
    as the body leaves it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.NetIdeal.Whole

end
-- ==== Proof.NetIdealRun.lean ====
/- The run of the whole program: three regions among stretches of host operations. -/
module

public import proofs.«01_k».proof.Proof.NetIdealOne
public import proofs.«01_k».proof.Proof.NetIdealTwo
public import proofs.«01_k».proof.Proof.NetIdealThree
public import proofs.«01_k».proof.Proof.Gen.NetIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NetIdeal.Whole

open Cert.NetIdeal Cert.NetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-! What every buffer holds at each boundary: the launch memory, the host operations before the first region (`Gen.V7`), then
    region by region. -/

/-- At the first region's entry. -/
abbrev A0 (c : Dev nD) : Valuation τ sig (Elt F) := Gen.V7 m c

theorem A0_args (c : Dev nD) : ∀ a ∈ argRefs, A0 m c (Proc.devRef .tc a) = m ((c : Thread nD τ).loc a) :=
  fun a ha => (V7_of m c a (ListAll.forall_mem_of_all_decide (l := argRefs) (p := fun a => a ∉ hostOps0_6_W) (by decide +kernel) a ha)).trans ((V6_of m c a (ListAll.forall_mem_of_all_decide (l := argRefs) (p := fun a => a ∉ hostOps0_5_W) (by decide +kernel) a ha)).trans ((V5_of m c a (ListAll.forall_mem_of_all_decide (l := argRefs) (p := fun a => a ∉ hostOps0_4_W) (by decide +kernel) a ha)).trans ((V4_of m c a (ListAll.forall_mem_of_all_decide (l := argRefs) (p := fun a => a ∉ hostOps0_3_W) (by decide +kernel) a ha)).trans ((V3_of m c a (ListAll.forall_mem_of_all_decide (l := argRefs) (p := fun a => a ∉ hostOps0_2_W) (by decide +kernel) a ha)).trans ((V2_of m c a (ListAll.forall_mem_of_all_decide (l := argRefs) (p := fun a => a ∉ hostOps0_1_W) (by decide +kernel) a ha)).trans (V1_of m c a (ListAll.forall_mem_of_all_decide (l := argRefs) (p := fun a => a ∉ hostOps0_W) (by decide +kernel) a ha)))))))

abbrev A0r : (c : Dev nD) → (b : Ref sig .tc) → Buf (Elt F) ((c : Thread nD τ).loc b) := fun c b => A0 m c b

/-- At region 0's exit: its arrays at what it leaves, every other buffer as entered. -/
def B0 (c : Dev nD) : Valuation τ sig (Elt F) :=
  Pipeline.withArrays spec0 c (A0 m c) fun w => (dat0 (A0r m) c).arrAt w cfg0.N

theorem B0_arr (c : Dev nD) (w : Fin cfg0.W) :
    B0 m c (Proc.devRef .tc (Pipeline.arrRef spec0 w)) = (dat0 (A0r m) c).arrAt w cfg0.N := by
  unfold B0; exact Pipeline.withArrays_arr spec0 launch0.win.arr_inj c _ _ w

theorem B0_of_ne (c : Dev nD) (b : Ref sig .tc) (hb : ∀ w, Pipeline.arrRef spec0 w ≠ b) :
    B0 m c (Proc.devRef .tc b) = A0 m c (Proc.devRef .tc b) := by
  unfold B0; exact Pipeline.withArrays_of_ne spec0 c _ _ b hb

/-- A buffer that is none of region 0's output arrays keeps its contents across it. -/
theorem B0_of (c : Dev nD) (r : Ref sig .tc) (h : ∀ w : Fin cfg0.W, Pipeline.arrRef spec0 w = r → (cfg0.win w).isOut = false) :
    B0 m c (Proc.devRef .tc r) = A0 m c (Proc.devRef .tc r) := by
  by_cases hw : ∃ w : Fin cfg0.W, Pipeline.arrRef spec0 w = r
  · obtain ⟨w, rfl⟩ := hw
    exact (B0_arr m c w).trans (((dat0 (A0r m) c).arrAt_in w (h w rfl) _).trans (A_eq0 (A0r m) c w))
  · exact B0_of_ne m c r fun w e => hw ⟨w, e⟩

theorem B0_args (c : Dev nD) : ∀ a ∈ argRefs, B0 m c (Proc.devRef .tc a) = m ((c : Thread nD τ).loc a) :=
  fun a ha => (B0_of m c a (ListAll.forall_mem_of_all_decide (l := argRefs) (p := fun a => ∀ w : Fin cfg0.W, Pipeline.arrRef spec0 w = a → (cfg0.win w).isOut = false) (by decide +kernel) a ha)).trans (A0_args m c a ha)

abbrev B0r : (c : Dev nD) → (b : Ref sig .tc) → Buf (Elt F) ((c : Thread nD τ).loc b) := fun c b => B0 m c b

theorem hF0 (c : Dev nD) (w : Fin cfg0.W) : (dat0 (A0r m) c).arrAt w cfg0.N = B0r m c (Pipeline.arrRef spec0 w) :=
  (B0_arr m c w).symm

theorem hrest0 (c : Dev nD) : ∀ b, b ∉ Finset.univ.image (Pipeline.arrRef spec0) → B0r m c b = A0r m c b :=
  fun b hb => B0_of_ne m c b fun w e => hb (Finset.mem_image.mpr ⟨w, Finset.mem_univ _, e⟩)

/-- After the host operations `hostOps1`. -/
abbrev A1 (c : Dev nD) : Valuation τ sig (Elt F) := StableHlo.after hostOps1 (B0 m c)

theorem A1_of (c : Dev nD) (r : Ref sig .tc) (h : r ∉ hostOps1_W) : A1 m c (Proc.devRef .tc r) = B0 m c (Proc.devRef .tc r) :=
  StableHlo.after_of_writes_sub hostOps1 _ hostOps1_writes h

theorem A1_args (c : Dev nD) : ∀ a ∈ argRefs, A1 m c (Proc.devRef .tc a) = m ((c : Thread nD τ).loc a) :=
  fun a ha => (A1_of m c a (ListAll.forall_mem_of_all_decide (l := argRefs) (p := fun a => a ∉ hostOps1_W) (by decide +kernel) a ha)).trans (B0_args m c a ha)

abbrev A1r : (c : Dev nD) → (b : Ref sig .tc) → Buf (Elt F) ((c : Thread nD τ).loc b) := fun c b => A1 m c b

/-- At region 1's exit: its arrays at what it leaves, every other buffer as entered. -/
def B1 (c : Dev nD) : Valuation τ sig (Elt F) :=
  Pipeline.withArrays spec1 c (A1 m c) fun w => (dat1 (A1r m) c).arrAt w cfg1.N

theorem B1_arr (c : Dev nD) (w : Fin cfg1.W) :
    B1 m c (Proc.devRef .tc (Pipeline.arrRef spec1 w)) = (dat1 (A1r m) c).arrAt w cfg1.N := by
  unfold B1; exact Pipeline.withArrays_arr spec1 launch1.win.arr_inj c _ _ w

theorem B1_of_ne (c : Dev nD) (b : Ref sig .tc) (hb : ∀ w, Pipeline.arrRef spec1 w ≠ b) :
    B1 m c (Proc.devRef .tc b) = A1 m c (Proc.devRef .tc b) := by
  unfold B1; exact Pipeline.withArrays_of_ne spec1 c _ _ b hb

/-- A buffer that is none of region 1's output arrays keeps its contents across it. -/
theorem B1_of (c : Dev nD) (r : Ref sig .tc) (h : ∀ w : Fin cfg1.W, Pipeline.arrRef spec1 w = r → (cfg1.win w).isOut = false) :
    B1 m c (Proc.devRef .tc r) = A1 m c (Proc.devRef .tc r) := by
  by_cases hw : ∃ w : Fin cfg1.W, Pipeline.arrRef spec1 w = r
  · obtain ⟨w, rfl⟩ := hw
    exact (B1_arr m c w).trans (((dat1 (A1r m) c).arrAt_in w (h w rfl) _).trans (A_eq1 (A1r m) c w))
  · exact B1_of_ne m c r fun w e => hw ⟨w, e⟩

theorem B1_args (c : Dev nD) : ∀ a ∈ argRefs, B1 m c (Proc.devRef .tc a) = m ((c : Thread nD τ).loc a) :=
  fun a ha => (B1_of m c a (ListAll.forall_mem_of_all_decide (l := argRefs) (p := fun a => ∀ w : Fin cfg1.W, Pipeline.arrRef spec1 w = a → (cfg1.win w).isOut = false) (by decide +kernel) a ha)).trans (A1_args m c a ha)

abbrev B1r : (c : Dev nD) → (b : Ref sig .tc) → Buf (Elt F) ((c : Thread nD τ).loc b) := fun c b => B1 m c b

theorem hF1 (c : Dev nD) (w : Fin cfg1.W) : (dat1 (A1r m) c).arrAt w cfg1.N = B1r m c (Pipeline.arrRef spec1 w) :=
  (B1_arr m c w).symm

theorem hrest1 (c : Dev nD) : ∀ b, b ∉ Finset.univ.image (Pipeline.arrRef spec1) → B1r m c b = A1r m c b :=
  fun b hb => B1_of_ne m c b fun w e => hb (Finset.mem_image.mpr ⟨w, Finset.mem_univ _, e⟩)

/-- After the host operations `hostOps2`. -/
abbrev A2 (c : Dev nD) : Valuation τ sig (Elt F) := StableHlo.after hostOps2 (B1 m c)

theorem A2_of (c : Dev nD) (r : Ref sig .tc) (h : r ∉ hostOps2_W) : A2 m c (Proc.devRef .tc r) = B1 m c (Proc.devRef .tc r) :=
  StableHlo.after_of_writes_sub hostOps2 _ hostOps2_writes h

theorem A2_args (c : Dev nD) : ∀ a ∈ argRefs, A2 m c (Proc.devRef .tc a) = m ((c : Thread nD τ).loc a) :=
  fun a ha => (A2_of m c a (ListAll.forall_mem_of_all_decide (l := argRefs) (p := fun a => a ∉ hostOps2_W) (by decide +kernel) a ha)).trans (B1_args m c a ha)

abbrev A2r : (c : Dev nD) → (b : Ref sig .tc) → Buf (Elt F) ((c : Thread nD τ).loc b) := fun c b => A2 m c b

/-- At region 2's exit: its arrays at what it leaves, every other buffer as entered. -/
def B2 (c : Dev nD) : Valuation τ sig (Elt F) :=
  Pipeline.withArrays spec2 c (A2 m c) fun w => (dat2 (A2r m) c).arrAt w cfg2.N

theorem B2_arr (c : Dev nD) (w : Fin cfg2.W) :
    B2 m c (Proc.devRef .tc (Pipeline.arrRef spec2 w)) = (dat2 (A2r m) c).arrAt w cfg2.N := by
  unfold B2; exact Pipeline.withArrays_arr spec2 launch2.win.arr_inj c _ _ w

theorem B2_of_ne (c : Dev nD) (b : Ref sig .tc) (hb : ∀ w, Pipeline.arrRef spec2 w ≠ b) :
    B2 m c (Proc.devRef .tc b) = A2 m c (Proc.devRef .tc b) := by
  unfold B2; exact Pipeline.withArrays_of_ne spec2 c _ _ b hb

/-- A buffer that is none of region 2's output arrays keeps its contents across it. -/
theorem B2_of (c : Dev nD) (r : Ref sig .tc) (h : ∀ w : Fin cfg2.W, Pipeline.arrRef spec2 w = r → (cfg2.win w).isOut = false) :
    B2 m c (Proc.devRef .tc r) = A2 m c (Proc.devRef .tc r) := by
  by_cases hw : ∃ w : Fin cfg2.W, Pipeline.arrRef spec2 w = r
  · obtain ⟨w, rfl⟩ := hw
    exact (B2_arr m c w).trans (((dat2 (A2r m) c).arrAt_in w (h w rfl) _).trans (A_eq2 (A2r m) c w))
  · exact B2_of_ne m c r fun w e => hw ⟨w, e⟩

theorem B2_args (c : Dev nD) : ∀ a ∈ argRefs, B2 m c (Proc.devRef .tc a) = m ((c : Thread nD τ).loc a) :=
  fun a ha => (B2_of m c a (ListAll.forall_mem_of_all_decide (l := argRefs) (p := fun a => ∀ w : Fin cfg2.W, Pipeline.arrRef spec2 w = a → (cfg2.win w).isOut = false) (by decide +kernel) a ha)).trans (A2_args m c a ha)

abbrev B2r : (c : Dev nD) → (b : Ref sig .tc) → Buf (Elt F) ((c : Thread nD τ).loc b) := fun c b => B2 m c b

theorem hF2 (c : Dev nD) (w : Fin cfg2.W) : (dat2 (A2r m) c).arrAt w cfg2.N = B2r m c (Pipeline.arrRef spec2 w) :=
  (B2_arr m c w).symm

theorem hrest2 (c : Dev nD) : ∀ b, b ∉ Finset.univ.image (Pipeline.arrRef spec2) → B2r m c b = A2r m c b :=
  fun b hb => B2_of_ne m c b fun w e => hb (Finset.mem_image.mpr ⟨w, Finset.mem_univ _, e⟩)

/-- The three regions' data, each at its entry's contents. -/
def pdats : (p : Fin 3) → (c : Dev nD) → Dat τ (Elt F) Unit ℕ (UR sig nD τ) ℕ (Pipeline.pin (pcfgs (F := F)) adm p) c
  | ⟨0, _⟩ => fun c => dat0 (A0r m) c
  | ⟨1, _⟩ => fun c => dat1 (A1r m) c
  | ⟨2, _⟩ => fun c => dat2 (A2r m) c

abbrev 𝒱₀ : Variants := Variants.none

/-- No core owes another anything. -/
abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state: every buffer at `B2`. -/
abbrev Tₙ (c : Dev nD) : sProp 𝕄 := iprop(StableHlo.held (c : Thread nD τ) (Pipeline.ucRefs τ sig) (B2 m c) ∗ ∃ r, prngReg c r)

set_option backward.isDefEq.respectTransparency.types false in
/-- Region 0 over the thread's state: entered from every buffer at `A0`, left at `B0`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A0r m) c).loose
  hwaits := Pipeline.hwaits_of_owed_zero _ _ _ _ L lv 0 fun _ _ => rfl
  pre c := iprop(StableHlo.held (c : Thread nD τ) (Pipeline.ucRefs τ sig) (A0 m c) ∗ R c)
  post c := iprop(StableHlo.held (c : Thread nD τ) (Pipeline.ucRefs τ sig) (B0 m c) ∗ R c)
  X c := iprop(∃ r, prngReg c r)
  Y c := iprop(∃ r, prngReg c r)
  Z c := Pipeline.unscopedRest (Ix := Unit) (Name := ℕ) (U := UR sig nD τ) (Lvl := ℕ) spec0 c (A0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A0r m c) (A_eq0 (A0r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A0r m c) (B0r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread's state: entered from every buffer at `A1`, left at `B1`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A1r m) c).loose
  hwaits := Pipeline.hwaits_of_owed_zero _ _ _ _ L lv 1 fun _ _ => rfl
  pre c := iprop(StableHlo.held (c : Thread nD τ) (Pipeline.ucRefs τ sig) (A1 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec1 c (A1r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A1r m c) (A_eq1 (A1r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A1r m c) (B1r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread's state: entered from every buffer at `A2`, left at `B2`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (A2r m) c).loose
  hwaits := Pipeline.hwaits_of_owed_zero _ _ _ _ L lv 2 fun _ _ => rfl
  pre c := iprop(StableHlo.held (c : Thread nD τ) (Pipeline.ucRefs τ sig) (A2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (A2r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (A2r m c) (A_eq2 (A2r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (A2r m c) (B2r m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg0 m),
    .host (hseg hostOps1 hostOps1_sub hostOps1_fresh (B0 m)),
    .region (reg1 m),
    .host (hseg hostOps2 hostOps2_sub hostOps2_fresh (B1 m)),
    .region (reg2 m) ]

theorem main_run (c : Dev nD) : main (F := F) c = Pipeline.Seg.run (segs m) := (main_chain c).trans (by chain_rfl)

set_option backward.isDefEq.respectTransparency.types false in
/-- The run: every unscoped buffer ends at `B2`'s contents, and every semaphore counter at zero. -/
theorem launch : θ_run defs (onTc (τ := τ) (main (F := F))) ⟨m, fun _ => 0, ρ⟩ (fun r => (∀ c : Dev nD, ∀ b ∈ Pipeline.ucRefs τ sig,
      r.2.mem (((c : Thread nD τ)).1, b) = B2 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h hz => ⟨h, funext fun g => hz g (.inr (regions_no_unscoped g.2))⟩)

/-- An argument ends as launched. -/
theorem arg_end {s : MemSt nD τ sig (Elt F)} {c : Dev nD} (h : ∀ b ∈ Pipeline.ucRefs τ sig, s.mem (((c : Thread nD τ)).1, b) = B2 m c b)
    (a : Ref sig .tc) (ha : a ∈ argRefs) (hs : ¬ (Proc.devRef .tc a : DevRef τ sig).isScoped) :
    s.mem ((c : Thread nD τ).loc a) = m ((c : Thread nD τ).loc a) :=
  (h _ (mem_uc a hs)).trans (B2_args m c a ha)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun r h => ⟨fun c => ⟨arg_end m (h.1 c) main_arg0 (by decide) (by decide), arg_end m (h.1 c) main_arg1 (by decide) (by decide), arg_end m (h.1 c) main_arg2 (by decide) (by decide), arg_end m (h.1 c) main_arg3 (by decide) (by decide), arg_end m (h.1 c) main_arg4 (by decide) (by decide), arg_end m (h.1 c) main_arg5 (by decide) (by decide), arg_end m (h.1 c) main_arg6 (by decide) (by decide), arg_end m (h.1 c) main_arg7 (by decide) (by decide), arg_end m (h.1 c) main_arg8 (by decide) (by decide), arg_end m (h.1 c) main_arg9 (by decide) (by decide), arg_end m (h.1 c) main_arg10 (by decide) (by decide), arg_end m (h.1 c) main_arg11 (by decide) (by decide), arg_end m (h.1 c) main_arg12 (by decide) (by decide), arg_end m (h.1 c) main_arg13 (by decide) (by decide), arg_end m (h.1 c) main_arg14 (by decide) (by decide), arg_end m (h.1 c) main_arg15 (by decide) (by decide), arg_end m (h.1 c) main_arg16 (by decide) (by decide), arg_end m (h.1 c) main_arg17 (by decide) (by decide), arg_end m (h.1 c) main_arg18 (by decide) (by decide), arg_end m (h.1 c) main_arg19 (by decide) (by decide), arg_end m (h.1 c) main_arg20 (by decide) (by decide)⟩, h.2⟩) (launch m ρ)

/-- The result array after the run, and the arguments as they were. -/
theorem value : θ_run defs (onTc (τ := τ) (main (F := F))) ⟨m, fun _ => 0, ρ⟩ (fun r => ∀ c : Dev nD,
      r.2.mem ((c.tc : Thread nD τ).loc main_v23) = (dat2 (A2r m) c).arrAt 10 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h.1 c _ (mem_uc main_v23 (by decide))).trans (B2_arr m c 10), arg_end m (h.1 c) main_arg0 (by decide) (by decide), arg_end m (h.1 c) main_arg1 (by decide) (by decide), arg_end m (h.1 c) main_arg2 (by decide) (by decide), arg_end m (h.1 c) main_arg3 (by decide) (by decide), arg_end m (h.1 c) main_arg4 (by decide) (by decide), arg_end m (h.1 c) main_arg5 (by decide) (by decide), arg_end m (h.1 c) main_arg6 (by decide) (by decide), arg_end m (h.1 c) main_arg7 (by decide) (by decide), arg_end m (h.1 c) main_arg8 (by decide) (by decide), arg_end m (h.1 c) main_arg9 (by decide) (by decide), arg_end m (h.1 c) main_arg10 (by decide) (by decide), arg_end m (h.1 c) main_arg11 (by decide) (by decide), arg_end m (h.1 c) main_arg12 (by decide) (by decide), arg_end m (h.1 c) main_arg13 (by decide) (by decide), arg_end m (h.1 c) main_arg14 (by decide) (by decide), arg_end m (h.1 c) main_arg15 (by decide) (by decide), arg_end m (h.1 c) main_arg16 (by decide) (by decide), arg_end m (h.1 c) main_arg17 (by decide) (by decide), arg_end m (h.1 c) main_arg18 (by decide) (by decide), arg_end m (h.1 c) main_arg19 (by decide) (by decide), arg_end m (h.1 c) main_arg20 (by decide) (by decide)⟩) (launch m ρ)

end Cert.NetIdeal.Whole

end
-- ==== Proof.Select.lean ====
/- Repeated strict minima against a sorted selection: if `σ` lists the first members of a family `d` of extended
   reals in strictly increasing order and nothing outside the list lies below its last member, then the pass
   «least value above the previous one» walks along `d ∘ σ`, and the comparison with that value picks one member. -/
module

public import Mathlib.Data.EReal.Operations
public import Mathlib.Algebra.BigOperators.Group.Finset.Basic
public import Mathlib.Data.Finset.Fold
public import Mathlib.Algebra.BigOperators.Fin
public import Mathlib.Data.Fintype.BigOperators

@[expose] public section

noncomputable section

namespace Cert.Select

variable {N K : ℕ}

/-- The least value of `d` strictly above `b`, `⊤` if there is none: one pass over the row. -/
def minAbove (d : Fin N → EReal) (b : EReal) : EReal :=
  Finset.univ.fold min ⊤ fun i => if b < d i then d i else ⊤

/-- A value of `d` above `b` with nothing of `d` between is the least above `b`. -/
theorem minAbove_eq (d : Fin N → EReal) (b : EReal) (a : Fin N) (h1 : b < d a) (h2 : ∀ i, b < d i → d a ≤ d i) :
    minAbove d b = d a := by
  apply le_antisymm
  · unfold minAbove
    refine (Finset.fold_min_le _).2 (.inr ⟨a, Finset.mem_univ _, ?_⟩)
    rw [if_pos h1]
  · unfold minAbove
    refine Finset.le_fold_min _ |>.2 ⟨le_top, fun i _ => ?_⟩
    by_cases h : b < d i
    · rw [if_pos h]; exact h2 i h
    · rw [if_neg h]; exact le_top

/-- The threshold after `j` passes, from `⊥`. -/
def level (d : Fin N → EReal) : ℕ → EReal
  | 0 => ⊥
  | j + 1 => minAbove d (level d j)

/-- `σ` lists members of `d` in strictly increasing order, the first above `⊥`; a member off the list is at least
    every listed one. -/
structure Ranked (d : Fin N → EReal) (σ : Fin K → Fin N) : Prop where
  lt : ∀ i j : Fin K, i < j → d (σ i) < d (σ j)
  bot : ∀ i : Fin K, ⊥ < d (σ i)
  off : ∀ i : Fin N, (∀ j, σ j ≠ i) → ∀ j : Fin K, d (σ j) ≤ d i

namespace Ranked

variable {d : Fin N → EReal} {σ : Fin K → Fin N} (R : Ranked d σ)
include R

theorem inj : Function.Injective σ := by
  intro i j h
  rcases lt_trichotomy i j with hij | hij | hij
  · exact absurd (h ▸ R.lt i j hij) (lt_irrefl _)
  · exact hij
  · exact absurd (h ▸ R.lt j i hij) (lt_irrefl _)

/-- After `j + 1` passes the threshold is the `j`-th listed value. -/
theorem level_eq (j : ℕ) (hj : j < K) : level d (j + 1) = d (σ ⟨j, hj⟩) := by
  induction j with
  | zero =>
    refine minAbove_eq d _ _ (R.bot _) fun i _ => ?_
    by_cases h : ∃ l, σ l = i
    · obtain ⟨l, rfl⟩ := h
      rcases (Nat.zero_le l.val).lt_or_eq with hl | hl
      · exact (R.lt _ _ (by rw [Fin.lt_def]; exact hl)).le
      · exact le_of_eq (congrArg (fun x => d (σ x)) (Fin.ext hl))
    · exact R.off i (fun l hl => h ⟨l, hl⟩) _
  | succ j ih =>
    have e := ih (by omega)
    show minAbove d (level d (j + 1)) = _
    rw [e]
    refine minAbove_eq d _ _ (R.lt _ _ (by rw [Fin.lt_def]; exact Nat.lt_succ_self j)) fun i hi => ?_
    by_cases h : ∃ l, σ l = i
    · obtain ⟨l, rfl⟩ := h
      have hl : j < l.val := by
        by_contra hc
        rcases (Nat.le_of_not_lt hc).lt_or_eq with h' | h'
        · exact absurd (R.lt l ⟨j, by omega⟩ (by rw [Fin.lt_def]; exact h')) (not_lt.2 hi.le)
        · exact absurd hi (not_lt.2 (le_of_eq (congrArg (fun x => d (σ x)) (Fin.ext h'))))
      rcases (show j + 1 ≤ l.val from hl).lt_or_eq with h' | h'
      · exact (R.lt _ _ (by rw [Fin.lt_def]; exact h')).le
      · exact le_of_eq (congrArg (fun x => d (σ x)) (Fin.ext h'))
    · exact R.off i (fun l hl => h ⟨l, hl⟩) _

/-- Every listed value but the last is met at the listed place alone. -/
theorem eq_iff (j : ℕ) (hj : j + 1 < K) (i : Fin N) : d i = d (σ ⟨j, by omega⟩) ↔ i = σ ⟨j, by omega⟩ := by
  refine ⟨fun h => ?_, fun h => h ▸ rfl⟩
  by_cases hm : ∃ l, σ l = i
  · obtain ⟨l, rfl⟩ := hm
    rcases lt_trichotomy l ⟨j, by omega⟩ with h' | h' | h'
    · exact absurd (h ▸ R.lt _ _ h') (lt_irrefl _)
    · rw [h']
    · exact absurd (h ▸ R.lt _ _ h') (lt_irrefl _)
  · have h1 := R.off i (fun l hl => hm ⟨l, hl⟩) ⟨j + 1, hj⟩
    have h2 := R.lt ⟨j, by omega⟩ ⟨j + 1, hj⟩ (by rw [Fin.lt_def]; exact Nat.lt_succ_self j)
    exact absurd (h1.trans (le_of_eq h)) (not_le.2 h2)

/-- The one-hot row of pass `j` picks the `j`-th listed entry. -/
theorem pick (x : Fin N → EReal) (j : ℕ) (hj : j + 1 < K) :
    ∑ i, (if d i = level d (j + 1) then (1 : EReal) else 0) * x i = x (σ ⟨j, by omega⟩) := by
  rw [R.level_eq j (by omega)]
  simp only [R.eq_iff j hj]
  rw [Finset.sum_eq_single (σ ⟨j, by omega⟩)]
  · rw [if_pos rfl, one_mul]
  · intro b _ hb; rw [if_neg hb, zero_mul]
  · intro h; exact absurd (Finset.mem_univ _) h

end Ranked

/-- The members at most the threshold after `K` passes are the first `K` listed ones. -/
theorem Ranked.le_iff {d : Fin N → EReal} {σ : Fin (K + 1) → Fin N} (R : Ranked d σ) (hK : 0 < K) (i : Fin N) :
    d i ≤ level d K ↔ ∃ j : Fin K, σ j.castSucc = i := by
  obtain ⟨k, rfl⟩ : ∃ k, K = k + 1 := ⟨K - 1, by omega⟩
  rw [R.level_eq k (by omega)]
  constructor
  · intro h
    by_cases hm : ∃ l, σ l = i
    · obtain ⟨l, rfl⟩ := hm
      have hl : l.val < k + 1 := by
        by_contra hc
        exact absurd (R.lt ⟨k, by omega⟩ l (by rw [Fin.lt_def]; exact Nat.lt_of_lt_of_le (Nat.lt_succ_self k) (Nat.le_of_not_lt hc))) (not_lt.2 h)
      exact ⟨⟨l.val, hl⟩, rfl⟩
    · have h1 := R.off i (fun l hl => hm ⟨l, hl⟩) ⟨k + 1, by omega⟩
      have h2 := R.lt ⟨k, by omega⟩ ⟨k + 1, by omega⟩ (by rw [Fin.lt_def]; exact Nat.lt_succ_self k)
      exact absurd (h1.trans h) (not_le.2 h2)
  · rintro ⟨j, rfl⟩
    rcases (Nat.le_of_lt_succ j.isLt).lt_or_eq with h' | h'
    · exact (R.lt _ _ (by rw [Fin.lt_def]; exact h')).le
    · exact le_of_eq (congrArg (fun x => d (σ x)) (Fin.ext h'))

/-- The weighted row of the threshold test sums the first `K` listed entries, each with the weight. -/
theorem Ranked.sum_le {d : Fin N → EReal} {σ : Fin (K + 1) → Fin N} (R : Ranked d σ) (hK : 0 < K) (c : EReal)
    (x : Fin N → EReal) :
    ∑ i, (if d i ≤ level d K then c else 0) * x i = ∑ j : Fin K, c * x (σ j.castSucc) := by
  simp only [R.le_iff hK]
  have hinj : Function.Injective fun j : Fin K => σ j.castSucc := fun a b h => Fin.castSucc_injective _ (R.inj h)
  rw [← Finset.sum_image (f := fun i => c * x i) (fun a _ b _ h => hinj h)]
  symm
  apply Finset.sum_subset_zero_on_sdiff (Finset.subset_univ _)
  · intro i hi
    have : ¬ ∃ j : Fin K, σ j.castSucc = i := by
      rintro ⟨j, rfl⟩
      exact (Finset.mem_sdiff.1 hi).2 (Finset.mem_image_of_mem _ (Finset.mem_univ j))
    rw [if_neg this, zero_mul]
  · intro i hi
    obtain ⟨j, _, rfl⟩ := Finset.mem_image.1 hi
    rw [if_pos ⟨j, rfl⟩]

/-- A real factor goes into a sum of three extended reals. -/
theorem mul_sum3 (c : ℝ) (hc : 0 ≤ c) (f : Fin 3 → EReal) : ∑ j, (c : EReal) * f j = (c : EReal) * ∑ j, f j := by
  simp only [Fin.sum_univ_three]
  have h (a b : EReal) : (c : EReal) * a + c * b = c * (a + b) :=
    (EReal.left_distrib_of_nonneg_of_ne_top (by exact_mod_cast hc) (EReal.coe_ne_top c) a b).symm
  rw [h, h]

/-- A one-hot row picks one entry. -/
theorem onehot (x : Fin N → EReal) (a : Fin N) : ∑ i, (if i = a then (1 : EReal) else 0) * x i = x a := by
  rw [Finset.sum_eq_single a]
  · rw [if_pos rfl, one_mul]
  · intro b _ hb; rw [if_neg hb, zero_mul]
  · intro h; exact absurd (Finset.mem_univ _) h

/-- The greatest of a list of `n + 1` values by running maximum. -/
theorem fold_max_succ (n : ℕ) (b : EReal) (f : Fin (n + 1) → EReal) :
    Finset.univ.fold max b f = max (Finset.univ.fold max b fun i : Fin n => f i.castSucc) (f (Fin.last n)) := by
  rw [Fin.univ_castSuccEmb, Finset.fold_cons, Finset.fold_map, max_comm]
  rfl

end Cert.Select

end
-- ==== Proof.TopK.lean ====
/- The host's top-k along the last axis of a rank-3 array of extended reals, and its gathers by rows, read at
   an index: both through the row's sorting permutation. -/
module

public import Idealize.ShloMosaic.Lib.Pointwise
public import Idealize.ShloMosaic.Lib.ValueIdx
public import Idealize.ShloMosaic.Lib.SortFacts
public import proofs.«01_k».proof.Proof.Select

@[expose] public section

set_option maxRecDepth 16384

noncomputable section

namespace Cert.Select

open Idealize.ShloMosaic

/-- The sorting permutation of a row, greatest first. -/
def perm {N : ℕ} (v : Fin N → EReal) : Fin N → Fin N :=
  sortedFrom fun k k' => (FloatOps.cmpfTotal (F := Ideal) (φ := .f32) .gt (v k) (v k') : BitVec 1) == 1#1

theorem gt_iff (a b : EReal) :
    ((FloatOps.cmpfTotal (F := Ideal) (φ := .f32) .gt a b : BitVec 1) == 1#1) = decide (b < a) := by
  rw [Ideal.cmpfTotal_def]
  by_cases h : b < a <;> simp [Ideal.cmp, CmpDirection.ordered, h]

theorem perm_surjective {N : ℕ} (v : Fin N → EReal) : Function.Surjective (perm v) := sortedFrom_surjective _

theorem perm_antitone {N : ℕ} (v : Fin N → EReal) (i j : Fin N) (h : i < j) : v (perm v j) ≤ v (perm v i) := by
  have := sortedFrom_noInversion (fun k k' => decide (v k' < v k)) (fun k k' => decide (v k' < v k))
    (fun a b hab => by simp at hab ⊢; exact hab.le) (fun _ _ h => h)
    (fun a b c h1 h2 => by simp at h1 h2 ⊢; exact h1.trans h2) i j h
  unfold perm
  simp only [gt_iff]
  simpa using this

section topk

variable {A B N k : ℕ} (x : FVec Ideal ⟨3, ![A, B, N]⟩ .f32)
  (h : (⟨3, ![A, B, N]⟩ : Shape).Slices (fun _ => 0) ⟨3, ![A, B, k]⟩)

theorem along2 (a : Fin A) (b : Fin B) (j l : Fin N) :
    Shape.Idx.along (s := ⟨3, ![A, B, N]⟩) (ix3 a b j) (2 : Fin 3) l = ix3 a b l := by
  funext i
  match i with
  | ⟨0, _⟩ => rfl
  | ⟨1, _⟩ => rfl
  | ⟨2, _⟩ => rfl

/-- The first `k` places of the last axis, as an index of the whole array. -/
theorem slice0 (hk : k ≤ N) (a : Fin A) (b : Fin B) (j : Fin k) :
    (fun i => ⟨0 + ((ix3 a b j : (⟨3, ![A, B, k]⟩ : Shape).Idx) (i.cast h.1.symm)).val,
        Nat.lt_of_lt_of_le (Nat.add_lt_add_left (Fin.isLt _) (0 : ℕ)) (h.2 i)⟩ : (⟨3, ![A, B, N]⟩ : Shape).Idx)
      = ix3 a b (Fin.castLE hk j) := by
  funext i
  match i with
  | ⟨0, _⟩ => exact Fin.ext (Nat.zero_add _)
  | ⟨1, _⟩ => exact Fin.ext (Nat.zero_add _)
  | ⟨2, _⟩ => exact Fin.ext (Nat.zero_add _)

/-- The place a sorted row is read from, at the whole array's index and at the row's. -/
theorem src_eq (hk : k ≤ N) (a : Fin A) (b : Fin B) (j : Fin k) (l0 : Fin N) (p : Fin N) (hp : p.val = j.val) :
    sortedFrom (fun l l' : Fin N =>
        (FloatOps.cmpfTotal (F := Ideal) (φ := .f32) .gt (x (Shape.Idx.along (s := ⟨3, ![A, B, N]⟩) (ix3 a b l0) (2 : Fin 3) l))
          (x (Shape.Idx.along (s := ⟨3, ![A, B, N]⟩) (ix3 a b l0) (2 : Fin 3) l')) : BitVec 1) == 1#1) p
      = perm (fun l => x (ix3 a b l)) (Fin.castLE hk j) := by
  unfold perm
  simp only [along2]
  exact congrArg _ (Fin.ext hp)

theorem topK_val (hk : k ≤ N) (a : Fin A) (b : Fin B) (j : Fin k) :
    (Host.topK ⟨3, ![A, B, k]⟩ 2 (FloatOps.cmpfTotal .gt) x h).1 (ix3 a b j)
      = x (ix3 a b (perm (fun l => x (ix3 a b l)) (Fin.castLE hk j))) := by
  unfold Host.topK extractStridedSlice Host.sort2
  simp only [show (2 : ℕ) < (⟨3, ![A, B, N]⟩ : Shape).rank from Nat.lt_succ_self 2, dif_pos]
  rw [slice0 h hk]
  refine (congrArg x (along2 a b _ _)).trans (congrArg (fun q => x (ix3 a b q)) ?_)
  exact src_eq x hk a b j _ _ (Nat.zero_add _)

theorem topK_idx (hk : k ≤ N) (a : Fin A) (b : Fin B) (j : Fin k) :
    (Host.topK ⟨3, ![A, B, k]⟩ 2 (FloatOps.cmpfTotal .gt) x h).2 (ix3 a b j)
      = BitVec.ofNat 32 (perm (fun l => x (ix3 a b l)) (Fin.castLE hk j)).val := by
  unfold Host.topK extractStridedSlice Host.sort2
  simp only [show (2 : ℕ) < (⟨3, ![A, B, N]⟩ : Shape).rank from Nat.lt_succ_self 2, dif_pos]
  rw [slice0 h hk]
  refine congrArg (fun q : Fin N => BitVec.ofNat 32 q.val) ((congrFun (along2 a b _ _) (2 : Fin 3)).trans ?_)
  exact src_eq x hk a b j _ _ (Nat.zero_add _)

end topk

/-- A sorted row whose first `K` values increase strictly from above `⊥`: a ranked list. -/
theorem ranked_of {N K : ℕ} (d : Fin N → EReal) (hK : K ≤ N)
    (hb : ∀ j : Fin K, j.val = 0 → ⊥ < d (perm (fun i => -d i) (Fin.castLE hK j)))
    (hl : ∀ i j : Fin K, i.val + 1 = j.val →
      d (perm (fun i => -d i) (Fin.castLE hK i)) < d (perm (fun i => -d i) (Fin.castLE hK j))) :
    Ranked d fun j : Fin K => perm (fun i => -d i) (Fin.castLE hK j) := by
  have mono : ∀ i j : Fin N, i ≤ j → d (perm (fun i => -d i) i) ≤ d (perm (fun i => -d i) j) := by
    intro i j h
    rcases h.lt_or_eq with h | h
    · exact EReal.neg_le_neg_iff.1 (perm_antitone (fun i => -d i) i j h)
    · rw [h]
  refine ⟨fun i j h => ?_, fun i => ?_, fun i h j => ?_⟩
  · have h1 := hl i ⟨i.val + 1, by have := j.isLt; rw [Fin.lt_def] at h; omega⟩ rfl
    refine h1.trans_le (mono _ _ ?_)
    rw [Fin.le_def]; exact h
  · exact (hb ⟨0, by have := i.isLt; omega⟩ rfl).trans_le (mono _ _ (by rw [Fin.le_def]; exact Nat.zero_le _))
  · obtain ⟨l, rfl⟩ := perm_surjective (fun i => -d i) i
    refine mono _ _ ?_
    rw [Fin.le_def]
    by_contra hc
    exact h ⟨l.val, by simp only [Fin.val_castLE] at hc; have := j.isLt; omega⟩ rfl

section gather

variable {α : Type} {A B N C K : ℕ} (x : (⟨3, ![A, N, C]⟩ : Shape).Idx → α)

/-- Rows taken by a list of row numbers per member: `[A, N, C]` by `[A, B, 1]`. -/
theorem gather_rows (wf) (idx : IVec ⟨3, ![A, B, 1]⟩ 32) (a : Fin A) (b : Fin B) (c : Fin C) (n : Fin N)
    (hn : (idx (ix3 a b 0)).toInt = n.val) :
    Host.gather (t := ⟨3, ![A, B, C]⟩) ⟨[2], [1], [0], [0], [1], 2, ![1, 1, C], wf⟩ x idx (ix3 a b c) = x (ix3 a n c) := by
  unfold Host.gather
  refine congrArg x (funext fun i => Fin.ext ?_)
  match i with
  | ⟨0, _⟩ =>
    show 0 + a.val + 0 = a.val
    omega
  | ⟨1, _⟩ =>
    show min (idx _).toInt.toNat (N - 1) + 0 + 0 = n.val
    rw [show (idx _).toInt = (n.val : ℤ) from (congrArg (fun q => (idx q).toInt) ?_).trans hn]
    · have := n.isLt
      rw [Int.toNat_natCast]
      omega
    · funext q
      match q with
      | ⟨0, _⟩ => rfl
      | ⟨1, _⟩ => rfl
      | ⟨2, _⟩ => exact Subsingleton.elim (α := Fin 1) _ _
  | ⟨2, _⟩ =>
    show 0 + 0 + c.val = c.val
    omega

/-- Rows taken by several row numbers per place: `[A, N, C]` by `[A, B, K, 1]`. -/
theorem gather_rows₂ (wf) (idx : IVec ⟨4, ![A, B, K, 1]⟩ 32) (a : Fin A) (b : Fin B) (k : Fin K) (c : Fin C) (n : Fin N)
    (hn : (idx (ix4 a b k 0)).toInt = n.val) :
    Host.gather (t := ⟨4, ![A, B, K, C]⟩) ⟨[3], [1], [0], [0], [1], 3, ![1, 1, C], wf⟩ x idx (ix4 a b k c)
      = x (ix3 a n c) := by
  unfold Host.gather
  refine congrArg x (funext fun i => Fin.ext ?_)
  match i with
  | ⟨0, _⟩ =>
    show 0 + a.val + 0 = a.val
    omega
  | ⟨1, _⟩ =>
    show min (idx _).toInt.toNat (N - 1) + 0 + 0 = n.val
    rw [show (idx _).toInt = (n.val : ℤ) from (congrArg (fun q => (idx q).toInt) ?_).trans hn]
    · have := n.isLt
      rw [Int.toNat_natCast]
      omega
    · funext q
      match q with
      | ⟨0, _⟩ => rfl
      | ⟨1, _⟩ => rfl
      | ⟨2, _⟩ => rfl
      | ⟨3, _⟩ => exact Subsingleton.elim (α := Fin 1) _ _
  | ⟨2, _⟩ =>
    show 0 + 0 + c.val = c.val
    omega

/-- A row number written as a 32-bit word reads back, the wrap of negative numbers not taken. -/
theorem wrap_toInt (n M : ℕ) (hn : n < 2 ^ 31) :
    (Scalar.select (IntOp.cmpi .slt (BitVec.ofNat 32 n) 0#32) (IntOp.addi (BitVec.ofNat 32 n) (BitVec.ofNat 32 M))
      (BitVec.ofNat 32 n)).toInt = n := by
  have h : (BitVec.ofNat 32 n).toInt = n := by
    rw [BitVec.toInt_eq_toNat_cond, BitVec.toNat_ofNat, Nat.mod_eq_of_lt (by omega)]
    rw [if_pos (by omega)]
  have e : IntOp.cmpi .slt (BitVec.ofNat 32 n) 0#32 = 0#1 := by
    have : (BitVec.ofNat 32 n).slt 0#32 = false := by
      rw [BitVec.slt, h]
      simp
    show BitVec.ofBool ((BitVec.ofNat 32 n).slt 0#32) = _
    rw [this]
    rfl
  rw [e]
  exact h

end gather

end Cert.Select

end
-- ==== Proof.Spec.lean ====
/- The scalar mathematics both sides are read down to: squared distance, interpolation weights, the layers. -/
module

public import proofs.«01_k».proof.Proof.TopK

@[expose] public section

set_option maxRecDepth 16384

noncomputable section

namespace Cert.Select

open Idealize.ShloMosaic

/-- The squared distance of a query row to row `i`, as `|q|² − 2 q·p + |p|²`. -/
def sqd {N C : ℕ} (q : Fin C → EReal) (p : Fin N → Fin C → EReal) (i : Fin N) : EReal :=
  ∑ x, q x * q x - Ideal.ofBits .f32 0x40000000#32 * ∑ x, q x * p i x + ∑ x, p i x * p i x

/-- The rows of the `K` least distances, nearest first. -/
def near {N K : ℕ} (hK : K ≤ N) (d : Fin N → EReal) (j : Fin K) : Fin N := perm (fun i => -d i) (Fin.castLE hK j)

/-- The `j`-th value of the host's sort of the negated distances is the `j`-th least distance, negated. -/
theorem topK_near_val {A B N K : ℕ} (D : FVec Ideal ⟨3, ![A, B, N]⟩ .f32) (h : _) (hk : K ≤ N) (a : Fin A) (b : Fin B)
    (j : Fin K) (d : Fin N → EReal) (hd : ∀ i, D (ix3 a b i) = d i) :
    (Host.topK ⟨3, ![A, B, K]⟩ 2 (FloatOps.cmpfTotal .gt) (Host.negf D) h).1 (ix3 a b j) = -d (near hk d j) := by
  have e : (fun l : Fin N => Host.negf (F := Ideal) D (ix3 a b l)) = fun l => -d l := by
    funext l
    rw [← hd]
    rfl
  rw [topK_val _ _ hk]
  show (fun l : Fin N => Host.negf (F := Ideal) D (ix3 a b l)) (perm _ _) = _
  rw [e]
  rfl

/-- And its `j`-th number is that row's. -/
theorem topK_near_idx {A B N K : ℕ} (D : FVec Ideal ⟨3, ![A, B, N]⟩ .f32) (h : _) (hk : K ≤ N) (a : Fin A) (b : Fin B)
    (j : Fin K) (d : Fin N → EReal) (hd : ∀ i, D (ix3 a b i) = d i) :
    (Host.topK ⟨3, ![A, B, K]⟩ 2 (FloatOps.cmpfTotal .gt) (Host.negf D) h).2 (ix3 a b j) =
      BitVec.ofNat 32 (near hk d j).val := by
  have e : (fun l : Fin N => Host.negf (F := Ideal) D (ix3 a b l)) = fun l => -d l := by
    funext l
    rw [← hd]
    rfl
  rw [topK_idx _ _ hk, e]
  rfl

/-- The two-layer perceptron, at one output channel: the first layer's products `a` already summed. -/
def mlp {H O : ℕ} (a b1 : Fin H → EReal) (w2 : Fin H → Fin O → EReal) (b2 : Fin O → EReal) (o : Fin O) : EReal :=
  ∑ y, max (a y + b1 y) 0 * w2 y o + b2 o

theorem ofBool_iff (p : Prop) [Decidable p] : BitVec.ofBool (decide p) = 1#1 ↔ p := by
  by_cases h : p <;> simp [h]
theorem sitofp_zero : FloatOps.sitofp (F := Ideal) .f32 0#32 = (0 : EReal) := by
  simp [FloatOps.sitofp]
theorem top_bits : Ideal.ofBits .f32 0x7F800000#32 = ⊤ := by
  simp [Ideal.ofBits, Ideal.ieee]
theorem bot_bits : Ideal.ofBits .f32 0xFF800000#32 = ⊥ := by
  simp [Ideal.ofBits, Ideal.ieee]
theorem three_bits : Ideal.ofBits .f32 0x40400000#32 = ((3 : ℝ) : EReal) := by
  simp [Ideal.ofBits, Ideal.ieee, -EReal.coe_mul]; norm_num

/-- Three lanes padded with zeros to eight. -/
def pad8 (q : Fin 3 → EReal) (k : Fin 8) : EReal := if h : k.val < 3 then q ⟨k.val, h⟩ else 0

theorem sum_pad8 (q p : Fin 3 → EReal) : ∑ k, pad8 q k * pad8 p k = ∑ k, q k * p k := by
  rw [Fin.sum_univ_eight, Fin.sum_univ_three]
  simp [pad8]

theorem sqd_pad8 {N : ℕ} (q : Fin 3 → EReal) (p : Fin N → Fin 3 → EReal) :
    sqd (pad8 q) (fun i => pad8 (p i)) = sqd q p := by
  funext i
  simp only [sqd, sum_pad8]

/-- The mean of three is a third of the sum. -/
theorem div3 (x : EReal) : Ideal.div x (Ideal.ofBits .f32 0x40400000#32) = (((3 : ℝ)⁻¹ : ℝ) : EReal) * x := by
  rw [three_bits, Ideal.div_coe (by norm_num : (3 : ℝ) ≠ 0), mul_comm, one_div]

theorem logistic_eq (x : EReal) : Ideal.logistic x = Ideal.div 1 (1 + Ideal.exp (-x)) := by
  rfl

/-- A one-bit comparison widened and turned into a number. -/
theorem gate (p : Prop) [Decidable p] :
    FloatOps.sitofp (F := Ideal) .f32 (BitVec.setWidth 32 (BitVec.ofBool (decide p))) = if p then (1 : EReal) else 0 := by
  by_cases h : p <;> simp [h, FloatOps.sitofp]

/-- Row numbers compare as numbers. -/
theorem row_eq {N : ℕ} (hN : N ≤ 2 ^ 31) (a b : Fin N) :
    FloatOps.sitofp (F := Ideal) .f32 (BitVec.ofNat 32 a.val) = FloatOps.sitofp (F := Ideal) .f32 (BitVec.ofNat 32 b.val) ↔ b = a := by
  have h : ∀ n : Fin N, (BitVec.ofNat 32 n.val).toInt = n.val := fun n => by
    have := n.isLt
    rw [BitVec.toInt_eq_toNat_cond, BitVec.toNat_ofNat, Nat.mod_eq_of_lt (by omega)]
    rw [if_pos (by omega)]
  constructor
  · intro e
    simp only [FloatOps.sitofp, h] at e
    exact Fin.ext (by exact_mod_cast e.symm)
  · rintro rfl
    rfl

/-- A number of at least nothing and under `N` is a row number. -/
theorem row_of {N : ℕ} (hN : N < 2 ^ 31) (w : BitVec 32) (h1 : IntOp.cmpi .sge w 0#32 = 1#1)
    (h2 : IntOp.cmpi .slt w (BitVec.ofNat 32 N) = 1#1) : ∃ n : Fin N, w = BitVec.ofNat 32 n.val := by
  have ofb : ∀ b : Bool, BitVec.ofBool b = 1#1 → b = true := by decide
  have e1 : (0#32).sle w = true := ofb _ h1
  have e2 : w.slt (BitVec.ofNat 32 N) = true := ofb _ h2
  have hN' : (BitVec.ofNat 32 N).toInt = N := by
    rw [BitVec.toInt_eq_toNat_cond, BitVec.toNat_ofNat, Nat.mod_eq_of_lt (by omega)]
    rw [if_pos (by omega)]
  rw [BitVec.sle, decide_eq_true_eq] at e1
  rw [BitVec.slt, decide_eq_true_eq, hN'] at e2
  have h0 : (0#32).toInt = 0 := rfl
  have hw := w.isLt
  have ht := BitVec.toInt_eq_toNat_cond w
  refine ⟨⟨w.toNat, ?_⟩, by simp⟩
  split at ht <;> omega

/-- Passes that each move to the next level of `d` and take the greater of the value so far and the row at that level end
    with the greatest over the rows passed. -/
theorem passes_seq {N K m : ℕ} (lev val : ℕ → EReal) (d x : Fin N → EReal)
    {σ : Fin K → Fin N} (R : Ranked d σ) (hm : m < K) (l0 : lev 0 = ⊥) (v0 : val 0 = ⊥)
    (ls : ∀ k < m, lev (k + 1) = minAbove d (lev k))
    (vs : ∀ k < m, val (k + 1) = max (val k) (∑ i, (if d i = lev (k + 1) then (1 : EReal) else 0) * x i)) :
    val m = Finset.univ.fold max ⊥ fun j : Fin m => x (σ ⟨j.val, by omega⟩) := by
  have key : ∀ k (hk : k ≤ m), lev k = level d k ∧
      val k = Finset.univ.fold max ⊥ fun j : Fin k => x (σ ⟨j.val, by omega⟩) := by
    intro k
    induction k with
    | zero => exact fun _ => ⟨l0, v0⟩
    | succ k ih =>
      intro hk
      obtain ⟨h1, h2⟩ := ih (by omega)
      have hl : lev (k + 1) = level d (k + 1) := by rw [ls k hk, h1]; rfl
      refine ⟨hl, ?_⟩
      rw [vs k hk, hl, h2, R.pick x k (by omega), fold_max_succ]
      rfl
  exact (key m le_rfl).2

/-- The same of a loop's passes. -/
theorem passes {N K n m : ℕ} {α : Type} (g : Fin n → α → α) (init : α) (lev val : α → EReal) (d x : Fin N → EReal)
    {σ : Fin K → Fin N} (R : Ranked d σ) (hn : n = m) (hm : m < K) (l0 : lev init = ⊥) (v0 : val init = ⊥)
    (ls : ∀ k a, lev (g k a) = minAbove d (lev a))
    (vs : ∀ k a, val (g k a) = max (val a) (∑ i, (if d i = lev (g k a) then (1 : EReal) else 0) * x i)) :
    val (Scf.fold g init) = Finset.univ.fold max ⊥ fun j : Fin m => x (σ ⟨j.val, by omega⟩) := by
  have e : ∀ k (hk : k < n), (((List.finRange n).take (k + 1)).foldl (fun acc k => g k acc) init) =
      g ⟨k, hk⟩ (((List.finRange n).take k).foldl (fun acc k => g k acc) init) := fun k hk => by
    rw [List.take_succ_eq_append_getElem (by simpa using hk), List.foldl_append]
    simp
  rw [Scf.fold_eq]
  have h := passes_seq (m := m) (fun k => lev (((List.finRange n).take k).foldl (fun acc k => g k acc) init))
    (fun k => val (((List.finRange n).take k).foldl (fun acc k => g k acc) init)) d x R hm l0 v0
    (fun k hk => by rw [e k (by omega)]; exact ls _ _) fun k hk => by rw [e k (by omega)]; exact vs _ _
  rw [← h, List.take_of_length_le (by simp [hn])]

end Cert.Select

end
-- ==== Proof.RefOne.lean ====
/- The reference of the first layer read at an index: the sampled points, and the greatest feature over each one's
   thirty-two nearest points. -/
module

public import proofs.«01_k».proof.Proof.Gen.RefNetIdeal
public import proofs.«01_k».proof.Proof.Spec

@[expose] public section

set_option maxRecDepth 16384

noncomputable section

namespace Cert.RefNetIdeal.One

open Cert.RefNetIdeal Cert.RefNetIdeal.Gen Cert.Select
open Idealize.ShloMosaic Idealize.ShloMosaic.TcCoe Idealize.SL.Sem

/-- The sampled points. -/
def smpR (X : FVec Ideal S4x16384x3 .f32) (S : IVec S4x512 32) : FVec Ideal S4x512x3 .f32 :=
  Host.gather gather_S4x16384x3_S4x512x1_S4x512x3_2_1_0_0_1_2_113 X (broadcastInDim S4x512x1 ![0, 1] bcast_S4x512_S4x512x1_0_1 (select (cmpi .slt S (broadcastInDim S4x512 ![] bcast_S_S4x512 (constantI S_ 32 0#32))) (addi S (broadcastInDim S4x512 ![] bcast_S_S4x512 (constantI S_ 32 16384#32))) S))

/-- All squared distances, sample by point. -/
def dA (X : FVec Ideal S4x16384x3 .f32) (S : IVec S4x512 32) : FVec Ideal S4x512x16384 .f32 :=
  addf (subf (broadcastInDim S4x512x16384 ![0, 1, 2] bcast_S4x512x1_S4x512x16384_0_1_2 (broadcastInDim S4x512x1 ![0, 1] bcast_S4x512_S4x512x1_0_1 (Host.reduceAdd (mulf (smpR X S) (smpR X S)) (constant S_ .f32 0x00000000#32) reducesTo_S4x512x3_S4x512_d2 h_S_))) (mulf (broadcastInDim S4x512x16384 ![] bcast_S_S4x512x16384 (constant S_ .f32 0x40000000#32)) (Host.dotGeneral dot_S4x512x3_S4x3x16384_S4x512x16384_2_1_1_2_0_0 none (smpR X S) (transpose S4x3x16384 [0, 2, 1] X transposes_S4x16384x3_S4x3x16384_0_2_1)))) (broadcastInDim S4x512x16384 ![0, 1, 2] bcast_S4x1x16384_S4x512x16384_0_1_2 (broadcastInDim S4x1x16384 ![0, 2] bcast_S4x16384_S4x1x16384_0_2 (Host.reduceAdd (mulf X X) (constant S_ .f32 0x00000000#32) reducesTo_S4x16384x3_S4x16384_d2 h_S_)))

/-- The points' numbers, nearest to a sample first. -/
def idxA (X : FVec Ideal S4x16384x3 .f32) (S : IVec S4x512 32) : IVec S4x512x32 32 :=
  (Host.topK S4x512x32 2 (FloatOps.cmpfTotal .gt) (Host.negf (dA X S)) sliceFits_S4x512x16384_S4x512x32).2

/-- The thirty-two nearest points of every sample. -/
def featA (X : FVec Ideal S4x16384x3 .f32) (S : IVec S4x512 32) : FVec Ideal S4x512x32x3 .f32 :=
  Host.gather gather_S4x16384x3_S4x512x32x1_S4x512x32x3_3_1_0_0_1_3_113 X (broadcastInDim S4x512x32x1 ![0, 1, 2] bcast_S4x512x32_S4x512x32x1_0_1_2 (select (cmpi .slt (idxA X S) (broadcastInDim S4x512x32 ![] bcast_S_S4x512x32 (constantI S_ 32 0#32))) (addi (idxA X S) (broadcastInDim S4x512x32 ![] bcast_S_S4x512x32 (constantI S_ 32 16384#32))) (idxA X S)))

/-- The layer's features over its arguments. -/
def ref (X : FVec Ideal S4x16384x3 .f32) (S : IVec S4x512 32)
    (U1 : FVec Ideal S3x64 .f32) (c1 : FVec Ideal S64 .f32) (U2 : FVec Ideal S64x64 .f32) (c2 : FVec Ideal S64 .f32) : FVec Ideal S4x512x64 .f32 :=
  Host.reduce FloatOps.maximumf (addf (Host.dotGeneral dot_S4x512x32x64_S64x64_S4x512x32x64_3_0_012_1_n_n none (maximumf (addf (Host.dotGeneral dot_S4x512x32x3_S3x64_S4x512x32x64_3_0_012_1_n_n none (featA X S) U1) (broadcastInDim S4x512x32x64 ![0, 1, 2, 3] bcast_S1x1x1x64_S4x512x32x64_0_1_2_3 (broadcastInDim S1x1x1x64 ![1, 2, 3] bcast_S1x1x64_S1x1x1x64_1_2_3 (broadcastInDim S1x1x64 ![2] bcast_S64_S1x1x64_2 c1)))) (broadcastInDim S4x512x32x64 ![] bcast_S_S4x512x32x64 (constant S_ .f32 0x00000000#32))) U2) (broadcastInDim S4x512x32x64 ![0, 1, 2, 3] bcast_S1x1x1x64_S4x512x32x64_0_1_2_3 (broadcastInDim S1x1x1x64 ![1, 2, 3] bcast_S1x1x64_S1x1x1x64_1_2_3 (broadcastInDim S1x1x64 ![2] bcast_S64_S1x1x64_2 c2)))) (constant S_ .f32 0xFF800000#32) reducesTo_S4x512x32x64_S4x512x64_d2 h_S_

variable (X : FVec Ideal S4x16384x3 .f32) (S : IVec S4x512 32)
  (U1 : FVec Ideal S3x64 .f32) (c1 : FVec Ideal S64 .f32) (U2 : FVec Ideal S64x64 .f32) (c2 : FVec Ideal S64 .f32)
  (s : Fin 4 → Fin 512 → Fin 16384) (hs : ∀ b q, S (ix2 b q) = BitVec.ofNat 32 (s b q).val)

/-- The distances of sample `q` of member `b` to the points. -/
def dSmp (s : Fin 4 → Fin 512 → Fin 16384) (b : Fin 4) (q : Fin 512) : Fin 16384 → EReal :=
  sqd (fun k : Fin 3 => X (ix3 b (s b q) k)) fun i k => X (ix3 b i k)

/-- The features of point `i` of member `b`. -/
def feat (U1 : FVec Ideal S3x64 .f32) (c1 : FVec Ideal S64 .f32) (U2 : FVec Ideal S64x64 .f32) (c2 : FVec Ideal S64 .f32) (b : Fin 4) (i : Fin 16384) (o : Fin 64) : EReal :=
  mlp (fun y => ∑ k : Fin 3, X (ix3 b i k) * U1 (ix2 k y)) (fun y => c1 (ix1 y)) (fun y x => U2 (ix2 y x)) (fun x => c2 (ix1 x)) o

include hs in
theorem smpR_at (b : Fin 4) (q : Fin 512) (k : Fin 3) : smpR X S (ix3 b q k) = X (ix3 b (s b q) k) := by
  unfold smpR
  refine gather_rows X _ _ b q k _ ?_
  pointwise
  rw [hs]
  exact wrap_toInt _ 16384 (by have := (s b q).isLt; omega)

include hs in
theorem dA_at (b : Fin 4) (q : Fin 512) (i : Fin 16384) : dA X S (ix3 b q i) = dSmp X s b q i := by
  pointwise [dA, dSmp, sqd, smpR_at X S s hs]

include hs in
theorem idxA_at (b : Fin 4) (q : Fin 512) (j : Fin 32) :
    idxA X S (ix3 b q j) = BitVec.ofNat 32 (near (K := 32) (by decide) (dSmp X s b q) j).val := by
  exact topK_near_idx (dA X S) _ _ b q j _ fun i => dA_at X S s hs b q i

include hs in
theorem featA_at (b : Fin 4) (q : Fin 512) (j : Fin 32) (k : Fin 3) :
    featA X S (ix4 b q j k) = X (ix3 b (near (K := 32) (by decide) (dSmp X s b q) j) k) := by
  unfold featA
  refine gather_rows₂ X _ _ b q j k _ ?_
  pointwise
  rw [idxA_at X S s hs]
  exact wrap_toInt _ 16384 (by have := (near (K := 32) (by decide) (dSmp X s b q) j).isLt; omega)

include hs in
theorem ref_at (b : Fin 4) (q : Fin 512) (o : Fin 64) :
    ref X S U1 c1 U2 c2 (ix3 b q o) =
      Finset.univ.fold max ⊥ fun j : Fin 32 => feat X U1 c1 U2 c2 b (near (K := 32) (by decide) (dSmp X s b q) j) o := by
  pointwise [ref, featA_at X S s hs]
  rw [bot_bits]
  rfl

end Cert.RefNetIdeal.One

end
-- ==== Proof.RefTwo.lean ====
/- The reference of the second layer read at an index: the sampled points, the greatest feature over each one's
   thirty-two nearest points, and for every point the mean over its three nearest samples through the perceptron. -/
module

public import proofs.«01_k».proof.Proof.Gen.RefNetIdeal
public import proofs.«01_k».proof.Proof.Spec

@[expose] public section

set_option maxRecDepth 16384

noncomputable section

namespace Cert.RefNetIdeal.Two

open Cert.RefNetIdeal Cert.RefNetIdeal.Gen Cert.Select
open Idealize.ShloMosaic Idealize.ShloMosaic.TcCoe Idealize.SL.Sem

/-- The sampled points. -/
def smpR (X : FVec Ideal S4x512x64 .f32) (S : IVec S4x128 32) : FVec Ideal S4x128x64 .f32 :=
  Host.gather gather_S4x512x64_S4x128x1_S4x128x64_2_1_0_0_1_2_1164 X (broadcastInDim S4x128x1 ![0, 1] bcast_S4x128_S4x128x1_0_1 (select (cmpi .slt S (broadcastInDim S4x128 ![] bcast_S_S4x128 (constantI S_ 32 0#32))) (addi S (broadcastInDim S4x128 ![] bcast_S_S4x128 (constantI S_ 32 512#32))) S))

/-- All squared distances, sample by point. -/
def dA (X : FVec Ideal S4x512x64 .f32) (S : IVec S4x128 32) : FVec Ideal S4x128x512 .f32 :=
  addf (subf (broadcastInDim S4x128x512 ![0, 1, 2] bcast_S4x128x1_S4x128x512_0_1_2 (broadcastInDim S4x128x1 ![0, 1] bcast_S4x128_S4x128x1_0_1 (Host.reduceAdd (mulf (smpR X S) (smpR X S)) (constant S_ .f32 0x00000000#32) reducesTo_S4x128x64_S4x128_d2 h_S_))) (mulf (broadcastInDim S4x128x512 ![] bcast_S_S4x128x512 (constant S_ .f32 0x40000000#32)) (Host.dotGeneral dot_S4x128x64_S4x64x512_S4x128x512_2_1_1_2_0_0 none (smpR X S) (transpose S4x64x512 [0, 2, 1] X transposes_S4x512x64_S4x64x512_0_2_1)))) (broadcastInDim S4x128x512 ![0, 1, 2] bcast_S4x1x512_S4x128x512_0_1_2 (broadcastInDim S4x1x512 ![0, 2] bcast_S4x512_S4x1x512_0_2 (Host.reduceAdd (mulf X X) (constant S_ .f32 0x00000000#32) reducesTo_S4x512x64_S4x512_d2 h_S_)))

/-- The points' numbers, nearest to a sample first. -/
def idxA (X : FVec Ideal S4x512x64 .f32) (S : IVec S4x128 32) : IVec S4x128x32 32 :=
  (Host.topK S4x128x32 2 (FloatOps.cmpfTotal .gt) (Host.negf (dA X S)) sliceFits_S4x128x512_S4x128x32).2

/-- The thirty-two nearest points of every sample. -/
def featA (X : FVec Ideal S4x512x64 .f32) (S : IVec S4x128 32) : FVec Ideal S4x128x32x64 .f32 :=
  Host.gather gather_S4x512x64_S4x128x32x1_S4x128x32x64_3_1_0_0_1_3_1164 X (broadcastInDim S4x128x32x1 ![0, 1, 2] bcast_S4x128x32_S4x128x32x1_0_1_2 (select (cmpi .slt (idxA X S) (broadcastInDim S4x128x32 ![] bcast_S_S4x128x32 (constantI S_ 32 0#32))) (addi (idxA X S) (broadcastInDim S4x128x32 ![] bcast_S_S4x128x32 (constantI S_ 32 512#32))) (idxA X S)))

/-- The greatest feature over each sample's nearest points. -/
def x2R (X : FVec Ideal S4x512x64 .f32) (S : IVec S4x128 32)
    (U1 : FVec Ideal S64x128 .f32) (c1 : FVec Ideal S128 .f32) (U2 : FVec Ideal S128x128 .f32) (c2 : FVec Ideal S128 .f32) : FVec Ideal S4x128x128 .f32 :=
  Host.reduce FloatOps.maximumf (addf (Host.dotGeneral dot_S4x128x32x128_S128x128_S4x128x32x128_3_0_012_1_n_n none (maximumf (addf (Host.dotGeneral dot_S4x128x32x64_S64x128_S4x128x32x128_3_0_012_1_n_n none (featA X S) U1) (broadcastInDim S4x128x32x128 ![0, 1, 2, 3] bcast_S1x1x1x128_S4x128x32x128_0_1_2_3 (broadcastInDim S1x1x1x128 ![1, 2, 3] bcast_S1x1x128_S1x1x1x128_1_2_3 (broadcastInDim S1x1x128 ![2] bcast_S128_S1x1x128_2 c1)))) (broadcastInDim S4x128x32x128 ![] bcast_S_S4x128x32x128 (constant S_ .f32 0x00000000#32))) U2) (broadcastInDim S4x128x32x128 ![0, 1, 2, 3] bcast_S1x1x1x128_S4x128x32x128_0_1_2_3 (broadcastInDim S1x1x1x128 ![1, 2, 3] bcast_S1x1x128_S1x1x1x128_1_2_3 (broadcastInDim S1x1x128 ![2] bcast_S128_S1x1x128_2 c2)))) (constant S_ .f32 0xFF800000#32) reducesTo_S4x128x32x128_S4x128x128_d2 h_S_

/-- All squared distances, point by sample. -/
def dB (X : FVec Ideal S4x512x64 .f32) (S : IVec S4x128 32) : FVec Ideal S4x512x128 .f32 :=
  addf (subf (broadcastInDim S4x512x128 ![0, 1, 2] bcast_S4x512x1_S4x512x128_0_1_2 (broadcastInDim S4x512x1 ![0, 1] bcast_S4x512_S4x512x1_0_1 (Host.reduceAdd (mulf X X) (constant S_ .f32 0x00000000#32) reducesTo_S4x512x64_S4x512_d2 h_S_))) (mulf (broadcastInDim S4x512x128 ![] bcast_S_S4x512x128 (constant S_ .f32 0x40000000#32)) (Host.dotGeneral dot_S4x512x64_S4x64x128_S4x512x128_2_1_1_2_0_0 none X (transpose S4x64x128 [0, 2, 1] (smpR X S) transposes_S4x128x64_S4x64x128_0_2_1)))) (broadcastInDim S4x512x128 ![0, 1, 2] bcast_S4x1x128_S4x512x128_0_1_2 (broadcastInDim S4x1x128 ![0, 2] bcast_S4x128_S4x1x128_0_2 (Host.reduceAdd (mulf (smpR X S) (smpR X S)) (constant S_ .f32 0x00000000#32) reducesTo_S4x128x64_S4x128_d2 h_S_)))

/-- The samples' numbers, nearest to a point first. -/
def idxB (X : FVec Ideal S4x512x64 .f32) (S : IVec S4x128 32) : IVec S4x512x3 32 :=
  (Host.topK S4x512x3 2 (FloatOps.cmpfTotal .gt) (Host.negf (dB X S)) sliceFits_S4x512x128_S4x512x3).2

/-- The features of the three nearest samples. -/
def featB (X : FVec Ideal S4x512x64 .f32) (S : IVec S4x128 32)
    (U1 : FVec Ideal S64x128 .f32) (c1 : FVec Ideal S128 .f32) (U2 : FVec Ideal S128x128 .f32) (c2 : FVec Ideal S128 .f32) : FVec Ideal S4x512x3x128 .f32 :=
  Host.gather gather_S4x128x128_S4x512x3x1_S4x512x3x128_3_1_0_0_1_3_11128 (x2R X S U1 c1 U2 c2) (broadcastInDim S4x512x3x1 ![0, 1, 2] bcast_S4x512x3_S4x512x3x1_0_1_2 (select (cmpi .slt (idxB X S) (broadcastInDim S4x512x3 ![] bcast_S_S4x512x3 (constantI S_ 32 0#32))) (addi (idxB X S) (broadcastInDim S4x512x3 ![] bcast_S_S4x512x3 (constantI S_ 32 128#32))) (idxB X S)))

/-- The layer's result over its arguments. -/
def ref (X : FVec Ideal S4x512x64 .f32) (S : IVec S4x128 32)
    (U1 : FVec Ideal S64x128 .f32) (c1 : FVec Ideal S128 .f32) (U2 : FVec Ideal S128x128 .f32) (c2 : FVec Ideal S128 .f32)
    (W1 : FVec Ideal S192x64 .f32) (b1 : FVec Ideal S64 .f32) (W2 : FVec Ideal S64x64 .f32) (b2 : FVec Ideal S64 .f32) : FVec Ideal S4x512x64 .f32 :=
  addf (Host.dotGeneral dot_S4x512x64_S64x64_S4x512x64_2_0_01_1_n_n none (maximumf (addf (Host.dotGeneral dot_S4x512x192_S192x64_S4x512x64_2_0_01_1_n_n none (concatenate S4x512x192 2 [⟨S4x512x64, X⟩, ⟨S4x512x128, (Host.divf (Host.reduceAdd (featB X S U1 c1 U2 c2) (constant S_ .f32 0x00000000#32) reducesTo_S4x512x3x128_S4x512x128_d2 h_S_) (broadcastInDim S4x512x128 ![] bcast_S_S4x512x128 (constant S_ .f32 0x40400000#32)))⟩] concatenates_S4x512x64_S4x512x128_S4x512x192_d2) W1) (broadcastInDim S4x512x64 ![0, 1, 2] bcast_S1x1x64_S4x512x64_0_1_2 (broadcastInDim S1x1x64 ![1, 2] bcast_S1x64_S1x1x64_1_2 (broadcastInDim S1x64 ![1] bcast_S64_S1x64_1 b1)))) (broadcastInDim S4x512x64 ![] bcast_S_S4x512x64 (constant S_ .f32 0x00000000#32))) W2) (broadcastInDim S4x512x64 ![0, 1, 2] bcast_S1x1x64_S4x512x64_0_1_2 (broadcastInDim S1x1x64 ![1, 2] bcast_S1x64_S1x1x64_1_2 (broadcastInDim S1x64 ![1] bcast_S64_S1x64_1 b2)))

variable (X : FVec Ideal S4x512x64 .f32) (S : IVec S4x128 32)
  (U1 : FVec Ideal S64x128 .f32) (c1 : FVec Ideal S128 .f32) (U2 : FVec Ideal S128x128 .f32) (c2 : FVec Ideal S128 .f32)
  (W1 : FVec Ideal S192x64 .f32) (b1 : FVec Ideal S64 .f32) (W2 : FVec Ideal S64x64 .f32) (b2 : FVec Ideal S64 .f32)
  (s : Fin 4 → Fin 128 → Fin 512) (hs : ∀ b q, S (ix2 b q) = BitVec.ofNat 32 (s b q).val)

/-- The distances of sample `q` of member `b` to the points. -/
def dSmp (s : Fin 4 → Fin 128 → Fin 512) (b : Fin 4) (q : Fin 128) : Fin 512 → EReal :=
  sqd (fun k : Fin 64 => X (ix3 b (s b q) k)) fun i k => X (ix3 b i k)

/-- The distances of point `r` of member `b` to the samples. -/
def dPt (s : Fin 4 → Fin 128 → Fin 512) (b : Fin 4) (r : Fin 512) : Fin 128 → EReal :=
  sqd (fun k : Fin 64 => X (ix3 b r k)) fun i k => X (ix3 b (s b i) k)

/-- The features of point `i` of member `b`. -/
def feat (U1 : FVec Ideal S64x128 .f32) (c1 : FVec Ideal S128 .f32) (U2 : FVec Ideal S128x128 .f32) (c2 : FVec Ideal S128 .f32) (b : Fin 4) (i : Fin 512) (o : Fin 128) : EReal :=
  mlp (fun y => ∑ k : Fin 64, X (ix3 b i k) * U1 (ix2 k y)) (fun y => c1 (ix1 y)) (fun y x => U2 (ix2 y x)) (fun x => c2 (ix1 x)) o

include hs in
theorem smpR_at (b : Fin 4) (q : Fin 128) (k : Fin 64) : smpR X S (ix3 b q k) = X (ix3 b (s b q) k) := by
  unfold smpR
  refine gather_rows X _ _ b q k _ ?_
  pointwise
  rw [hs]
  exact wrap_toInt _ 512 (by have := (s b q).isLt; omega)

include hs in
theorem dA_at (b : Fin 4) (q : Fin 128) (i : Fin 512) : dA X S (ix3 b q i) = dSmp X s b q i := by
  pointwise [dA, dSmp, sqd, smpR_at X S s hs]

include hs in
theorem dB_at (b : Fin 4) (r : Fin 512) (i : Fin 128) : dB X S (ix3 b r i) = dPt X s b r i := by
  pointwise [dB, dPt, sqd, smpR_at X S s hs]

include hs in
theorem idxA_at (b : Fin 4) (q : Fin 128) (j : Fin 32) :
    idxA X S (ix3 b q j) = BitVec.ofNat 32 (near (K := 32) (by decide) (dSmp X s b q) j).val := by
  exact topK_near_idx (dA X S) _ _ b q j _ fun i => dA_at X S s hs b q i

include hs in
theorem idxB_at (b : Fin 4) (r : Fin 512) (j : Fin 3) :
    idxB X S (ix3 b r j) = BitVec.ofNat 32 (near (K := 3) (by decide) (dPt X s b r) j).val := by
  exact topK_near_idx (dB X S) _ _ b r j _ fun i => dB_at X S s hs b r i

include hs in
theorem featA_at (b : Fin 4) (q : Fin 128) (j : Fin 32) (k : Fin 64) :
    featA X S (ix4 b q j k) = X (ix3 b (near (K := 32) (by decide) (dSmp X s b q) j) k) := by
  unfold featA
  refine gather_rows₂ X _ _ b q j k _ ?_
  pointwise
  rw [idxA_at X S s hs]
  exact wrap_toInt _ 512 (by have := (near (K := 32) (by decide) (dSmp X s b q) j).isLt; omega)

include hs in
theorem x2R_at (b : Fin 4) (q : Fin 128) (o : Fin 128) :
    x2R X S U1 c1 U2 c2 (ix3 b q o) =
      Finset.univ.fold max ⊥ fun j : Fin 32 => feat X U1 c1 U2 c2 b (near (K := 32) (by decide) (dSmp X s b q) j) o := by
  pointwise [x2R, featA_at X S s hs]
  rw [bot_bits]
  rfl

include hs in
theorem featB_at (b : Fin 4) (r : Fin 512) (j : Fin 3) (o : Fin 128) :
    featB X S U1 c1 U2 c2 (ix4 b r j o) =
      x2R X S U1 c1 U2 c2 (ix3 b (near (K := 3) (by decide) (dPt X s b r) j) o) := by
  unfold featB
  refine gather_rows₂ (x2R X S U1 c1 U2 c2) _ _ b r j o _ ?_
  pointwise
  rw [idxB_at X S s hs]
  exact wrap_toInt _ 128 (by have := (near (K := 3) (by decide) (dPt X s b r) j).isLt; omega)

include hs in
theorem ref_at (b : Fin 4) (r : Fin 512) (o : Fin 64) :
    ref X S U1 c1 U2 c2 W1 b1 W2 b2 (ix3 b r o) =
      mlp (fun y => ∑ k : Fin 64, X (ix3 b r k) * W1 (ix2 (Fin.castLE (by decide) k) y) +
          ∑ a : Fin 128, (((3 : ℝ)⁻¹ : ℝ) : EReal) * (∑ j : Fin 3, Finset.univ.fold max ⊥ fun i : Fin 32 =>
            feat X U1 c1 U2 c2 b (near (K := 32) (by decide) (dSmp X s b (near (K := 3) (by decide) (dPt X s b r) j)) i) a) *
            W1 (ix2 (Fin.natAdd 64 a) y))
        (fun y => b1 (ix1 y)) (fun y x => W2 (ix2 y x)) (fun x => b2 (ix1 x)) o := by
  pointwise [ref, featB_at X S U1 c1 U2 c2 s hs]
  simp only [div3, x2R_at X S U1 c1 U2 c2 s hs]
  rfl

end Cert.RefNetIdeal.Two

end
-- ==== Proof.RefThree.lean ====
/- The reference of the last layer read at an index: the three nearest seeds by the host's sort, their features
   averaged, the perceptron and the sigmoid. -/
module

public import proofs.«01_k».proof.Proof.Gen.RefNetIdeal
public import proofs.«01_k».proof.Proof.Spec

@[expose] public section

set_option maxRecDepth 16384

noncomputable section

namespace Cert.RefNetIdeal.Three

open Cert.RefNetIdeal Cert.RefNetIdeal.Gen Cert.Select
open Idealize.ShloMosaic Idealize.ShloMosaic.TcCoe Idealize.SL.Sem

variable (X : FVec Ideal S4x16384x3 .f32) (S : FVec Ideal S4x512x3 .f32) (F : FVec Ideal S4x512x64 .f32)
  (W1 : FVec Ideal S67x32 .f32) (b1 : FVec Ideal S32 .f32) (W2 : FVec Ideal S32x32 .f32) (b2 : FVec Ideal S32 .f32)
  (W3 : FVec Ideal S32x2 .f32) (b3 : FVec Ideal S2 .f32)

/-- All squared distances, point by seed. -/
def dR (X : FVec Ideal S4x16384x3 .f32) (S : FVec Ideal S4x512x3 .f32) : FVec Ideal S4x16384x512 .f32 :=
  addf (subf (broadcastInDim S4x16384x512 ![0, 1, 2] bcast_S4x16384x1_S4x16384x512_0_1_2 (broadcastInDim S4x16384x1 ![0, 1] bcast_S4x16384_S4x16384x1_0_1 (Host.reduceAdd (mulf X X) (constant S_ .f32 0x00000000#32) reducesTo_S4x16384x3_S4x16384_d2 h_S_))) (mulf (broadcastInDim S4x16384x512 ![] bcast_S_S4x16384x512 (constant S_ .f32 0x40000000#32)) (Host.dotGeneral dot_S4x16384x3_S4x3x512_S4x16384x512_2_1_1_2_0_0 none X (transpose S4x3x512 [0, 2, 1] S transposes_S4x512x3_S4x3x512_0_2_1)))) (broadcastInDim S4x16384x512 ![0, 1, 2] bcast_S4x1x512_S4x16384x512_0_1_2 (broadcastInDim S4x1x512 ![0, 2] bcast_S4x512_S4x1x512_0_2 (Host.reduceAdd (mulf S S) (constant S_ .f32 0x00000000#32) reducesTo_S4x512x3_S4x512_d2 h_S_)))

/-- The seeds' numbers, nearest first. -/
def idxR (X : FVec Ideal S4x16384x3 .f32) (S : FVec Ideal S4x512x3 .f32) : IVec S4x16384x3 32 :=
  (Host.topK S4x16384x3 2 (FloatOps.cmpfTotal .gt) (Host.negf (dR X S)) sliceFits_S4x16384x512_S4x16384x3).2

/-- The features of the three nearest seeds. -/
def featR (F : FVec Ideal S4x512x64 .f32) (X : FVec Ideal S4x16384x3 .f32) (S : FVec Ideal S4x512x3 .f32) : FVec Ideal S4x16384x3x64 .f32 :=
  Host.gather gather_S4x512x64_S4x16384x3x1_S4x16384x3x64_3_1_0_0_1_3_1164 F (broadcastInDim S4x16384x3x1 ![0, 1, 2] bcast_S4x16384x3_S4x16384x3x1_0_1_2 (select (cmpi .slt (idxR X S) (broadcastInDim S4x16384x3 ![] bcast_S_S4x16384x3 (constantI S_ 32 0#32))) (addi (idxR X S) (broadcastInDim S4x16384x3 ![] bcast_S_S4x16384x3 (constantI S_ 32 512#32))) (idxR X S)))

/-- The layer's result over its arguments. -/
def ref (X : FVec Ideal S4x16384x3 .f32) (S : FVec Ideal S4x512x3 .f32) (F : FVec Ideal S4x512x64 .f32)
    (W1 : FVec Ideal S67x32 .f32) (b1 : FVec Ideal S32 .f32) (W2 : FVec Ideal S32x32 .f32) (b2 : FVec Ideal S32 .f32)
    (W3 : FVec Ideal S32x2 .f32) (b3 : FVec Ideal S2 .f32) : FVec Ideal S4x16384x2 .f32 :=
  Host.divf (broadcastInDim S4x16384x2 ![] bcast_S_S4x16384x2 (constant S_ .f32 0x3F800000#32)) (addf (broadcastInDim S4x16384x2 ![] bcast_S_S4x16384x2 (constant S_ .f32 0x3F800000#32)) (Host.exp (Host.negf (addf (Host.dotGeneral dot_S4x16384x32_S32x2_S4x16384x2_2_0_01_1_n_n none (addf (Host.dotGeneral dot_S4x16384x32_S32x32_S4x16384x32_2_0_01_1_n_n none (maximumf (addf (Host.dotGeneral dot_S4x16384x67_S67x32_S4x16384x32_2_0_01_1_n_n none (concatenate S4x16384x67 2 [⟨S4x16384x3, X⟩, ⟨S4x16384x64, (Host.divf (Host.reduceAdd (featR F X S) (constant S_ .f32 0x00000000#32) reducesTo_S4x16384x3x64_S4x16384x64_d2 h_S_) (broadcastInDim S4x16384x64 ![] bcast_S_S4x16384x64 (constant S_ .f32 0x40400000#32)))⟩] concatenates_S4x16384x3_S4x16384x64_S4x16384x67_d2) W1) (broadcastInDim S4x16384x32 ![0, 1, 2] bcast_S1x1x32_S4x16384x32_0_1_2 (broadcastInDim S1x1x32 ![1, 2] bcast_S1x32_S1x1x32_1_2 (broadcastInDim S1x32 ![1] bcast_S32_S1x32_1 b1)))) (broadcastInDim S4x16384x32 ![] bcast_S_S4x16384x32 (constant S_ .f32 0x00000000#32))) W2) (broadcastInDim S4x16384x32 ![0, 1, 2] bcast_S1x1x32_S4x16384x32_0_1_2 (broadcastInDim S1x1x32 ![1, 2] bcast_S1x32_S1x1x32_1_2 (broadcastInDim S1x32 ![1] bcast_S32_S1x32_1 b2)))) W3) (broadcastInDim S4x16384x2 ![0, 1, 2] bcast_S1x1x2_S4x16384x2_0_1_2 (broadcastInDim S1x1x2 ![2] bcast_S2_S1x1x2_2 b3))))))

/-- The distances of point `r` of member `b` to the seeds. -/
def dAt (b : Fin 4) (r : Fin 16384) : Fin 512 → EReal :=
  sqd (fun k : Fin 3 => X (ix3 b r k)) fun i k => S (ix3 b i k)

theorem dR_at (b : Fin 4) (r : Fin 16384) (i : Fin 512) : dR X S (ix3 b r i) = dAt X S b r i := by
  pointwise [dR, dAt, sqd]

theorem idxR_at (b : Fin 4) (r : Fin 16384) (j : Fin 3) :
    idxR X S (ix3 b r j) = BitVec.ofNat 32 (near (K := 3) (by decide) (dAt X S b r) j).val := by
  exact topK_near_idx (dR X S) _ _ b r j _ fun i => dR_at X S b r i

theorem featR_at (b : Fin 4) (r : Fin 16384) (j : Fin 3) (c : Fin 64) :
    featR F X S (ix4 b r j c) = F (ix3 b (near (K := 3) (by decide) (dAt X S b r) j) c) := by
  unfold featR
  refine gather_rows₂ F _ _ b r j c _ ?_
  pointwise
  rw [idxR_at]
  exact wrap_toInt _ 512 (by have := (near (K := 3) (by decide) (dAt X S b r) j).isLt; omega)

theorem ref_at (b : Fin 4) (r : Fin 16384) (o : Fin 2) :
    ref X S F W1 b1 W2 b2 W3 b3 (ix3 b r o) =
      Ideal.logistic (∑ x, mlp (fun y => ∑ k : Fin 3, X (ix3 b r k) * W1 (ix2 (Fin.castLE (by decide) k) y) +
          ∑ a : Fin 64, (((3 : ℝ)⁻¹ : ℝ) : EReal) * (∑ j : Fin 3, F (ix3 b (near (K := 3) (by decide) (dAt X S b r) j) a)) *
            W1 (ix2 (Fin.natAdd 3 a) y))
        (fun y => b1 (ix1 y)) (fun y x => W2 (ix2 y x)) (fun x => b2 (ix1 x)) x * W3 (ix2 x o) + b3 (ix1 o)) := by
  pointwise [ref, featR_at]
  simp only [div3]
  rfl

end Cert.RefNetIdeal.Three

end
-- ==== Proof.RefNet.lean ====
/- The whole reference: the three layers one after another. -/
module

public import proofs.«01_k».proof.Proof.Gen.RefNetIdeal.Run
public import proofs.«01_k».proof.Proof.RefOne
public import proofs.«01_k».proof.Proof.RefTwo
public import proofs.«01_k».proof.Proof.RefThree

@[expose] public section

set_option maxRecDepth 16384

noncomputable section

namespace Cert.RefNetIdeal.Value

open Cert.RefNetIdeal Cert.RefNetIdeal.Gen
open Idealize.ShloMosaic Idealize.ShloMosaic.TcCoe Idealize.SL.Sem Idealize.ShloMosaic.StableHlo

/-- The reference's result over its arguments. -/
def ref (X : FVec Ideal S4x16384x3 .f32) (P : IVec S4x512 32) (Q : IVec S4x128 32)
    (a3 : FVec Ideal S3x64 .f32) (a4 : FVec Ideal S64 .f32) (a5 : FVec Ideal S64x64 .f32) (a6 : FVec Ideal S64 .f32)
    (a7 : FVec Ideal S64x128 .f32) (a8 : FVec Ideal S128 .f32) (a9 : FVec Ideal S128x128 .f32) (a10 : FVec Ideal S128 .f32)
    (a11 : FVec Ideal S192x64 .f32) (a12 : FVec Ideal S64 .f32) (a13 : FVec Ideal S64x64 .f32) (a14 : FVec Ideal S64 .f32)
    (a15 : FVec Ideal S67x32 .f32) (a16 : FVec Ideal S32 .f32) (a17 : FVec Ideal S32x32 .f32) (a18 : FVec Ideal S32 .f32)
    (a19 : FVec Ideal S32x2 .f32) (a20 : FVec Ideal S2 .f32) : FVec Ideal S4x16384x2 .f32 :=
  Three.ref X (One.smpR X P) (Two.ref (One.ref X P a3 a4 a5 a6) Q a7 a8 a9 a10 a11 a12 a13 a14) a15 a16 a17 a18 a19 a20

/-- The result after the run, and the arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨(h c).1.trans rfl, (h c).2⟩) (run m ρ)

end Cert.RefNetIdeal.Value

end
-- ==== Proof.PayOne.lean ====
/- What the first layer's kernel computes at each step, read at an index. -/
module

public import proofs.«01_k».proof.Proof.Gen.NetIdeal.Skeleton
public import proofs.«01_k».proof.Proof.Spec

@[expose] public section

set_option maxRecDepth 16384

noncomputable section

namespace Cert.NetIdeal.One

open Cert.NetIdeal Cert.NetIdeal.Gen Cert.Select
open Idealize.ShloMosaic Idealize.ShloMosaic.TcCoe Idealize.SL.Sem

variable (v0 : FVec Ideal S1x8x16384 .f32) (v26 : FVec Ideal S1x128x1 .f32) (s : Fin 128 → Fin 16384)
  (hs : ∀ q, v26 (ix3 0 q 0) = FloatOps.sitofp (F := Ideal) .f32 (BitVec.ofNat 32 (s q).val))

theorem pay1_at (k : Fin 8) (i : Fin 16384) : k0_pay1 (F := Ideal) v0 (ix2 k i) = v0 (ix3 0 k i) := by
  pointwise [k0_pay1]

/-- The points' features. -/
theorem pay2_at (v2 : FVec Ideal S8x64 .f32) (v5 : FVec Ideal S1x64 .f32) (v11 : FVec Ideal S64x64 .f32)
    (v13 : FVec Ideal S1x64 .f32) (i : Fin 16384) (o : Fin 64) :
    k0_pay2 (F := Ideal) v0 v2 v5 v11 v13 (ix2 i o) =
      mlp (fun y => ∑ k : Fin 8, v0 (ix3 0 k i) * v2 (ix2 k y)) (fun y => v5 (ix2 0 y)) (fun y x => v11 (ix2 y x))
        (fun x => v13 (ix2 0 x)) o := by
  pointwise [k0_pay2, pay1_at]
  rfl

theorem pay3_at (i : Fin 16384) : k0_pay3 (F := Ideal) v0 (ix2 0 i) = ∑ k : Fin 8, v0 (ix3 0 k i) * v0 (ix3 0 k i) := by
  pointwise [k0_pay3, pay1_at]

theorem pay4_at (z : FVec Ideal S128x64 .f32) (q : Fin 128) (o : Fin 64) : k0_pay4 (F := Ideal) z (ix3 0 q o) = z (ix2 q o) := by
  pointwise [k0_pay4]

include hs in
/-- The sampled points: rows picked by their numbers. -/
theorem pay5_at (q : Fin 128) (k : Fin 8) : k0_pay5 (F := Ideal) (k0_pay1 v0) v26 (ix2 q k) = v0 (ix3 0 k (s q)) := by
  pointwise [k0_pay5, pay1_at]
  simp only [hs, gate, row_eq (by decide : 16384 ≤ 2 ^ 31)]
  exact onehot (fun x => v0 (ix3 0 k x)) (s q)

include hs in
theorem pay6_at (q : Fin 128) (k : Fin 8) : k0_pay6 (F := Ideal) (k0_pay1 v0) v26 (ix3 0 q k) = v0 (ix3 0 k (s q)) := by
  pointwise [k0_pay6, pay5_at v0 v26 s hs]

include hs in
/-- The distances of the samples to the points. -/
theorem pay7_at (q : Fin 128) (i : Fin 16384) :
    k0_pay7 (F := Ideal) (k0_pay1 v0) (k0_pay3 v0) v26 (ix2 q i) =
      sqd (fun k : Fin 8 => v0 (ix3 0 k (s q))) (fun i k => v0 (ix3 0 k i)) i := by
  pointwise [k0_pay7, pay1_at, pay3_at, pay5_at v0 v26 s hs]
  rfl

theorem pay10_at (D : FVec Ideal S128x16384 .f32) (a : FVec Ideal S128x1 .f32) (q : Fin 128)
    (d : Fin 16384 → EReal) (hd : ∀ i, D (ix2 q i) = d i) :
    k0_pay10 (F := Ideal) a D (ix2 q 0) = minAbove d (a (ix2 q 0)) := by
  pointwise [k0_pay10, hd]
  rw [top_bits]
  rfl

theorem pay11_at (D : FVec Ideal S128x16384 .f32) (G : FVec Ideal S16384x64 .f32)
    (a : FVec Ideal S128x1 .f32) (b : FVec Ideal S128x64 .f32) (q : Fin 128) (o : Fin 64)
    (d : Fin 16384 → EReal) (hd : ∀ i, D (ix2 q i) = d i) :
    k0_pay11 (F := Ideal) a b D G (ix2 q o) = max (b (ix2 q o))
      (∑ i, (if d i = k0_pay10 (F := Ideal) a D (ix2 q 0) then (1 : EReal) else 0) * G (ix2 i o)) := by
  pointwise [k0_pay11, hd]
  simp only [gate]

/-- The thirty-two passes leave the greatest feature over each sample's nearest points. -/
theorem passes_at (st : ℕ → FVec Ideal S128x1 .f32 × FVec Ideal S128x64 .f32) (D : FVec Ideal S128x16384 .f32)
    (G : FVec Ideal S16384x64 .f32) (q : Fin 128) (o : Fin 64) (d : Fin 16384 → EReal)
    (hd : ∀ i, D (ix2 q i) = d i) (σ : Fin 33 → Fin 16384) (R : Ranked d σ)
    (h0 : st 0 = (k0_pay8 (F := Ideal), k0_pay9 (F := Ideal)))
    (h1 : ∀ k < 32, st (k + 1) = (k0_pay10 (F := Ideal) (st k).1 D, k0_pay11 (F := Ideal) (st k).1 (st k).2 D G)) :
    (st 32).2 (ix2 q o) = Finset.univ.fold max ⊥ fun j : Fin 32 => G (ix2 (σ j.castSucc) o) := by
  have b8 : k0_pay8 (F := Ideal) (ix2 q 0) = (⊥ : EReal) := by
    pointwise [k0_pay8]
    exact bot_bits
  have b9 : k0_pay9 (F := Ideal) (ix2 q o) = (⊥ : EReal) := by
    pointwise [k0_pay9]
    exact bot_bits
  have e1 : ∀ k < 32, (st (k + 1)).1 = k0_pay10 (F := Ideal) (st k).1 D := fun k hk => by rw [h1 k hk]
  have e2 : ∀ k < 32, (st (k + 1)).2 = k0_pay11 (F := Ideal) (st k).1 (st k).2 D G := fun k hk => by rw [h1 k hk]
  refine passes_seq (m := 32) (fun k => (st k).1 (ix2 q 0)) (fun k => (st k).2 (ix2 q o)) d (fun i => G (ix2 i o)) R (by decide)
    ((congrFun (congrArg Prod.fst h0) _).trans b8) ((congrFun (congrArg Prod.snd h0) _).trans b9) (fun k hk => ?_) fun k hk => ?_
  · rw [e1 k hk]
    exact pay10_at D _ q d hd
  · rw [e2 k hk, e1 k hk]
    exact pay11_at D G _ _ q o d hd

end Cert.NetIdeal.One

end
-- ==== Proof.Groups.lean ====
/- What stores of groups of rows, one after the other down a block, leave in it. -/
module

public import proofs.«01_k».proof.Proof.Spec
public import Idealize.ShloMosaic.Lib.VecWindow

@[expose] public section

set_option maxRecDepth 16384

noncomputable section

namespace Cert.Select

open Idealize.ShloMosaic Idealize.ShloMosaic.TcCoe Idealize.ShloMosaic.Tactic Idealize.SL.Sem

/-- Stores of 128 rows each, one after the other down a block, leave each group's rows as that group stored them. -/
theorem groups_at {C T : ℕ} {Val : EltTy → Type} {e : EltTy} {sig : RefSig} {κ : Kind} {sp : Space}
    (v : View sig κ sp ⟨3, ![1, 512, C]⟩ e) (f : v.ty.Contents Val) (off : Fin T → Fin 3 → ℕ)
    (hoff : ∀ k, off k = ![0, 128 * k.val, 0])
    (inb : ∀ k a, off k a + (⟨3, ![1, 128, C]⟩ : Shape).size a ≤ (⟨3, ![1, 512, C]⟩ : Shape).size a)
    (w : Fin T → (⟨3, ![1, 128, C]⟩ : Shape).Idx → Val e) (L : ℕ → List (View.Piece Val (⟨3, ![1, 512, C]⟩ : Shape) e))
    (hs : ∀ k : Fin T, L (k.val + 1) = ⟨Rect.unit (off k) (⟨3, ![1, 128, C]⟩ : Shape).size (inb k), w k⟩ :: L k.val)
    (k : Fin T) (q : Fin 128) (o : Fin C) (r : Fin 512) (hr : r.val = 128 * k.val + q.val) :
    ∀ n, k.val < n → n ≤ T → v.read Val (v.writes Val f (L n)) (ix3 0 r o) = w k (ix3 0 q o) := by
  intro n
  induction n with
  | zero => intro h; omega
  | succ n ih =>
    intro h hn
    rw [hs ⟨n, by omega⟩]
    by_cases hk : k.val = n
    · subst hk
      refine View.read_writes_cons_unit_of_mem v f _ _ _ (ix3 0 r o) (ix3 0 q o) (hoff _) fun a => ?_
      match a with
      | ⟨0, _⟩ => rfl
      | ⟨1, _⟩ => exact hr
      | ⟨2, _⟩ => exact (Nat.zero_add _).symm
    · rw [View.read_writes_cons_unit_of_not_mem v f _ _ _ (ix3 0 r o) (hoff _) 1 (.inl ?_)]
      · exact ih (by omega) (by omega)
      · show r.val < 128 * n
        have := q.isLt
        omega

end Cert.Select

end
-- ==== Proof.RowsOne.lean ====
/- What the first layer's kernel stores, group of seeds by group: rows `128 k …` of each output block are the `k`-th
   group's. -/
module

public import proofs.«01_k».proof.Proof.NetIdealOne
public import proofs.«01_k».proof.Proof.PayOne
public import proofs.«01_k».proof.Proof.Groups
public import Idealize.ShloMosaic.Lib.VecWindow

@[expose] public section

set_option maxRecDepth 16384

noncomputable section

namespace Cert.NetIdeal.Whole

open Cert.NetIdeal Cert.NetIdeal.Gen Cert.Select
open Idealize.ShloMosaic Idealize.ShloMosaic.TcCoe Idealize.ShloMosaic.Tactic Idealize.SL.Sem

variable {F : FTy → Type} [FloatOps F] [Named F]

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole)
  (x1 : Vec F S1x8x16384 .f32) (x2 : Vec F S1x512x1 .f32) (x3 : Vec F S8x64 .f32) (x4 : Vec F S1x64 .f32) (x5 : Vec F S64x64 .f32) (x6 : Vec F S1x64 .f32)

/-- The seeds' numbers of one group. -/
def seeds (x2 : Vec F S1x512x1 .f32) (k : Fin k0_t1_loop.trips) : Vec F S1x128x1 .f32 :=
  VecWindow.window x2 (k0_off1 k) S1x128x1.size (k0_off1_inb k)

/-- One group's distances. -/
def dist (x1 : Vec F S1x8x16384 .f32) (x2 : Vec F S1x512x1 .f32) (k : Fin k0_t1_loop.trips) : FVec F S128x16384 .f32 :=
  k0_pay7 (k0_pay1 x1) (k0_pay3 x1) (seeds x2 k)

/-- What a pass makes of the level and the features so far. -/
def pass (D : FVec F S128x16384 .f32) (G : FVec F S16384x64 .f32) (a : FVec F S128x1 .f32 × FVec F S128x64 .f32) :
    FVec F S128x1 .f32 × FVec F S128x64 .f32 :=
  (k0_pay10 a.1 D, k0_pay11 a.1 a.2 D G)

/-- The level and the features after `n` passes. -/
def after (D : FVec F S128x16384 .f32) (G : FVec F S16384x64 .f32) : ℕ → FVec F S128x1 .f32 × FVec F S128x64 .f32
  | 0 => (k0_pay8, k0_pay9)
  | n + 1 => pass D G (after D G n)

theorem st_eq (v1 : FVec F S8x16384 .f32) (v22 : FVec F S1x16384 .f32) (a b : BitVec 32) (kk : Fin k0_t1_loop.trips)
    (X9 : BufTy.Contents (Elt F) arg9.view.ty) (X10 : BufTy.Contents (Elt F) arg10.view.ty)
    (D : FVec F S128x16384 .f32) (G : FVec F S16384x64 .f32)
    (hD : View.readAt (Elt F) arg10.view (Rect.unit ![0, 0] S128x16384.size inb_S128x16384_S128x16384_0_0).toLoadRect X10 = D)
    (hG : View.readAt (Elt F) arg9.view (Rect.unit ![0, 0] S16384x64.size inb_S16384x64_S16384x64_0_0).toLoadRect X9 = G) :
    ∀ n, n ≤ k0_t2_loop.trips → st_k0_t2 (F := F) Variants.none c none i arg1 harg1 arg2 harg2 arg3 harg3 arg4 harg4 arg5 harg5 arg6 harg6 arg7 harg7 arg8 harg8 arg9 harg9 arg10 harg10 v1 v22 a b kk X9 X10 (k0_pay8, k0_pay9) n = after D G n := by
  intro n
  induction n with
  | zero => intro _; rfl
  | succ n ih =>
    intro hn
    have e := st_k0_t2_succ (F := F) Variants.none c none i arg1 harg1 arg2 harg2 arg3 harg3 arg4 harg4 arg5 harg5 arg6 harg6 arg7 harg7 arg8 harg8 arg9 harg9 arg10 harg10 v1 v22 a b kk X9 X10 (k0_pay8, k0_pay9) ⟨n, hn⟩
    rw [ih (by omega)] at e
    refine e.trans ?_
    unfold tripR_k0_t2 trip_k0_t2
    dsimp only
    sl_unfold_words
    rw [hD, hG]
    rfl

include harg2 in
theorem seeds_read (k : Fin k0_t1_loop.trips) :
    View.readAt (Elt F) arg2.view (Rect.unit (s := S1x512x1) (k0_off1 k) S1x128x1.size (k0_off1_inb k)).toLoadRect (harg2.unread x2) = seeds x2 k := by
  rw [View.readAt_unit _ _ (k0_off1_inb k) rfl (k0_off1_inb k), harg2.read_unread]
  rfl

theorem trip_seeds (X9 : BufTy.Contents (Elt F) arg9.view.ty) (k : Fin k0_t1_loop.trips) :
    (trip c i arg1 harg1 arg2 harg2 arg3 harg3 arg4 harg4 arg5 harg5 arg6 harg6 arg7 harg7 arg8 harg8 arg9 harg9 arg10 harg10 x1 (harg2.unread x2) X9 k).2.1 =
      [⟨Rect.unit (s := S1x512x8) (k0_off2 k) S1x128x8.size (k0_off2_inb k), k0_pay6 (k0_pay1 x1) (seeds x2 k)⟩] := by
  unfold trip
  dsimp only
  sl_unfold_words
  exact congrArg (fun z => [(⟨Rect.unit (s := S1x512x8) (k0_off2 k) S1x128x8.size (k0_off2_inb k), k0_pay6 (k0_pay1 x1) z⟩ : View.Piece (Elt F) S1x512x8 .f32)])
    (seeds_read arg2 harg2 x2 k)

theorem trip_feats (X9 : BufTy.Contents (Elt F) arg9.view.ty) (G : FVec F S16384x64 .f32)
    (hG : View.readAt (Elt F) arg9.view (Rect.unit ![0, 0] S16384x64.size inb_S16384x64_S16384x64_0_0).toLoadRect X9 = G)
    (k : Fin k0_t1_loop.trips) :
    (trip c i arg1 harg1 arg2 harg2 arg3 harg3 arg4 harg4 arg5 harg5 arg6 harg6 arg7 harg7 arg8 harg8 arg9 harg9 arg10 harg10 x1 (harg2.unread x2) X9 k).1 =
      [⟨Rect.unit (s := S1x512x64) (k0_off3 k) S1x128x64.size (k0_off3_inb k), k0_pay4 (after (dist x1 x2 k) G k0_t2_loop.trips).2⟩] := by
  unfold trip
  dsimp only
  sl_unfold_words
  exact congrArg (fun z : FVec F S128x1 .f32 × FVec F S128x64 .f32 =>
      [(⟨Rect.unit (s := S1x512x64) (k0_off3 k) S1x128x64.size (k0_off3_inb k), k0_pay4 z.2⟩ : View.Piece (Elt F) S1x512x64 .f32)])
    (st_eq c i arg1 harg1 arg2 harg2 arg3 harg3 arg4 harg4 arg5 harg5 arg6 harg6 arg7 harg7 arg8 harg8 arg9 harg9 arg10 harg10 _ _ _ _ k X9 _ (dist x1 x2 k) G
      ((View.readAt_writes_full ..).trans (congrArg (k0_pay7 (k0_pay1 x1) (k0_pay3 x1)) (seeds_read arg2 harg2 x2 k)))
      hG k0_t2_loop.trips le_rfl)

/-- The features of the rows. -/
abbrev rows : FVec F S16384x64 .f32 := k0_pay2 x1 x3 x4 x5 x6

theorem run_eq : ∃ X9, View.readAt (Elt F) arg9.view (Rect.unit ![0, 0] S16384x64.size inb_S16384x64_S16384x64_0_0).toLoadRect X9 = rows x1 x3 x4 x5 x6 ∧
    (run c i arg1 harg1 arg2 harg2 arg3 harg3 arg4 harg4 arg5 harg5 arg6 harg6 arg7 harg7 arg8 harg8 arg9 harg9 arg10 harg10 x1 x2 x3 x4 x5 x6).1 =
      (pcs c i arg1 harg1 arg2 harg2 arg3 harg3 arg4 harg4 arg5 harg5 arg6 harg6 arg7 harg7 arg8 harg8 arg9 harg9 arg10 harg10 x1 (harg2.unread x2) X9 k0_t1_loop.trips).1 ∧
    (run c i arg1 harg1 arg2 harg2 arg3 harg3 arg4 harg4 arg5 harg5 arg6 harg6 arg7 harg7 arg8 harg8 arg9 harg9 arg10 harg10 x1 x2 x3 x4 x5 x6).2.1 =
      (pcs c i arg1 harg1 arg2 harg2 arg3 harg3 arg4 harg4 arg5 harg5 arg6 harg6 arg7 harg7 arg8 harg8 arg9 harg9 arg10 harg10 x1 (harg2.unread x2) X9 k0_t1_loop.trips).2 := by
  have e1 : View.readAt (Elt F) arg1.view (Rect.unit ![0, 0, 0] S1x8x16384.size inb_S1x8x16384_S1x8x16384_0_0_0).toLoadRect (harg1.unread x1) = x1 :=
    (View.readAt_full ..).trans (harg1.read_unread _)
  have e3 : View.readAt (Elt F) arg3.view (Rect.unit ![0, 0] S8x64.size inb_S8x64_S8x64_0_0).toLoadRect (harg3.unread x3) = x3 :=
    (View.readAt_full ..).trans (harg3.read_unread _)
  have e4 : View.readAt (Elt F) arg4.view (Rect.unit ![0, 0] S1x64.size inb_S1x64_S1x64_0_0).toLoadRect (harg4.unread x4) = x4 :=
    (View.readAt_full ..).trans (harg4.read_unread _)
  have e5 : View.readAt (Elt F) arg5.view (Rect.unit ![0, 0] S64x64.size inb_S64x64_S64x64_0_0).toLoadRect (harg5.unread x5) = x5 :=
    (View.readAt_full ..).trans (harg5.read_unread _)
  have e6 : View.readAt (Elt F) arg6.view (Rect.unit ![0, 0] S1x64.size inb_S1x64_S1x64_0_0).toLoadRect (harg6.unread x6) = x6 :=
    (View.readAt_full ..).trans (harg6.read_unread _)
  refine ⟨arg9.view.writes (Elt F) arg9.view.junk [⟨Rect.unit ![0, 0] S16384x64.size inb_S16384x64_S16384x64_0_0, rows x1 x3 x4 x5 x6⟩], View.readAt_writes_full .., ?_, ?_⟩
  · unfold run
    dsimp only
    sl_unfold_words
    rw [e1, e3, e4, e5, e6]
  · unfold run
    dsimp only
    sl_unfold_words
    rw [e1, e3, e4, e5, e6]

theorem out7_at (k : Fin k0_t1_loop.trips) (q : Fin 128) (o : Fin 64) (r : Fin 512) (hr : r.val = 128 * k.val + q.val) :
    out7 c i arg1 harg1 arg2 harg2 arg3 harg3 arg4 harg4 arg5 harg5 arg6 harg6 arg7 harg7 arg8 harg8 arg9 harg9 arg10 harg10 x1 x2 x3 x4 x5 x6 (ix3 0 r o) =
      k0_pay4 (after (dist x1 x2 k) (rows x1 x3 x4 x5 x6) k0_t2_loop.trips).2 (ix3 0 q o) := by
  obtain ⟨X9, hG, e, -⟩ := run_eq c i arg1 harg1 arg2 harg2 arg3 harg3 arg4 harg4 arg5 harg5 arg6 harg6 arg7 harg7 arg8 harg8 arg9 harg9 arg10 harg10 x1 x2 x3 x4 x5 x6
  unfold out7
  rw [e]
  exact groups_at _ _ k0_off3 k0_off3_eq k0_off3_inb (fun k => k0_pay4 (after (dist x1 x2 k) (rows x1 x3 x4 x5 x6) k0_t2_loop.trips).2)
    (fun n => (pcs c i arg1 harg1 arg2 harg2 arg3 harg3 arg4 harg4 arg5 harg5 arg6 harg6 arg7 harg7 arg8 harg8 arg9 harg9 arg10 harg10 x1 (harg2.unread x2) X9 n).1)
    (fun k => (congrArg Prod.fst (pcs_succ c i arg1 harg1 arg2 harg2 arg3 harg3 arg4 harg4 arg5 harg5 arg6 harg6 arg7 harg7 arg8 harg8 arg9 harg9 arg10 harg10 x1 (harg2.unread x2) X9 k)).trans
      (congrArg (· ++ _) (trip_feats c i arg1 harg1 arg2 harg2 arg3 harg3 arg4 harg4 arg5 harg5 arg6 harg6 arg7 harg7 arg8 harg8 arg9 harg9 arg10 harg10 x1 x2 X9 _ hG k))) k q o r hr _ k.isLt le_rfl

theorem out8_at (k : Fin k0_t1_loop.trips) (q : Fin 128) (o : Fin 8) (r : Fin 512) (hr : r.val = 128 * k.val + q.val) :
    out8 c i arg1 harg1 arg2 harg2 arg3 harg3 arg4 harg4 arg5 harg5 arg6 harg6 arg7 harg7 arg8 harg8 arg9 harg9 arg10 harg10 x1 x2 x3 x4 x5 x6 (ix3 0 r o) =
      k0_pay6 (k0_pay1 x1) (seeds x2 k) (ix3 0 q o) := by
  obtain ⟨X9, hG, -, e⟩ := run_eq c i arg1 harg1 arg2 harg2 arg3 harg3 arg4 harg4 arg5 harg5 arg6 harg6 arg7 harg7 arg8 harg8 arg9 harg9 arg10 harg10 x1 x2 x3 x4 x5 x6
  unfold out8
  rw [e]
  exact groups_at _ _ k0_off2 k0_off2_eq k0_off2_inb (fun k => k0_pay6 (k0_pay1 x1) (seeds x2 k))
    (fun n => (pcs c i arg1 harg1 arg2 harg2 arg3 harg3 arg4 harg4 arg5 harg5 arg6 harg6 arg7 harg7 arg8 harg8 arg9 harg9 arg10 harg10 x1 (harg2.unread x2) X9 n).2)
    (fun k => (congrArg Prod.snd (pcs_succ c i arg1 harg1 arg2 harg2 arg3 harg3 arg4 harg4 arg5 harg5 arg6 harg6 arg7 harg7 arg8 harg8 arg9 harg9 arg10 harg10 x1 (harg2.unread x2) X9 k)).trans
      (congrArg (· ++ _) (trip_seeds c i arg1 harg1 arg2 harg2 arg3 harg3 arg4 harg4 arg5 harg5 arg6 harg6 arg7 harg7 arg8 harg8 arg9 harg9 arg10 harg10 x1 x2 X9 k))) k q o r hr _ k.isLt le_rfl

end Cert.NetIdeal.Whole

end
-- ==== Proof.ValOne.lean ====
/- The first layer: what its kernel leaves in the arrays is the samples and the reference's features. -/
module

public import proofs.«01_k».proof.Proof.RowsOne
public import proofs.«01_k».proof.Proof.NetIdealRun
public import proofs.«01_k».proof.Proof.RefOne
public import Idealize.ShloMosaic.Lib.Pipeline.ValueKit
public import Idealize.ShloMosaic.Lib.Claim

@[expose] public section

set_option maxRecDepth 16384

noncomputable section

namespace Cert.NetIdeal.One

open Cert.NetIdeal Cert.NetIdeal.Gen Cert.NetIdeal.Whole Cert.Select
open Idealize.ShloMosaic Idealize.ShloMosaic.TcCoe Idealize.SL.Sem

variable (m : (ℓ : Loc nD τ sig) → Buf (Elt Ideal) ℓ)

/-- Every window's block at every grid step. -/
theorem idx : ∀ t : Fin cfg0.N, win0_0.index t = ![t.val, 0, 0]
    ∧ win0_1.index t = ![t.val, 0, 0]
    ∧ win0_2.index t = ![0, 0]
    ∧ win0_3.index t = ![0, 0]
    ∧ win0_4.index t = ![0, 0]
    ∧ win0_5.index t = ![0, 0]
    ∧ win0_6.index t = ![t.val, 0, 0]
    ∧ win0_7.index t = ![t.val, 0, 0] :=
  (by decide +kernel : ∀ t : Fin grid0.N, _)

theorem entry3 (c : Dev nD) : A0r m c main_v5 =
    transpose S4x8x16384 [0, 2, 1] (pad (α := Elt Ideal .f32) S4x16384x8 ![0, 0, 0] ![0, 0, 5] ![0, 0, 0] (m ((c : Thread nD τ).loc main_arg0))
      (sitofp (F := Ideal) .f32 (constantI S_ 32 0#32)) pads_S4x16384x3_S4x16384x8_000_000_050 h_S_)
      transposes_S4x16384x8_S4x8x16384_0_2_1 := by
  simp only [A0r, A0, Gen.V7, Gen.V6, Gen.V5, Gen.V4, Gen.V3, Gen.V2, Gen.V1, Gen.V0, hostOps0, hostOps0_1, hostOps0_2, hostOps0_3, hostOps0_4,
    hostOps0_5, hostOps0_6]
  entry_read
  rfl

theorem entry4 (c : Dev nD) : A0r m c main_v6 =
    pad (α := Elt Ideal .f32) S8x64 ![0, 0] ![5, 0] ![0, 0] (m ((c : Thread nD τ).loc main_arg3)) (sitofp (F := Ideal) .f32 (constantI S_ 32 0#32))
      pads_S3x64_S8x64_050_000 h_S_ := by
  simp only [A0r, A0, Gen.V7, Gen.V6, Gen.V5, Gen.V4, Gen.V3, Gen.V2, Gen.V1, Gen.V0, hostOps0, hostOps0_1, hostOps0_2, hostOps0_3, hostOps0_4,
    hostOps0_5, hostOps0_6]
  entry_read
  rfl

theorem pad3_at (x : FVec Ideal S4x16384x3 .f32) (b : Fin 4) (k : Fin 8) (i : Fin 16384) :
    transpose S4x8x16384 [0, 2, 1] (pad S4x16384x8 ![0, 0, 0] ![0, 0, 5] ![0, 0, 0] x (sitofp (F := Ideal) .f32 (constantI S_ 32 0#32))
      pads_S4x16384x3_S4x16384x8_000_000_050 h_S_) transposes_S4x16384x8_S4x8x16384_0_2_1 (ix3 b k i) = pad8 (fun k => x (ix3 b i k)) k := by
  pointwise [pad8]
  rw [sitofp_zero]

theorem pad4_at (x : FVec Ideal S3x64 .f32) (k : Fin 8) (y : Fin 64) :
    pad S8x64 ![0, 0] ![5, 0] ![0, 0] x (sitofp (F := Ideal) .f32 (constantI S_ 32 0#32))
      pads_S3x64_S8x64_050_000 h_S_ (ix2 k y) = pad8 (fun k => x (ix2 k y)) k := by
  pointwise [pad8]
  rw [sitofp_zero]

theorem win0_at (c : Dev nD) (t : Fin cfg0.N) (b : Fin 4) (hb : b.val = t.val) (k : Fin 8) (i : Fin 16384) :
    iblk0 (A0r m) c 0 t (ix3 0 k i) = pad8 (fun k => (m ((c : Thread nD τ).loc main_arg0)) (ix3 b i k)) k := by
  have e : iblk0 (A0r m) c 0 t (ix3 0 k i) = A0r m c main_v5 (ix3 b k i) := by
    blk_ext [iblk0, idx t]
  rw [e, entry3]
  exact pad3_at _ b k i

theorem win1_at (c : Dev nD) (t : Fin cfg0.N) (b : Fin 4) (hb : b.val = t.val) (q : Fin 512) :
    iblk0 (A0r m) c 1 t (ix3 0 q 0) = FloatOps.sitofp (F := Ideal) .f32 ((m ((c : Thread nD τ).loc main_arg1)) (ix2 b q)) := by
  have e : iblk0 (A0r m) c 1 t (ix3 0 q 0) = A0r m c main_v1 (ix3 b q 0) := by
    blk_ext [iblk0, idx t]
  rw [e]
  simp only [A0r, A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise

theorem win2_at (c : Dev nD) (t : Fin cfg0.N) (k : Fin 8) (y : Fin 64) :
    iblk0 (A0r m) c 2 t (ix2 k y) = pad8 (fun k => (m ((c : Thread nD τ).loc main_arg3)) (ix2 k y)) k := by
  have e : iblk0 (A0r m) c 2 t (ix2 k y) = A0r m c main_v6 (ix2 k y) := by
    blk_ext [iblk0, idx t]
  rw [e, entry4]
  exact pad4_at _ k y

theorem win3_at (c : Dev nD) (t : Fin cfg0.N) (k : Fin 64) :
    iblk0 (A0r m) c 3 t (ix2 0 k) = m ((c : Thread nD τ).loc main_arg4) (ix1 k) := by
  have e : iblk0 (A0r m) c 3 t (ix2 0 k) = A0r m c main_v12 (ix2 0 k) := by
    blk_ext [iblk0, idx t]
  rw [e]
  simp only [A0r, A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise

theorem win4_at (c : Dev nD) (t : Fin cfg0.N) (j : Fin 64) (k : Fin 64) :
    iblk0 (A0r m) c 4 t (ix2 j k) = m ((c : Thread nD τ).loc main_arg5) (ix2 j k) := by
  have e : iblk0 (A0r m) c 4 t (ix2 j k) = A0r m c main_arg5 (ix2 j k) := by
    blk_ext [iblk0, idx t]
  rw [e]
  exact congrFun (A0_args m c main_arg5 (by decide)) _

theorem win5_at (c : Dev nD) (t : Fin cfg0.N) (k : Fin 64) :
    iblk0 (A0r m) c 5 t (ix2 0 k) = m ((c : Thread nD τ).loc main_arg6) (ix1 k) := by
  have e : iblk0 (A0r m) c 5 t (ix2 0 k) = A0r m c main_v13 (ix2 0 k) := by
    blk_ext [iblk0, idx t]
  rw [e]
  simp only [A0r, A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise

/-- Every sample lies in one group. -/
theorem group (r : Fin 512) : ∃ (k : Fin k0_t1_loop.trips) (q : Fin 128), r.val = 128 * k.val + q.val := by
  have hk : k0_t1_loop.trips = 4 := by decide
  have := r.isLt
  exact ⟨⟨r.val / 128, by omega⟩, ⟨r.val % 128, by omega⟩, (Nat.div_add_mod _ _).symm⟩

/-- The number of the sample in place `q` of group `k`. -/
theorem member (k : Fin k0_t1_loop.trips) (q : Fin 128) : 128 * k.val + q.val < 512 := by
  have hk : k0_t1_loop.trips = 4 := by decide
  have := k.isLt
  omega

theorem seeds_at (c : Dev nD) (t : Fin cfg0.N) (b : Fin 4) (hb : b.val = t.val) (s : Fin 4 → Fin 512 → Fin 16384) (hs : ∀ b q, (m ((c : Thread nD τ).loc main_arg1)) (ix2 b q) = BitVec.ofNat 32 (s b q).val)
    (k : Fin k0_t1_loop.trips) (q : Fin 128) :
    seeds (F := Ideal) (iblk0 (A0r m) c 1 t) k (ix3 0 q 0) =
      FloatOps.sitofp (F := Ideal) .f32 (BitVec.ofNat 32 (s b ⟨128 * k.val + q.val, member k q⟩).val) := by
  have e : seeds (F := Ideal) (iblk0 (A0r m) c 1 t) k (ix3 0 q 0) = iblk0 (A0r m) c 1 t (ix3 0 ⟨128 * k.val + q.val, member k q⟩ 0) := by
    unfold seeds VecWindow.window
    refine congrArg (iblk0 (A0r m) c 1 t) (funext fun a => Fin.ext ?_)
    have h := congrFun (k0_off1_eq k) a
    match a with
    | ⟨0, _⟩ => exact congrArg (· + 0) h
    | ⟨1, _⟩ => exact (congrArg (· + 1 * q.val) h).trans (congrArg (128 * k.val + ·) (Nat.one_mul _))
    | ⟨2, _⟩ => exact congrArg (· + 0) h
  rw [e, win1_at m c t b hb, hs]

/-- The sampled points, each with zeros after its coordinates. -/
def samples (X : FVec Ideal S4x16384x3 .f32) (s : Fin 4 → Fin 512 → Fin 16384) : FVec Ideal S4x512x8 .f32 :=
  fun i => pad8 (fun k => X (ix3 (i 0) (s (i 0) (i 1)) k)) (i 2)

theorem samples_at (X : FVec Ideal S4x16384x3 .f32) (s : Fin 4 → Fin 512 → Fin 16384) (b : Fin 4) (q : Fin 512) (k : Fin 8) :
    samples X s (ix3 b q k) = pad8 (fun k => X (ix3 b (s b q) k)) k := rfl

/-- The kernel stores the samples. -/
theorem final7 (c : Dev nD) (s : Fin 4 → Fin 512 → Fin 16384) (hs : ∀ b q, (m ((c : Thread nD τ).loc main_arg1)) (ix2 b q) = BitVec.ofNat 32 (s b q).val) :
    (dat0 (A0r m) c).arrAt 7 cfg0.N = samples (m ((c : Thread nD τ).loc main_arg0)) s := by
  refine (dat0 (A0r m) c).arrAt_eq_of_covers 7 _ (by decide +kernel) fun t _ y => ?_
  blk_simp
  rw [after0_7, outB]
  have ht : t.val < 4 := t.isLt
  obtain ⟨r, o, hy⟩ : ∃ (r : Fin 512) (o : Fin 8), y = ix3 0 r o := ⟨y 1, y 2, by blk_ext⟩
  subst hy
  obtain ⟨b, hb⟩ : ∃ b : Fin 4, b.val = t.val := ⟨⟨t.val, by omega⟩, rfl⟩
  obtain ⟨k, q, hr⟩ := group r
  have e : ((View.whole main_v14_1).slice (win0_7.rect t)).emb (ix3 0 r o) = ix3 b r o := by
    blk_ext [idx t]
  have hw := seeds_at m c t b hb s hs k
  rw [e, samples_at, out8_at (k := k) (q := q) (hr := hr), pay6_at _ _ _ hw, win0_at m c t b hb]
  have er : r = ⟨128 * k.val + q.val, member k q⟩ := Fin.ext hr
  rw [er]

/-- The features the kernel stores are the reference's, where the least distances around each sample are strictly
    apart. -/
theorem final6 (c : Dev nD) (s : Fin 4 → Fin 512 → Fin 16384) (hs : ∀ b q, (m ((c : Thread nD τ).loc main_arg1)) (ix2 b q) = BitVec.ofNat 32 (s b q).val)
    (hA : ∀ b q, ∃ σ : Fin 33 → Fin 16384, Ranked (RefNetIdeal.One.dSmp (m ((c : Thread nD τ).loc main_arg0)) s b q) σ ∧
      ∀ j : Fin 32, σ j.castSucc = near (K := 32) (by decide) (RefNetIdeal.One.dSmp (m ((c : Thread nD τ).loc main_arg0)) s b q) j) :
    (dat0 (A0r m) c).arrAt 6 cfg0.N = RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dat0 (A0r m) c).arrAt_eq_of_covers 6 _ (by decide +kernel) fun t _ y => ?_
  blk_simp
  rw [after0_6, outA]
  have ht : t.val < 4 := t.isLt
  obtain ⟨r, o, hy⟩ : ∃ (r : Fin 512) (o : Fin 64), y = ix3 0 r o := ⟨y 1, y 2, by blk_ext⟩
  subst hy
  obtain ⟨b, hb⟩ : ∃ b : Fin 4, b.val = t.val := ⟨⟨t.val, by omega⟩, rfl⟩
  obtain ⟨k, q, hr⟩ := group r
  have e : ((View.whole main_v14_0).slice (win0_6.rect t)).emb (ix3 0 r o) = ix3 b r o := by
    blk_ext [idx t]
  have hw := seeds_at m c t b hb s hs k
  have er : r = ⟨128 * k.val + q.val, member k q⟩ := Fin.ext hr
  have hn : k0_t2_loop.trips = 32 := by decide
  obtain ⟨σ, hσ, hnear⟩ := hA b r
  have hD : ∀ i, Whole.dist (F := Ideal) (iblk0 (A0r m) c 0 t) (iblk0 (A0r m) c 1 t) k (ix2 q i) = RefNetIdeal.One.dSmp (m ((c : Thread nD τ).loc main_arg0)) s b r i := fun i => by
    unfold Whole.dist
    rw [pay7_at _ _ _ hw]
    simp only [win0_at m c t b hb]
    rw [er]
    exact congrFun (sqd_pad8 _ _) i
  rw [e, RefNetIdeal.One.ref_at _ _ _ _ _ _ s hs, out7_at (k := k) (q := q) (hr := hr), pay4_at, hn]
  refine (passes_at (after _ _) _ _ q o _ hD σ hσ rfl fun _ _ => rfl).trans ?_
  simp only [pay2_at, hnear, win0_at m c t b hb, win2_at, win3_at, win4_at, win5_at, sum_pad8]
  rfl

end Cert.NetIdeal.One

end
-- ==== Proof.PayTwo.lean ====
/- What one step of the second layer's kernel stores, read at an index. -/
module

public import proofs.«01_k».proof.Proof.Gen.NetIdeal.Skeleton
public import proofs.«01_k».proof.Proof.Spec

@[expose] public section

set_option maxRecDepth 16384

noncomputable section

namespace Cert.NetIdeal.Two

open Cert.NetIdeal Cert.NetIdeal.Gen Cert.Select
open Idealize.ShloMosaic Idealize.ShloMosaic.TcCoe Idealize.SL.Sem

variable (v0 : FVec Ideal S1x512x64 .f32) (v16 : FVec Ideal S1x128x1 .f32) (s : Fin 128 → Fin 512)
  (hs : ∀ q, v16 (ix3 0 q 0) = FloatOps.sitofp (F := Ideal) .f32 (BitVec.ofNat 32 (s q).val))

theorem pay2_at (i : Fin 512) (k : Fin 64) : k1_pay2 (F := Ideal) v0 (ix2 i k) = v0 (ix3 0 i k) := by
  pointwise [k1_pay2]

include hs in
/-- The sampled points: rows picked by their numbers. -/
theorem pay4_at (q : Fin 128) (k : Fin 64) : k1_pay4 (F := Ideal) v0 v16 (ix2 q k) = v0 (ix3 0 (s q) k) := by
  pointwise [k1_pay4, k1_pay2]
  simp only [hs, gate, row_eq (by decide : 512 ≤ 2 ^ 31)]
  exact onehot (fun x => v0 (ix3 0 x k)) (s q)

include hs in
/-- The distances of the samples to the points. -/
theorem pay8_at (q : Fin 128) (i : Fin 512) :
    k1_pay8 (F := Ideal) (k1_pay6 v0) (k1_pay7 v0 v16) (ix2 q i) =
      sqd (fun k : Fin 64 => v0 (ix3 0 (s q) k)) (fun i k => v0 (ix3 0 i k)) i := by
  pointwise [k1_pay8, k1_pay6, k1_pay7, k1_pay5, k1_pay2, pay4_at v0 v16 s hs]
  rfl

/-- The points' features. -/
theorem pay3_at (v2 : FVec Ideal S64x128 .f32) (v4 : FVec Ideal S1x128 .f32) (v10 : FVec Ideal S128x128 .f32)
    (v12 : FVec Ideal S1x128 .f32) (i : Fin 512) (o : Fin 128) :
    k1_pay3 (F := Ideal) v0 v2 v4 v10 v12 (ix2 i o) =
      mlp (fun y => ∑ k : Fin 64, v0 (ix3 0 i k) * v2 (ix2 k y)) (fun y => v4 (ix2 0 y)) (fun y x => v10 (ix2 y x))
        (fun x => v12 (ix2 0 x)) o := by
  pointwise [k1_pay3, k1_pay2]
  rfl

theorem pay11_at (v27 : FVec Ideal S1x512 .f32) (v35 : FVec Ideal S128x512 .f32) (a : FVec Ideal S128x1 .f32) (q : Fin 128)
    (d : Fin 512 → EReal) (hd : ∀ i, k1_pay8 (F := Ideal) v27 v35 (ix2 q i) = d i) :
    k1_pay11 (F := Ideal) v27 v35 a (ix2 q 0) = minAbove d (a (ix2 q 0)) := by
  pointwise [k1_pay11, hd]
  rw [top_bits]
  rfl

theorem pay12_at (v15 : FVec Ideal S512x128 .f32) (v27 : FVec Ideal S1x512 .f32) (v35 : FVec Ideal S128x512 .f32)
    (a : FVec Ideal S128x1 .f32) (b : FVec Ideal S128x128 .f32) (q : Fin 128) (o : Fin 128)
    (d : Fin 512 → EReal) (hd : ∀ i, k1_pay8 (F := Ideal) v27 v35 (ix2 q i) = d i) :
    k1_pay12 (F := Ideal) v15 v27 v35 a b (ix2 q o) = max (b (ix2 q o))
      (∑ i, (if d i = k1_pay11 (F := Ideal) v27 v35 a (ix2 q 0) then (1 : EReal) else 0) * v15 (ix2 i o)) := by
  pointwise [k1_pay12, hd]
  simp only [gate]

/-- The thirty-two passes leave the greatest feature over each sample's nearest points. -/
theorem passes_at {n : ℕ} (hn : n = 32) (v15 : FVec Ideal S512x128 .f32) (q : Fin 128) (o : Fin 128) (d : Fin 512 → EReal)
    (v27 : FVec Ideal S1x512 .f32) (v35 : FVec Ideal S128x512 .f32)
    (hd : ∀ i, k1_pay8 (F := Ideal) v27 v35 (ix2 q i) = d i) (σ : Fin 33 → Fin 512) (R : Ranked d σ)
    (g : Fin n → FVec Ideal S128x1 .f32 × FVec Ideal S128x128 .f32 → FVec Ideal S128x1 .f32 × FVec Ideal S128x128 .f32)
    (h1 : ∀ k a, (g k a).1 = k1_pay11 (F := Ideal) v27 v35 a.1)
    (h2 : ∀ k a, (g k a).2 = k1_pay12 (F := Ideal) v15 v27 v35 a.1 a.2) :
    (Scf.fold g (k1_pay9 (F := Ideal), k1_pay10 (F := Ideal))).2 (ix2 q o) =
      Finset.univ.fold max ⊥ fun j : Fin 32 => v15 (ix2 (σ j.castSucc) o) := by
  have b9 : k1_pay9 (F := Ideal) (ix2 q 0) = (⊥ : EReal) := by
    pointwise [k1_pay9]
    exact bot_bits
  have b10 : k1_pay10 (F := Ideal) (ix2 q o) = (⊥ : EReal) := by
    pointwise [k1_pay10]
    exact bot_bits
  refine passes g _ (fun a : FVec Ideal S128x1 .f32 × FVec Ideal S128x128 .f32 => a.1 (ix2 q 0)) (fun a => a.2 (ix2 q o)) d
    (fun i => v15 (ix2 i o)) R hn (by decide) b9 b10 (fun k a => ?_) fun k a => ?_
  · rw [h1, pay11_at v27 v35 a.1 q d hd]
  · rw [h2, h1, pay12_at v15 v27 v35 a.1 a.2 q o d hd]

include hs in
/-- Which samples lie within the third level: the mask the kernel averages with. -/
theorem pay13_at (r : Fin 512) (i : Fin 128) :
    k1_pay13 (F := Ideal) (k1_pay2 v0) (k1_pay4 v0 v16) (k1_pay5 (F := Ideal)) (ix2 r i) =
      if sqd (fun k : Fin 64 => v0 (ix3 0 r k)) (fun i k => v0 (ix3 0 (s i) k)) i ≤
        level (sqd (fun k : Fin 64 => v0 (ix3 0 r k)) fun i k => v0 (ix3 0 (s i) k)) 3 then
        (Named.named (F := Ideal) (φ := FTy.f32) κ "third" 0x3EAAAAAB#32 : EReal) else 0 := by
  pointwise [k1_pay13, k1_pay5, k1_pay2, pay4_at v0 v16 s hs]
  rw [top_bits, bot_bits]
  rfl

include hs in
theorem pay_at (z : FVec Ideal S128x128 .f32)
    (v79 : FVec Ideal S64x64 .f32) (v82 : FVec Ideal S128x64 .f32) (v86 : FVec Ideal S1x64 .f32)
    (v92 : FVec Ideal S64x64 .f32) (v94 : FVec Ideal S1x64 .f32) (r : Fin 512) (o : Fin 64) (σ : Fin 4 → Fin 128)
    (R : Ranked (sqd (fun k : Fin 64 => v0 (ix3 0 r k)) fun i k => v0 (ix3 0 (s i) k)) σ) :
    k1_pay1 (F := Ideal) (k1_pay2 v0) z (k1_pay13 (F := Ideal) (k1_pay2 v0) (k1_pay4 v0 v16) (k1_pay5 (F := Ideal))) v79 v82 v86 v92 v94 (ix3 0 r o) =
      mlp (fun y => ∑ k : Fin 64, v0 (ix3 0 r k) * v79 (ix2 k y) +
          ∑ a : Fin 128, (((3 : ℝ)⁻¹ : ℝ) : EReal) * (∑ j : Fin 3, z (ix2 (σ j.castSucc) a)) * v82 (ix2 a y))
        (fun y => v86 (ix2 0 y)) (fun y x => v92 (ix2 y x)) (fun x => v94 (ix2 0 x)) o := by
  have third : (Named.named (F := Ideal) (φ := FTy.f32) κ "third" 0x3EAAAAAB#32 : EReal) = (((3 : ℝ)⁻¹ : ℝ) : EReal) :=
    IdealRules.named_const.ideal_named_scalar _ _ _ _ rfl
  pointwise [k1_pay1, pay2_at]
  simp only [pay13_at v0 v16 s hs, third, R.sum_le (by decide : 0 < 3), mul_sum3 _ (by norm_num : (0 : ℝ) ≤ 3⁻¹)]
  rfl

end Cert.NetIdeal.Two

end
-- ==== Proof.ValTwo.lean ====
/- The second layer: what its kernel leaves in the result array is the reference's result. -/
module

public import proofs.«01_k».proof.Proof.PayTwo
public import proofs.«01_k».proof.Proof.NetIdealRun
public import proofs.«01_k».proof.Proof.RefTwo
public import Idealize.ShloMosaic.Lib.Pipeline.ValueKit
public import Idealize.ShloMosaic.Lib.Claim

@[expose] public section

set_option maxRecDepth 16384

noncomputable section

namespace Cert.NetIdeal.Two

open Cert.NetIdeal Cert.NetIdeal.Gen Cert.NetIdeal.Whole Cert.Select
open Idealize.ShloMosaic Idealize.ShloMosaic.TcCoe Idealize.SL.Sem

variable (m : (ℓ : Loc nD τ sig) → Buf (Elt Ideal) ℓ)

/-- What is in a buffer neither the first call nor what lies between writes to. -/
theorem early (c : Dev nD) (r : Ref sig .tc) (h1 : r ∉ hostOps1_W)
    (h0 : ∀ w, Pipeline.arrRef spec0 w = r → (cfg0.win w).isOut = false) : A1r m c r = A0r m c r :=
  (A1_of m c r h1).trans (B0_of m c r h0)

/-- Every window's block at every grid step. -/
theorem idx : ∀ t : Fin cfg1.N, win1_0.index t = ![t.val, 0, 0]
    ∧ win1_1.index t = ![t.val, 0, 0]
    ∧ win1_2.index t = ![0, 0]
    ∧ win1_3.index t = ![0, 0]
    ∧ win1_4.index t = ![0, 0]
    ∧ win1_5.index t = ![0, 0]
    ∧ win1_6.index t = ![0, 0]
    ∧ win1_7.index t = ![0, 0]
    ∧ win1_8.index t = ![0, 0]
    ∧ win1_9.index t = ![0, 0]
    ∧ win1_10.index t = ![0, 0]
    ∧ win1_11.index t = ![t.val, 0, 0] :=
  (by decide +kernel : ∀ t : Fin grid1.N, _)

theorem win0_at (c : Dev nD) (X : FVec Ideal S4x512x64 .f32) (hX : A1r m c main_v14_0 = X) (t : Fin cfg1.N) (r : Fin 512) (k : Fin 64) (b : Fin 4) (hb : b.val = t.val) :
    iblk1 (A1r m) c 0 t (ix3 0 r k) = X (ix3 b r k) := by
  rw [← hX]
  blk_ext [iblk1, idx t]

theorem win1_at (c : Dev nD) (t : Fin cfg1.N) (q : Fin 128) (b : Fin 4) (hb : b.val = t.val) :
    iblk1 (A1r m) c 1 t (ix3 0 q 0) = FloatOps.sitofp (F := Ideal) .f32 (m ((c : Thread nD τ).loc main_arg2) (ix2 b q)) := by
  have e : iblk1 (A1r m) c 1 t (ix3 0 q 0) = A1r m c main_v3 (ix3 b q 0) := by
    blk_ext [iblk1, idx t]
  rw [e]
  rw [show A1r m c main_v3 = A0 m c main_v3 from early m c main_v3 (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise

theorem win2_at (c : Dev nD) (t : Fin cfg1.N) (j : Fin 64) (k : Fin 128) :
    iblk1 (A1r m) c 2 t (ix2 j k) = m ((c : Thread nD τ).loc main_arg7) (ix2 j k) := by
  have e : iblk1 (A1r m) c 2 t (ix2 j k) = A1r m c main_arg7 (ix2 j k) := by
    blk_ext [iblk1, idx t]
  rw [e]
  exact congrFun (A1_args m c main_arg7 (by decide)) _

theorem win3_at (c : Dev nD) (t : Fin cfg1.N) (k : Fin 128) :
    iblk1 (A1r m) c 3 t (ix2 0 k) = m ((c : Thread nD τ).loc main_arg8) (ix1 k) := by
  have e : iblk1 (A1r m) c 3 t (ix2 0 k) = A1r m c main_v15 (ix2 0 k) := by
    blk_ext [iblk1, idx t]
  rw [e]
  simp only [A1r, A1, hostOps1]
  entry_read
  pointwise
  exact congrFun (B0_args m c main_arg8 (by decide)) _

theorem win4_at (c : Dev nD) (t : Fin cfg1.N) (j : Fin 128) (k : Fin 128) :
    iblk1 (A1r m) c 4 t (ix2 j k) = m ((c : Thread nD τ).loc main_arg9) (ix2 j k) := by
  have e : iblk1 (A1r m) c 4 t (ix2 j k) = A1r m c main_arg9 (ix2 j k) := by
    blk_ext [iblk1, idx t]
  rw [e]
  exact congrFun (A1_args m c main_arg9 (by decide)) _

theorem win5_at (c : Dev nD) (t : Fin cfg1.N) (k : Fin 128) :
    iblk1 (A1r m) c 5 t (ix2 0 k) = m ((c : Thread nD τ).loc main_arg10) (ix1 k) := by
  have e : iblk1 (A1r m) c 5 t (ix2 0 k) = A1r m c main_v16 (ix2 0 k) := by
    blk_ext [iblk1, idx t]
  rw [e]
  simp only [A1r, A1, hostOps1]
  entry_read
  pointwise
  exact congrFun (B0_args m c main_arg10 (by decide)) _

theorem win6_at (c : Dev nD) (t : Fin cfg1.N) (j : Fin 64) (k : Fin 64) :
    iblk1 (A1r m) c 6 t (ix2 j k) = m ((c : Thread nD τ).loc main_arg11) (ix2 (Fin.castLE (by decide) j) k) := by
  have e : iblk1 (A1r m) c 6 t (ix2 j k) = A1r m c main_v10 (ix2 j k) := by
    blk_ext [iblk1, idx t]
  rw [e]
  rw [show A1r m c main_v10 = A0 m c main_v10 from early m c main_v10 (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise
  rfl

theorem win7_at (c : Dev nD) (t : Fin cfg1.N) (j : Fin 128) (k : Fin 64) :
    iblk1 (A1r m) c 7 t (ix2 j k) = m ((c : Thread nD τ).loc main_arg11) (ix2 (Fin.natAdd 64 j) k) := by
  have e : iblk1 (A1r m) c 7 t (ix2 j k) = A1r m c main_v11 (ix2 j k) := by
    blk_ext [iblk1, idx t]
  rw [e]
  rw [show A1r m c main_v11 = A0 m c main_v11 from early m c main_v11 (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise
  rfl

theorem win8_at (c : Dev nD) (t : Fin cfg1.N) (k : Fin 64) :
    iblk1 (A1r m) c 8 t (ix2 0 k) = m ((c : Thread nD τ).loc main_arg12) (ix1 k) := by
  have e : iblk1 (A1r m) c 8 t (ix2 0 k) = A1r m c main_v17 (ix2 0 k) := by
    blk_ext [iblk1, idx t]
  rw [e]
  simp only [A1r, A1, hostOps1]
  entry_read
  pointwise
  exact congrFun (B0_args m c main_arg12 (by decide)) _

theorem win9_at (c : Dev nD) (t : Fin cfg1.N) (j : Fin 64) (k : Fin 64) :
    iblk1 (A1r m) c 9 t (ix2 j k) = m ((c : Thread nD τ).loc main_arg13) (ix2 j k) := by
  have e : iblk1 (A1r m) c 9 t (ix2 j k) = A1r m c main_arg13 (ix2 j k) := by
    blk_ext [iblk1, idx t]
  rw [e]
  exact congrFun (A1_args m c main_arg13 (by decide)) _

theorem win10_at (c : Dev nD) (t : Fin cfg1.N) (k : Fin 64) :
    iblk1 (A1r m) c 10 t (ix2 0 k) = m ((c : Thread nD τ).loc main_arg14) (ix1 k) := by
  have e : iblk1 (A1r m) c 10 t (ix2 0 k) = A1r m c main_v18 (ix2 0 k) := by
    blk_ext [iblk1, idx t]
  rw [e]
  simp only [A1r, A1, hostOps1]
  entry_read
  pointwise
  exact congrFun (B0_args m c main_arg14 (by decide)) _

/-- The result array after the run is the reference's result, where the samples' numbers are rows and the least distances
    around each query are strictly apart. -/
theorem final (c : Dev nD) (X : FVec Ideal S4x512x64 .f32) (hX : A1r m c main_v14_0 = X) (s : Fin 4 → Fin 128 → Fin 512) (hs : ∀ b q, (m ((c : Thread nD τ).loc main_arg2)) (ix2 b q) = BitVec.ofNat 32 (s b q).val)
    (hA : ∀ b q, ∃ σ : Fin 33 → Fin 512, Ranked (RefNetIdeal.Two.dSmp X s b q) σ ∧
      ∀ j : Fin 32, σ j.castSucc = near (K := 32) (by decide) (RefNetIdeal.Two.dSmp X s b q) j)
    (hB : ∀ b r, ∃ σ : Fin 4 → Fin 128, Ranked (RefNetIdeal.Two.dPt X s b r) σ ∧
      ∀ j : Fin 3, σ j.castSucc = near (K := 3) (by decide) (RefNetIdeal.Two.dPt X s b r) j) :
    (dat1 (A1r m) c).arrAt 11 cfg1.N = RefNetIdeal.Two.ref X (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dat1 (A1r m) c).arrAt_eq_of_covers 11 _ (by decide +kernel) fun t _ y => ?_
  blk_simp
  rw [after1_11, outsAt1]
  frame_out
  have ht : t.val < 4 := t.isLt
  obtain ⟨r, o, hy⟩ : ∃ (r : Fin 512) (o : Fin 64), y = ix3 0 r o := ⟨y 1, y 2, by blk_ext⟩
  subst hy
  obtain ⟨b, hb⟩ : ∃ b : Fin 4, b.val = t.val := ⟨⟨t.val, by omega⟩, rfl⟩
  have e : ((View.whole main_v19).slice (win1_11.rect t)).emb (ix3 0 r o) = ix3 b r o := by
    blk_ext [idx t]
  have hw : ∀ q, iblk1 (A1r m) c 1 t (ix3 0 q 0) = FloatOps.sitofp (F := Ideal) .f32 (BitVec.ofNat 32 (s b q).val) := fun q => by
    rw [win1_at m c t q b hb, hs]
  have h0 : ∀ r k, iblk1 (A1r m) c 0 t (ix3 0 r k) = X (ix3 b r k) := fun r k => win0_at m c X hX t r k b hb
  have eA : ∀ q i, k1_pay8 (F := Ideal) (k1_pay6 (iblk1 (A1r m) c 0 t)) (k1_pay7 (iblk1 (A1r m) c 0 t) (iblk1 (A1r m) c 1 t)) (ix2 q i) =
      RefNetIdeal.Two.dSmp X s b q i := fun q i => by
    rw [pay8_at (iblk1 (A1r m) c 0 t) (iblk1 (A1r m) c 1 t) (s b) hw]
    simp only [h0]
    rfl
  obtain ⟨σ, hσ, hn⟩ := hB b r
  rw [e, RefNetIdeal.Two.ref_at _ _ _ _ _ _ _ _ _ _ s hs]
  generalize hz : Scf.fold _ _ = z
  have ez : ∀ q a, z.2 (ix2 q a) = Finset.univ.fold max ⊥ fun j : Fin 32 =>
      RefNetIdeal.Two.feat X (m ((c : Thread nD τ).loc main_arg7)) (m ((c : Thread nD τ).loc main_arg8)) (m ((c : Thread nD τ).loc main_arg9)) (m ((c : Thread nD τ).loc main_arg10)) b
        (near (K := 32) (by decide) (RefNetIdeal.Two.dSmp X s b q) j) a := fun q a => by
    obtain ⟨ν, hν, hnν⟩ := hA b q
    rw [← hz]
    refine (passes_at ?_ (k1_pay3 (F := Ideal) (iblk1 (A1r m) c 0 t) (iblk1 (A1r m) c 2 t) (iblk1 (A1r m) c 3 t) (iblk1 (A1r m) c 4 t) (iblk1 (A1r m) c 5 t)) q a _ _ _ (eA q) ν hν _ (fun _ _ => ?_) fun _ _ => ?_).trans ?_
    · decide
    · dsimp only
    · dsimp only
    simp only [pay3_at, hnν, h0, win2_at, win3_at, win4_at, win5_at]
    rfl
  have hσ' : Ranked (sqd (fun k : Fin 64 => iblk1 (A1r m) c 0 t (ix3 0 r k)) fun i k => iblk1 (A1r m) c 0 t (ix3 0 (s b i) k)) σ := by
    simp only [h0]
    exact hσ
  rw [pay_at (iblk1 (A1r m) c 0 t) (iblk1 (A1r m) c 1 t) (s b) hw (R := hσ')]
  simp only [ez, hn, h0, win6_at, win7_at, win8_at, win9_at, win10_at]

end Cert.NetIdeal.Two

end
-- ==== Proof.PayThree.lean ====
/- What one step of the last layer's kernel stores, read at an index. -/
module

public import proofs.«01_k».proof.Proof.Gen.NetIdeal.Skeleton
public import proofs.«01_k».proof.Proof.Spec

@[expose] public section

set_option maxRecDepth 16384

noncomputable section

namespace Cert.NetIdeal.Three

open Cert.NetIdeal Cert.NetIdeal.Gen Cert.Select
open Idealize.ShloMosaic Idealize.ShloMosaic.TcCoe Idealize.SL.Sem

/-- Which seeds lie within the third level: the mask the kernel averages with. -/
theorem pay3_at (v0 : FVec Ideal S1x2048x8 .f32) (v2 : FVec Ideal S1x512x8 .f32) (r : Fin 2048) (i : Fin 512) :
    k2_pay3 (F := Ideal) v0 v2 (ix2 r i) =
      BitVec.ofBool (decide (sqd (fun k : Fin 8 => v0 (ix3 0 r k)) (fun i k => v2 (ix3 0 i k)) i ≤
        level (sqd (fun k : Fin 8 => v0 (ix3 0 r k)) fun i k => v2 (ix3 0 i k)) 3)) := by
  pointwise [k2_pay3, k2_pay2]
  rw [top_bits]
  rfl

theorem pay_at (v0 : FVec Ideal S1x2048x8 .f32) (v2 : FVec Ideal S1x512x8 .f32) (v41 : FVec Ideal S1x512x64 .f32)
    (v44 : FVec Ideal S8x32 .f32) (v47 : FVec Ideal S64x32 .f32) (v51 : FVec Ideal S1x32 .f32) (v57 : FVec Ideal S32x32 .f32)
    (v59 : FVec Ideal S1x32 .f32) (v63 : FVec Ideal S32x2 .f32) (v65 : FVec Ideal S1x2 .f32) (r : Fin 2048) (o : Fin 2)
    (q : Fin 3 → EReal) (p : Fin 512 → Fin 3 → EReal) (w : Fin 3 → Fin 32 → EReal) (σ : Fin 4 → Fin 512)
    (hq : ∀ k, v0 (ix3 0 r k) = pad8 q k) (hp : ∀ i k, v2 (ix3 0 i k) = pad8 (p i) k)
    (hw : ∀ k y, v44 (ix2 k y) = pad8 (fun k => w k y) k) (R : Ranked (sqd q p) σ) :
    k2_pay1 (k2_pay4 (F := Ideal) (k2_pay2 (F := Ideal) v0) (k2_pay3 (F := Ideal) v0 v2) (Named.named κ "third" 0x3EAAAAAB#32)
        (Scalar.ofBits .f32 0x00000000#32) v41 v44 v47 v51 v57 v59 v63 v65) (ix3 0 r o) =
      Ideal.logistic (∑ x, mlp (fun y => ∑ k : Fin 3, q k * w k y +
          ∑ a : Fin 64, (((3 : ℝ)⁻¹ : ℝ) : EReal) * (∑ j : Fin 3, v41 (ix3 0 (σ j.castSucc) a)) * v47 (ix2 a y))
        (fun y => v51 (ix2 0 y)) (fun y x => v57 (ix2 y x)) (fun x => v59 (ix2 0 x)) x * v63 (ix2 x o) + v65 (ix2 0 o)) := by
  have third : (Named.named (F := Ideal) (φ := FTy.f32) κ "third" 0x3EAAAAAB#32 : EReal) = (((3 : ℝ)⁻¹ : ℝ) : EReal) :=
    IdealRules.named_const.ideal_named_scalar _ _ _ _ rfl
  pointwise [k2_pay1, k2_pay4, k2_pay2, pay3_at]
  simp only [third, hq, hp, hw, sum_pad8, sqd_pad8, R.sum_le (by decide : 0 < 3), mul_sum3 _ (by norm_num : (0 : ℝ) ≤ 3⁻¹)]
  rfl

end Cert.NetIdeal.Three

end
-- ==== Proof.ValThree.lean ====
/- The last layer: what its kernel leaves in the result array is the reference's result. -/
module

public import proofs.«01_k».proof.Proof.PayThree
public import proofs.«01_k».proof.Proof.NetIdealRun
public import proofs.«01_k».proof.Proof.RefThree
public import Idealize.ShloMosaic.Lib.Pipeline.ValueKit
public import Idealize.ShloMosaic.Lib.Claim

@[expose] public section

set_option maxRecDepth 16384

noncomputable section

namespace Cert.NetIdeal.Three

open Cert.NetIdeal Cert.NetIdeal.Gen Cert.NetIdeal.Whole Cert.Select
open Idealize.ShloMosaic Idealize.ShloMosaic.TcCoe Idealize.SL.Sem

variable (m : (ℓ : Loc nD τ sig) → Buf (Elt Ideal) ℓ)

/-- What is in a buffer neither the first two calls nor what lies between writes to. -/
theorem early (c : Dev nD) (r : Ref sig .tc) (h2 : r ∉ hostOps2_W)
    (h1 : ∀ w, Pipeline.arrRef spec1 w = r → (cfg1.win w).isOut = false) (h1' : r ∉ hostOps1_W)
    (h0 : ∀ w, Pipeline.arrRef spec0 w = r → (cfg0.win w).isOut = false) : A2r m c r = A0r m c r :=
  (A2_of m c r h2).trans ((B1_of m c r h1).trans ((A1_of m c r h1').trans (B0_of m c r h0)))

/-- Every window's block at every grid step. -/
theorem idx : ∀ t : Fin cfg2.N, win2_0.index t = ![t.val / 8, t.val % 8, 0]
    ∧ win2_1.index t = ![t.val / 8, 0, 0]
    ∧ win2_2.index t = ![t.val / 8, 0, 0]
    ∧ win2_3.index t = ![0, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![0, 0]
    ∧ win2_10.index t = ![t.val / 8, t.val % 8, 0] :=
  (by decide +kernel : ∀ t : Fin grid2.N, _)

theorem entry0 (c : Dev nD) : A2r m c main_v4 =
    pad (α := Elt Ideal .f32) S4x16384x8 ![0, 0, 0] ![0, 0, 5] ![0, 0, 0] (m ((c : Thread nD τ).loc main_arg0)) (sitofp (F := Ideal) .f32 (constantI S_ 32 0#32))
      pads_S4x16384x3_S4x16384x8_000_000_050 h_S_ := by
  rw [show A2r m c main_v4 = A0 m c main_v4 from early m c main_v4 (by decide) (by decide) (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  rfl

theorem entry3 (c : Dev nD) : A2r m c main_v8 =
    pad (α := Elt Ideal .f32) S8x32 ![0, 0] ![5, 0] ![0, 0] (extractStridedSlice S3x32 ![0, 0] (m ((c : Thread nD τ).loc main_arg15)) slices_S67x32_S3x32_0_0) (sitofp (F := Ideal) .f32 (constantI S_ 32 0#32))
      pads_S3x32_S8x32_050_000 h_S_ := by
  rw [show A2r m c main_v8 = A0 m c main_v8 from early m c main_v8 (by decide) (by decide) (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  rfl

theorem pad0_at (x : FVec Ideal S4x16384x3 .f32) (b : Fin 4) (r : Fin 16384) (k : Fin 8) :
    pad S4x16384x8 ![0, 0, 0] ![0, 0, 5] ![0, 0, 0] x (sitofp (F := Ideal) .f32 (constantI S_ 32 0#32))
      pads_S4x16384x3_S4x16384x8_000_000_050 h_S_ (ix3 b r k) = pad8 (fun k => x (ix3 b r k)) k := by
  pointwise [pad8]
  rw [sitofp_zero]

theorem pad3_at (x : FVec Ideal S67x32 .f32) (k : Fin 8) (y : Fin 32) :
    pad S8x32 ![0, 0] ![5, 0] ![0, 0] (extractStridedSlice S3x32 ![0, 0] x slices_S67x32_S3x32_0_0)
      (sitofp (F := Ideal) .f32 (constantI S_ 32 0#32))
      pads_S3x32_S8x32_050_000 h_S_ (ix2 k y) = pad8 (fun k => x (ix2 (Fin.castLE (by decide) k) y)) k := by
  pointwise [pad8]
  rw [sitofp_zero]
  rfl

theorem win0_at (c : Dev nD) (t : Fin cfg2.N) (r : Fin 2048) (k : Fin 8) (b : Fin 4) (R : Fin 16384)
    (hb : b.val = t.val / 8) (hR : R.val = t.val % 8 * 2048 + r.val) :
    iblk2 (A2r m) c 0 t (ix3 0 r k) = pad8 (fun k => m ((c : Thread nD τ).loc main_arg0) (ix3 b R k)) k := by
  have e : iblk2 (A2r m) c 0 t (ix3 0 r k) = A2r m c main_v4 (ix3 b R k) := by
    blk_ext [iblk2, idx t]
  rw [e, entry0]
  exact pad0_at _ b R k

theorem win1_at (c : Dev nD) (X1 : FVec Ideal RefNetIdeal.S4x512x3 .f32) (hS : ∀ b r k, A2r m c main_v14_1 (ix3 b r k) = pad8 (fun k => X1 (ix3 b r k)) k) (t : Fin cfg2.N) (r : Fin 512) (k : Fin 8) (b : Fin 4) (hb : b.val = t.val / 8) :
    iblk2 (A2r m) c 1 t (ix3 0 r k) = pad8 (fun k => X1 (ix3 b r k)) k := by
  have e : iblk2 (A2r m) c 1 t (ix3 0 r k) = A2r m c main_v14_1 (ix3 b r k) := by
    blk_ext [iblk2, idx t]
  rw [e]
  exact hS b r k

theorem win2_at (c : Dev nD) (X2 : FVec Ideal S4x512x64 .f32) (hF : A2r m c main_v19 = X2) (t : Fin cfg2.N) (r : Fin 512) (k : Fin 64) (b : Fin 4) (hb : b.val = t.val / 8) :
    iblk2 (A2r m) c 2 t (ix3 0 r k) = X2 (ix3 b r k) := by
  rw [← hF]
  blk_ext [iblk2, idx t]

theorem win3_at (c : Dev nD) (t : Fin cfg2.N) (k : Fin 8) (y : Fin 32) :
    iblk2 (A2r m) c 3 t (ix2 k y) = pad8 (fun k => m ((c : Thread nD τ).loc main_arg15) (ix2 (Fin.castLE (by decide) k) y)) k := by
  have e : iblk2 (A2r m) c 3 t (ix2 k y) = A2r m c main_v8 (ix2 k y) := by
    blk_ext [iblk2, idx t]
  rw [e, entry3]
  exact pad3_at _ k y

theorem win4_at (c : Dev nD) (t : Fin cfg2.N) (r : Fin 64) (k : Fin 32) :
    iblk2 (A2r m) c 4 t (ix2 r k) = m ((c : Thread nD τ).loc main_arg15) (ix2 (Fin.natAdd 3 r) k) := by
  have e : iblk2 (A2r m) c 4 t (ix2 r k) = A2r m c main_v9 (ix2 r k) := by
    blk_ext [iblk2, idx t]
  rw [e]
  rw [show A2r m c main_v9 = A0 m c main_v9 from early m c main_v9 (by decide) (by decide) (by decide) (by decide)]
  simp only [A0, Gen.V7, Gen.V6, Gen.V5, Gen.V4, Gen.V3, Gen.V2, Gen.V1, Gen.V0, hostOps0, hostOps0_1, hostOps0_2, hostOps0_3, hostOps0_4,
    hostOps0_5, hostOps0_6]
  entry_read
  pointwise
  rfl

theorem win5_at (c : Dev nD) (t : Fin cfg2.N) (k : Fin 32) :
    iblk2 (A2r m) c 5 t (ix2 0 k) = m ((c : Thread nD τ).loc main_arg16) (ix1 k) := by
  have e : iblk2 (A2r m) c 5 t (ix2 0 k) = A2r m c main_v20 (ix2 0 k) := by
    blk_ext [iblk2, idx t]
  rw [e]
  simp only [A2r, A2, hostOps2]
  entry_read
  pointwise
  exact congrFun (B1_args m c main_arg16 (by decide)) _

theorem win7_at (c : Dev nD) (t : Fin cfg2.N) (k : Fin 32) :
    iblk2 (A2r m) c 7 t (ix2 0 k) = m ((c : Thread nD τ).loc main_arg18) (ix1 k) := by
  have e : iblk2 (A2r m) c 7 t (ix2 0 k) = A2r m c main_v21 (ix2 0 k) := by
    blk_ext [iblk2, idx t]
  rw [e]
  simp only [A2r, A2, hostOps2]
  entry_read
  pointwise
  exact congrFun (B1_args m c main_arg18 (by decide)) _

theorem win9_at (c : Dev nD) (t : Fin cfg2.N) (k : Fin 2) :
    iblk2 (A2r m) c 9 t (ix2 0 k) = m ((c : Thread nD τ).loc main_arg20) (ix1 k) := by
  have e : iblk2 (A2r m) c 9 t (ix2 0 k) = A2r m c main_v22 (ix2 0 k) := by
    blk_ext [iblk2, idx t]
  rw [e]
  simp only [A2r, A2, hostOps2]
  entry_read
  pointwise
  exact congrFun (B1_args m c main_arg20 (by decide)) _

theorem win6_at (c : Dev nD) (t : Fin cfg2.N) (j : Fin 32) (k : Fin 32) :
    iblk2 (A2r m) c 6 t (ix2 j k) = m ((c : Thread nD τ).loc main_arg17) (ix2 j k) := by
  have e : iblk2 (A2r m) c 6 t (ix2 j k) = A2r m c main_arg17 (ix2 j k) := by
    blk_ext [iblk2, idx t]
  rw [e]
  exact congrFun (A2_args m c main_arg17 (by decide)) _

theorem win8_at (c : Dev nD) (t : Fin cfg2.N) (j : Fin 32) (k : Fin 2) :
    iblk2 (A2r m) c 8 t (ix2 j k) = m ((c : Thread nD τ).loc main_arg19) (ix2 j k) := by
  have e : iblk2 (A2r m) c 8 t (ix2 j k) = A2r m c main_arg19 (ix2 j k) := by
    blk_ext [iblk2, idx t]
  rw [e]
  exact congrFun (A2_args m c main_arg19 (by decide)) _

/-- The result array after the run is the reference's result, where each point's four least distances are strictly apart. -/
theorem final (c : Dev nD) (X1 : FVec Ideal RefNetIdeal.S4x512x3 .f32) (hS : ∀ b r k, A2r m c main_v14_1 (ix3 b r k) = pad8 (fun k => X1 (ix3 b r k)) k)
    (X2 : FVec Ideal S4x512x64 .f32) (hF : A2r m c main_v19 = X2)
    (hR : ∀ b r, ∃ σ : Fin 4 → Fin 512, Ranked (RefNetIdeal.Three.dAt (m ((c : Thread nD τ).loc main_arg0)) X1 b r) σ ∧
      ∀ j : Fin 3, σ j.castSucc = near (K := 3) (by decide) (RefNetIdeal.Three.dAt (m ((c : Thread nD τ).loc main_arg0)) X1 b r) j) :
    (dat2 (A2r m) c).arrAt 10 cfg2.N = RefNetIdeal.Three.ref (m ((c : Thread nD τ).loc main_arg0)) X1 X2 (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (dat2 (A2r m) c).arrAt_eq_of_covers 10 _ (by decide +kernel) fun t _ y => ?_
  blk_simp
  rw [after2_10]
  frame_out
  have ht : t.val < 32 := t.isLt
  obtain ⟨r, o, hy⟩ : ∃ (r : Fin 2048) (o : Fin 2), y = ix3 0 r o := ⟨y 1, y 2, by blk_ext⟩
  subst hy
  obtain ⟨b, hb⟩ : ∃ b : Fin 4, b.val = t.val / 8 := ⟨⟨t.val / 8, by omega⟩, rfl⟩
  obtain ⟨R, hr⟩ : ∃ R : Fin 16384, R.val = t.val % 8 * 2048 + r.val := ⟨⟨t.val % 8 * 2048 + r.val, by omega⟩, rfl⟩
  have e : ((View.whole main_v23).slice (win2_10.rect t)).emb (ix3 0 r o) = ix3 b R o := by
    blk_ext [idx t]
  obtain ⟨σ, hσ, hn⟩ := hR b R
  rw [e, RefNetIdeal.Three.ref_at, pay_at (hq := fun k => win0_at m c t r k b R hb hr) (hp := fun i k => win1_at m c X1 hS t i k b hb)
    (hw := fun k y => win3_at m c t k y) (R := hσ)]
  simp only [win2_at m c X2 hF t _ _ b hb, win4_at, win5_at, win6_at, win7_at, win8_at, win9_at, hn]

end Cert.NetIdeal.Three

end
-- ==== Proof.Net.lean ====
/- The three calls together: what the kernel leaves in its result array is the reference's result. -/
module

public import proofs.«01_k».proof.Proof.ValOne
public import proofs.«01_k».proof.Proof.ValTwo
public import proofs.«01_k».proof.Proof.ValThree
public import proofs.«01_k».proof.Proof.RefNet

@[expose] public section

set_option maxRecDepth 16384

noncomputable section

namespace Cert.NetIdeal.Value

open Cert.NetIdeal Cert.NetIdeal.Gen Cert.NetIdeal.Whole Cert.Select
open Idealize.ShloMosaic Idealize.ShloMosaic.TcCoe Idealize.SL.Sem

variable (m : (ℓ : Loc nD τ sig) → Buf (Elt Ideal) ℓ)

/-- The second call starts from what the first left in its features. -/
theorem enter1 (c : Dev nD) : A1r m c main_v14_0 = (dat0 (A0r m) c).arrAt 6 cfg0.N :=
  (A1_of m c main_v14_0 (by decide)).trans (B0_arr m c 6)

/-- The last call starts from what the first left in its samples. -/
theorem enter2 (c : Dev nD) : A2r m c main_v14_1 = (dat0 (A0r m) c).arrAt 7 cfg0.N :=
  (A2_of m c main_v14_1 (by decide)).trans ((B1_of m c main_v14_1 (by decide)).trans
    ((A1_of m c main_v14_1 (by decide)).trans (B0_arr m c 7)))

/-- The last call starts from what the second left in its result. -/
theorem enter2' (c : Dev nD) : A2r m c main_v19 = (dat1 (A1r m) c).arrAt 11 cfg1.N :=
  (A2_of m c main_v19 (by decide)).trans (B1_arr m c 11)

/-- The result array after the run is the reference's result, where the samples' numbers are rows and the least distances
    around each query are strictly apart. -/
theorem final (c : Dev nD) (s : Fin 4 → Fin 512 → Fin 16384) (hs : ∀ b q, (m ((c : Thread nD τ).loc main_arg1)) (ix2 b q) = BitVec.ofNat 32 (s b q).val)
    (t : Fin 4 → Fin 128 → Fin 512) (ht : ∀ b q, (m ((c : Thread nD τ).loc main_arg2)) (ix2 b q) = BitVec.ofNat 32 (t b q).val)
    (h1 : (∀ b q, Ranked (RefNetIdeal.One.dSmp (m ((c : Thread nD τ).loc main_arg0)) s b q) (near (N := 16384) (K := 33) (by decide) (RefNetIdeal.One.dSmp (m ((c : Thread nD τ).loc main_arg0)) s b q))))
    (h2 : (∀ b q, Ranked (RefNetIdeal.Two.dSmp (RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) t b q) (near (N := 512) (K := 33) (by decide) (RefNetIdeal.Two.dSmp (RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) t b q))))
    (h3 : (∀ b q, Ranked (RefNetIdeal.Two.dPt (RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) t b q) (near (N := 128) (K := 4) (by decide) (RefNetIdeal.Two.dPt (RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) t b q))))
    (h4 : (∀ b q, Ranked (RefNetIdeal.Three.dAt (m ((c : Thread nD τ).loc main_arg0)) (RefNetIdeal.One.smpR (m ((c : Thread nD τ).loc main_arg0)) (m ((c : Thread nD τ).loc main_arg1))) b q) (near (N := 512) (K := 4) (by decide) (RefNetIdeal.Three.dAt (m ((c : Thread nD τ).loc main_arg0)) (RefNetIdeal.One.smpR (m ((c : Thread nD τ).loc main_arg0)) (m ((c : Thread nD τ).loc main_arg1))) b q)))) :
    (dat2 (A2r m) c).arrAt 10 cfg2.N = RefNetIdeal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have e1 : A1r m c main_v14_0 = (RefNetIdeal.One.ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
    (enter1 m c).trans (One.final6 m c s hs fun b q => ⟨_, h1 b q, fun _ => rfl⟩)
  have e2 := (enter2' m c).trans (Two.final m c _ e1 t ht (fun b q => ⟨_, h2 b q, fun _ => rfl⟩) fun b r => ⟨_, h3 b r, fun _ => rfl⟩)
  have e3 : ∀ b r k, A2r m c main_v14_1 (ix3 b r k) = pad8 (fun k => (RefNetIdeal.One.smpR (m ((c : Thread nD τ).loc main_arg0)) (m ((c : Thread nD τ).loc main_arg1))) (ix3 b r k)) k := fun b r k => by
    rw [enter2, One.final7 m c s hs, One.samples_at]
    simp only [RefNetIdeal.One.smpR_at _ _ s hs]
  exact Three.final m c _ e3 _ e2 fun b r => ⟨_, h4 b r, fun _ => rfl⟩

end Cert.NetIdeal.Value

end
-- ==== Proof.Apart.lean ====
/- What the preconditions' flags say: numbers are rows, and the least distances around each query are strictly apart. -/
module

public import proofs.«01_k».proof.Proof.Spec

@[expose] public section

set_option maxRecDepth 16384

noncomputable section

namespace Cert.Select

open Idealize.ShloMosaic Idealize.ShloMosaic.TcCoe Idealize.SL.Sem

/-- A slice along the last axis, read at one entry. -/
theorem slice_at {Q K R o : ℕ} (L : FVec Ideal ⟨3, ![4, Q, K]⟩ .f32) (g : Shape.Slices ⟨3, ![4, Q, K]⟩ ![0, 0, o] ⟨3, ![4, Q, R]⟩)
    (b : Fin 4) (q : Fin Q) (j : Fin R) (k : Fin K) (hk : k.val = o + j.val) :
    extractStridedSlice ⟨3, ![4, Q, R]⟩ ![0, 0, o] L g (ix3 b q j) = L (ix3 b q k) := by
  refine congrArg L (funext fun a => Fin.ext ?_)
  match a with
  | ⟨0, _⟩ => exact Nat.zero_add _
  | ⟨1, _⟩ => exact Nat.zero_add _
  | ⟨2, _⟩ => exact hk.symm

/-- The `R + 1` least distances of every query, least first, negated. -/
abbrev least {N Q : ℕ} (R : ℕ) (D : FVec Ideal ⟨3, ![4, Q, N]⟩ .f32) (f : Shape.Slices ⟨3, ![4, Q, N]⟩ (fun _ => 0) ⟨3, ![4, Q, R + 1]⟩) :
    FVec Ideal ⟨3, ![4, Q, R + 1]⟩ .f32 :=
  (Host.topK ⟨3, ![4, Q, R + 1]⟩ 2 (FloatOps.cmpfTotal .gt) (Host.negf (F := Ideal) D) f).1

/-- Queries whose least distance is a number and whose least distances each lie below the next have them strictly apart. -/
theorem apart {N Q R : ℕ} (hn : R + 1 ≤ N) (D : FVec Ideal ⟨3, ![4, Q, N]⟩ .f32) (d : Fin 4 → Fin Q → Fin N → EReal)
    (hD : ∀ b q i, D (ix3 b q i) = d b q i)
    (f : Shape.Slices ⟨3, ![4, Q, N]⟩ (fun _ => 0) ⟨3, ![4, Q, R + 1]⟩)
    (g0 : Shape.Slices ⟨3, ![4, Q, R + 1]⟩ ![0, 0, 0] ⟨3, ![4, Q, 1]⟩)
    (g1 : Shape.Slices ⟨3, ![4, Q, R + 1]⟩ ![0, 0, 1] ⟨3, ![4, Q, R]⟩)
    (g2 : Shape.Slices ⟨3, ![4, Q, R + 1]⟩ ![0, 0, 0] ⟨3, ![4, Q, R]⟩)
    (gb : (⟨0, ![]⟩ : Shape).BroadcastsInDim ⟨3, ![4, Q, 1]⟩ ![])
    (h1 : cmpf .ogt (extractStridedSlice ⟨3, ![4, Q, 1]⟩ ![0, 0, 0] (Host.negf (least R D f)) g0)
      (broadcastInDim ⟨3, ![4, Q, 1]⟩ ![] gb (constant ⟨0, ![]⟩ .f32 0xFF800000#32)) = fun _ => 1#1)
    (h2 : cmpf .ogt (extractStridedSlice ⟨3, ![4, Q, R]⟩ ![0, 0, 1] (Host.negf (least R D f)) g1)
      (extractStridedSlice ⟨3, ![4, Q, R]⟩ ![0, 0, 0] (Host.negf (least R D f)) g2) = fun _ => 1#1)
    (b : Fin 4) (q : Fin Q) : Ranked (d b q) (near hn (d b q)) := by
  have hL : ∀ j, least R D f (ix3 b q j) = -d b q (near hn (d b q) j) := fun j => topK_near_val D f hn b q j _ (hD b q)
  refine ranked_of _ hn (fun j hj => ?_) fun i j hij => ?_
  · have e : j = 0 := Fin.ext hj
    subst e
    have h := congrFun h1 (ix3 b q 0)
    change BitVec.ofBool (decide (Ideal.ofBits .f32 0xFF800000#32 < extractStridedSlice ⟨3, ![4, Q, 1]⟩ ![0, 0, 0] (Host.negf (least R D f)) g0 (ix3 b q 0))) = 1#1 at h
    rw [slice_at _ g0 b q 0 0 rfl, ofBool_iff, bot_bits] at h
    change ⊥ < -least R D f (ix3 b q 0) at h
    rw [hL, neg_neg] at h
    exact h
  · have h := congrFun h2 (ix3 b q ⟨i.val, by omega⟩)
    change BitVec.ofBool (decide (extractStridedSlice ⟨3, ![4, Q, R]⟩ ![0, 0, 0] (Host.negf (least R D f)) g2 (ix3 b q _) <
      extractStridedSlice ⟨3, ![4, Q, R]⟩ ![0, 0, 1] (Host.negf (least R D f)) g1 (ix3 b q _))) = 1#1 at h
    rw [slice_at _ g2 b q _ i (Nat.zero_add _).symm, slice_at _ g1 b q _ j (hij.symm.trans (Nat.add_comm _ _)), ofBool_iff] at h
    change -least R D f (ix3 b q i) < -least R D f (ix3 b q j) at h
    rw [hL, hL, neg_neg, neg_neg] at h
    exact h

/-- Numbers that are at least nothing and under `N` are rows. -/
theorem rows_of {N Q : ℕ} (hN : N < 2 ^ 31) (P : IVec ⟨2, ![4, Q]⟩ 32) (h1 : ∀ b q, IntOp.cmpi .sge (P (ix2 b q)) 0#32 = 1#1)
    (h2 : ∀ b q, IntOp.cmpi .slt (P (ix2 b q)) (BitVec.ofNat 32 N) = 1#1) :
    ∃ s : Fin 4 → Fin Q → Fin N, ∀ b q, P (ix2 b q) = BitVec.ofNat 32 (s b q).val := by
  choose s hs using fun b q => row_of hN _ (h1 b q) (h2 b q)
  exact ⟨s, hs⟩

end Cert.Select

end
-- ==== Proof.PreNet.lean ====
/- What the precondition of the whole kernel says: the samples' numbers are rows, and the least distances around each query
   are strictly apart. -/
module

public import proofs.«01_k».proof.Proof.Gen.Pre_net_no_ties
public import proofs.«01_k».proof.Proof.RefNet
public import proofs.«01_k».proof.Proof.Apart

@[expose] public section

set_option maxRecDepth 16384

noncomputable section

namespace Cert.Pre_net_no_ties.Value

open Cert.Pre_net_no_ties Cert.Pre_net_no_ties.Gen Cert.Select
open Idealize.ShloMosaic Idealize.ShloMosaic.TcCoe Idealize.SL.Sem

variable (X : FVec Ideal S4x16384x3 .f32) (P : IVec S4x512 32) (Q : IVec S4x128 32)
  (a3 : FVec Ideal S3x64 .f32) (a4 : FVec Ideal S64 .f32) (a5 : FVec Ideal S64x64 .f32) (a6 : FVec Ideal S64 .f32)
  (a7 : FVec Ideal S64x128 .f32) (a8 : FVec Ideal S128 .f32) (a9 : FVec Ideal S128x128 .f32) (a10 : FVec Ideal S128 .f32)
  (a11 : FVec Ideal S192x64 .f32) (a12 : FVec Ideal S64 .f32) (a13 : FVec Ideal S64x64 .f32) (a14 : FVec Ideal S64 .f32)
  (a15 : FVec Ideal S67x32 .f32) (a16 : FVec Ideal S32 .f32) (a17 : FVec Ideal S32x32 .f32) (a18 : FVec Ideal S32 .f32)
  (a19 : FVec Ideal S32x2 .f32) (a20 : FVec Ideal S2 .f32)

/-- Where the precondition holds, the first layer's samples' numbers are rows. -/
theorem rows1 (h1 : (fn (F := Ideal) X P Q a3 a4 a5 a6 a7 a8 a9 a10 a11 a12 a13 a14 a15 a16 a17 a18 a19 a20).1 = fun _ => 1#1) (h2 : (fn (F := Ideal) X P Q a3 a4 a5 a6 a7 a8 a9 a10 a11 a12 a13 a14 a15 a16 a17 a18 a19 a20).2.1 = fun _ => 1#1) :
    ∃ s : Fin 4 → Fin 512 → Fin 16384, ∀ b q, P (ix2 b q) = BitVec.ofNat 32 (s b q).val :=
  rows_of (by decide) P (fun b q => congrFun h1 (ix2 b q)) fun b q => congrFun h2 (ix2 b q)

/-- Where the precondition holds, the second layer's samples' numbers are rows. -/
theorem rows2 (h1 : (fn (F := Ideal) X P Q a3 a4 a5 a6 a7 a8 a9 a10 a11 a12 a13 a14 a15 a16 a17 a18 a19 a20).2.2.2.2.1 = fun _ => 1#1) (h2 : (fn (F := Ideal) X P Q a3 a4 a5 a6 a7 a8 a9 a10 a11 a12 a13 a14 a15 a16 a17 a18 a19 a20).2.2.2.2.2.1 = fun _ => 1#1) :
    ∃ t : Fin 4 → Fin 128 → Fin 512, ∀ b q, Q (ix2 b q) = BitVec.ofNat 32 (t b q).val :=
  rows_of (by decide) Q (fun b q => congrFun h1 (ix2 b q)) fun b q => congrFun h2 (ix2 b q)

variable (s : Fin 4 → Fin 512 → Fin 16384) (hs : ∀ b q, P (ix2 b q) = BitVec.ofNat 32 (s b q).val)
  (t : Fin 4 → Fin 128 → Fin 512) (ht : ∀ b q, Q (ix2 b q) = BitVec.ofNat 32 (t b q).val)

include hs in
/-- Where the precondition holds, the first layer's samples' thirty-three least distances are strictly apart. -/
theorem ranked1 (h1 : (fn (F := Ideal) X P Q a3 a4 a5 a6 a7 a8 a9 a10 a11 a12 a13 a14 a15 a16 a17 a18 a19 a20).2.2.1 = fun _ => 1#1) (h2 : (fn (F := Ideal) X P Q a3 a4 a5 a6 a7 a8 a9 a10 a11 a12 a13 a14 a15 a16 a17 a18 a19 a20).2.2.2.1 = fun _ => 1#1) (b : Fin 4) (q : Fin 512) :
    Ranked (RefNetIdeal.One.dSmp X s b q) (near (K := 33) (by decide) (RefNetIdeal.One.dSmp X s b q)) :=
  apart (R := 32) (by decide) (RefNetIdeal.One.dA X P) (RefNetIdeal.One.dSmp X s) (RefNetIdeal.One.dA_at X P s hs)
    sliceFits_S4x512x16384_S4x512x33 slices_S4x512x33_S4x512x1_0_0_0 slices_S4x512x33_S4x512x32_0_0_1 slices_S4x512x33_S4x512x32_0_0_0 bcast_S_S4x512x1 h1 h2 b q

include ht in
/-- Where the precondition holds, the second layer's samples' thirty-three least distances are strictly apart. -/
theorem ranked2 (h1 : (fn (F := Ideal) X P Q a3 a4 a5 a6 a7 a8 a9 a10 a11 a12 a13 a14 a15 a16 a17 a18 a19 a20).2.2.2.2.2.2.1 = fun _ => 1#1) (h2 : (fn (F := Ideal) X P Q a3 a4 a5 a6 a7 a8 a9 a10 a11 a12 a13 a14 a15 a16 a17 a18 a19 a20).2.2.2.2.2.2.2.1 = fun _ => 1#1) (b : Fin 4) (q : Fin 128) :
    Ranked (RefNetIdeal.Two.dSmp (RefNetIdeal.One.ref X P a3 a4 a5 a6) t b q) (near (K := 33) (by decide) (RefNetIdeal.Two.dSmp (RefNetIdeal.One.ref X P a3 a4 a5 a6) t b q)) :=
  apart (R := 32) (by decide) (RefNetIdeal.Two.dA (RefNetIdeal.One.ref X P a3 a4 a5 a6) Q) (RefNetIdeal.Two.dSmp (RefNetIdeal.One.ref X P a3 a4 a5 a6) t) (RefNetIdeal.Two.dA_at (RefNetIdeal.One.ref X P a3 a4 a5 a6) Q t ht)
    sliceFits_S4x128x512_S4x128x33 slices_S4x128x33_S4x128x1_0_0_0 slices_S4x128x33_S4x128x32_0_0_1 slices_S4x128x33_S4x128x32_0_0_0 bcast_S_S4x128x1 h1 h2 b q

include ht in
/-- Where the precondition holds, the second layer's points' four least distances are strictly apart. -/
theorem ranked3 (h1 : (fn (F := Ideal) X P Q a3 a4 a5 a6 a7 a8 a9 a10 a11 a12 a13 a14 a15 a16 a17 a18 a19 a20).2.2.2.2.2.2.2.2.1 = fun _ => 1#1) (h2 : (fn (F := Ideal) X P Q a3 a4 a5 a6 a7 a8 a9 a10 a11 a12 a13 a14 a15 a16 a17 a18 a19 a20).2.2.2.2.2.2.2.2.2.1 = fun _ => 1#1) (b : Fin 4) (q : Fin 512) :
    Ranked (RefNetIdeal.Two.dPt (RefNetIdeal.One.ref X P a3 a4 a5 a6) t b q) (near (K := 4) (by decide) (RefNetIdeal.Two.dPt (RefNetIdeal.One.ref X P a3 a4 a5 a6) t b q)) :=
  apart (R := 3) (by decide) (RefNetIdeal.Two.dB (RefNetIdeal.One.ref X P a3 a4 a5 a6) Q) (RefNetIdeal.Two.dPt (RefNetIdeal.One.ref X P a3 a4 a5 a6) t) (RefNetIdeal.Two.dB_at (RefNetIdeal.One.ref X P a3 a4 a5 a6) Q t ht)
    sliceFits_S4x512x128_S4x512x4 slices_S4x512x4_S4x512x1_0_0_0 slices_S4x512x4_S4x512x3_0_0_1 slices_S4x512x4_S4x512x3_0_0_0 bcast_S_S4x512x1 h1 h2 b q

/-- Where the precondition holds, the last layer's points' four least distances are strictly apart. -/
theorem ranked4 (h1 : (fn (F := Ideal) X P Q a3 a4 a5 a6 a7 a8 a9 a10 a11 a12 a13 a14 a15 a16 a17 a18 a19 a20).2.2.2.2.2.2.2.2.2.2.1 = fun _ => 1#1) (h2 : (fn (F := Ideal) X P Q a3 a4 a5 a6 a7 a8 a9 a10 a11 a12 a13 a14 a15 a16 a17 a18 a19 a20).2.2.2.2.2.2.2.2.2.2.2 = fun _ => 1#1) (b : Fin 4) (q : Fin 16384) :
    Ranked (RefNetIdeal.Three.dAt X (RefNetIdeal.One.smpR X P) b q) (near (K := 4) (by decide) (RefNetIdeal.Three.dAt X (RefNetIdeal.One.smpR X P) b q)) :=
  apart (R := 3) (by decide) (RefNetIdeal.Three.dR X (RefNetIdeal.One.smpR X P)) (RefNetIdeal.Three.dAt X (RefNetIdeal.One.smpR X P)) (RefNetIdeal.Three.dR_at X (RefNetIdeal.One.smpR X P))
    sliceFits_S4x16384x512_S4x16384x4 slices_S4x16384x4_S4x16384x1_0_0_0 slices_S4x16384x4_S4x16384x3_0_0_1 slices_S4x16384x4_S4x16384x3_0_0_0 bcast_S_S4x16384x1 h1 h2 b q

end Cert.Pre_net_no_ties.Value

end
-- ==== Proof.Sa1IdealFrame.lean ====
/- The first layer's kernel run whole: what its loop over four groups of seeds leaves in the two output blocks, and from it
   the run of the program. -/
module

public import proofs.«01_k».proof.Proof.Gen.Sa1Ideal.Frame
public import proofs.«01_k».proof.Proof.Gen.Sa1Ideal.Loops
public import Idealize.ShloMosaic.Lib.Pipeline.Value

@[expose] public section

set_option maxRecDepth 16384

noncomputable section

namespace Cert.Sa1Ideal.Whole

open Cert.Sa1Ideal Cert.Sa1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Loop

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole) (v0 : Vec F S1x8x16384 .f32)

/-- What one group of seeds works on: the seeds and the rows' features as read, the two output blocks, and the distances'
    scratch at whatever the group before left. -/
abbrev held (X2 : BufTy.Contents (Elt F) arg2.view.ty) (X9 : BufTy.Contents (Elt F) arg9.view.ty) (f7 : BufTy.Contents (Elt F) arg7.view.ty) (f8 : BufTy.Contents (Elt F) arg8.view.ty) : sProp 𝕄 :=
  iprop((arg2.view.loc (c : Thread nD τ) ↦[arg2.view.set]{fullShare} X2) ∗ (arg9.view.loc (c : Thread nD τ) ↦[arg9.view.set]{fullShare} X9) ∗ (arg7.view.loc (c : Thread nD τ) ↦[arg7.view.set]{fullShare} f7) ∗ (arg8.view.loc (c : Thread nD τ) ↦[arg8.view.set]{fullShare} f8) ∗ ∃ f10 : BufTy.Contents (Elt F) arg10.view.ty, (arg10.view.loc (c : Thread nD τ) ↦[arg10.view.set]{fullShare} f10))

/-- One group of seeds, run: the pieces it stores into the two output blocks. -/
@[irreducible] def trip (X2 : BufTy.Contents (Elt F) arg2.view.ty) (X9 : BufTy.Contents (Elt F) arg9.view.ty) (k : Fin k0_t1_loop.trips) :
    Σ' (L7 : List (View.Piece (Elt F) S1x512x64 .f32)), { L8 : List (View.Piece (Elt F) S1x512x8 .f32) //
      ∀ (f7 : BufTy.Contents (Elt F) arg7.view.ty) (f8 : BufTy.Contents (Elt F) arg8.view.ty),
        held c arg2 arg7 arg8 arg9 arg10 X2 X9 f7 f8
        ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 v0 k ())
            (fun _ => held c arg2 arg7 arg8 arg9 arg10 X2 X9 (arg7.view.writes (Elt F) f7 L7) (arg8.view.writes (Elt F) f8 L8)) } := by
  have hk : k.val < 4 := Nat.lt_of_lt_of_le k.isLt k0_t1_abs.2.1
  refine ⟨?_, ?_, fun f7 f8 => ?run⟩
  case run =>
    unfold held k0_t1_body
    simp only [k0_part1_eq_skeleton]
    iintro ⟨H2, H9, H7, H8, ⟨%f10, H10⟩⟩
    sl_exec
    sl_step
    isplitl [H2]; · iexact H2
    isplitl [H9]; · iexact H9
    isplitl [H7]; · iexact H7
    isplitl [H8]; · iexact H8
    iexists _; iexact H10

/-- The pieces the first `k` groups store, the latest first. -/
def pcs (X2 : BufTy.Contents (Elt F) arg2.view.ty) (X9 : BufTy.Contents (Elt F) arg9.view.ty) : ℕ → List (View.Piece (Elt F) S1x512x64 .f32) × List (View.Piece (Elt F) S1x512x8 .f32)
  | 0 => ([], [])
  | k + 1 =>
    if h : k < k0_t1_loop.trips then
      ((trip c i arg1 harg1 arg2 harg2 arg3 harg3 arg4 harg4 arg5 harg5 arg6 harg6 arg7 harg7 arg8 harg8 arg9 harg9 arg10 harg10 v0 X2 X9 ⟨k, h⟩).1 ++ (pcs X2 X9 k).1, (trip c i arg1 harg1 arg2 harg2 arg3 harg3 arg4 harg4 arg5 harg5 arg6 harg6 arg7 harg7 arg8 harg8 arg9 harg9 arg10 harg10 v0 X2 X9 ⟨k, h⟩).2.1 ++ (pcs X2 X9 k).2)
    else pcs X2 X9 k

theorem pcs_succ (X2 : BufTy.Contents (Elt F) arg2.view.ty) (X9 : BufTy.Contents (Elt F) arg9.view.ty) (k : Fin k0_t1_loop.trips) :
    pcs c i arg1 harg1 arg2 harg2 arg3 harg3 arg4 harg4 arg5 harg5 arg6 harg6 arg7 harg7 arg8 harg8 arg9 harg9 arg10 harg10 v0 X2 X9 (k.val + 1)
      = ((trip c i arg1 harg1 arg2 harg2 arg3 harg3 arg4 harg4 arg5 harg5 arg6 harg6 arg7 harg7 arg8 harg8 arg9 harg9 arg10 harg10 v0 X2 X9 k).1 ++ (pcs c i arg1 harg1 arg2 harg2 arg3 harg3 arg4 harg4 arg5 harg5 arg6 harg6 arg7 harg7 arg8 harg8 arg9 harg9 arg10 harg10 v0 X2 X9 k.val).1, (trip c i arg1 harg1 arg2 harg2 arg3 harg3 arg4 harg4 arg5 harg5 arg6 harg6 arg7 harg7 arg8 harg8 arg9 harg9 arg10 harg10 v0 X2 X9 k).2.1 ++ (pcs c i arg1 harg1 arg2 harg2 arg3 harg3 arg4 harg4 arg5 harg5 arg6 harg6 arg7 harg7 arg8 harg8 arg9 harg9 arg10 harg10 v0 X2 X9 k.val).2) := by
  rw [pcs.eq_2]; exact dif_pos k.isLt

set_option warn.classDefReducibility false in
/-- The loop over the groups of seeds, by what is stored before each. -/
@[sl_loop] def loopInv (X2 : BufTy.Contents (Elt F) arg2.view.ty) (X9 : BufTy.Contents (Elt F) arg9.view.ty) (G7 : BufTy.Contents (Elt F) arg7.view.ty) (G8 : BufTy.Contents (Elt F) arg8.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 v0 where
  inv k _ := iprop((arg2.view.loc (c : Thread nD τ) ↦[arg2.view.set]{fullShare} X2) ∗ (arg9.view.loc (c : Thread nD τ) ↦[arg9.view.set]{fullShare} X9)
    ∗ (∃ f7 : BufTy.Contents (Elt F) arg7.view.ty, (arg7.view.loc (c : Thread nD τ) ↦[arg7.view.set]{fullShare} f7) ∗ ⌜f7 = arg7.view.writes (Elt F) G7 (pcs c i arg1 harg1 arg2 harg2 arg3 harg3 arg4 harg4 arg5 harg5 arg6 harg6 arg7 harg7 arg8 harg8 arg9 harg9 arg10 harg10 v0 X2 X9 k).1⌝)
    ∗ (∃ f8 : BufTy.Contents (Elt F) arg8.view.ty, (arg8.view.loc (c : Thread nD τ) ↦[arg8.view.set]{fullShare} f8) ∗ ⌜f8 = arg8.view.writes (Elt F) G8 (pcs c i arg1 harg1 arg2 harg2 arg3 harg3 arg4 harg4 arg5 harg5 arg6 harg6 arg7 harg7 arg8 harg8 arg9 harg9 arg10 harg10 v0 X2 X9 k).2⌝)
    ∗ ∃ f10 : BufTy.Contents (Elt F) arg10.view.ty, (arg10.view.loc (c : Thread nD τ) ↦[arg10.view.set]{fullShare} f10))
  step k _ := by
    iintro ⟨H2, H9, ⟨%f7, H7, %h7⟩, ⟨%f8, H8, %h8⟩, H10⟩
    iapply (wp_wand_r Idealize.ShloMosaic.frame (wpE (defs₀ (F := F)) Variants.none (c : Thread nD τ) none) Set.univ)
    isplitl [H2 H9 H7 H8 H10]
    · iapply ((trip c i arg1 harg1 arg2 harg2 arg3 harg3 arg4 harg4 arg5 harg5 arg6 harg6 arg7 harg7 arg8 harg8 arg9 harg9 arg10 harg10 v0 X2 X9 k).2.2 f7 f8)
      isplitl [H2]; · iexact H2
      isplitl [H9]; · iexact H9
      isplitl [H7]; · iexact H7
      isplitl [H8]; · iexact H8
      iexact H10
    · iintro %_ ⟨H2, H9, H7, H8, H10⟩
      isplitl [H2]; · iexact H2
      isplitl [H9]; · iexact H9
      isplitl [H7]
      · iexists _; isplitl [H7]; · iexact H7
        ipureintro; rw [pcs_succ, View.writes_append, h7]
      isplitl [H8]
      · iexists _; isplitl [H8]; · iexact H8
        ipureintro; rw [pcs_succ, View.writes_append, h8]
      iexact H10

end Loop

section Body

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole)
  (x1 : Vec F S1x8x16384 .f32) (x2 : Vec F S1x512x1 .f32) (x3 : Vec F S8x64 .f32) (x4 : Vec F S1x64 .f32) (x5 : Vec F S64x64 .f32) (x6 : Vec F S1x64 .f32)

set_option maxHeartbeats 1000000 in
/-- The kernel's body, run: the pieces it stores into the two output blocks, its inputs and scratch handed back. -/
def run :
    Σ' (L7 : List (View.Piece (Elt F) S1x512x64 .f32)), { L8 : List (View.Piece (Elt F) S1x512x8 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8)) ∗ (∃ d, owns (c : Thread nD τ) arg9 fullShare d) ∗ (∃ d, owns (c : Thread nD τ) arg10 fullShare d)) -∗ K ⟨⟩))
          ⊢ wp frame (wpE (defs₀ (F := F)) Variants.none c none) Set.univ (cc0__sa1_body i arg1 harg1 arg2 harg2 arg3 harg3 arg4 harg4 arg5 harg5 arg6 harg6 arg7 harg7 arg8 harg8 arg9 harg9 arg10 harg10) K } := by
  refine ⟨?_, ?_, fun K => ?run⟩
  case run =>
    simp only [cc0__sa1_body_eq_skeleton]; unfold cc0__sa1_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; iexists _; isplitr
      swap; · iexact H9
      ipureintro; rfl
    iexists _; iexists _; isplitr
    swap; · iexact H10
    ipureintro; rfl

theorem cover7 (y : S1x512x64.Idx) : ∃ p ∈ (run c i arg1 harg1 arg2 harg2 arg3 harg3 arg4 harg4 arg5 harg5 arg6 harg6 arg7 harg7 arg8 harg8 arg9 harg9 arg10 harg10 x1 x2 x3 x4 x5 x6).1, y ∈ p.1.set :=
  View.cover_of_tiledL (run c i arg1 harg1 arg2 harg2 arg3 harg3 arg4 harg4 arg5 harg5 arg6 harg6 arg7 harg7 arg8 harg8 arg9 harg9 arg10 harg10 x1 x2 x3 x4 x5 x6).1 S1x128x64.size (by sl_kernel_rfl) y

theorem cover8 (y : S1x512x8.Idx) : ∃ p ∈ (run c i arg1 harg1 arg2 harg2 arg3 harg3 arg4 harg4 arg5 harg5 arg6 harg6 arg7 harg7 arg8 harg8 arg9 harg9 arg10 harg10 x1 x2 x3 x4 x5 x6).2.1, y ∈ p.1.set :=
  View.cover_of_tiledL (run c i arg1 harg1 arg2 harg2 arg3 harg3 arg4 harg4 arg5 harg5 arg6 harg6 arg7 harg7 arg8 harg8 arg9 harg9 arg10 harg10 x1 x2 x3 x4 x5 x6).2.1 S1x128x8.size (by sl_kernel_rfl) y

/-- The features' block after the body. -/
def out7 : Vec F S1x512x64 .f32 :=
  (Memref.whole cc0_stg6_0 : Memref sig .tc .vmem S1x512x64 .f32).view.read (Elt F) ((Memref.whole cc0_stg6_0 : Memref sig .tc .vmem S1x512x64 .f32).view.writes (Elt F) (Memref.whole cc0_stg6_0 : Memref sig .tc .vmem S1x512x64 .f32).view.junk (run c i arg1 harg1 arg2 harg2 arg3 harg3 arg4 harg4 arg5 harg5 arg6 harg6 arg7 harg7 arg8 harg8 arg9 harg9 arg10 harg10 x1 x2 x3 x4 x5 x6).1)

/-- The seeds' block after the body. -/
def out8 : Vec F S1x512x8 .f32 :=
  (Memref.whole cc0_stg7_0 : Memref sig .tc .vmem S1x512x8 .f32).view.read (Elt F) ((Memref.whole cc0_stg7_0 : Memref sig .tc .vmem S1x512x8 .f32).view.writes (Elt F) (Memref.whole cc0_stg7_0 : Memref sig .tc .vmem S1x512x8 .f32).view.junk (run c i arg1 harg1 arg2 harg2 arg3 harg3 arg4 harg4 arg5 harg5 arg6 harg6 arg7 harg7 arg8 harg8 arg9 harg9 arg10 harg10 x1 x2 x3 x4 x5 x6).2.1)

end Body

variable (m : (ℓ : Loc nD τ sig) → Buf (Elt F) ℓ) (ρ : Dev nD → PrngReg)

/-- The features' block after the body at point `t`. -/
def outA (c : Dev nD) (t : Fin cfg0.N) : Vec F S1x512x64 .f32 :=
  out7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t)

/-- The seeds' block after the body at point `t`. -/
def outB (c : Dev nD) (t : Fin cfg0.N) : Vec F S1x512x8 .f32 :=
  out8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t)

/-- What the launch's theorems ask of the one region: its arrays as it finds them, each input's block kept, the outputs'
    blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outA m c t
    | ⟨7, _⟩ => outB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outA m c t := by dsimp only [dats]
theorem after0_7 (c : Dev nD) (t : Fin cfg0.N) : (dats m 0 c).after 7 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The region's scratch, buffer by buffer. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq,
    after0_0, after0_1, after0_2, after0_3, after0_4, after0_5, after0_6, after0_7]
  unfold outA outB out7 out8
  iintro ⟨⟨⟨HS9, HS10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t)).2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS9]; · iexact HS9
  isplitl [HS10]; · iexact HS10
  iintro ⟨H0, H1, H2, H3, H4, H5, ⟨%e6, H6⟩, ⟨%e7, H7⟩, HS9, HS10⟩
  isplitl [HS9 HS10 Hr]
  · isplitl [HS9 HS10]
    · isplitl [HS9]; · iexact HS9
      iexact HS10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover7 c _ _ _ _ _ _ _ _ _ _ _ _ _ _ _ _ _ _ _ _ _ _ _ _ _ _ _)
  unfold owns; iexists _; isplitr
  swap; · iexact H7
  ipureintro; exact View.read_writes_of_cover _ _ _ _ _ (cover8 c _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_with_sems (frame_of m ρ (dats m) (A_eq m)) (run_main_quiescent m ρ)

end Cert.Sa1Ideal.Whole

end
-- ==== Proof.Sa1Pay.lean ====
/- What the first layer's kernel computes at each step, read at an index. -/
module

public import proofs.«01_k».proof.Proof.Gen.Sa1Ideal.Skeleton
public import proofs.«01_k».proof.Proof.PayOne

@[expose] public section

set_option maxRecDepth 16384

noncomputable section

namespace Cert.Sa1Ideal.Value

open Cert.Sa1Ideal Cert.Sa1Ideal.Gen Cert.Select
open Idealize.ShloMosaic Idealize.ShloMosaic.TcCoe Idealize.SL.Sem

variable (v0 : FVec Ideal S1x8x16384 .f32) (v26 : FVec Ideal S1x128x1 .f32) (s : Fin 128 → Fin 16384)
  (hs : ∀ q, v26 (ix3 0 q 0) = FloatOps.sitofp (F := Ideal) .f32 (BitVec.ofNat 32 (s q).val))

/-- The points' features. -/
theorem pay2_at (v2 : FVec Ideal S8x64 .f32) (v5 : FVec Ideal S1x64 .f32) (v11 : FVec Ideal S64x64 .f32)
    (v13 : FVec Ideal S1x64 .f32) (i : Fin 16384) (o : Fin 64) :
    k0_pay2 (F := Ideal) v0 v2 v5 v11 v13 (ix2 i o) =
      mlp (fun y => ∑ k : Fin 8, v0 (ix3 0 k i) * v2 (ix2 k y)) (fun y => v5 (ix2 0 y)) (fun y x => v11 (ix2 y x))
        (fun x => v13 (ix2 0 x)) o := by
  apply NetIdeal.One.pay2_at <;> assumption

theorem pay4_at (z : FVec Ideal S128x64 .f32) (q : Fin 128) (o : Fin 64) : k0_pay4 (F := Ideal) z (ix3 0 q o) = z (ix2 q o) := by
  apply NetIdeal.One.pay4_at <;> assumption

include hs in
theorem pay6_at (q : Fin 128) (k : Fin 8) : k0_pay6 (F := Ideal) (k0_pay1 v0) v26 (ix3 0 q k) = v0 (ix3 0 k (s q)) := by
  apply NetIdeal.One.pay6_at <;> assumption

include hs in
/-- The distances of the samples to the points. -/
theorem pay7_at (q : Fin 128) (i : Fin 16384) :
    k0_pay7 (F := Ideal) (k0_pay1 v0) (k0_pay3 v0) v26 (ix2 q i) =
      sqd (fun k : Fin 8 => v0 (ix3 0 k (s q))) (fun i k => v0 (ix3 0 k i)) i := by
  apply NetIdeal.One.pay7_at <;> assumption

/-- The thirty-two passes leave the greatest feature over each sample's nearest points. -/
theorem passes_at (st : ℕ → FVec Ideal S128x1 .f32 × FVec Ideal S128x64 .f32) (D : FVec Ideal S128x16384 .f32)
    (G : FVec Ideal S16384x64 .f32) (q : Fin 128) (o : Fin 64) (d : Fin 16384 → EReal)
    (hd : ∀ i, D (ix2 q i) = d i) (σ : Fin 33 → Fin 16384) (R : Ranked d σ)
    (h0 : st 0 = (k0_pay8 (F := Ideal), k0_pay9 (F := Ideal)))
    (h1 : ∀ k < 32, st (k + 1) = (k0_pay10 (F := Ideal) (st k).1 D, k0_pay11 (F := Ideal) (st k).1 (st k).2 D G)) :
    (st 32).2 (ix2 q o) = Finset.univ.fold max ⊥ fun j : Fin 32 => G (ix2 (σ j.castSucc) o) := by
  apply NetIdeal.One.passes_at <;> assumption

end Cert.Sa1Ideal.Value

end
-- ==== Proof.Sa1Rows.lean ====
/- What the first layer's kernel stores, group of seeds by group: rows `128 k …` of each output block are the `k`-th
   group's. -/
module

public import proofs.«01_k».proof.Proof.Sa1IdealFrame
public import proofs.«01_k».proof.Proof.Sa1Pay
public import proofs.«01_k».proof.Proof.Groups
public import Idealize.ShloMosaic.Lib.VecWindow

@[expose] public section

set_option maxRecDepth 16384

noncomputable section

namespace Cert.Sa1Ideal.Whole

open Cert.Sa1Ideal Cert.Sa1Ideal.Gen Cert.Select
open Idealize.ShloMosaic Idealize.ShloMosaic.TcCoe Idealize.ShloMosaic.Tactic Idealize.SL.Sem

variable {F : FTy → Type} [FloatOps F]

variable (c : Dev nD) (i : grid0.Coords) (arg1 : Memref sig .tc .vmem S1x8x16384 .f32) (harg1 : arg1.IsWhole) (arg2 : Memref sig .tc .vmem S1x512x1 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x512x8 .f32) (harg8 : arg8.IsWhole) (arg9 : Memref sig .tc .vmem S16384x64 .f32) (harg9 : arg9.IsWhole) (arg10 : Memref sig .tc .vmem S128x16384 .f32) (harg10 : arg10.IsWhole)
  (x1 : Vec F S1x8x16384 .f32) (x2 : Vec F S1x512x1 .f32) (x3 : Vec F S8x64 .f32) (x4 : Vec F S1x64 .f32) (x5 : Vec F S64x64 .f32) (x6 : Vec F S1x64 .f32)

/-- The seeds' numbers of one group. -/
def seeds (x2 : Vec F S1x512x1 .f32) (k : Fin k0_t1_loop.trips) : Vec F S1x128x1 .f32 :=
  VecWindow.window x2 (k0_off1 k) S1x128x1.size (k0_off1_inb k)

/-- One group's distances. -/
def dist (x1 : Vec F S1x8x16384 .f32) (x2 : Vec F S1x512x1 .f32) (k : Fin k0_t1_loop.trips) : FVec F S128x16384 .f32 :=
  k0_pay7 (k0_pay1 x1) (k0_pay3 x1) (seeds x2 k)

/-- What a pass makes of the level and the features so far. -/
def pass (D : FVec F S128x16384 .f32) (G : FVec F S16384x64 .f32) (a : FVec F S128x1 .f32 × FVec F S128x64 .f32) :
    FVec F S128x1 .f32 × FVec F S128x64 .f32 :=
  (k0_pay10 a.1 D, k0_pay11 a.1 a.2 D G)

/-- The level and the features after `n` passes. -/
def after (D : FVec F S128x16384 .f32) (G : FVec F S16384x64 .f32) : ℕ → FVec F S128x1 .f32 × FVec F S128x64 .f32
  | 0 => (k0_pay8, k0_pay9)
  | n + 1 => pass D G (after D G n)

theorem st_eq (v1 : FVec F S8x16384 .f32) (v22 : FVec F S1x16384 .f32) (a b : BitVec 32) (kk : Fin k0_t1_loop.trips)
    (X9 : BufTy.Contents (Elt F) arg9.view.ty) (X10 : BufTy.Contents (Elt F) arg10.view.ty)
    (D : FVec F S128x16384 .f32) (G : FVec F S16384x64 .f32)
    (hD : View.readAt (Elt F) arg10.view (Rect.unit ![0, 0] S128x16384.size inb_S128x16384_S128x16384_0_0).toLoadRect X10 = D)
    (hG : View.readAt (Elt F) arg9.view (Rect.unit ![0, 0] S16384x64.size inb_S16384x64_S16384x64_0_0).toLoadRect X9 = G) :
    ∀ n, n ≤ k0_t2_loop.trips → st_k0_t2 (F := F) Variants.none c none i arg1 harg1 arg2 harg2 arg3 harg3 arg4 harg4 arg5 harg5 arg6 harg6 arg7 harg7 arg8 harg8 arg9 harg9 arg10 harg10 v1 v22 a b kk X9 X10 (k0_pay8, k0_pay9) n = after D G n := by
  intro n
  induction n with
  | zero => intro _; rfl
  | succ n ih =>
    intro hn
    have e := st_k0_t2_succ (F := F) Variants.none c none i arg1 harg1 arg2 harg2 arg3 harg3 arg4 harg4 arg5 harg5 arg6 harg6 arg7 harg7 arg8 harg8 arg9 harg9 arg10 harg10 v1 v22 a b kk X9 X10 (k0_pay8, k0_pay9) ⟨n, hn⟩
    rw [ih (by omega)] at e
    refine e.trans ?_
    unfold tripR_k0_t2 trip_k0_t2
    dsimp only
    sl_unfold_words
    rw [hD, hG]
    rfl

include harg2 in
theorem seeds_read (k : Fin k0_t1_loop.trips) :
    View.readAt (Elt F) arg2.view (Rect.unit (s := S1x512x1) (k0_off1 k) S1x128x1.size (k0_off1_inb k)).toLoadRect (harg2.unread x2) = seeds x2 k := by
  rw [View.readAt_unit _ _ (k0_off1_inb k) rfl (k0_off1_inb k), harg2.read_unread]
  rfl

theorem trip_seeds (X9 : BufTy.Contents (Elt F) arg9.view.ty) (k : Fin k0_t1_loop.trips) :
    (trip c i arg1 harg1 arg2 harg2 arg3 harg3 arg4 harg4 arg5 harg5 arg6 harg6 arg7 harg7 arg8 harg8 arg9 harg9 arg10 harg10 x1 (harg2.unread x2) X9 k).2.1 =
      [⟨Rect.unit (s := S1x512x8) (k0_off2 k) S1x128x8.size (k0_off2_inb k), k0_pay6 (k0_pay1 x1) (seeds x2 k)⟩] := by
  unfold trip
  dsimp only
  sl_unfold_words
  exact congrArg (fun z => [(⟨Rect.unit (s := S1x512x8) (k0_off2 k) S1x128x8.size (k0_off2_inb k), k0_pay6 (k0_pay1 x1) z⟩ : View.Piece (Elt F) S1x512x8 .f32)])
    (seeds_read arg2 harg2 x2 k)

theorem trip_feats (X9 : BufTy.Contents (Elt F) arg9.view.ty) (G : FVec F S16384x64 .f32)
    (hG : View.readAt (Elt F) arg9.view (Rect.unit ![0, 0] S16384x64.size inb_S16384x64_S16384x64_0_0).toLoadRect X9 = G)
    (k : Fin k0_t1_loop.trips) :
    (trip c i arg1 harg1 arg2 harg2 arg3 harg3 arg4 harg4 arg5 harg5 arg6 harg6 arg7 harg7 arg8 harg8 arg9 harg9 arg10 harg10 x1 (harg2.unread x2) X9 k).1 =
      [⟨Rect.unit (s := S1x512x64) (k0_off3 k) S1x128x64.size (k0_off3_inb k), k0_pay4 (after (dist x1 x2 k) G k0_t2_loop.trips).2⟩] := by
  unfold trip
  dsimp only
  sl_unfold_words
  exact congrArg (fun z : FVec F S128x1 .f32 × FVec F S128x64 .f32 =>
      [(⟨Rect.unit (s := S1x512x64) (k0_off3 k) S1x128x64.size (k0_off3_inb k), k0_pay4 z.2⟩ : View.Piece (Elt F) S1x512x64 .f32)])
    (st_eq c i arg1 harg1 arg2 harg2 arg3 harg3 arg4 harg4 arg5 harg5 arg6 harg6 arg7 harg7 arg8 harg8 arg9 harg9 arg10 harg10 _ _ _ _ k X9 _ (dist x1 x2 k) G
      ((View.readAt_writes_full ..).trans (congrArg (k0_pay7 (k0_pay1 x1) (k0_pay3 x1)) (seeds_read arg2 harg2 x2 k)))
      hG k0_t2_loop.trips le_rfl)

/-- The features of the rows. -/
abbrev rows : FVec F S16384x64 .f32 := k0_pay2 x1 x3 x4 x5 x6

theorem run_eq : ∃ X9, View.readAt (Elt F) arg9.view (Rect.unit ![0, 0] S16384x64.size inb_S16384x64_S16384x64_0_0).toLoadRect X9 = rows x1 x3 x4 x5 x6 ∧
    (run c i arg1 harg1 arg2 harg2 arg3 harg3 arg4 harg4 arg5 harg5 arg6 harg6 arg7 harg7 arg8 harg8 arg9 harg9 arg10 harg10 x1 x2 x3 x4 x5 x6).1 =
      (pcs c i arg1 harg1 arg2 harg2 arg3 harg3 arg4 harg4 arg5 harg5 arg6 harg6 arg7 harg7 arg8 harg8 arg9 harg9 arg10 harg10 x1 (harg2.unread x2) X9 k0_t1_loop.trips).1 ∧
    (run c i arg1 harg1 arg2 harg2 arg3 harg3 arg4 harg4 arg5 harg5 arg6 harg6 arg7 harg7 arg8 harg8 arg9 harg9 arg10 harg10 x1 x2 x3 x4 x5 x6).2.1 =
      (pcs c i arg1 harg1 arg2 harg2 arg3 harg3 arg4 harg4 arg5 harg5 arg6 harg6 arg7 harg7 arg8 harg8 arg9 harg9 arg10 harg10 x1 (harg2.unread x2) X9 k0_t1_loop.trips).2 := by
  have e1 : View.readAt (Elt F) arg1.view (Rect.unit ![0, 0, 0] S1x8x16384.size inb_S1x8x16384_S1x8x16384_0_0_0).toLoadRect (harg1.unread x1) = x1 :=
    (View.readAt_full ..).trans (harg1.read_unread _)
  have e3 : View.readAt (Elt F) arg3.view (Rect.unit ![0, 0] S8x64.size inb_S8x64_S8x64_0_0).toLoadRect (harg3.unread x3) = x3 :=
    (View.readAt_full ..).trans (harg3.read_unread _)
  have e4 : View.readAt (Elt F) arg4.view (Rect.unit ![0, 0] S1x64.size inb_S1x64_S1x64_0_0).toLoadRect (harg4.unread x4) = x4 :=
    (View.readAt_full ..).trans (harg4.read_unread _)
  have e5 : View.readAt (Elt F) arg5.view (Rect.unit ![0, 0] S64x64.size inb_S64x64_S64x64_0_0).toLoadRect (harg5.unread x5) = x5 :=
    (View.readAt_full ..).trans (harg5.read_unread _)
  have e6 : View.readAt (Elt F) arg6.view (Rect.unit ![0, 0] S1x64.size inb_S1x64_S1x64_0_0).toLoadRect (harg6.unread x6) = x6 :=
    (View.readAt_full ..).trans (harg6.read_unread _)
  refine ⟨arg9.view.writes (Elt F) arg9.view.junk [⟨Rect.unit ![0, 0] S16384x64.size inb_S16384x64_S16384x64_0_0, rows x1 x3 x4 x5 x6⟩], View.readAt_writes_full .., ?_, ?_⟩
  · unfold run
    dsimp only
    sl_unfold_words
    rw [e1, e3, e4, e5, e6]
  · unfold run
    dsimp only
    sl_unfold_words
    rw [e1, e3, e4, e5, e6]

theorem out7_at (k : Fin k0_t1_loop.trips) (q : Fin 128) (o : Fin 64) (r : Fin 512) (hr : r.val = 128 * k.val + q.val) :
    out7 c i arg1 harg1 arg2 harg2 arg3 harg3 arg4 harg4 arg5 harg5 arg6 harg6 arg7 harg7 arg8 harg8 arg9 harg9 arg10 harg10 x1 x2 x3 x4 x5 x6 (ix3 0 r o) =
      k0_pay4 (after (dist x1 x2 k) (rows x1 x3 x4 x5 x6) k0_t2_loop.trips).2 (ix3 0 q o) := by
  obtain ⟨X9, hG, e, -⟩ := run_eq c i arg1 harg1 arg2 harg2 arg3 harg3 arg4 harg4 arg5 harg5 arg6 harg6 arg7 harg7 arg8 harg8 arg9 harg9 arg10 harg10 x1 x2 x3 x4 x5 x6
  unfold out7
  rw [e]
  exact groups_at _ _ k0_off3 k0_off3_eq k0_off3_inb (fun k => k0_pay4 (after (dist x1 x2 k) (rows x1 x3 x4 x5 x6) k0_t2_loop.trips).2)
    (fun n => (pcs c i arg1 harg1 arg2 harg2 arg3 harg3 arg4 harg4 arg5 harg5 arg6 harg6 arg7 harg7 arg8 harg8 arg9 harg9 arg10 harg10 x1 (harg2.unread x2) X9 n).1)
    (fun k => (congrArg Prod.fst (pcs_succ c i arg1 harg1 arg2 harg2 arg3 harg3 arg4 harg4 arg5 harg5 arg6 harg6 arg7 harg7 arg8 harg8 arg9 harg9 arg10 harg10 x1 (harg2.unread x2) X9 k)).trans
      (congrArg (· ++ _) (trip_feats c i arg1 harg1 arg2 harg2 arg3 harg3 arg4 harg4 arg5 harg5 arg6 harg6 arg7 harg7 arg8 harg8 arg9 harg9 arg10 harg10 x1 x2 X9 _ hG k))) k q o r hr _ k.isLt le_rfl

theorem out8_at (k : Fin k0_t1_loop.trips) (q : Fin 128) (o : Fin 8) (r : Fin 512) (hr : r.val = 128 * k.val + q.val) :
    out8 c i arg1 harg1 arg2 harg2 arg3 harg3 arg4 harg4 arg5 harg5 arg6 harg6 arg7 harg7 arg8 harg8 arg9 harg9 arg10 harg10 x1 x2 x3 x4 x5 x6 (ix3 0 r o) =
      k0_pay6 (k0_pay1 x1) (seeds x2 k) (ix3 0 q o) := by
  obtain ⟨X9, hG, -, e⟩ := run_eq c i arg1 harg1 arg2 harg2 arg3 harg3 arg4 harg4 arg5 harg5 arg6 harg6 arg7 harg7 arg8 harg8 arg9 harg9 arg10 harg10 x1 x2 x3 x4 x5 x6
  unfold out8
  rw [e]
  exact groups_at _ _ k0_off2 k0_off2_eq k0_off2_inb (fun k => k0_pay6 (k0_pay1 x1) (seeds x2 k))
    (fun n => (pcs c i arg1 harg1 arg2 harg2 arg3 harg3 arg4 harg4 arg5 harg5 arg6 harg6 arg7 harg7 arg8 harg8 arg9 harg9 arg10 harg10 x1 (harg2.unread x2) X9 n).2)
    (fun k => (congrArg Prod.snd (pcs_succ c i arg1 harg1 arg2 harg2 arg3 harg3 arg4 harg4 arg5 harg5 arg6 harg6 arg7 harg7 arg8 harg8 arg9 harg9 arg10 harg10 x1 (harg2.unread x2) X9 k)).trans
      (congrArg (· ++ _) (trip_seeds c i arg1 harg1 arg2 harg2 arg3 harg3 arg4 harg4 arg5 harg5 arg6 harg6 arg7 harg7 arg8 harg8 arg9 harg9 arg10 harg10 x1 x2 X9 k))) k q o r hr _ k.isLt le_rfl

end Cert.Sa1Ideal.Whole

end
-- ==== Proof.RefCalls.lean ====
/- What each call's reference computes, in the words of the whole kernel's reference. -/
module

public import proofs.«01_k».proof.Proof.Gen.RefSa1Ideal.Run
public import proofs.«01_k».proof.Proof.Gen.RefSa2Fp1Ideal.Run
public import proofs.«01_k».proof.Proof.Gen.RefFp2Ideal.Run
public import proofs.«01_k».proof.Proof.RefOne
public import proofs.«01_k».proof.Proof.RefTwo
public import proofs.«01_k».proof.Proof.RefThree

@[expose] public section

set_option maxRecDepth 16384

noncomputable section

namespace Cert.RefSa1Ideal.Value

open Cert.RefSa1Ideal Cert.RefSa1Ideal.Gen Cert.Select
open Idealize.ShloMosaic Idealize.ShloMosaic.TcCoe Idealize.SL.Sem

/-- The reference's second result: the samples, padded with zeros. -/
def refS (X : FVec Ideal S4x16384x3 .f32) (S : IVec S4x512 32) : FVec Ideal S4x512x8 .f32 :=
  pad S4x512x8 ![0, 0, 0] ![0, 0, 5] ![0, 0, 0] (RefNetIdeal.One.smpR X S) (sitofp .f32 (constantI S_ 32 0#32)) pads_S4x512x3_S4x512x8_000_000_050 h_S_

theorem refS_at (X : FVec Ideal S4x16384x3 .f32) (S : IVec S4x512 32) (s : Fin 4 → Fin 512 → Fin 16384)
    (hs : ∀ b q, S (ix2 b q) = BitVec.ofNat 32 (s b q).val) (b : Fin 4) (q : Fin 512) (k : Fin 8) :
    refS X S (ix3 b q k) = pad8 (fun k => X (ix3 b (s b q) k)) k := by
  pointwise [refS, pad8, RefNetIdeal.One.smpR_at X S s hs]
  rw [sitofp_zero]

theorem res_eq (m : (ℓ : Loc nD τ sig) → Buf (Elt Ideal) ℓ) (c : Dev nD) :
    res_main_v41 m c = RefNetIdeal.One.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.RefSa1Ideal.Value

namespace Cert.RefSa2Fp1Ideal.Value

open Cert.RefSa2Fp1Ideal Cert.RefSa2Fp1Ideal.Gen Cert.Select
open Idealize.ShloMosaic Idealize.ShloMosaic.TcCoe Idealize.SL.Sem

theorem res_eq (m : (ℓ : Loc nD τ sig) → Buf (Elt Ideal) ℓ) (c : Dev nD) :
    res_main_v79 m c = RefNetIdeal.Two.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Cert.RefSa2Fp1Ideal.Value

namespace Cert.RefFp2Ideal.Value

open Cert.RefFp2Ideal Cert.RefFp2Ideal.Gen Cert.Select
open Idealize.ShloMosaic Idealize.ShloMosaic.TcCoe Idealize.SL.Sem

theorem res_eq (m : (ℓ : Loc nD τ sig) → Buf (Elt Ideal) ℓ) (c : Dev nD) :
    res_main_v47 m c = RefNetIdeal.Three.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

end Cert.RefFp2Ideal.Value

end
-- ==== Proof.Sa1.lean ====
/- The first layer: what its kernel leaves in the result arrays is the reference's results. -/
module

public import proofs.«01_k».proof.Proof.Sa1Rows
public import proofs.«01_k».proof.Proof.RefCalls
public import Idealize.ShloMosaic.Lib.Pipeline.ValueKit
public import Idealize.ShloMosaic.Lib.Claim

@[expose] public section

set_option maxRecDepth 16384

noncomputable section

namespace Cert.Sa1Ideal.Value

open Cert.Sa1Ideal Cert.Sa1Ideal.Gen Cert.Sa1Ideal.Whole Cert.Select
open Idealize.ShloMosaic Idealize.ShloMosaic.TcCoe Idealize.SL.Sem

variable (m : (ℓ : Loc nD τ sig) → Buf (Elt Ideal) ℓ)

/-- Every window's block at every grid step. -/
theorem idx : ∀ t : Fin cfg0.N, win0_0.index t = ![t.val, 0, 0]
    ∧ win0_1.index t = ![t.val, 0, 0]
    ∧ win0_2.index t = ![0, 0]
    ∧ win0_3.index t = ![0, 0]
    ∧ win0_4.index t = ![0, 0]
    ∧ win0_5.index t = ![0, 0]
    ∧ win0_6.index t = ![t.val, 0, 0]
    ∧ win0_7.index t = ![t.val, 0, 0] :=
  (by decide +kernel : ∀ t : Fin grid0.N, _)

theorem entry3 (c : Dev nD) : V m c main_v3 =
    transpose S4x8x16384 [0, 2, 1] (pad (α := Elt Ideal .f32) S4x16384x8 ![0, 0, 0] ![0, 0, 5] ![0, 0, 0] (m ((c : Thread nD τ).loc main_arg0))
      (sitofp (F := Ideal) .f32 (constantI S_ 32 0#32)) pads_S4x16384x3_S4x16384x8_000_000_050 h_S_)
      transposes_S4x16384x8_S4x8x16384_0_2_1 := by
  simp only [V, hostOps0, hostOps0_1, hostOps0_2, hostOps0_3, hostOps0_4, List.flatten_cons, List.flatten_nil,
    List.append_nil, List.cons_append, List.nil_append]
  entry_read
  rfl

theorem entry4 (c : Dev nD) : V m c main_v4 =
    pad (α := Elt Ideal .f32) S8x64 ![0, 0] ![5, 0] ![0, 0] (m ((c : Thread nD τ).loc main_arg2)) (sitofp (F := Ideal) .f32 (constantI S_ 32 0#32))
      pads_S3x64_S8x64_050_000 h_S_ := by
  simp only [V, hostOps0, hostOps0_1, hostOps0_2, hostOps0_3, hostOps0_4, List.flatten_cons, List.flatten_nil,
    List.append_nil, List.cons_append, List.nil_append]
  entry_read
  rfl

theorem pad3_at (x : FVec Ideal S4x16384x3 .f32) (b : Fin 4) (k : Fin 8) (i : Fin 16384) :
    transpose S4x8x16384 [0, 2, 1] (pad S4x16384x8 ![0, 0, 0] ![0, 0, 5] ![0, 0, 0] x (sitofp (F := Ideal) .f32 (constantI S_ 32 0#32))
      pads_S4x16384x3_S4x16384x8_000_000_050 h_S_) transposes_S4x16384x8_S4x8x16384_0_2_1 (ix3 b k i) = pad8 (fun k => x (ix3 b i k)) k := by
  pointwise [pad8]
  rw [sitofp_zero]

theorem pad4_at (x : FVec Ideal S3x64 .f32) (k : Fin 8) (y : Fin 64) :
    pad S8x64 ![0, 0] ![5, 0] ![0, 0] x (sitofp (F := Ideal) .f32 (constantI S_ 32 0#32))
      pads_S3x64_S8x64_050_000 h_S_ (ix2 k y) = pad8 (fun k => x (ix2 k y)) k := by
  pointwise [pad8]
  rw [sitofp_zero]

theorem win0_at (c : Dev nD) (t : Fin cfg0.N) (b : Fin 4) (hb : b.val = t.val) (k : Fin 8) (i : Fin 16384) :
    iblk m c 0 t (ix3 0 k i) = pad8 (fun k => (m ((c : Thread nD τ).loc main_arg0)) (ix3 b i k)) k := by
  have e : iblk m c 0 t (ix3 0 k i) = V m c main_v3 (ix3 b k i) := by
    blk_ext [iblk, idx t]
  rw [e, entry3]
  exact pad3_at _ b k i

theorem win1_at (c : Dev nD) (t : Fin cfg0.N) (b : Fin 4) (hb : b.val = t.val) (q : Fin 512) :
    iblk m c 1 t (ix3 0 q 0) = FloatOps.sitofp (F := Ideal) .f32 ((m ((c : Thread nD τ).loc main_arg1)) (ix2 b q)) := by
  have e : iblk m c 1 t (ix3 0 q 0) = V m c main_v1 (ix3 b q 0) := by
    blk_ext [iblk, idx t]
  rw [e]
  simp only [V, hostOps0, hostOps0_1, hostOps0_2, hostOps0_3, hostOps0_4, List.flatten_cons, List.flatten_nil,
    List.append_nil, List.cons_append, List.nil_append]
  entry_read
  pointwise

theorem win2_at (c : Dev nD) (t : Fin cfg0.N) (k : Fin 8) (y : Fin 64) :
    iblk m c 2 t (ix2 k y) = pad8 (fun k => (m ((c : Thread nD τ).loc main_arg2)) (ix2 k y)) k := by
  have e : iblk m c 2 t (ix2 k y) = V m c main_v4 (ix2 k y) := by
    blk_ext [iblk, idx t]
  rw [e, entry4]
  exact pad4_at _ k y

theorem win3_at (c : Dev nD) (t : Fin cfg0.N) (k : Fin 64) :
    iblk m c 3 t (ix2 0 k) = m ((c : Thread nD τ).loc main_arg3) (ix1 k) := by
  have e : iblk m c 3 t (ix2 0 k) = V m c main_v5 (ix2 0 k) := by
    blk_ext [iblk, idx t]
  rw [e]
  simp only [V, hostOps0, hostOps0_1, hostOps0_2, hostOps0_3, hostOps0_4, List.flatten_cons, List.flatten_nil,
    List.append_nil, List.cons_append, List.nil_append]
  entry_read
  pointwise

theorem win4_at (c : Dev nD) (t : Fin cfg0.N) (j : Fin 64) (k : Fin 64) :
    iblk m c 4 t (ix2 j k) = (m ((c : Thread nD τ).loc main_arg4)) (ix2 j k) := by
  blk_ext [iblk, V, idx t]

theorem win5_at (c : Dev nD) (t : Fin cfg0.N) (k : Fin 64) :
    iblk m c 5 t (ix2 0 k) = m ((c : Thread nD τ).loc main_arg5) (ix1 k) := by
  have e : iblk m c 5 t (ix2 0 k) = V m c main_v6 (ix2 0 k) := by
    blk_ext [iblk, idx t]
  rw [e]
  simp only [V, hostOps0, hostOps0_1, hostOps0_2, hostOps0_3, hostOps0_4, List.flatten_cons, List.flatten_nil,
    List.append_nil, List.cons_append, List.nil_append]
  entry_read
  pointwise

/-- Every sample lies in one group. -/
theorem group (r : Fin 512) : ∃ (k : Fin k0_t1_loop.trips) (q : Fin 128), r.val = 128 * k.val + q.val := by
  have hk : k0_t1_loop.trips = 4 := by decide
  have := r.isLt
  exact ⟨⟨r.val / 128, by omega⟩, ⟨r.val % 128, by omega⟩, (Nat.div_add_mod _ _).symm⟩

/-- The number of the sample in place `q` of group `k`. -/
theorem member (k : Fin k0_t1_loop.trips) (q : Fin 128) : 128 * k.val + q.val < 512 := by
  have hk : k0_t1_loop.trips = 4 := by decide
  have := k.isLt
  omega

theorem seeds_at (c : Dev nD) (t : Fin cfg0.N) (b : Fin 4) (hb : b.val = t.val) (s : Fin 4 → Fin 512 → Fin 16384) (hs : ∀ b q, (m ((c : Thread nD τ).loc main_arg1)) (ix2 b q) = BitVec.ofNat 32 (s b q).val)
    (k : Fin k0_t1_loop.trips) (q : Fin 128) :
    seeds (F := Ideal) (iblk m c 1 t) k (ix3 0 q 0) =
      FloatOps.sitofp (F := Ideal) .f32 (BitVec.ofNat 32 (s b ⟨128 * k.val + q.val, member k q⟩).val) := by
  have e : seeds (F := Ideal) (iblk m c 1 t) k (ix3 0 q 0) = iblk m c 1 t (ix3 0 ⟨128 * k.val + q.val, member k q⟩ 0) := by
    unfold seeds VecWindow.window
    refine congrArg (iblk m c 1 t) (funext fun a => Fin.ext ?_)
    have h := congrFun (k0_off1_eq k) a
    match a with
    | ⟨0, _⟩ => exact congrArg (· + 0) h
    | ⟨1, _⟩ => exact (congrArg (· + 1 * q.val) h).trans (congrArg (128 * k.val + ·) (Nat.one_mul _))
    | ⟨2, _⟩ => exact congrArg (· + 0) h
  rw [e, win1_at m c t b hb, hs]

/-- The samples the kernel stores are the reference's. -/
theorem final7 (c : Dev nD) (s : Fin 4 → Fin 512 → Fin 16384) (hs : ∀ b q, (m ((c : Thread nD τ).loc main_arg1)) (ix2 b q) = BitVec.ofNat 32 (s b q).val) :
    (dats m 0 c).arrAt 7 cfg0.N = RefSa1Ideal.Value.refS (m ((c : Thread nD τ).loc main_arg0)) (m ((c : Thread nD τ).loc main_arg1)) := by
  refine (dats m 0 c).arrAt_eq_of_covers 7 _ (by decide +kernel) fun t _ y => ?_
  blk_simp
  rw [after0_7, outB]
  have ht : t.val < 4 := t.isLt
  obtain ⟨r, o, hy⟩ : ∃ (r : Fin 512) (o : Fin 8), y = ix3 0 r o := ⟨y 1, y 2, by blk_ext⟩
  subst hy
  obtain ⟨b, hb⟩ : ∃ b : Fin 4, b.val = t.val := ⟨⟨t.val, by omega⟩, rfl⟩
  obtain ⟨k, q, hr⟩ := group r
  have e : ((View.whole main_v7_1).slice (win0_7.rect t)).emb (ix3 0 r o) = ix3 b r o := by
    blk_ext [idx t]
  have hw := seeds_at m c t b hb s hs k
  rw [e, RefSa1Ideal.Value.refS_at _ _ s hs, out8_at (k := k) (q := q) (hr := hr), pay6_at _ _ _ hw, win0_at m c t b hb]
  have er : r = ⟨128 * k.val + q.val, member k q⟩ := Fin.ext hr
  rw [er]

/-- The features the kernel stores are the reference's, where the least distances around each sample are strictly
    apart. -/
theorem final6 (c : Dev nD) (s : Fin 4 → Fin 512 → Fin 16384) (hs : ∀ b q, (m ((c : Thread nD τ).loc main_arg1)) (ix2 b q) = BitVec.ofNat 32 (s b q).val)
    (hA : ∀ b q, ∃ σ : Fin 33 → Fin 16384, Ranked (RefNetIdeal.One.dSmp (m ((c : Thread nD τ).loc main_arg0)) s b q) σ ∧
      ∀ j : Fin 32, σ j.castSucc = near (K := 32) (by decide) (RefNetIdeal.One.dSmp (m ((c : Thread nD τ).loc main_arg0)) s b q) j) :
    (dats m 0 c).arrAt 6 cfg0.N = RefNetIdeal.One.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, outA]
  have ht : t.val < 4 := t.isLt
  obtain ⟨r, o, hy⟩ : ∃ (r : Fin 512) (o : Fin 64), y = ix3 0 r o := ⟨y 1, y 2, by blk_ext⟩
  subst hy
  obtain ⟨b, hb⟩ : ∃ b : Fin 4, b.val = t.val := ⟨⟨t.val, by omega⟩, rfl⟩
  obtain ⟨k, q, hr⟩ := group r
  have e : ((View.whole main_v7_0).slice (win0_6.rect t)).emb (ix3 0 r o) = ix3 b r o := by
    blk_ext [idx t]
  have hw := seeds_at m c t b hb s hs k
  have er : r = ⟨128 * k.val + q.val, member k q⟩ := Fin.ext hr
  have hn : k0_t2_loop.trips = 32 := by decide
  obtain ⟨σ, hσ, hnear⟩ := hA b r
  have hD : ∀ i, Whole.dist (F := Ideal) (iblk m c 0 t) (iblk m c 1 t) k (ix2 q i) = RefNetIdeal.One.dSmp (m ((c : Thread nD τ).loc main_arg0)) s b r i := fun i => by
    unfold Whole.dist
    rw [pay7_at _ _ _ hw]
    simp only [win0_at m c t b hb]
    rw [er]
    exact congrFun (sqd_pad8 _ _) i
  rw [e, RefNetIdeal.One.ref_at _ _ _ _ _ _ s hs, out7_at (k := k) (q := q) (hr := hr), pay4_at, hn]
  refine (passes_at (after _ _) _ _ q o _ hD σ hσ rfl fun _ _ => rfl).trans ?_
  simp only [pay2_at, hnear, win0_at m c t b hb, win2_at, win3_at, win4_at, win5_at, sum_pad8]
  rfl

/-- The result arrays after the run, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((Whole.A_eq m c 4).trans (V_main_arg4 m c))),
      ((h c).2 main_arg5 (Pipeline.mem_restRefs_of main_arg5 (by decide) (by decide))).trans (V_main_arg5 m c)⟩)
    (run_main m ρ)

end Cert.Sa1Ideal.Value

end
-- ==== Proof.PreSa1.lean ====
/- What the precondition of the first layer says: the samples' numbers are rows, and the least distances around each
   query are strictly apart. -/
module

public import proofs.«01_k».proof.Proof.Gen.Pre_sa1_no_ties
public import proofs.«01_k».proof.Proof.RefOne
public import proofs.«01_k».proof.Proof.Apart

@[expose] public section

set_option maxRecDepth 16384

noncomputable section

namespace Cert.Pre_sa1_no_ties.Value

open Cert.Pre_sa1_no_ties Cert.Pre_sa1_no_ties.Gen Cert.Select
open Idealize.ShloMosaic Idealize.ShloMosaic.TcCoe Idealize.SL.Sem

variable (X : FVec Ideal S4x16384x3 .f32) (S : IVec S4x512 32)
  (U1 : FVec Ideal S3x64 .f32) (c1 : FVec Ideal S64 .f32) (U2 : FVec Ideal S64x64 .f32) (c2 : FVec Ideal S64 .f32)

/-- Where the precondition holds, the samples' numbers are rows. -/
theorem rows (h1 : (fn (F := Ideal) X S U1 c1 U2 c2).1 = fun _ => 1#1) (h2 : (fn (F := Ideal) X S U1 c1 U2 c2).2.1 = fun _ => 1#1) :
    ∃ s : Fin 4 → Fin 512 → Fin 16384, ∀ b q, S (ix2 b q) = BitVec.ofNat 32 (s b q).val :=
  rows_of (by decide) S (fun b q => congrFun h1 (ix2 b q)) fun b q => congrFun h2 (ix2 b q)

variable (s : Fin 4 → Fin 512 → Fin 16384) (hs : ∀ b q, S (ix2 b q) = BitVec.ofNat 32 (s b q).val)

include hs in
/-- Where the precondition holds, the first layer's samples' thirty-three least distances are strictly apart. -/
theorem rankedA (h1 : (fn (F := Ideal) X S U1 c1 U2 c2).2.2.1 = fun _ => 1#1) (h2 : (fn (F := Ideal) X S U1 c1 U2 c2).2.2.2 = fun _ => 1#1) (b : Fin 4) (q : Fin 512) :
    Ranked (RefNetIdeal.One.dSmp X s b q) (near (K := 33) (by decide) (RefNetIdeal.One.dSmp X s b q)) :=
  apart (R := 32) (by decide) (RefNetIdeal.One.dA X S) (RefNetIdeal.One.dSmp X s) (RefNetIdeal.One.dA_at X S s hs)
    sliceFits_S4x512x16384_S4x512x33 slices_S4x512x33_S4x512x1_0_0_0 slices_S4x512x33_S4x512x32_0_0_1 slices_S4x512x33_S4x512x32_0_0_0 bcast_S_S4x512x1 h1 h2 b q

end Cert.Pre_sa1_no_ties.Value

end
-- ==== Proof.Sa2Fp1Pay.lean ====
/- What one step of the second layer's kernel stores, read at an index. -/
module

public import proofs.«01_k».proof.Proof.Gen.Sa2Fp1Ideal.Skeleton
public import proofs.«01_k».proof.Proof.PayTwo

@[expose] public section

set_option maxRecDepth 16384

noncomputable section

namespace Cert.Sa2Fp1Ideal.Value

open Cert.Sa2Fp1Ideal Cert.Sa2Fp1Ideal.Gen Cert.Select
open Idealize.ShloMosaic Idealize.ShloMosaic.TcCoe Idealize.SL.Sem

variable (v0 : FVec Ideal S1x512x64 .f32) (v16 : FVec Ideal S1x128x1 .f32) (s : Fin 128 → Fin 512)
  (hs : ∀ q, v16 (ix3 0 q 0) = FloatOps.sitofp (F := Ideal) .f32 (BitVec.ofNat 32 (s q).val))

include hs in
/-- The distances of the samples to the points. -/
theorem pay8_at (q : Fin 128) (i : Fin 512) :
    k0_pay8 (F := Ideal) (k0_pay6 v0) (k0_pay7 v0 v16) (ix2 q i) =
      sqd (fun k : Fin 64 => v0 (ix3 0 (s q) k)) (fun i k => v0 (ix3 0 i k)) i := by
  apply NetIdeal.Two.pay8_at <;> assumption

/-- The points' features. -/
theorem pay3_at (v2 : FVec Ideal S64x128 .f32) (v4 : FVec Ideal S1x128 .f32) (v10 : FVec Ideal S128x128 .f32)
    (v12 : FVec Ideal S1x128 .f32) (i : Fin 512) (o : Fin 128) :
    k0_pay3 (F := Ideal) v0 v2 v4 v10 v12 (ix2 i o) =
      mlp (fun y => ∑ k : Fin 64, v0 (ix3 0 i k) * v2 (ix2 k y)) (fun y => v4 (ix2 0 y)) (fun y x => v10 (ix2 y x))
        (fun x => v12 (ix2 0 x)) o := by
  apply NetIdeal.Two.pay3_at <;> assumption

/-- The thirty-two passes leave the greatest feature over each sample's nearest points. -/
theorem passes_at {n : ℕ} (hn : n = 32) (v15 : FVec Ideal S512x128 .f32) (q : Fin 128) (o : Fin 128) (d : Fin 512 → EReal)
    (v27 : FVec Ideal S1x512 .f32) (v35 : FVec Ideal S128x512 .f32)
    (hd : ∀ i, k0_pay8 (F := Ideal) v27 v35 (ix2 q i) = d i) (σ : Fin 33 → Fin 512) (R : Ranked d σ)
    (g : Fin n → FVec Ideal S128x1 .f32 × FVec Ideal S128x128 .f32 → FVec Ideal S128x1 .f32 × FVec Ideal S128x128 .f32)
    (h1 : ∀ k a, (g k a).1 = k0_pay11 (F := Ideal) v27 v35 a.1)
    (h2 : ∀ k a, (g k a).2 = k0_pay12 (F := Ideal) v15 v27 v35 a.1 a.2) :
    (Scf.fold g (k0_pay9 (F := Ideal), k0_pay10 (F := Ideal))).2 (ix2 q o) =
      Finset.univ.fold max ⊥ fun j : Fin 32 => v15 (ix2 (σ j.castSucc) o) := by
  apply NetIdeal.Two.passes_at <;> assumption

include hs in
theorem pay_at (z : FVec Ideal S128x128 .f32)
    (v79 : FVec Ideal S64x64 .f32) (v82 : FVec Ideal S128x64 .f32) (v86 : FVec Ideal S1x64 .f32)
    (v92 : FVec Ideal S64x64 .f32) (v94 : FVec Ideal S1x64 .f32) (r : Fin 512) (o : Fin 64) (σ : Fin 4 → Fin 128)
    (R : Ranked (sqd (fun k : Fin 64 => v0 (ix3 0 r k)) fun i k => v0 (ix3 0 (s i) k)) σ) :
    k0_pay1 (F := Ideal) (k0_pay2 v0) z (k0_pay13 (F := Ideal) (k0_pay2 v0) (k0_pay4 v0 v16) (k0_pay5 (F := Ideal))) v79 v82 v86 v92 v94 (ix3 0 r o) =
      mlp (fun y => ∑ k : Fin 64, v0 (ix3 0 r k) * v79 (ix2 k y) +
          ∑ a : Fin 128, (((3 : ℝ)⁻¹ : ℝ) : EReal) * (∑ j : Fin 3, z (ix2 (σ j.castSucc) a)) * v82 (ix2 a y))
        (fun y => v86 (ix2 0 y)) (fun y x => v92 (ix2 y x)) (fun x => v94 (ix2 0 x)) o := by
  apply NetIdeal.Two.pay_at <;> assumption

end Cert.Sa2Fp1Ideal.Value

end
-- ==== Proof.Sa2Fp1.lean ====
/- The second layer: what its kernel leaves in the result array is the reference's result. -/
module

public import proofs.«01_k».proof.Proof.Gen.Sa2Fp1Ideal.Value
public import proofs.«01_k».proof.Proof.Sa2Fp1Pay
public import proofs.«01_k».proof.Proof.RefCalls
public import Idealize.ShloMosaic.Lib.Pipeline.ValueKit
public import Idealize.ShloMosaic.Lib.Claim

@[expose] public section

set_option maxRecDepth 16384

noncomputable section

namespace Cert.Sa2Fp1Ideal.Value

open Cert.Sa2Fp1Ideal Cert.Sa2Fp1Ideal.Gen Cert.Select
open Idealize.ShloMosaic Idealize.ShloMosaic.TcCoe Idealize.SL.Sem

variable (m : (ℓ : Loc nD τ sig) → Buf (Elt Ideal) ℓ)

/-- Every window's block at every grid step. -/
theorem idx : ∀ t : Fin cfg0.N, win0_0.index t = ![t.val, 0, 0]
    ∧ win0_1.index t = ![t.val, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0, 0] :=
  (by decide +kernel : ∀ t : Fin grid0.N, _)

theorem win0_at (c : Dev nD) (t : Fin cfg0.N) (r : Fin 512) (k : Fin 64) (b : Fin 4) (hb : b.val = t.val) :
    iblk m c 0 t (ix3 0 r k) = m ((c : Thread nD τ).loc main_arg0) (ix3 b r k) := by
  blk_ext [iblk, V, idx t]

theorem win1_at (c : Dev nD) (t : Fin cfg0.N) (q : Fin 128) (b : Fin 4) (hb : b.val = t.val) :
    iblk m c 1 t (ix3 0 q 0) = FloatOps.sitofp (F := Ideal) .f32 (m ((c : Thread nD τ).loc main_arg1) (ix2 b q)) := by
  have e : iblk m c 1 t (ix3 0 q 0) = V m c main_v1 (ix3 b q 0) := by
    blk_ext [iblk, idx t]
  rw [e]
  simp only [V]
  entry_read
  pointwise

theorem win2_at (c : Dev nD) (t : Fin cfg0.N) (j : Fin 64) (k : Fin 128) :
    iblk m c 2 t (ix2 j k) = m ((c : Thread nD τ).loc main_arg2) (ix2 j k) := by
  blk_ext [iblk, V, idx t]

theorem win3_at (c : Dev nD) (t : Fin cfg0.N) (k : Fin 128) :
    iblk m c 3 t (ix2 0 k) = m ((c : Thread nD τ).loc main_arg3) (ix1 k) := by
  have e : iblk m c 3 t (ix2 0 k) = V m c main_v4 (ix2 0 k) := by
    blk_ext [iblk, idx t]
  rw [e]
  simp only [V]
  entry_read
  pointwise

theorem win4_at (c : Dev nD) (t : Fin cfg0.N) (j : Fin 128) (k : Fin 128) :
    iblk m c 4 t (ix2 j k) = m ((c : Thread nD τ).loc main_arg4) (ix2 j k) := by
  blk_ext [iblk, V, idx t]

theorem win5_at (c : Dev nD) (t : Fin cfg0.N) (k : Fin 128) :
    iblk m c 5 t (ix2 0 k) = m ((c : Thread nD τ).loc main_arg5) (ix1 k) := by
  have e : iblk m c 5 t (ix2 0 k) = V m c main_v5 (ix2 0 k) := by
    blk_ext [iblk, idx t]
  rw [e]
  simp only [V]
  entry_read
  pointwise

theorem win6_at (c : Dev nD) (t : Fin cfg0.N) (j : Fin 64) (k : Fin 64) :
    iblk m c 6 t (ix2 j k) = m ((c : Thread nD τ).loc main_arg6) (ix2 (Fin.castLE (by decide) j) k) := by
  have e : iblk m c 6 t (ix2 j k) = V m c main_v2 (ix2 j k) := by
    blk_ext [iblk, idx t]
  rw [e]
  simp only [V]
  entry_read
  pointwise
  rfl

theorem win7_at (c : Dev nD) (t : Fin cfg0.N) (j : Fin 128) (k : Fin 64) :
    iblk m c 7 t (ix2 j k) = m ((c : Thread nD τ).loc main_arg6) (ix2 (Fin.natAdd 64 j) k) := by
  have e : iblk m c 7 t (ix2 j k) = V m c main_v3 (ix2 j k) := by
    blk_ext [iblk, idx t]
  rw [e]
  simp only [V]
  entry_read
  pointwise
  rfl

theorem win8_at (c : Dev nD) (t : Fin cfg0.N) (k : Fin 64) :
    iblk m c 8 t (ix2 0 k) = m ((c : Thread nD τ).loc main_arg7) (ix1 k) := by
  have e : iblk m c 8 t (ix2 0 k) = V m c main_v6 (ix2 0 k) := by
    blk_ext [iblk, idx t]
  rw [e]
  simp only [V]
  entry_read
  pointwise

theorem win9_at (c : Dev nD) (t : Fin cfg0.N) (j : Fin 64) (k : Fin 64) :
    iblk m c 9 t (ix2 j k) = m ((c : Thread nD τ).loc main_arg8) (ix2 j k) := by
  blk_ext [iblk, V, idx t]

theorem win10_at (c : Dev nD) (t : Fin cfg0.N) (k : Fin 64) :
    iblk m c 10 t (ix2 0 k) = m ((c : Thread nD τ).loc main_arg9) (ix1 k) := by
  have e : iblk m c 10 t (ix2 0 k) = V m c main_v7 (ix2 0 k) := by
    blk_ext [iblk, idx t]
  rw [e]
  simp only [V]
  entry_read
  pointwise

/-- The result array after the run is the reference's result, where the samples' numbers are rows and the least distances
    around each query are strictly apart. -/
theorem final (c : Dev nD) (s : Fin 4 → Fin 128 → Fin 512) (hs : ∀ b q, (m ((c : Thread nD τ).loc main_arg1)) (ix2 b q) = BitVec.ofNat 32 (s b q).val)
    (hA : ∀ b q, ∃ σ : Fin 33 → Fin 512, Ranked (RefNetIdeal.Two.dSmp (m ((c : Thread nD τ).loc main_arg0)) s b q) σ ∧
      ∀ j : Fin 32, σ j.castSucc = near (K := 32) (by decide) (RefNetIdeal.Two.dSmp (m ((c : Thread nD τ).loc main_arg0)) s b q) j)
    (hB : ∀ b r, ∃ σ : Fin 4 → Fin 128, Ranked (RefNetIdeal.Two.dPt (m ((c : Thread nD τ).loc main_arg0)) s b r) σ ∧
      ∀ j : Fin 3, σ j.castSucc = near (K := 3) (by decide) (RefNetIdeal.Two.dPt (m ((c : Thread nD τ).loc main_arg0)) s b r) j) :
    (dats m 0 c).arrAt 11 cfg0.N = RefNetIdeal.Two.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11, outsAt0]
  frame_out
  have ht : t.val < 4 := t.isLt
  obtain ⟨r, o, hy⟩ : ∃ (r : Fin 512) (o : Fin 64), y = ix3 0 r o := ⟨y 1, y 2, by blk_ext⟩
  subst hy
  obtain ⟨b, hb⟩ : ∃ b : Fin 4, b.val = t.val := ⟨⟨t.val, by omega⟩, rfl⟩
  have e : ((View.whole main_v8).slice (win0_11.rect t)).emb (ix3 0 r o) = ix3 b r o := by
    blk_ext [idx t]
  have hw : ∀ q, iblk m c 1 t (ix3 0 q 0) = FloatOps.sitofp (F := Ideal) .f32 (BitVec.ofNat 32 (s b q).val) := fun q => by
    rw [win1_at m c t q b hb, hs]
  have h0 : ∀ r k, iblk m c 0 t (ix3 0 r k) = m ((c : Thread nD τ).loc main_arg0) (ix3 b r k) := fun r k => win0_at m c t r k b hb
  have eA : ∀ q i, k0_pay8 (F := Ideal) (k0_pay6 (iblk m c 0 t)) (k0_pay7 (iblk m c 0 t) (iblk m c 1 t)) (ix2 q i) =
      RefNetIdeal.Two.dSmp (m ((c : Thread nD τ).loc main_arg0)) s b q i := fun q i => by
    rw [pay8_at (iblk m c 0 t) (iblk m c 1 t) (s b) hw]
    simp only [h0]
    rfl
  obtain ⟨σ, hσ, hn⟩ := hB b r
  rw [e, RefNetIdeal.Two.ref_at _ _ _ _ _ _ _ _ _ _ s hs]
  generalize hz : Scf.fold _ _ = z
  have ez : ∀ q a, z.2 (ix2 q a) = Finset.univ.fold max ⊥ fun j : Fin 32 =>
      RefNetIdeal.Two.feat (m ((c : Thread nD τ).loc main_arg0)) (m ((c : Thread nD τ).loc main_arg2)) (m ((c : Thread nD τ).loc main_arg3)) (m ((c : Thread nD τ).loc main_arg4)) (m ((c : Thread nD τ).loc main_arg5)) b
        (near (K := 32) (by decide) (RefNetIdeal.Two.dSmp (m ((c : Thread nD τ).loc main_arg0)) s b q) j) a := fun q a => by
    obtain ⟨ν, hν, hnν⟩ := hA b q
    rw [← hz]
    refine (passes_at ?_ (k0_pay3 (F := Ideal) (iblk m c 0 t) (iblk m c 2 t) (iblk m c 3 t) (iblk m c 4 t) (iblk m c 5 t)) q a _ _ _ (eA q) ν hν _ (fun _ _ => ?_) fun _ _ => ?_).trans ?_
    · decide
    · dsimp only
    · dsimp only
    simp only [pay3_at, hnν, h0, win2_at, win3_at, win4_at, win5_at]
    rfl
  have hσ' : Ranked (sqd (fun k : Fin 64 => iblk m c 0 t (ix3 0 r k)) fun i k => iblk m c 0 t (ix3 0 (s b i) k)) σ := by
    simp only [h0]
    exact hσ
  rw [pay_at (iblk m c 0 t) (iblk m c 1 t) (s b) hw (R := hσ')]
  simp only [ez, hn, h0, win6_at, win7_at, win8_at, win9_at, win10_at]

end Cert.Sa2Fp1Ideal.Value

end
-- ==== Proof.PreSa2Fp1.lean ====
/- What the precondition of the second layer says: the samples' numbers are rows, and the least distances around each
   query are strictly apart. -/
module

public import proofs.«01_k».proof.Proof.Gen.Pre_sa2_fp1_no_ties
public import proofs.«01_k».proof.Proof.RefTwo
public import proofs.«01_k».proof.Proof.Apart

@[expose] public section

set_option maxRecDepth 16384

noncomputable section

namespace Cert.Pre_sa2_fp1_no_ties.Value

open Cert.Pre_sa2_fp1_no_ties Cert.Pre_sa2_fp1_no_ties.Gen Cert.Select
open Idealize.ShloMosaic Idealize.ShloMosaic.TcCoe Idealize.SL.Sem

variable (X : FVec Ideal S4x512x64 .f32) (S : IVec S4x128 32)
  (U1 : FVec Ideal S64x128 .f32) (c1 : FVec Ideal S128 .f32) (U2 : FVec Ideal S128x128 .f32) (c2 : FVec Ideal S128 .f32)
  (W1 : FVec Ideal S192x64 .f32) (b1 : FVec Ideal S64 .f32) (W2 : FVec Ideal S64x64 .f32) (b2 : FVec Ideal S64 .f32)

/-- Where the precondition holds, the samples' numbers are rows. -/
theorem rows (h1 : (fn (F := Ideal) X S U1 c1 U2 c2 W1 b1 W2 b2).1 = fun _ => 1#1) (h2 : (fn (F := Ideal) X S U1 c1 U2 c2 W1 b1 W2 b2).2.1 = fun _ => 1#1) :
    ∃ s : Fin 4 → Fin 128 → Fin 512, ∀ b q, S (ix2 b q) = BitVec.ofNat 32 (s b q).val :=
  rows_of (by decide) S (fun b q => congrFun h1 (ix2 b q)) fun b q => congrFun h2 (ix2 b q)

variable (s : Fin 4 → Fin 128 → Fin 512) (hs : ∀ b q, S (ix2 b q) = BitVec.ofNat 32 (s b q).val)

include hs in
/-- Where the precondition holds, the second layer's samples' thirty-three least distances are strictly apart. -/
theorem rankedA (h1 : (fn (F := Ideal) X S U1 c1 U2 c2 W1 b1 W2 b2).2.2.1 = fun _ => 1#1) (h2 : (fn (F := Ideal) X S U1 c1 U2 c2 W1 b1 W2 b2).2.2.2.1 = fun _ => 1#1) (b : Fin 4) (q : Fin 128) :
    Ranked (RefNetIdeal.Two.dSmp X s b q) (near (K := 33) (by decide) (RefNetIdeal.Two.dSmp X s b q)) :=
  apart (R := 32) (by decide) (RefNetIdeal.Two.dA X S) (RefNetIdeal.Two.dSmp X s) (RefNetIdeal.Two.dA_at X S s hs)
    sliceFits_S4x128x512_S4x128x33 slices_S4x128x33_S4x128x1_0_0_0 slices_S4x128x33_S4x128x32_0_0_1 slices_S4x128x33_S4x128x32_0_0_0 bcast_S_S4x128x1 h1 h2 b q

include hs in
/-- Where the precondition holds, the second layer's points' four least distances are strictly apart. -/
theorem rankedB (h1 : (fn (F := Ideal) X S U1 c1 U2 c2 W1 b1 W2 b2).2.2.2.2.1 = fun _ => 1#1) (h2 : (fn (F := Ideal) X S U1 c1 U2 c2 W1 b1 W2 b2).2.2.2.2.2 = fun _ => 1#1) (b : Fin 4) (q : Fin 512) :
    Ranked (RefNetIdeal.Two.dPt X s b q) (near (K := 4) (by decide) (RefNetIdeal.Two.dPt X s b q)) :=
  apart (R := 3) (by decide) (RefNetIdeal.Two.dB X S) (RefNetIdeal.Two.dPt X s) (RefNetIdeal.Two.dB_at X S s hs)
    sliceFits_S4x512x128_S4x512x4 slices_S4x512x4_S4x512x1_0_0_0 slices_S4x512x4_S4x512x3_0_0_1 slices_S4x512x4_S4x512x3_0_0_0 bcast_S_S4x512x1 h1 h2 b q

end Cert.Pre_sa2_fp1_no_ties.Value

end
-- ==== Proof.Fp2Pay.lean ====
/- What one step of the last layer's kernel stores, read at an index. -/
module

public import proofs.«01_k».proof.Proof.Gen.Fp2Ideal.Skeleton
public import proofs.«01_k».proof.Proof.PayThree

@[expose] public section

set_option maxRecDepth 16384

noncomputable section

namespace Cert.Fp2Ideal.Value

open Cert.Fp2Ideal Cert.Fp2Ideal.Gen Cert.Select
open Idealize.ShloMosaic Idealize.ShloMosaic.TcCoe Idealize.SL.Sem

theorem pay_at (v0 : FVec Ideal S1x2048x8 .f32) (v2 : FVec Ideal S1x512x8 .f32) (v41 : FVec Ideal S1x512x64 .f32)
    (v44 : FVec Ideal S8x32 .f32) (v47 : FVec Ideal S64x32 .f32) (v51 : FVec Ideal S1x32 .f32) (v57 : FVec Ideal S32x32 .f32)
    (v59 : FVec Ideal S1x32 .f32) (v63 : FVec Ideal S32x2 .f32) (v65 : FVec Ideal S1x2 .f32) (r : Fin 2048) (o : Fin 2)
    (q : Fin 3 → EReal) (p : Fin 512 → Fin 3 → EReal) (w : Fin 3 → Fin 32 → EReal) (σ : Fin 4 → Fin 512)
    (hq : ∀ k, v0 (ix3 0 r k) = pad8 q k) (hp : ∀ i k, v2 (ix3 0 i k) = pad8 (p i) k)
    (hw : ∀ k y, v44 (ix2 k y) = pad8 (fun k => w k y) k) (R : Ranked (sqd q p) σ) :
    k0_pay1 (k0_pay4 (F := Ideal) (k0_pay2 (F := Ideal) v0) (k0_pay3 (F := Ideal) v0 v2) (Named.named κ "third" 0x3EAAAAAB#32)
        (Scalar.ofBits .f32 0x00000000#32) v41 v44 v47 v51 v57 v59 v63 v65) (ix3 0 r o) =
      Ideal.logistic (∑ x, mlp (fun y => ∑ k : Fin 3, q k * w k y +
          ∑ a : Fin 64, (((3 : ℝ)⁻¹ : ℝ) : EReal) * (∑ j : Fin 3, v41 (ix3 0 (σ j.castSucc) a)) * v47 (ix2 a y))
        (fun y => v51 (ix2 0 y)) (fun y x => v57 (ix2 y x)) (fun x => v59 (ix2 0 x)) x * v63 (ix2 x o) + v65 (ix2 0 o)) := by
  apply NetIdeal.Three.pay_at <;> assumption

end Cert.Fp2Ideal.Value

end
-- ==== Proof.Fp2.lean ====
/- The last layer: what its kernel leaves in the result array is the reference's result. -/
module

public import proofs.«01_k».proof.Proof.Gen.Fp2Ideal.Value
public import proofs.«01_k».proof.Proof.Fp2Pay
public import proofs.«01_k».proof.Proof.RefCalls
public import Idealize.ShloMosaic.Lib.Pipeline.ValueKit
public import Idealize.ShloMosaic.Lib.Claim

@[expose] public section

set_option maxRecDepth 16384

noncomputable section

namespace Cert.Fp2Ideal.Value

open Cert.Fp2Ideal Cert.Fp2Ideal.Gen Cert.Select
open Idealize.ShloMosaic Idealize.ShloMosaic.TcCoe Idealize.SL.Sem

variable (m : (ℓ : Loc nD τ sig) → Buf (Elt Ideal) ℓ)

/-- Every window's block at every grid step. -/
theorem idx : ∀ t : Fin cfg0.N, win0_0.index t = ![t.val / 8, t.val % 8, 0]
    ∧ win0_1.index t = ![t.val / 8, 0, 0]
    ∧ win0_2.index t = ![t.val / 8, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 8, t.val % 8, 0] :=
  (by decide +kernel : ∀ t : Fin grid0.N, _)

theorem entry0 (c : Dev nD) : V m c main_v0 =
    pad (α := Elt Ideal .f32) S4x16384x8 ![0, 0, 0] ![0, 0, 5] ![0, 0, 0] (m ((c : Thread nD τ).loc main_arg0)) (sitofp (F := Ideal) .f32 (constantI S_ 32 0#32))
      pads_S4x16384x3_S4x16384x8_000_000_050 h_S_ := by
  simp only [V, hostOps0, hostOps0_1, hostOps0_2, hostOps0_3, hostOps0_4, hostOps0_5, hostOps0_6, List.flatten_cons,
    List.flatten_nil, List.append_nil, List.cons_append, List.nil_append]
  entry_read
  rfl

theorem entry1 (c : Dev nD) : V m c main_v1 =
    pad (α := Elt Ideal .f32) S4x512x8 ![0, 0, 0] ![0, 0, 5] ![0, 0, 0] (m ((c : Thread nD τ).loc main_arg1)) (sitofp (F := Ideal) .f32 (constantI S_ 32 0#32))
      pads_S4x512x3_S4x512x8_000_000_050 h_S_ := by
  simp only [V, hostOps0, hostOps0_1, hostOps0_2, hostOps0_3, hostOps0_4, hostOps0_5, hostOps0_6, List.flatten_cons,
    List.flatten_nil, List.append_nil, List.cons_append, List.nil_append]
  entry_read
  rfl

theorem entry3 (c : Dev nD) : V m c main_v3 =
    pad (α := Elt Ideal .f32) S8x32 ![0, 0] ![5, 0] ![0, 0] (extractStridedSlice S3x32 ![0, 0] (m ((c : Thread nD τ).loc main_arg3)) slices_S67x32_S3x32_0_0) (sitofp (F := Ideal) .f32 (constantI S_ 32 0#32))
      pads_S3x32_S8x32_050_000 h_S_ := by
  simp only [V, hostOps0, hostOps0_1, hostOps0_2, hostOps0_3, hostOps0_4, hostOps0_5, hostOps0_6, List.flatten_cons,
    List.flatten_nil, List.append_nil, List.cons_append, List.nil_append]
  entry_read
  rfl

theorem pad0_at (x : FVec Ideal S4x16384x3 .f32) (b : Fin 4) (r : Fin 16384) (k : Fin 8) :
    pad S4x16384x8 ![0, 0, 0] ![0, 0, 5] ![0, 0, 0] x (sitofp (F := Ideal) .f32 (constantI S_ 32 0#32))
      pads_S4x16384x3_S4x16384x8_000_000_050 h_S_ (ix3 b r k) = pad8 (fun k => x (ix3 b r k)) k := by
  pointwise [pad8]
  rw [sitofp_zero]

theorem pad1_at (x : FVec Ideal S4x512x3 .f32) (b : Fin 4) (r : Fin 512) (k : Fin 8) :
    pad S4x512x8 ![0, 0, 0] ![0, 0, 5] ![0, 0, 0] x (sitofp (F := Ideal) .f32 (constantI S_ 32 0#32))
      pads_S4x512x3_S4x512x8_000_000_050 h_S_ (ix3 b r k) = pad8 (fun k => x (ix3 b r k)) k := by
  pointwise [pad8]
  rw [sitofp_zero]

theorem pad3_at (x : FVec Ideal S67x32 .f32) (k : Fin 8) (y : Fin 32) :
    pad S8x32 ![0, 0] ![5, 0] ![0, 0] (extractStridedSlice S3x32 ![0, 0] x slices_S67x32_S3x32_0_0)
      (sitofp (F := Ideal) .f32 (constantI S_ 32 0#32))
      pads_S3x32_S8x32_050_000 h_S_ (ix2 k y) = pad8 (fun k => x (ix2 (Fin.castLE (by decide) k) y)) k := by
  pointwise [pad8]
  rw [sitofp_zero]
  rfl

theorem win0_at (c : Dev nD) (t : Fin cfg0.N) (r : Fin 2048) (k : Fin 8) (b : Fin 4) (R : Fin 16384)
    (hb : b.val = t.val / 8) (hR : R.val = t.val % 8 * 2048 + r.val) :
    iblk m c 0 t (ix3 0 r k) = pad8 (fun k => m ((c : Thread nD τ).loc main_arg0) (ix3 b R k)) k := by
  have e : iblk m c 0 t (ix3 0 r k) = V m c main_v0 (ix3 b R k) := by
    blk_ext [iblk, idx t]
  rw [e, entry0]
  exact pad0_at _ b R k

theorem win1_at (c : Dev nD) (t : Fin cfg0.N) (r : Fin 512) (k : Fin 8) (b : Fin 4) (hb : b.val = t.val / 8) :
    iblk m c 1 t (ix3 0 r k) = pad8 (fun k => m ((c : Thread nD τ).loc main_arg1) (ix3 b r k)) k := by
  have e : iblk m c 1 t (ix3 0 r k) = V m c main_v1 (ix3 b r k) := by
    blk_ext [iblk, idx t]
  rw [e, entry1]
  exact pad1_at _ b r k

theorem win2_at (c : Dev nD) (t : Fin cfg0.N) (r : Fin 512) (k : Fin 64) (b : Fin 4) (hb : b.val = t.val / 8) :
    iblk m c 2 t (ix3 0 r k) = m ((c : Thread nD τ).loc main_arg2) (ix3 b r k) := by
  blk_ext [iblk, V, idx t]

theorem win3_at (c : Dev nD) (t : Fin cfg0.N) (k : Fin 8) (y : Fin 32) :
    iblk m c 3 t (ix2 k y) = pad8 (fun k => m ((c : Thread nD τ).loc main_arg3) (ix2 (Fin.castLE (by decide) k) y)) k := by
  have e : iblk m c 3 t (ix2 k y) = V m c main_v3 (ix2 k y) := by
    blk_ext [iblk, idx t]
  rw [e, entry3]
  exact pad3_at _ k y

theorem win4_at (c : Dev nD) (t : Fin cfg0.N) (r : Fin 64) (k : Fin 32) :
    iblk m c 4 t (ix2 r k) = m ((c : Thread nD τ).loc main_arg3) (ix2 (Fin.natAdd 3 r) k) := by
  have e : iblk m c 4 t (ix2 r k) = V m c main_v4 (ix2 r k) := by
    blk_ext [iblk, idx t]
  rw [e]
  simp only [V, hostOps0, hostOps0_1, hostOps0_2, hostOps0_3, hostOps0_4, hostOps0_5, hostOps0_6, List.flatten_cons,
    List.flatten_nil, List.append_nil, List.cons_append, List.nil_append]
  entry_read
  pointwise
  rfl

theorem win5_at (c : Dev nD) (t : Fin cfg0.N) (k : Fin 32) :
    iblk m c 5 t (ix2 0 k) = m ((c : Thread nD τ).loc main_arg4) (ix1 k) := by
  have e : iblk m c 5 t (ix2 0 k) = V m c main_v5 (ix2 0 k) := by
    blk_ext [iblk, idx t]
  rw [e]
  simp only [V, hostOps0, hostOps0_1, hostOps0_2, hostOps0_3, hostOps0_4, hostOps0_5, hostOps0_6, List.flatten_cons,
    List.flatten_nil, List.append_nil, List.cons_append, List.nil_append]
  entry_read
  pointwise

theorem win7_at (c : Dev nD) (t : Fin cfg0.N) (k : Fin 32) :
    iblk m c 7 t (ix2 0 k) = m ((c : Thread nD τ).loc main_arg6) (ix1 k) := by
  have e : iblk m c 7 t (ix2 0 k) = V m c main_v6 (ix2 0 k) := by
    blk_ext [iblk, idx t]
  rw [e]
  simp only [V, hostOps0, hostOps0_1, hostOps0_2, hostOps0_3, hostOps0_4, hostOps0_5, hostOps0_6, List.flatten_cons,
    List.flatten_nil, List.append_nil, List.cons_append, List.nil_append]
  entry_read
  pointwise

theorem win9_at (c : Dev nD) (t : Fin cfg0.N) (k : Fin 2) :
    iblk m c 9 t (ix2 0 k) = m ((c : Thread nD τ).loc main_arg8) (ix1 k) := by
  have e : iblk m c 9 t (ix2 0 k) = V m c main_v7 (ix2 0 k) := by
    blk_ext [iblk, idx t]
  rw [e]
  simp only [V, hostOps0, hostOps0_1, hostOps0_2, hostOps0_3, hostOps0_4, hostOps0_5, hostOps0_6, List.flatten_cons,
    List.flatten_nil, List.append_nil, List.cons_append, List.nil_append]
  entry_read
  pointwise

theorem win6_at (c : Dev nD) (t : Fin cfg0.N) (j : Fin 32) (k : Fin 32) :
    iblk m c 6 t (ix2 j k) = m ((c : Thread nD τ).loc main_arg5) (ix2 j k) := by
  blk_ext [iblk, V, idx t]

theorem win8_at (c : Dev nD) (t : Fin cfg0.N) (j : Fin 32) (k : Fin 2) :
    iblk m c 8 t (ix2 j k) = m ((c : Thread nD τ).loc main_arg7) (ix2 j k) := by
  blk_ext [iblk, V, idx t]

/-- The result array after the run is the reference's result, where each point's four least distances are strictly apart. -/
theorem final (c : Dev nD)
    (hR : ∀ b r, ∃ σ : Fin 4 → Fin 512, Ranked (RefNetIdeal.Three.dAt (m ((c : Thread nD τ).loc main_arg0)) (m ((c : Thread nD τ).loc main_arg1)) b r) σ ∧
      ∀ j : Fin 3, σ j.castSucc = near (K := 3) (by decide) (RefNetIdeal.Three.dAt (m ((c : Thread nD τ).loc main_arg0)) (m ((c : Thread nD τ).loc main_arg1)) b r) j) :
    (dats m 0 c).arrAt 10 cfg0.N = RefNetIdeal.Three.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  have ht : t.val < 32 := t.isLt
  obtain ⟨r, o, hy⟩ : ∃ (r : Fin 2048) (o : Fin 2), y = ix3 0 r o := ⟨y 1, y 2, by blk_ext⟩
  subst hy
  obtain ⟨b, hb⟩ : ∃ b : Fin 4, b.val = t.val / 8 := ⟨⟨t.val / 8, by omega⟩, rfl⟩
  obtain ⟨R, hr⟩ : ∃ R : Fin 16384, R.val = t.val % 8 * 2048 + r.val := ⟨⟨t.val % 8 * 2048 + r.val, by omega⟩, rfl⟩
  have e : ((View.whole main_v8).slice (win0_10.rect t)).emb (ix3 0 r o) = ix3 b R o := by
    blk_ext [idx t]
  obtain ⟨σ, hσ, hn⟩ := hR b R
  rw [e, RefNetIdeal.Three.ref_at, pay_at (hq := fun k => win0_at m c t r k b R hb hr) (hp := fun i k => win1_at m c t i k b hb)
    (hw := fun k y => win3_at m c t k y) (R := hσ)]
  simp only [win2_at m c t _ _ b hb, win4_at, win5_at, win6_at, win7_at, win8_at, win9_at, hn]

end Cert.Fp2Ideal.Value

end
-- ==== Proof.PreFp2.lean ====
/- What the precondition of the last layer says: each point's four least distances are strictly apart. -/
module

public import proofs.«01_k».proof.Proof.Gen.Pre_fp2_no_ties
public import proofs.«01_k».proof.Proof.RefThree
public import proofs.«01_k».proof.Proof.Apart

@[expose] public section

set_option maxRecDepth 16384

noncomputable section

namespace Cert.Pre_fp2_no_ties.Value

open Cert.Pre_fp2_no_ties Cert.Pre_fp2_no_ties.Gen Cert.Select
open Idealize.ShloMosaic Idealize.ShloMosaic.TcCoe Idealize.SL.Sem

variable (X : FVec Ideal S4x16384x3 .f32) (S : FVec Ideal S4x512x3 .f32) (F : FVec Ideal S4x512x64 .f32)
  (W1 : FVec Ideal S67x32 .f32) (b1 : FVec Ideal S32 .f32) (W2 : FVec Ideal S32x32 .f32) (b2 : FVec Ideal S32 .f32)
  (W3 : FVec Ideal S32x2 .f32) (b3 : FVec Ideal S2 .f32)

/-- Where the precondition holds, the last layer's points' four least distances are strictly apart. -/
theorem ranked (h1 : (fn (F := Ideal) X S F W1 b1 W2 b2 W3 b3).1 = fun _ => 1#1) (h2 : (fn (F := Ideal) X S F W1 b1 W2 b2 W3 b3).2 = fun _ => 1#1) (b : Fin 4) (q : Fin 16384) :
    Ranked (RefNetIdeal.Three.dAt X S b q) (near (K := 4) (by decide) (RefNetIdeal.Three.dAt X S b q)) :=
  apart (R := 3) (by decide) (RefNetIdeal.Three.dR X S) (RefNetIdeal.Three.dAt X S) (RefNetIdeal.Three.dR_at X S)
    sliceFits_S4x16384x512_S4x16384x4 slices_S4x16384x4_S4x16384x1_0_0_0 slices_S4x16384x4_S4x16384x3_0_0_1 slices_S4x16384x4_S4x16384x3_0_0_0 bcast_S_S4x16384x1 h1 h2 b q

end Cert.Pre_fp2_no_ties.Value

end
-- ==== Proof.lean ====
module

public import proofs.«01_k».proof.Defs
public import proofs.«01_k».proof.Proof.NetRun
public import proofs.«01_k».proof.Proof.NetIdealRun
public import proofs.«01_k».proof.Proof.Gen.RefNetIdeal.Run
public import proofs.«01_k».proof.Proof.RefNet
public import proofs.«01_k».proof.Proof.Net
public import proofs.«01_k».proof.Proof.PreNet
public import proofs.«01_k».proof.Proof.Sa1Frame
public import proofs.«01_k».proof.Proof.Sa1IdealFrame
public import proofs.«01_k».proof.Proof.Gen.RefSa1Ideal.Run
public import proofs.«01_k».proof.Proof.Sa1
public import proofs.«01_k».proof.Proof.PreSa1
public import proofs.«01_k».proof.Proof.Gen.Sa2Fp1.Frame
public import proofs.«01_k».proof.Proof.Gen.Sa2Fp1Ideal.Value
public import proofs.«01_k».proof.Proof.Gen.RefSa2Fp1Ideal.Run
public import proofs.«01_k».proof.Proof.Sa2Fp1
public import proofs.«01_k».proof.Proof.PreSa2Fp1
public import proofs.«01_k».proof.Proof.Gen.Fp2.Frame
public import proofs.«01_k».proof.Proof.Gen.Fp2Ideal.Value
public import proofs.«01_k».proof.Proof.Gen.RefFp2Ideal.Run
public import proofs.«01_k».proof.Proof.Fp2
public import proofs.«01_k».proof.Proof.PreFp2
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_Net : Cert.quiescent_Net := fun m ρ _ => Cert.Net.Whole.frame m ρ
theorem frame_NetIdeal : Cert.quiescent_NetIdeal := fun m ρ _ => Cert.NetIdeal.Whole.frame m ρ
theorem frame_NetIdeal_pre : Cert.quiescent_NetIdeal_pre_net_no_ties := fun m ρ _ => Cert.NetIdeal.Whole.frame m ρ
theorem frame_RefNet : Cert.quiescent_RefNetIdeal := fun m ρ _ =>
  (θ_run Cert.RefNetIdeal.defs _ _).mono (fun r h => ⟨fun c => (h c).2, sem_eq_zero_of_no_sems (by decide) r.2⟩)
    (Cert.RefNetIdeal.Value.run m ρ)
theorem frame_RefNet_pre : Cert.quiescent_RefNetIdeal_pre_net_no_ties := fun m ρ _ => frame_RefNet m ρ trivial
theorem preserves_Net : Cert.preserves_Net_NetIdeal :=
  IdealRules.named_const.statement Cert.NetIdeal.κ "third" .f32 0x3EAAAAAB#32 ((3⁻¹ : ℝ) : EReal) rfl

/-- The kernel leaves what the reference computes. -/
theorem value_Net : Cert.algebraic_NetIdeal_RefNetIdeal_pre_net_no_ties := by
  pair_intro
  · run_from Cert.NetIdeal.Whole.value m g
  · run_from Cert.RefNetIdeal.Value.run_ref m' g'
    obtain ⟨p0, p1, p2, p3, p4, p5, p6, p7, p8, p9, p10, p11⟩ := hpre c
    obtain ⟨s, hs⟩ := Cert.Pre_net_no_ties.Value.rows1 _ _ _ _ _ _ _ _ _ _ _ _ _ _ _ _ _ _ _ _ _ p0 p1
    obtain ⟨t, ht⟩ := Cert.Pre_net_no_ties.Value.rows2 _ _ _ _ _ _ _ _ _ _ _ _ _ _ _ _ _ _ _ _ _ p4 p5
    exact (Cert.NetIdeal.Value.final m c s hs t ht (Cert.Pre_net_no_ties.Value.ranked1 _ _ _ _ _ _ _ _ _ _ _ _ _ _ _ _ _ _ _ _ _ s hs p2 p3)
      (Cert.Pre_net_no_ties.Value.ranked2 _ _ _ _ _ _ _ _ _ _ _ _ _ _ _ _ _ _ _ _ _ t ht p6 p7) (Cert.Pre_net_no_ties.Value.ranked3 _ _ _ _ _ _ _ _ _ _ _ _ _ _ _ _ _ _ _ _ _ t ht p8 p9)
      (Cert.Pre_net_no_ties.Value.ranked4 _ _ _ _ _ _ _ _ _ _ _ _ _ _ _ _ _ _ _ _ _ p10 p11)).symm

theorem frame_Sa1 : Cert.quiescent_Sa1 := fun m ρ _ => Cert.Sa1.Whole.frame m ρ
theorem frame_Sa1Ideal : Cert.quiescent_Sa1Ideal := fun m ρ _ => Cert.Sa1Ideal.Whole.frame m ρ
theorem frame_Sa1Ideal_pre : Cert.quiescent_Sa1Ideal_pre_sa1_no_ties := fun m ρ _ => Cert.Sa1Ideal.Whole.frame m ρ
theorem frame_RefSa1 : Cert.quiescent_RefSa1Ideal := fun m ρ _ =>
  (θ_run Cert.RefSa1Ideal.defs _ _).mono (fun r h => ⟨fun c => (h c).2.2, sem_eq_zero_of_no_sems (by decide) r.2⟩)
    (Cert.RefSa1Ideal.Value.run m ρ)
theorem frame_RefSa1_pre : Cert.quiescent_RefSa1Ideal_pre_sa1_no_ties := fun m ρ _ => frame_RefSa1 m ρ trivial
theorem preserves_Sa1 : Cert.preserves_Sa1_Sa1Ideal := trivial

/-- The first layer's kernel leaves what its reference computes. -/
theorem value_Sa1 : Cert.algebraic_Sa1Ideal_RefSa1Ideal_pre_sa1_no_ties := by
  pair_intro
  · run_from Cert.Sa1Ideal.Value.run m g
  · refine (θ_run _ _ _).mono (fun r h c => ?_) (Cert.RefSa1Ideal.Value.run m' g')
    obtain ⟨r0, r1, rs⟩ := h c
    obtain ⟨h0, h1, h2, h3, h4, h5⟩ := hagree c
    obtain ⟨p1, p2, p3, p4⟩ := hpre c
    obtain ⟨s, hs⟩ := Cert.Pre_sa1_no_ties.Value.rows _ _ _ _ _ _ p1 p2
    refine ⟨r0.trans ?_, r1.trans ?_, rs⟩
    · rw [Cert.RefSa1Ideal.Value.res_eq, h0, h1, h2, h3, h4, h5]
      exact (Cert.Sa1Ideal.Value.final6 m c s hs fun b q =>
        ⟨_, Cert.Pre_sa1_no_ties.Value.rankedA _ _ _ _ _ _ s hs p3 p4 b q, fun _ => rfl⟩).symm
    · rw [h0, h1]
      exact (Cert.Sa1Ideal.Value.final7 m c s hs).symm

theorem frame_Sa2Fp1 : Cert.quiescent_Sa2Fp1 := fun m ρ _ => Cert.Sa2Fp1.Gen.frame m ρ
theorem frame_Sa2Fp1Ideal : Cert.quiescent_Sa2Fp1Ideal := fun m ρ _ => Cert.Sa2Fp1Ideal.Gen.frame m ρ
theorem frame_Sa2Fp1Ideal_pre : Cert.quiescent_Sa2Fp1Ideal_pre_sa2_fp1_no_ties := fun m ρ _ => Cert.Sa2Fp1Ideal.Gen.frame m ρ
theorem frame_RefSa2Fp1 : Cert.quiescent_RefSa2Fp1Ideal := fun m ρ _ =>
  (θ_run Cert.RefSa2Fp1Ideal.defs _ _).mono (fun r h => ⟨fun c => (h c).2, sem_eq_zero_of_no_sems (by decide) r.2⟩)
    (Cert.RefSa2Fp1Ideal.Value.run m ρ)
theorem frame_RefSa2Fp1_pre : Cert.quiescent_RefSa2Fp1Ideal_pre_sa2_fp1_no_ties := fun m ρ _ => frame_RefSa2Fp1 m ρ trivial
theorem preserves_Sa2Fp1 : Cert.preserves_Sa2Fp1_Sa2Fp1Ideal :=
  IdealRules.named_const.statement Cert.Sa2Fp1Ideal.κ "third" .f32 0x3EAAAAAB#32 ((3⁻¹ : ℝ) : EReal) rfl

/-- The second layer's kernel leaves what its reference computes. -/
theorem value_Sa2Fp1 : Cert.algebraic_Sa2Fp1Ideal_RefSa2Fp1Ideal_pre_sa2_fp1_no_ties := by
  pair_intro
  · run_from Cert.Sa2Fp1Ideal.Value.run_blocks m g
  · run_from Cert.RefSa2Fp1Ideal.Value.run m' g'
    obtain ⟨h0, h1, h2, h3, h4, h5, h6, h7, h8, h9⟩ := hagree c
    obtain ⟨p1, p2, p3, p4, p5, p6⟩ := hpre c
    obtain ⟨s, hs⟩ := Cert.Pre_sa2_fp1_no_ties.Value.rows _ _ _ _ _ _ _ _ _ _ p1 p2
    rw [Cert.RefSa2Fp1Ideal.Value.res_eq, h0, h1, h2, h3, h4, h5, h6, h7, h8, h9]
    exact (Cert.Sa2Fp1Ideal.Value.final m c s hs
      (fun b q => ⟨_, Cert.Pre_sa2_fp1_no_ties.Value.rankedA _ _ _ _ _ _ _ _ _ _ s hs p3 p4 b q, fun _ => rfl⟩)
      fun b r => ⟨_, Cert.Pre_sa2_fp1_no_ties.Value.rankedB _ _ _ _ _ _ _ _ _ _ s hs p5 p6 b r, fun _ => rfl⟩).symm

theorem frame_Fp2 : Cert.quiescent_Fp2 := fun m ρ _ => Cert.Fp2.Gen.frame m ρ
theorem frame_Fp2Ideal : Cert.quiescent_Fp2Ideal := fun m ρ _ => Cert.Fp2Ideal.Gen.frame m ρ
theorem frame_Fp2Ideal_pre : Cert.quiescent_Fp2Ideal_pre_fp2_no_ties := fun m ρ _ => Cert.Fp2Ideal.Gen.frame m ρ
theorem frame_RefFp2 : Cert.quiescent_RefFp2Ideal := fun m ρ _ =>
  (θ_run Cert.RefFp2Ideal.defs _ _).mono (fun r h => ⟨fun c => (h c).2, sem_eq_zero_of_no_sems (by decide) r.2⟩)
    (Cert.RefFp2Ideal.Value.run m ρ)
theorem frame_RefFp2_pre : Cert.quiescent_RefFp2Ideal_pre_fp2_no_ties := fun m ρ _ => frame_RefFp2 m ρ trivial
theorem preserves_Fp2 : Cert.preserves_Fp2_Fp2Ideal :=
  IdealRules.named_const.statement Cert.Fp2Ideal.κ "third" .f32 0x3EAAAAAB#32 ((3⁻¹ : ℝ) : EReal) rfl

/-- The last layer's kernel leaves what its reference computes. -/
theorem value_Fp2 : Cert.algebraic_Fp2Ideal_RefFp2Ideal_pre_fp2_no_ties := by
  pair_intro
  · run_from Cert.Fp2Ideal.Value.run_blocks m g
  · run_from Cert.RefFp2Ideal.Value.run m' g'
    obtain ⟨h0, h1, h2, h3, h4, h5, h6, h7, h8⟩ := hagree c
    rw [Cert.RefFp2Ideal.Value.res_eq, h0, h1, h2, h3, h4, h5, h6, h7, h8]
    exact (Cert.Fp2Ideal.Value.final m c fun b r => ⟨_, Cert.Pre_fp2_no_ties.Value.ranked _ _ _ _ _ _ _ _ _ (hpre c).1 (hpre c).2 b r, fun _ => rfl⟩).symm

theorem claim : Cert.Claim :=
  ⟨Cert.Net.Gen.facts, Cert.NetIdeal.Gen.facts, Cert.RefNetIdeal.Gen.facts, Cert.Sa1.Gen.facts, Cert.Sa1Ideal.Gen.facts, Cert.RefSa1Ideal.Gen.facts,
    Cert.Sa2Fp1.Gen.facts, Cert.Sa2Fp1Ideal.Gen.facts, Cert.RefSa2Fp1Ideal.Gen.facts, Cert.Fp2.Gen.facts, Cert.Fp2Ideal.Gen.facts, Cert.RefFp2Ideal.Gen.facts,
    Cert.Pre_net_no_ties.Gen.facts, Cert.Pre_sa1_no_ties.Gen.facts, Cert.Pre_sa2_fp1_no_ties.Gen.facts, Cert.Pre_fp2_no_ties.Gen.facts,
    frame_Net, frame_NetIdeal, frame_NetIdeal_pre, frame_RefNet, frame_RefNet_pre,
    frame_Sa1, frame_Sa1Ideal, frame_Sa1Ideal_pre, frame_RefSa1, frame_RefSa1_pre,
    frame_Sa2Fp1, frame_Sa2Fp1Ideal, frame_Sa2Fp1Ideal_pre, frame_RefSa2Fp1, frame_RefSa2Fp1_pre,
    frame_Fp2, frame_Fp2Ideal, frame_Fp2Ideal_pre, frame_RefFp2, frame_RefFp2_pre,
    preserves_Net, value_Net, preserves_Sa1, value_Sa1, preserves_Sa2Fp1, value_Sa2Fp1, preserves_Fp2, value_Fp2⟩

end Cert.Proof

end
